-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_distinct [hPre_ids_distinct : Cert.Pre_ids_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_ids_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_distinct [hPre_ids_distinct : Cert.Pre_ids_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ids_distinct [hKernelIdeal : Cert.KernelIdeal.Facts] [hPre_ids_distinct : Cert.Pre_ids_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_distinct [hReferenceIdeal : Cert.ReferenceIdeal.Facts] [hPre_ids_distinct : Cert.Pre_ids_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ids_distinct [hKernelIdeal : Cert.KernelIdeal.Facts] [hReferenceIdeal : Cert.ReferenceIdeal.Facts] [hPre_ids_distinct : Cert.Pre_ids_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_distinct : Cert.Pre_ids_distinct.Facts),
    quiescent_Kernel (hKernel := hKernel)
    ∧ quiescent_KernelIdeal (hKernelIdeal := hKernelIdeal)
    ∧ quiescent_KernelIdeal_pre_ids_distinct (hKernelIdeal := hKernelIdeal) (hPre_ids_distinct := hPre_ids_distinct)
    ∧ quiescent_ReferenceIdeal (hReferenceIdeal := hReferenceIdeal)
    ∧ quiescent_ReferenceIdeal_pre_ids_distinct (hReferenceIdeal := hReferenceIdeal) (hPre_ids_distinct := hPre_ids_distinct)
    ∧ preserves_Kernel_KernelIdeal
    ∧ algebraic_KernelIdeal_ReferenceIdeal_pre_ids_distinct (hKernelIdeal := hKernelIdeal) (hReferenceIdeal := hReferenceIdeal) (hPre_ids_distinct := hPre_ids_distinct)
-- ==== Pre_ids_distinct.lean ====
abbrev S2x768x7168 : Shape := ⟨3, ![2, 768, 7168]⟩
abbrev S2x768 : Shape := ⟨2, ![2, 768]⟩
abbrev S7168x256 : Shape := ⟨2, ![7168, 256]⟩
abbrev S2x768x8 : Shape := ⟨3, ![2, 768, 8]⟩
abbrev S2x768x8x1 : Shape := ⟨4, ![2, 768, 8, 1]⟩
abbrev S2x768x1x8 : Shape := ⟨4, ![2, 768, 1, 8]⟩
abbrev S2x768x8x8 : Shape := ⟨4, ![2, 768, 8, 8]⟩
abbrev S_ : Shape := ⟨0, ![]⟩

class Facts : Prop where
  bcast_S2x768x8_S2x768x8x1_0_1_2 : S2x768x8.BroadcastsInDim S2x768x8x1 (![0, 1, 2] : Fin 3 → Fin S2x768x8x1.rank)
  bcast_S2x768x8_S2x768x1x8_0_1_3 : S2x768x8.BroadcastsInDim S2x768x1x8 (![0, 1, 3] : Fin 3 → Fin S2x768x1x8.rank)
  bcast_S_S2x768x8x1 : S_.BroadcastsInDim S2x768x8x1 (![] : Fin 0 → Fin S2x768x8x1.rank)
  bcast_S2x768x8x1_S2x768x8x8_0_1_2_3 : S2x768x8x1.BroadcastsInDim S2x768x8x8 (![0, 1, 2, 3] : Fin 4 → Fin S2x768x8x8.rank)
  bcast_S2x768x1x8_S2x768x8x8_0_1_2_3 : S2x768x1x8.BroadcastsInDim S2x768x8x8 (![0, 1, 2, 3] : Fin 4 → Fin S2x768x8x8.rank)

variable [Facts]

def fn {F : FTy → Type} [FloatOps F] (main_arg0 : FVec F S2x768x7168 .fp8e4m3) (main_arg1 : FVec F S2x768 .f32) (main_arg2 : FVec F S7168x256 .bf16) (main_arg3 : IVec S2x768x8 32) (main_arg4 : FVec F S2x768x8 .bf16) : IVec S2x768x8x8 1 :=
  let main_v0 : IVec S2x768x8x1 32 := broadcastInDim S2x768x8x1 ![0, 1, 2] bcast_S2x768x8_S2x768x8x1_0_1_2 main_arg3
  let main_v1 : IVec S2x768x1x8 32 := broadcastInDim S2x768x1x8 ![0, 1, 3] bcast_S2x768x8_S2x768x1x8_0_1_3 main_arg3
  let main_v2 : IVec S2x768x8x8 32 := iotaInDim S2x768x8x8 32 2
  let main_v3 : IVec S2x768x8x8 32 := iotaInDim S2x768x8x8 32 3
  let main_v4 : IVec S2x768x8x8 1 := cmpi .eq main_v2 main_v3
  let main_c : IVec S_ 32 := constantI S_ 32 0#32
  let main_v5 : IVec S2x768x8x1 32 := broadcastInDim S2x768x8x1 ![] bcast_S_S2x768x8x1 main_c
  let main_v6 : IVec S2x768x8x1 1 := cmpi .sge main_v0 main_v5
  let main_c_0 : IVec S_ 32 := constantI S_ 32 256#32
  let main_v7 : IVec S2x768x8x1 32 := broadcastInDim S2x768x8x1 ![] bcast_S_S2x768x8x1 main_c_0
  let main_v8 : IVec S2x768x8x1 1 := cmpi .slt main_v0 main_v7
  let main_v9 : IVec S2x768x8x1 1 := andi main_v6 main_v8
  let main_v10 : IVec S2x768x8x8 32 := broadcastInDim S2x768x8x8 ![0, 1, 2, 3] bcast_S2x768x8x1_S2x768x8x8_0_1_2_3 main_v0
  let main_v11 : IVec S2x768x8x8 32 := broadcastInDim S2x768x8x8 ![0, 1, 2, 3] bcast_S2x768x1x8_S2x768x8x8_0_1_2_3 main_v1
  let main_v12 : IVec S2x768x8x8 1 := cmpi .ne main_v10 main_v11
  let main_v13 : IVec S2x768x8x8 1 := ori main_v12 main_v4
  let main_v14 : IVec S2x768x8x8 1 := broadcastInDim S2x768x8x8 ![0, 1, 2, 3] bcast_S2x768x8x1_S2x768x8x8_0_1_2_3 main_v9
  let main_v15 : IVec S2x768x8x8 1 := andi main_v14 main_v13
  main_v15
-- ==== Kernel.lean ====
abbrev S2x768x7168 : Shape := ⟨3, ![2, 768, 7168]⟩
abbrev S2x768 : Shape := ⟨2, ![2, 768]⟩
abbrev S7168x256 : Shape := ⟨2, ![7168, 256]⟩
abbrev S2x768x8 : Shape := ⟨3, ![2, 768, 8]⟩
abbrev S2x8x768 : Shape := ⟨3, ![2, 8, 768]⟩
abbrev S1536x7168 : Shape := ⟨2, ![1536, 7168]⟩
abbrev S1536x256 : Shape := ⟨2, ![1536, 256]⟩
abbrev S256x7168 : Shape := ⟨2, ![256, 7168]⟩
abbrev S256x1536 : Shape := ⟨2, ![256, 1536]⟩
abbrev S2x1536x512 : Shape := ⟨3, ![2, 1536, 512]⟩
abbrev S2x512x256 : Shape := ⟨3, ![2, 512, 256]⟩
abbrev S2x8 : Shape := ⟨2, ![2, 8]⟩
abbrev S8 : Shape := ⟨1, ![8]⟩
abbrev S3 : Shape := ⟨1, ![3]⟩
abbrev S2 : Shape := ⟨1, ![2]⟩
abbrev S1 : Shape := ⟨1, ![1]⟩
abbrev S_ : Shape := ⟨0, ![]⟩
abbrev S512x256 : Shape := ⟨2, ![512, 256]⟩
abbrev S1x1 : Shape := ⟨2, ![1, 1]⟩
abbrev S1024x512 : Shape := ⟨2, ![1024, 512]⟩
abbrev S1024x256 : Shape := ⟨2, ![1024, 256]⟩
abbrev S1024x1024 : Shape := ⟨2, ![1024, 1024]⟩
abbrev S512x512 : Shape := ⟨2, ![512, 512]⟩
abbrev S512x1024 : Shape := ⟨2, ![512, 1024]⟩
abbrev S256x128 : Shape := ⟨2, ![256, 128]⟩
abbrev S256x512 : Shape := ⟨2, ![256, 512]⟩
abbrev S256x1024 : Shape := ⟨2, ![256, 1024]⟩
abbrev S1x8x128 : Shape := ⟨3, ![1, 8, 128]⟩
abbrev S8x128 : Shape := ⟨2, ![8, 128]⟩
abbrev S1x128 : Shape := ⟨2, ![1, 128]⟩
abbrev S128 : Shape := ⟨1, ![128]⟩
abbrev S128x256 : Shape := ⟨2, ![128, 256]⟩
abbrev S1536x512 : Shape := ⟨2, ![1536, 512]⟩
abbrev S1x1536x512 : Shape := ⟨3, ![1, 1536, 512]⟩
abbrev S1x512x256 : Shape := ⟨3, ![1, 512, 256]⟩
abbrev S2x768x256 : Shape := ⟨3, ![2, 768, 256]⟩

abbrev nBuf : Space → Nat
  | .hbm => 13
  | .vmem => 12
  | .smem => 0
  | _ => 0

abbrev bufTy : (tb : Table) → Fin (tcTables nBuf tb) → BufTy
  | .hbm, ⟨0, _⟩ => ⟨S2x768x7168, .fp8e4m3⟩
  | .hbm, ⟨1, _⟩ => ⟨S2x768, .f32⟩
  | .hbm, ⟨2, _⟩ => ⟨S7168x256, .bf16⟩
  | .hbm, ⟨3, _⟩ => ⟨S2x768x8, .i32⟩
  | .hbm, ⟨4, _⟩ => ⟨S2x768x8, .bf16⟩
  | .hbm, ⟨5, _⟩ => ⟨S2x8x768, .i32⟩
  | .hbm, ⟨6, _⟩ => ⟨S2x8x768, .bf16⟩
  | .hbm, ⟨7, _⟩ => ⟨S1536x7168, .fp8e4m3⟩
  | .hbm, ⟨8, _⟩ => ⟨S1536x7168, .bf16⟩
  | .hbm, ⟨9, _⟩ => ⟨S7168x256, .f32⟩
  | .hbm, ⟨10, _⟩ => ⟨S1536x256, .f32⟩
  | .hbm, ⟨11, _⟩ => ⟨S2x768x7168, .bf16⟩
  | .hbm, ⟨12, _⟩ => ⟨S2x768x256, .f32⟩
  | .local _ .vmem, ⟨0, _⟩ => ⟨S1536x7168, .fp8e4m3⟩
  | .local _ .vmem, ⟨1, _⟩ => ⟨S7168x256, .bf16⟩
  | .local _ .vmem, ⟨2, _⟩ => ⟨S256x7168, .bf16⟩
  | .local _ .vmem, ⟨3, _⟩ => ⟨S2x768, .f32⟩
  | .local _ .vmem, ⟨4, _⟩ => ⟨S2x8x768, .i32⟩
  | .local _ .vmem, ⟨5, _⟩ => ⟨S2x8x768, .bf16⟩
  | .local _ .vmem, ⟨6, _⟩ => ⟨S256x1536, .f32⟩
  | .local _ .vmem, ⟨7, _⟩ => ⟨S1536x256, .f32⟩
  | .local _ .vmem, ⟨8, _⟩ => ⟨S1536x256, .bf16⟩
  | .local _ .vmem, ⟨9, _⟩ => ⟨S256x1536, .bf16⟩
  | .local _ .vmem, ⟨10, _⟩ => ⟨S2x1536x512, .bf16⟩
  | .local _ .vmem, ⟨11, _⟩ => ⟨S2x512x256, .f32⟩
  | _, _ => ⟨S2x768x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩

abbrev nD : Nat := 1
abbrev τ : Topo := Topo.v7x

variable {F : FTy → Type} [FloatOps F]

abbrev grid0 : Pipeline.Grid := .none
-- ==== ReferenceIdeal.lean ====
abbrev S2x768x7168 : Shape := ⟨3, ![2, 768, 7168]⟩
abbrev S2x768 : Shape := ⟨2, ![2, 768]⟩
abbrev S7168x256 : Shape := ⟨2, ![7168, 256]⟩
abbrev S2x768x8 : Shape := ⟨3, ![2, 768, 8]⟩
abbrev S2x768x256 : Shape := ⟨3, ![2, 768, 256]⟩
abbrev S2x768x1 : Shape := ⟨3, ![2, 768, 1]⟩
abbrev S2x768x8x1 : Shape := ⟨4, ![2, 768, 8, 1]⟩
abbrev S256 : Shape := ⟨1, ![256]⟩
abbrev S1x1x1x256 : Shape := ⟨4, ![1, 1, 1, 256]⟩
abbrev S2x768x8x256 : Shape := ⟨4, ![2, 768, 8, 256]⟩
abbrev S2x768x1x256 : Shape := ⟨4, ![2, 768, 1, 256]⟩
abbrev S_ : Shape := ⟨0, ![]⟩
abbrev S1536x7168 : Shape := ⟨2, ![1536, 7168]⟩
abbrev S1536x256 : Shape := ⟨2, ![1536, 256]⟩

abbrev nBuf : Space → Nat
  | .hbm => 98
  | .vmem => 2
  | .smem => 0
  | _ => 0

abbrev bufTy : (tb : Table) → Fin (tcTables nBuf tb) → BufTy
  | .hbm, ⟨0, _⟩ => ⟨S2x768x7168, .fp8e4m3⟩
  | .hbm, ⟨1, _⟩ => ⟨S2x768, .f32⟩
  | .hbm, ⟨2, _⟩ => ⟨S7168x256, .bf16⟩
  | .hbm, ⟨3, _⟩ => ⟨S2x768x8, .i32⟩
  | .hbm, ⟨4, _⟩ => ⟨S2x768x8, .bf16⟩
  | .hbm, ⟨5, _⟩ => ⟨S2x768x7168, .bf16⟩
  | .hbm, ⟨6, _⟩ => ⟨S2x768x256, .f32⟩
  | .hbm, ⟨7, _⟩ => ⟨S2x768x1, .f32⟩
  | .hbm, ⟨8, _⟩ => ⟨S2x768x256, .f32⟩
  | .hbm, ⟨9, _⟩ => ⟨S2x768x256, .f32⟩
  | .hbm, ⟨10, _⟩ => ⟨S2x768x8x1, .i32⟩
  | .hbm, ⟨11, _⟩ => ⟨S256, .i32⟩
  | .hbm, ⟨12, _⟩ => ⟨S1x1x1x256, .i32⟩
  | .hbm, ⟨13, _⟩ => ⟨S2x768x8x256, .i32⟩
  | .hbm, ⟨14, _⟩ => ⟨S2x768x8x256, .i32⟩
  | .hbm, ⟨15, _⟩ => ⟨S2x768x8x256, .i1⟩
  | .hbm, ⟨16, _⟩ => ⟨S2x768x1x256, .f32⟩
  | .hbm, ⟨17, _⟩ => ⟨S_, .f32⟩
  | .hbm, ⟨18, _⟩ => ⟨S_, .f32⟩
  | .hbm, ⟨19, _⟩ => ⟨S2x768x8x256, .f32⟩
  | .hbm, ⟨20, _⟩ => ⟨S2x768x8x256, .f32⟩
  | .hbm, ⟨21, _⟩ => ⟨S2x768x8x256, .f32⟩
  | .hbm, ⟨22, _⟩ => ⟨S_, .f32⟩
  | .hbm, ⟨23, _⟩ => ⟨S2x768x8, .f32⟩
  | .hbm, ⟨24, _⟩ => ⟨S_, .f32⟩
  | .hbm, ⟨25, _⟩ => ⟨S2x768, .f32⟩
  | .hbm, ⟨26, _⟩ => ⟨S_, .f32⟩
  | .hbm, ⟨27, _⟩ => ⟨S2x768, .f32⟩
  | .hbm, ⟨28, _⟩ => ⟨S2x768, .f32⟩
  | .hbm, ⟨29, _⟩ => ⟨S2x768x1, .f32⟩
  | .hbm, ⟨30, _⟩ => ⟨S2x768x8, .f32⟩
  | .hbm, ⟨31, _⟩ => ⟨S2x768x8, .f32⟩
  | .hbm, ⟨32, _⟩ => ⟨S2x768x8, .f32⟩
  | .hbm, ⟨33, _⟩ => ⟨S_, .f32⟩
  | .hbm, ⟨34, _⟩ => ⟨S2x768, .f32⟩
  | .hbm, ⟨35, _⟩ => ⟨S2x768x1, .f32⟩
  | .hbm, ⟨36, _⟩ => ⟨S2x768x8, .f32⟩
  | .hbm, ⟨37, _⟩ => ⟨S2x768x8, .f32⟩
  | .hbm, ⟨38, _⟩ => ⟨S2x768x8, .f32⟩
  | .hbm, ⟨39, _⟩ => ⟨S2x768x8, .f32⟩
  | .hbm, ⟨40, _⟩ => ⟨S_, .f32⟩
  | .hbm, ⟨41, _⟩ => ⟨S2x768, .f32⟩
  | .hbm, ⟨42, _⟩ => ⟨S2x768x1, .f32⟩
  | .hbm, ⟨43, _⟩ => ⟨S2x768x8, .f32⟩
  | .hbm, ⟨44, _⟩ => ⟨S2x768x8, .f32⟩
  | .hbm, ⟨45, _⟩ => ⟨S2x768x8, .f32⟩
  | .hbm, ⟨46, _⟩ => ⟨S_, .f32⟩
  | .hbm, ⟨47, _⟩ => ⟨S2x768x256, .f32⟩
  | .hbm, ⟨48, _⟩ => ⟨S2x768x1x256, .i1⟩
  | .hbm, ⟨49, _⟩ => ⟨S2x768x256, .i1⟩
  | .hbm, ⟨50, _⟩ => ⟨S2x768x1, .f32⟩
  | .hbm, ⟨51, _⟩ => ⟨S2x768x256, .f32⟩
  | .hbm, ⟨52, _⟩ => ⟨S2x768x256, .f32⟩
  | .hbm, ⟨53, _⟩ => ⟨S2x768x1x256, .i1⟩
  | .hbm, ⟨54, _⟩ => ⟨S2x768x256, .i1⟩
  | .hbm, ⟨55, _⟩ => ⟨S2x768x1, .f32⟩
  | .hbm, ⟨56, _⟩ => ⟨S2x768x256, .f32⟩
  | .hbm, ⟨57, _⟩ => ⟨S2x768x256, .f32⟩
  | .hbm, ⟨58, _⟩ => ⟨S2x768x1x256, .i1⟩
  | .hbm, ⟨59, _⟩ => ⟨S2x768x256, .i1⟩
  | .hbm, ⟨60, _⟩ => ⟨S2x768x1, .f32⟩
  | .hbm, ⟨61, _⟩ => ⟨S2x768x256, .f32⟩
  | .hbm, ⟨62, _⟩ => ⟨S2x768x256, .f32⟩
  | .hbm, ⟨63, _⟩ => ⟨S2x768x1x256, .i1⟩
  | .hbm, ⟨64, _⟩ => ⟨S2x768x256, .i1⟩
  | .hbm, ⟨65, _⟩ => ⟨S2x768x1, .f32⟩
  | .hbm, ⟨66, _⟩ => ⟨S2x768x256, .f32⟩
  | .hbm, ⟨67, _⟩ => ⟨S2x768x256, .f32⟩
  | .hbm, ⟨68, _⟩ => ⟨S2x768x1x256, .i1⟩
  | .hbm, ⟨69, _⟩ => ⟨S2x768x256, .i1⟩
  | .hbm, ⟨70, _⟩ => ⟨S2x768x1, .f32⟩
  | .hbm, ⟨71, _⟩ => ⟨S2x768x256, .f32⟩
  | .hbm, ⟨72, _⟩ => ⟨S2x768x256, .f32⟩
  | .hbm, ⟨73, _⟩ => ⟨S2x768x1x256, .i1⟩
  | .hbm, ⟨74, _⟩ => ⟨S2x768x256, .i1⟩
  | .hbm, ⟨75, _⟩ => ⟨S2x768x1, .f32⟩
  | .hbm, ⟨76, _⟩ => ⟨S2x768x256, .f32⟩
  | .hbm, ⟨77, _⟩ => ⟨S2x768x256, .f32⟩
  | .hbm, ⟨78, _⟩ => ⟨S2x768x1x256, .i1⟩
  | .hbm, ⟨79, _⟩ => ⟨S2x768x256, .i1⟩
  | .hbm, ⟨80, _⟩ => ⟨S2x768x1, .f32⟩
  | .hbm, ⟨81, _⟩ => ⟨S2x768x256, .f32⟩
  | .hbm, ⟨82, _⟩ => ⟨S2x768x256, .f32⟩
  | .hbm, ⟨83, _⟩ => ⟨S2x768x1x256, .i1⟩
  | .hbm, ⟨84, _⟩ => ⟨S2x768x256, .i1⟩
  | .hbm, ⟨85, _⟩ => ⟨S2x768x1, .f32⟩
  | .hbm, ⟨86, _⟩ => ⟨S2x768x256, .f32⟩
  | .hbm, ⟨87, _⟩ => ⟨S2x768x256, .f32⟩
  | .hbm, ⟨88, _⟩ => ⟨S2x768x256, .bf16⟩
  | .hbm, ⟨89, _⟩ => ⟨S2x768x7168, .f32⟩
  | .hbm, ⟨90, _⟩ => ⟨S2x768x7168, .bf16⟩
  | .hbm, ⟨91, _⟩ => ⟨S2x768x1, .f32⟩
  | .hbm, ⟨92, _⟩ => ⟨S2x768x1, .bf16⟩
  | .hbm, ⟨93, _⟩ => ⟨S2x768x256, .bf16⟩
  | .hbm, ⟨94, _⟩ => ⟨S2x768x256, .bf16⟩
  | .hbm, ⟨95, _⟩ => ⟨S1536x7168, .bf16⟩
  | .hbm, ⟨96, _⟩ => ⟨S1536x256, .bf16⟩
  | .hbm, ⟨97, _⟩ => ⟨S7168x256, .f32⟩
  | .local _ .vmem, ⟨0, _⟩ => ⟨S2x768x7168, .fp8e4m3⟩
  | .local _ .vmem, ⟨1, _⟩ => ⟨S2x768x7168, .bf16⟩
  | _, _ => ⟨S2x768x7168, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call1_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call2_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call3_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call4_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call5_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call6_v0 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call7_v0 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call8_v0 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x768x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Run.lean ====
module

public import proofs.«01_k».proof.Proof.Gen.Kernel.Frame
public import proofs.«01_k».proof.Proof.Gen.Kernel.Skeleton

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions' algebra: the pipeline library's beside the counters of the body's own transfers. -/
local notation "𝕄" => MT nD τ sig Unit (Elt F) ℕ (Pipeline.UD sig nD τ) ℕ

/-- The contents of one buffer. -/
abbrev Bf (c : Dev nD) (b : Ref sig .tc) : Type := Buf (Elt F) ((c : Thread nD τ).loc b)
/-- A buffer held whole at the contents `f`. -/
abbrev pt (c : Dev nD) (b : Ref sig .tc) (f : Bf (F := F) c b) : sProp 𝕄 :=
  (Memref.whole b : Memref sig .tc _ _ _).view.loc (c : Thread nD τ) ↦{fullShare} f
/-- A cell of the body's own transfers with its counter at zero. -/
abbrev z (c : Dev nD) (j : Fin 33) : sProp 𝕄 := semVal ((c : Thread nD τ), SemLoc.dma j) 0

set_option maxHeartbeats 0 in
/-- The body, run: from the operands, the results and the scratch buffers held whole, every cell of its transfers at zero and
    the core's waits, it ends with the operands as they were, the results at the contents found here, the scratch
    buffers at some contents and every cell at zero again. -/

def run (c : Dev nD) (f0 : Bf (F := F) c main_v2) (f1 : Bf (F := F) c main_arg1) (f2 : Bf (F := F) c main_arg2) (f3 : Bf (F := F) c main_v0) (f4 : Bf (F := F) c main_v1)
    (o0 : Bf (F := F) c main_v3_0) (o1 : Bf (F := F) c main_v3_1) (o2 : Bf (F := F) c main_v3_2)
    (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) (s9 : Bf (F := F) c cc0_scratch9) (s10 : Bf (F := F) c cc0_scratch10) (s11 : Bf (F := F) c cc0_scratch11) :
    { L : Bf (F := F) c main_v3_0 × Bf (F := F) c main_v3_1 × Bf (F := F) c main_v3_2 //
      ∀ (W : Waits sig Unit) (Q : PUnit → sProp 𝕄),
        iprop(pt c main_v2 f0 ∗ pt c main_arg1 f1 ∗ pt c main_arg2 f2 ∗ pt c main_v0 f3 ∗ pt c main_v1 f4
            ∗ pt c main_v3_0 o0 ∗ pt c main_v3_1 o1 ∗ pt c main_v3_2 o2
            ∗ pt c cc0_scratch0 s0 ∗ pt c cc0_scratch1 s1 ∗ pt c cc0_scratch2 s2 ∗ pt c cc0_scratch3 s3 ∗ pt c cc0_scratch4 s4 ∗ pt c cc0_scratch5 s5 ∗ pt c cc0_scratch6 s6 ∗ pt c cc0_scratch7 s7 ∗ pt c cc0_scratch8 s8 ∗ pt c cc0_scratch9 s9 ∗ pt c cc0_scratch10 s10 ∗ pt c cc0_scratch11 s11
            ∗ z c 0 ∗ z c 1 ∗ z c 2 ∗ z c 3 ∗ z c 4 ∗ z c 5 ∗ z c 6 ∗ z c 7 ∗ z c 8 ∗ z c 9 ∗ z c 10 ∗ z c 11 ∗ z c 12 ∗ z c 13 ∗ z c 14 ∗ z c 15 ∗ z c 16 ∗ z c 17 ∗ z c 18 ∗ z c 19 ∗ z c 20 ∗ z c 21 ∗ z c 22 ∗ z c 23 ∗ z c 24 ∗ z c 25 ∗ z c 26 ∗ z c 27 ∗ z c 28 ∗ z c 29 ∗ z c 30 ∗ z c 31 ∗ z c 32
            ∗ owes (c : Thread nD τ) 0 W
            ∗ (iprop(pt c main_v2 f0 ∗ pt c main_arg1 f1 ∗ pt c main_arg2 f2 ∗ pt c main_v0 f3 ∗ pt c main_v1 f4
                ∗ pt c main_v3_0 L.1 ∗ pt c main_v3_1 L.2.1 ∗ pt c main_v3_2 L.2.2
                ∗ (∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f)
                ∗ z c 0 ∗ z c 1 ∗ z c 2 ∗ z c 3 ∗ z c 4 ∗ z c 5 ∗ z c 6 ∗ z c 7 ∗ z c 8 ∗ z c 9 ∗ z c 10 ∗ z c 11 ∗ z c 12 ∗ z c 13 ∗ z c 14 ∗ z c 15 ∗ z c 16 ∗ z c 17 ∗ z c 18 ∗ z c 19 ∗ z c 20 ∗ z c 21 ∗ z c 22 ∗ z c 23 ∗ z c 24 ∗ z c 25 ∗ z c 26 ∗ z c 27 ∗ z c 28 ∗ z c 29 ∗ z c 30 ∗ z c 31 ∗ z c 32
                ∗ (∃ W', owes (c : Thread nD τ) 0 W')) -∗ Q ⟨⟩))
          ⊢ wp frame (wpE (defs₀ (F := F)) Variants.none c none) Set.univ
              (cc0_router_bwd (Memref.whole main_v2) (Memref.isWhole_whole _) (Memref.whole main_arg1) (Memref.isWhole_whole _) (Memref.whole main_arg2) (Memref.isWhole_whole _) (Memref.whole main_v0) (Memref.isWhole_whole _) (Memref.whole main_v1) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q } := by
  refine ⟨⟨?_, ?_, ?_⟩, fun W Q => ?run⟩
  case run =>
    iintro ⟨Hi0, Hi1, Hi2, Hi3, Hi4, Ho0, Ho1, Ho2, Hs0, Hs1, Hs2, Hs3, Hs4, Hs5, Hs6, Hs7, Hs8, Hs9, Hs10, Hs11, Hz0, Hz1, Hz2, Hz3, Hz4, Hz5, Hz6, Hz7, Hz8, Hz9, Hz10, Hz11, Hz12, Hz13, Hz14, Hz15, Hz16, Hz17, Hz18, Hz19, Hz20, Hz21, Hz22, Hz23, Hz24, Hz25, Hz26, Hz27, Hz28, Hz29, Hz30, Hz31, Hz32, HW, Hk⟩
    set_option sl_exec.dmaWindow true in
    set_option sl_exec.dmaWindowSet true in
    sl_exec_parts
    sl_step
    iapply Hk
    isplitl [Hi0]; · iexact Hi0
    isplitl [Hi1]; · iexact Hi1
    isplitl [Hi2]; · iexact Hi2
    isplitl [Hi3]; · iexact Hi3
    isplitl [Hi4]; · iexact Hi4
    isplitl [Ho0]; · iexact Ho0
    isplitl [Ho1]; · iexact Ho1
    isplitl [Ho2]; · iexact Ho2
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hs10]; · iexists _; iexact Hs10
    isplitl [Hs11]; · iexists _; iexact Hs11
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    isplitl [Hz20]; · iexact Hz20
    isplitl [Hz21]; · iexact Hz21
    isplitl [Hz22]; · iexact Hz22
    isplitl [Hz23]; · iexact Hz23
    isplitl [Hz24]; · iexact Hz24
    isplitl [Hz25]; · iexact Hz25
    isplitl [Hz26]; · iexact Hz26
    isplitl [Hz27]; · iexact Hz27
    isplitl [Hz28]; · iexact Hz28
    isplitl [Hz29]; · iexact Hz29
    isplitl [Hz30]; · iexact Hz30
    isplitl [Hz31]; · iexact Hz31
    isplitl [Hz32]; · iexact Hz32
    iexists _; iexact HW

end Cert.Kernel.Hand

end
-- ==== Proof.Kernel.Frame.lean ====
module

public import proofs.«01_k».proof.Proof.Kernel.Run
public import Idealize.ShloMosaic.Lib.Pipeline.FrameSuffixV

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch around the region -/

set_option maxHeartbeats 800000 in
/-- @main is the host lines before the region, the region, and the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The cells of the body's own transfers. -/
abbrev osem : Fin 33 → SemLoc sig := fun j => SemLoc.dma j
theorem ownSemFacts : Pipeline.OwnSemFacts (cfg0.spec) osem := by decide
/-- The buffers the body's transfers read. -/
def H : Finset (Ref sig .tc) := {main_v2, main_arg1, main_arg2, main_v0, main_v1}
/-- The results, which the body's transfers write. -/
def R : Finset (Ref sig .tc) := {main_v3_0, main_v3_1, main_v3_2}
/-- The results as the host lines after the region reshape them. -/
def T : Finset (Ref sig .tc) := {main_v4, main_v5}
theorem H_sub : H ⊆ Pipeline.restRefs sig (cfg0.spec) := by decide
theorem R_sub : R ⊆ Pipeline.restRefs sig (cfg0.spec) \ H := by decide

theorem ownSems_eq (c : Dev nD) :
    (Pipeline.ownSems0 (Ix := Unit) (Name := ℕ) (U := Pipeline.UD sig nD τ) (Lvl := ℕ) (Val := Elt F) (τ := τ) osem c : sProp 𝕄)
      = iprop(z c 0 ∗ z c 1 ∗ z c 2 ∗ z c 3 ∗ z c 4 ∗ z c 5 ∗ z c 6 ∗ z c 7 ∗ z c 8 ∗ z c 9 ∗ z c 10 ∗ z c 11 ∗ z c 12 ∗ z c 13 ∗ z c 14 ∗ z c 15 ∗ z c 16 ∗ z c 17 ∗ z c 18 ∗ z c 19 ∗ z c 20 ∗ z c 21 ∗ z c 22 ∗ z c 23 ∗ z c 24 ∗ z c 25 ∗ z c 26 ∗ z c 27 ∗ z c 28 ∗ z c 29 ∗ z c 30 ∗ z c 31 ∗ z c 32) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32] (by decide) (by decide)]; rfl
theorem reads_eq (c : Dev nD) (V : (c : Dev nD) → (b : Ref sig .tc) → Buf (Elt F) ((c.tc : Thread nD τ).loc b)) :
    (bigSep H (fun b => ((c : Thread nD τ).loc b) ↦{fullShare} V c b) : sProp 𝕄)
      = iprop(pt c main_v2 (V c main_v2) ∗ pt c main_arg1 (V c main_arg1) ∗ pt c main_arg2 (V c main_arg2) ∗ pt c main_v0 (V c main_v0) ∗ pt c main_v1 (V c main_v1)) := by
  rw [BI.bigSep_eq_bigSepL_of_eq [main_v2, main_arg1, main_arg2, main_v0, main_v1] (by decide) (by decide)]; rfl
theorem results_eq (c : Dev nD) (G : (c : Dev nD) → (b : Ref sig .tc) → Buf (Elt F) ((c.tc : Thread nD τ).loc b)) :
    (bigSep R (fun b => ((c : Thread nD τ).loc b) ↦{fullShare} G c b) : sProp 𝕄)
      = iprop(pt c main_v3_0 (G c main_v3_0) ∗ pt c main_v3_1 (G c main_v3_1) ∗ pt c main_v3_2 (G c main_v3_2)) := by
  rw [BI.bigSep_eq_bigSepL_of_eq [main_v3_0, main_v3_1, main_v3_2] (by decide) (by decide)]; rfl
theorem owned_eq (c : Dev nD) :
    (Pipeline.owned R c : sProp 𝕄) = iprop((∃ f, pt c main_v3_0 f) ∗ (∃ f, pt c main_v3_1 f) ∗ (∃ f, pt c main_v3_2 f)) := by
  unfold Pipeline.owned; rw [BI.bigSep_eq_bigSepL_of_eq [main_v3_0, main_v3_1, main_v3_2] (by decide) (by decide)]; rfl
theorem scratch_eq (c : Dev nD) :
    (Pipeline.scopedRest (Ix := Unit) (Name := ℕ) (U := Pipeline.UD sig nD τ) (Lvl := ℕ) (Val := Elt F) (cfg0.spec) c : sProp 𝕄)
      = iprop((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f)) := by
  rw [scopedRest0_eq]

theorem defs₀_row (t : Fin cfg0.N) :
    defs₀ (F := F) .tc cfg0.body (cfg0.bodyArgs t (cfg0.slots t)) = bodyAt0 t := by
  unfold defs₀; rw [Defs.onTc_tc]

/-! ## The body's obligation when the results' contents are not named -/

/-- No window; the invariant holds the scratch buffers, the cells at zero, the operands and the results. -/
def dats (_ : Fin 1) (c : Dev nD) : Dat τ (Elt F) Unit ℕ (Pipeline.UD sig nD τ) ℕ cfg0 c where
  A w := w.elim0
  after w t := w.elim0
  Φ _ := Pipeline.ΦDR osem (cfg0.spec) H R (V m) c
  q _ := fullShare
  owed _ := 0

theorem sound_body (c : Dev nD) (t : Fin cfg0.N) :
    iprop((dats m 0 c).Φ t.castSucc ∗ (dats m 0 c).owesAt () t.castSucc) ⊢ wp frame (wpE (defs₀ (F := F)) Variants.none c none) Set.univ (bodyAt0 t)
      (fun _ => iprop((dats m 0 c).Φ t.succ ∗ (dats m 0 c).owesAt () t.succ)) := by
  rw [show (dats m 0 c).Φ t.succ = (dats m 0 c).Φ t.castSucc from rfl,
    show (dats m 0 c).Φ t.castSucc = Pipeline.ΦDR osem (cfg0.spec) H R (V m) c from rfl,
    Pipeline.ΦDR_eq, scratch_eq, ownSems_eq, reads_eq, owned_eq]
  unfold Dat.owesAt Pipeline.owesWithin
  rw [show (dats m 0 c).owed t.castSucc = 0 from rfl, show (dats m 0 c).owed t.succ = 0 from rfl]
  unfold bodyAt0
  iintro ⟨⟨⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, ⟨%s8, Hs8⟩, ⟨%s9, Hs9⟩, ⟨%s10, Hs10⟩, ⟨%s11, Hs11⟩⟩, Hg, ⟨Hz0, Hz1, Hz2, Hz3, Hz4, Hz5, Hz6, Hz7, Hz8, Hz9, Hz10, Hz11, Hz12, Hz13, Hz14, Hz15, Hz16, Hz17, Hz18, Hz19, Hz20, Hz21, Hz22, Hz23, Hz24, Hz25, Hz26, Hz27, Hz28, Hz29, Hz30, Hz31, Hz32⟩, ⟨Hi0, Hi1, Hi2, Hi3, Hi4⟩, ⟨%o0, Ho0⟩, ⟨%o1, Ho1⟩, ⟨%o2, Ho2⟩⟩, ⟨%W, -, HW⟩⟩
  iapply ((run c (V m c main_v2) (V m c main_arg1) (V m c main_arg2) (V m c main_v0) (V m c main_v1) o0 o1 o2 s0 s1 s2 s3 s4 s5 s6 s7 s8 s9 s10 s11).2 W _)
  isplitl [Hi0]; · iexact Hi0
  isplitl [Hi1]; · iexact Hi1
  isplitl [Hi2]; · iexact Hi2
  isplitl [Hi3]; · iexact Hi3
  isplitl [Hi4]; · iexact Hi4
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  isplitl [Hz8]; · iexact Hz8
  isplitl [Hz9]; · iexact Hz9
  isplitl [Hz10]; · iexact Hz10
  isplitl [Hz11]; · iexact Hz11
  isplitl [Hz12]; · iexact Hz12
  isplitl [Hz13]; · iexact Hz13
  isplitl [Hz14]; · iexact Hz14
  isplitl [Hz15]; · iexact Hz15
  isplitl [Hz16]; · iexact Hz16
  isplitl [Hz17]; · iexact Hz17
  isplitl [Hz18]; · iexact Hz18
  isplitl [Hz19]; · iexact Hz19
  isplitl [Hz20]; · iexact Hz20
  isplitl [Hz21]; · iexact Hz21
  isplitl [Hz22]; · iexact Hz22
  isplitl [Hz23]; · iexact Hz23
  isplitl [Hz24]; · iexact Hz24
  isplitl [Hz25]; · iexact Hz25
  isplitl [Hz26]; · iexact Hz26
  isplitl [Hz27]; · iexact Hz27
  isplitl [Hz28]; · iexact Hz28
  isplitl [Hz29]; · iexact Hz29
  isplitl [Hz30]; · iexact Hz30
  isplitl [Hz31]; · iexact Hz31
  isplitl [Hz32]; · iexact Hz32
  isplitl [HW]; · iexact HW
  iintro ⟨Hi0, Hi1, Hi2, Hi3, Hi4, Ho0, Ho1, Ho2, Hs0, Hs1, Hs2, Hs3, Hs4, Hs5, Hs6, Hs7, Hs8, Hs9, Hs10, Hs11, Hz0, Hz1, Hz2, Hz3, Hz4, Hz5, Hz6, Hz7, Hz8, Hz9, Hz10, Hz11, Hz12, Hz13, Hz14, Hz15, Hz16, Hz17, Hz18, Hz19, Hz20, Hz21, Hz22, Hz23, Hz24, Hz25, Hz26, Hz27, Hz28, Hz29, Hz30, Hz31, Hz32, ⟨%W', HW⟩⟩
  isplitl [Hs0 Hs1 Hs2 Hs3 Hs4 Hs5 Hs6 Hs7 Hs8 Hs9 Hs10 Hs11 Hg Hz0 Hz1 Hz2 Hz3 Hz4 Hz5 Hz6 Hz7 Hz8 Hz9 Hz10 Hz11 Hz12 Hz13 Hz14 Hz15 Hz16 Hz17 Hz18 Hz19 Hz20 Hz21 Hz22 Hz23 Hz24 Hz25 Hz26 Hz27 Hz28 Hz29 Hz30 Hz31 Hz32 Hi0 Hi1 Hi2 Hi3 Hi4 Ho0 Ho1 Ho2]
  · isplitl [Hs0 Hs1 Hs2 Hs3 Hs4 Hs5 Hs6 Hs7 Hs8 Hs9 Hs10 Hs11]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    isplitl [Hg]; · iexact Hg
    isplitl [Hz0 Hz1 Hz2 Hz3 Hz4 Hz5 Hz6 Hz7 Hz8 Hz9 Hz10 Hz11 Hz12 Hz13 Hz14 Hz15 Hz16 Hz17 Hz18 Hz19 Hz20 Hz21 Hz22 Hz23 Hz24 Hz25 Hz26 Hz27 Hz28 Hz29 Hz30 Hz31 Hz32]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      isplitl [Hz19]; · iexact Hz19
      isplitl [Hz20]; · iexact Hz20
      isplitl [Hz21]; · iexact Hz21
      isplitl [Hz22]; · iexact Hz22
      isplitl [Hz23]; · iexact Hz23
      isplitl [Hz24]; · iexact Hz24
      isplitl [Hz25]; · iexact Hz25
      isplitl [Hz26]; · iexact Hz26
      isplitl [Hz27]; · iexact Hz27
      isplitl [Hz28]; · iexact Hz28
      isplitl [Hz29]; · iexact Hz29
      isplitl [Hz30]; · iexact Hz30
      isplitl [Hz31]; · iexact Hz31
      iexact Hz32
    isplitl [Hi0 Hi1 Hi2 Hi3 Hi4]
    · isplitl [Hi0]; · iexact Hi0
      isplitl [Hi1]; · iexact Hi1
      isplitl [Hi2]; · iexact Hi2
      isplitl [Hi3]; · iexact Hi3
      iexact Hi4
    isplitl [Ho0]; · iexists _; iexact Ho0
    isplitl [Ho1]; · iexists _; iexact Ho1
    iexists _; iexact Ho2
  iexists W'; isplitr; · ipureintro; exact fun _ _ => Or.inl trivial
  iexact HW

theorem body_obligation (c : Dev nD) : BodyObligation (dats (F := F) m 0 c) (defs₀ (F := F)) Variants.none () Set.univ := fun t => by
  rw [defs₀_row]
  have h0 : ∀ Ψ : Fin 0 → sProp 𝕄, bigSep Finset.univ Ψ = iprop(emp) := fun Ψ => by
    rw [show (Finset.univ : Finset (Fin 0)) = ∅ from rfl]; exact bigSep_empty
  refine triple_restated (sound_body m c t) rfl ?_ fun _ => ?_
  · rw [h0]
    iintro ⟨Ha, Hb, -⟩
    isplitl [Ha]; · iexact Ha
    iexact Hb
  · rw [h0]
    iintro ⟨Ha, Hb⟩
    isplitl [Ha]; · iexact Ha
    isplitl [Hb]; · iexact Hb
    iempintro

/-! ## The run and the frame -/

set_option backward.isDefEq.respectTransparency.types false in
theorem run_main : θ_run defs (onTc (τ := τ) (main (F := F))) (s₀ m ρ)
    (fun r => Pipeline.FramePostR cfgs (dats m) 0 (R ∪ T) (V m) r ∧ r.2.sem = fun _ => 0) :=
  Pipeline.θ_run_frame_dmaR_around (Q' := _) cfgs (dats m) (0 : Fin 1) launch0 osem defs₀ Variants.none ownSemFacts H R T H_sub R_sub m ρ main
    (hbody := fun c => (body_obligation m c).loose) (hshare := fun c => (dats m 0 c).share_full fun _ => rfl)
    (howed := fun _ _ => rfl) (V₀ := V0 m) (opss := [hostOps1]) sfx_sub sfx_fresh sfx_keeps
    (hT := by
      intro ops hops op hop b hb
      simp only [List.mem_cons, List.mem_nil_iff, or_false] at hops
      rcases hops with rfl
      simp only [hostOps1, List.mem_cons, List.mem_nil_iff, or_false] at hop
      rcases hop with rfl | rfl
      all_goals
        simp only [StableHlo.reshape_writes, Finset.mem_singleton] at hb
        have := Proc.devRef_injective _ hb
        subst this; decide)
    (hmain := hmain m Variants.none) (hA := fun _ w => w.elim0)
    (hin := fun _ => .rfl) (hout := fun _ => .rfl) (hQ' := fun _ h => h)

/-- Every weight of the fair schedule runs the program to its end, faults nowhere, leaves the five argument arrays as
    they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_main m ρ)

end Cert.Kernel.Hand

end
-- ==== Proof.KernelIdeal.Run.lean ====
module

public import proofs.«01_k».proof.Proof.Gen.KernelIdeal.Frame
public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions' algebra: the pipeline library's beside the counters of the body's own transfers. -/
local notation "𝕄" => MT nD τ sig Unit (Elt F) ℕ (Pipeline.UD sig nD τ) ℕ

/-- The contents of one buffer. -/
abbrev Bf (c : Dev nD) (b : Ref sig .tc) : Type := Buf (Elt F) ((c : Thread nD τ).loc b)
/-- A buffer held whole at the contents `f`. -/
abbrev pt (c : Dev nD) (b : Ref sig .tc) (f : Bf (F := F) c b) : sProp 𝕄 :=
  (Memref.whole b : Memref sig .tc _ _ _).view.loc (c : Thread nD τ) ↦{fullShare} f
/-- A cell of the body's own transfers with its counter at zero. -/
abbrev z (c : Dev nD) (j : Fin 33) : sProp 𝕄 := semVal ((c : Thread nD τ), SemLoc.dma j) 0

set_option maxHeartbeats 0 in
/-- The body, run: from the operands, the results and the scratch buffers held whole, every cell of its transfers at zero and
    the core's waits, it ends with the operands as they were, the results at the contents found here, the scratch
    buffers at some contents and every cell at zero again. -/

def run (c : Dev nD) (f0 : Bf (F := F) c main_v2) (f1 : Bf (F := F) c main_arg1) (f2 : Bf (F := F) c main_arg2) (f3 : Bf (F := F) c main_v0) (f4 : Bf (F := F) c main_v1)
    (o0 : Bf (F := F) c main_v3_0) (o1 : Bf (F := F) c main_v3_1) (o2 : Bf (F := F) c main_v3_2)
    (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) (s9 : Bf (F := F) c cc0_scratch9) (s10 : Bf (F := F) c cc0_scratch10) (s11 : Bf (F := F) c cc0_scratch11) :
    { L : Bf (F := F) c main_v3_0 × Bf (F := F) c main_v3_1 × Bf (F := F) c main_v3_2 //
      ∀ (W : Waits sig Unit) (Q : PUnit → sProp 𝕄),
        iprop(pt c main_v2 f0 ∗ pt c main_arg1 f1 ∗ pt c main_arg2 f2 ∗ pt c main_v0 f3 ∗ pt c main_v1 f4
            ∗ pt c main_v3_0 o0 ∗ pt c main_v3_1 o1 ∗ pt c main_v3_2 o2
            ∗ pt c cc0_scratch0 s0 ∗ pt c cc0_scratch1 s1 ∗ pt c cc0_scratch2 s2 ∗ pt c cc0_scratch3 s3 ∗ pt c cc0_scratch4 s4 ∗ pt c cc0_scratch5 s5 ∗ pt c cc0_scratch6 s6 ∗ pt c cc0_scratch7 s7 ∗ pt c cc0_scratch8 s8 ∗ pt c cc0_scratch9 s9 ∗ pt c cc0_scratch10 s10 ∗ pt c cc0_scratch11 s11
            ∗ z c 0 ∗ z c 1 ∗ z c 2 ∗ z c 3 ∗ z c 4 ∗ z c 5 ∗ z c 6 ∗ z c 7 ∗ z c 8 ∗ z c 9 ∗ z c 10 ∗ z c 11 ∗ z c 12 ∗ z c 13 ∗ z c 14 ∗ z c 15 ∗ z c 16 ∗ z c 17 ∗ z c 18 ∗ z c 19 ∗ z c 20 ∗ z c 21 ∗ z c 22 ∗ z c 23 ∗ z c 24 ∗ z c 25 ∗ z c 26 ∗ z c 27 ∗ z c 28 ∗ z c 29 ∗ z c 30 ∗ z c 31 ∗ z c 32
            ∗ owes (c : Thread nD τ) 0 W
            ∗ (iprop(pt c main_v2 f0 ∗ pt c main_arg1 f1 ∗ pt c main_arg2 f2 ∗ pt c main_v0 f3 ∗ pt c main_v1 f4
                ∗ pt c main_v3_0 L.1 ∗ pt c main_v3_1 L.2.1 ∗ pt c main_v3_2 L.2.2
                ∗ (∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f)
                ∗ z c 0 ∗ z c 1 ∗ z c 2 ∗ z c 3 ∗ z c 4 ∗ z c 5 ∗ z c 6 ∗ z c 7 ∗ z c 8 ∗ z c 9 ∗ z c 10 ∗ z c 11 ∗ z c 12 ∗ z c 13 ∗ z c 14 ∗ z c 15 ∗ z c 16 ∗ z c 17 ∗ z c 18 ∗ z c 19 ∗ z c 20 ∗ z c 21 ∗ z c 22 ∗ z c 23 ∗ z c 24 ∗ z c 25 ∗ z c 26 ∗ z c 27 ∗ z c 28 ∗ z c 29 ∗ z c 30 ∗ z c 31 ∗ z c 32
                ∗ (∃ W', owes (c : Thread nD τ) 0 W')) -∗ Q ⟨⟩))
          ⊢ wp frame (wpE (defs₀ (F := F)) Variants.none c none) Set.univ
              (cc0_router_bwd (Memref.whole main_v2) (Memref.isWhole_whole _) (Memref.whole main_arg1) (Memref.isWhole_whole _) (Memref.whole main_arg2) (Memref.isWhole_whole _) (Memref.whole main_v0) (Memref.isWhole_whole _) (Memref.whole main_v1) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q } := by
  refine ⟨⟨?_, ?_, ?_⟩, fun W Q => ?run⟩
  case run =>
    iintro ⟨Hi0, Hi1, Hi2, Hi3, Hi4, Ho0, Ho1, Ho2, Hs0, Hs1, Hs2, Hs3, Hs4, Hs5, Hs6, Hs7, Hs8, Hs9, Hs10, Hs11, Hz0, Hz1, Hz2, Hz3, Hz4, Hz5, Hz6, Hz7, Hz8, Hz9, Hz10, Hz11, Hz12, Hz13, Hz14, Hz15, Hz16, Hz17, Hz18, Hz19, Hz20, Hz21, Hz22, Hz23, Hz24, Hz25, Hz26, Hz27, Hz28, Hz29, Hz30, Hz31, Hz32, HW, Hk⟩
    set_option sl_exec.dmaWindow true in
    set_option sl_exec.dmaWindowSet true in
    sl_exec_parts
    sl_step
    iapply Hk
    isplitl [Hi0]; · iexact Hi0
    isplitl [Hi1]; · iexact Hi1
    isplitl [Hi2]; · iexact Hi2
    isplitl [Hi3]; · iexact Hi3
    isplitl [Hi4]; · iexact Hi4
    isplitl [Ho0]; · iexact Ho0
    isplitl [Ho1]; · iexact Ho1
    isplitl [Ho2]; · iexact Ho2
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hs10]; · iexists _; iexact Hs10
    isplitl [Hs11]; · iexists _; iexact Hs11
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    isplitl [Hz20]; · iexact Hz20
    isplitl [Hz21]; · iexact Hz21
    isplitl [Hz22]; · iexact Hz22
    isplitl [Hz23]; · iexact Hz23
    isplitl [Hz24]; · iexact Hz24
    isplitl [Hz25]; · iexact Hz25
    isplitl [Hz26]; · iexact Hz26
    isplitl [Hz27]; · iexact Hz27
    isplitl [Hz28]; · iexact Hz28
    isplitl [Hz29]; · iexact Hz29
    isplitl [Hz30]; · iexact Hz30
    isplitl [Hz31]; · iexact Hz31
    isplitl [Hz32]; · iexact Hz32
    iexists _; iexact HW

end Cert.KernelIdeal.Hand

end
-- ==== Proof.KernelIdeal.Frame.lean ====
module

public import proofs.«01_k».proof.Proof.KernelIdeal.Run
public import Idealize.ShloMosaic.Lib.Pipeline.FrameSuffixV

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch around the region -/

set_option maxHeartbeats 800000 in
/-- @main is the host lines before the region, the region, and the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The cells of the body's own transfers. -/
abbrev osem : Fin 33 → SemLoc sig := fun j => SemLoc.dma j
theorem ownSemFacts : Pipeline.OwnSemFacts (cfg0.spec) osem := by decide
/-- The buffers the body's transfers read. -/
def H : Finset (Ref sig .tc) := {main_v2, main_arg1, main_arg2, main_v0, main_v1}
/-- The results, which the body's transfers write. -/
def R : Finset (Ref sig .tc) := {main_v3_0, main_v3_1, main_v3_2}
/-- The results as the host lines after the region reshape them. -/
def T : Finset (Ref sig .tc) := {main_v4, main_v5}
theorem H_sub : H ⊆ Pipeline.restRefs sig (cfg0.spec) := by decide
theorem R_sub : R ⊆ Pipeline.restRefs sig (cfg0.spec) \ H := by decide

theorem ownSems_eq (c : Dev nD) :
    (Pipeline.ownSems0 (Ix := Unit) (Name := ℕ) (U := Pipeline.UD sig nD τ) (Lvl := ℕ) (Val := Elt F) (τ := τ) osem c : sProp 𝕄)
      = iprop(z c 0 ∗ z c 1 ∗ z c 2 ∗ z c 3 ∗ z c 4 ∗ z c 5 ∗ z c 6 ∗ z c 7 ∗ z c 8 ∗ z c 9 ∗ z c 10 ∗ z c 11 ∗ z c 12 ∗ z c 13 ∗ z c 14 ∗ z c 15 ∗ z c 16 ∗ z c 17 ∗ z c 18 ∗ z c 19 ∗ z c 20 ∗ z c 21 ∗ z c 22 ∗ z c 23 ∗ z c 24 ∗ z c 25 ∗ z c 26 ∗ z c 27 ∗ z c 28 ∗ z c 29 ∗ z c 30 ∗ z c 31 ∗ z c 32) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32] (by decide) (by decide)]; rfl
theorem reads_eq (c : Dev nD) (V : (c : Dev nD) → (b : Ref sig .tc) → Buf (Elt F) ((c.tc : Thread nD τ).loc b)) :
    (bigSep H (fun b => ((c : Thread nD τ).loc b) ↦{fullShare} V c b) : sProp 𝕄)
      = iprop(pt c main_v2 (V c main_v2) ∗ pt c main_arg1 (V c main_arg1) ∗ pt c main_arg2 (V c main_arg2) ∗ pt c main_v0 (V c main_v0) ∗ pt c main_v1 (V c main_v1)) := by
  rw [BI.bigSep_eq_bigSepL_of_eq [main_v2, main_arg1, main_arg2, main_v0, main_v1] (by decide) (by decide)]; rfl
theorem results_eq (c : Dev nD) (G : (c : Dev nD) → (b : Ref sig .tc) → Buf (Elt F) ((c.tc : Thread nD τ).loc b)) :
    (bigSep R (fun b => ((c : Thread nD τ).loc b) ↦{fullShare} G c b) : sProp 𝕄)
      = iprop(pt c main_v3_0 (G c main_v3_0) ∗ pt c main_v3_1 (G c main_v3_1) ∗ pt c main_v3_2 (G c main_v3_2)) := by
  rw [BI.bigSep_eq_bigSepL_of_eq [main_v3_0, main_v3_1, main_v3_2] (by decide) (by decide)]; rfl
theorem owned_eq (c : Dev nD) :
    (Pipeline.owned R c : sProp 𝕄) = iprop((∃ f, pt c main_v3_0 f) ∗ (∃ f, pt c main_v3_1 f) ∗ (∃ f, pt c main_v3_2 f)) := by
  unfold Pipeline.owned; rw [BI.bigSep_eq_bigSepL_of_eq [main_v3_0, main_v3_1, main_v3_2] (by decide) (by decide)]; rfl
theorem scratch_eq (c : Dev nD) :
    (Pipeline.scopedRest (Ix := Unit) (Name := ℕ) (U := Pipeline.UD sig nD τ) (Lvl := ℕ) (Val := Elt F) (cfg0.spec) c : sProp 𝕄)
      = iprop((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f)) := by
  rw [scopedRest0_eq]

theorem defs₀_row (t : Fin cfg0.N) :
    defs₀ (F := F) .tc cfg0.body (cfg0.bodyArgs t (cfg0.slots t)) = bodyAt0 t := by
  unfold defs₀; rw [Defs.onTc_tc]

/-! ## The body's obligation when the results' contents are not named -/

/-- No window; the invariant holds the scratch buffers, the cells at zero, the operands and the results. -/
def dats (_ : Fin 1) (c : Dev nD) : Dat τ (Elt F) Unit ℕ (Pipeline.UD sig nD τ) ℕ cfg0 c where
  A w := w.elim0
  after w t := w.elim0
  Φ _ := Pipeline.ΦDR osem (cfg0.spec) H R (V m) c
  q _ := fullShare
  owed _ := 0

theorem sound_body (c : Dev nD) (t : Fin cfg0.N) :
    iprop((dats m 0 c).Φ t.castSucc ∗ (dats m 0 c).owesAt () t.castSucc) ⊢ wp frame (wpE (defs₀ (F := F)) Variants.none c none) Set.univ (bodyAt0 t)
      (fun _ => iprop((dats m 0 c).Φ t.succ ∗ (dats m 0 c).owesAt () t.succ)) := by
  rw [show (dats m 0 c).Φ t.succ = (dats m 0 c).Φ t.castSucc from rfl,
    show (dats m 0 c).Φ t.castSucc = Pipeline.ΦDR osem (cfg0.spec) H R (V m) c from rfl,
    Pipeline.ΦDR_eq, scratch_eq, ownSems_eq, reads_eq, owned_eq]
  unfold Dat.owesAt Pipeline.owesWithin
  rw [show (dats m 0 c).owed t.castSucc = 0 from rfl, show (dats m 0 c).owed t.succ = 0 from rfl]
  unfold bodyAt0
  iintro ⟨⟨⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, ⟨%s8, Hs8⟩, ⟨%s9, Hs9⟩, ⟨%s10, Hs10⟩, ⟨%s11, Hs11⟩⟩, Hg, ⟨Hz0, Hz1, Hz2, Hz3, Hz4, Hz5, Hz6, Hz7, Hz8, Hz9, Hz10, Hz11, Hz12, Hz13, Hz14, Hz15, Hz16, Hz17, Hz18, Hz19, Hz20, Hz21, Hz22, Hz23, Hz24, Hz25, Hz26, Hz27, Hz28, Hz29, Hz30, Hz31, Hz32⟩, ⟨Hi0, Hi1, Hi2, Hi3, Hi4⟩, ⟨%o0, Ho0⟩, ⟨%o1, Ho1⟩, ⟨%o2, Ho2⟩⟩, ⟨%W, -, HW⟩⟩
  iapply ((run c (V m c main_v2) (V m c main_arg1) (V m c main_arg2) (V m c main_v0) (V m c main_v1) o0 o1 o2 s0 s1 s2 s3 s4 s5 s6 s7 s8 s9 s10 s11).2 W _)
  isplitl [Hi0]; · iexact Hi0
  isplitl [Hi1]; · iexact Hi1
  isplitl [Hi2]; · iexact Hi2
  isplitl [Hi3]; · iexact Hi3
  isplitl [Hi4]; · iexact Hi4
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  isplitl [Hz8]; · iexact Hz8
  isplitl [Hz9]; · iexact Hz9
  isplitl [Hz10]; · iexact Hz10
  isplitl [Hz11]; · iexact Hz11
  isplitl [Hz12]; · iexact Hz12
  isplitl [Hz13]; · iexact Hz13
  isplitl [Hz14]; · iexact Hz14
  isplitl [Hz15]; · iexact Hz15
  isplitl [Hz16]; · iexact Hz16
  isplitl [Hz17]; · iexact Hz17
  isplitl [Hz18]; · iexact Hz18
  isplitl [Hz19]; · iexact Hz19
  isplitl [Hz20]; · iexact Hz20
  isplitl [Hz21]; · iexact Hz21
  isplitl [Hz22]; · iexact Hz22
  isplitl [Hz23]; · iexact Hz23
  isplitl [Hz24]; · iexact Hz24
  isplitl [Hz25]; · iexact Hz25
  isplitl [Hz26]; · iexact Hz26
  isplitl [Hz27]; · iexact Hz27
  isplitl [Hz28]; · iexact Hz28
  isplitl [Hz29]; · iexact Hz29
  isplitl [Hz30]; · iexact Hz30
  isplitl [Hz31]; · iexact Hz31
  isplitl [Hz32]; · iexact Hz32
  isplitl [HW]; · iexact HW
  iintro ⟨Hi0, Hi1, Hi2, Hi3, Hi4, Ho0, Ho1, Ho2, Hs0, Hs1, Hs2, Hs3, Hs4, Hs5, Hs6, Hs7, Hs8, Hs9, Hs10, Hs11, Hz0, Hz1, Hz2, Hz3, Hz4, Hz5, Hz6, Hz7, Hz8, Hz9, Hz10, Hz11, Hz12, Hz13, Hz14, Hz15, Hz16, Hz17, Hz18, Hz19, Hz20, Hz21, Hz22, Hz23, Hz24, Hz25, Hz26, Hz27, Hz28, Hz29, Hz30, Hz31, Hz32, ⟨%W', HW⟩⟩
  isplitl [Hs0 Hs1 Hs2 Hs3 Hs4 Hs5 Hs6 Hs7 Hs8 Hs9 Hs10 Hs11 Hg Hz0 Hz1 Hz2 Hz3 Hz4 Hz5 Hz6 Hz7 Hz8 Hz9 Hz10 Hz11 Hz12 Hz13 Hz14 Hz15 Hz16 Hz17 Hz18 Hz19 Hz20 Hz21 Hz22 Hz23 Hz24 Hz25 Hz26 Hz27 Hz28 Hz29 Hz30 Hz31 Hz32 Hi0 Hi1 Hi2 Hi3 Hi4 Ho0 Ho1 Ho2]
  · isplitl [Hs0 Hs1 Hs2 Hs3 Hs4 Hs5 Hs6 Hs7 Hs8 Hs9 Hs10 Hs11]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    isplitl [Hg]; · iexact Hg
    isplitl [Hz0 Hz1 Hz2 Hz3 Hz4 Hz5 Hz6 Hz7 Hz8 Hz9 Hz10 Hz11 Hz12 Hz13 Hz14 Hz15 Hz16 Hz17 Hz18 Hz19 Hz20 Hz21 Hz22 Hz23 Hz24 Hz25 Hz26 Hz27 Hz28 Hz29 Hz30 Hz31 Hz32]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      isplitl [Hz19]; · iexact Hz19
      isplitl [Hz20]; · iexact Hz20
      isplitl [Hz21]; · iexact Hz21
      isplitl [Hz22]; · iexact Hz22
      isplitl [Hz23]; · iexact Hz23
      isplitl [Hz24]; · iexact Hz24
      isplitl [Hz25]; · iexact Hz25
      isplitl [Hz26]; · iexact Hz26
      isplitl [Hz27]; · iexact Hz27
      isplitl [Hz28]; · iexact Hz28
      isplitl [Hz29]; · iexact Hz29
      isplitl [Hz30]; · iexact Hz30
      isplitl [Hz31]; · iexact Hz31
      iexact Hz32
    isplitl [Hi0 Hi1 Hi2 Hi3 Hi4]
    · isplitl [Hi0]; · iexact Hi0
      isplitl [Hi1]; · iexact Hi1
      isplitl [Hi2]; · iexact Hi2
      isplitl [Hi3]; · iexact Hi3
      iexact Hi4
    isplitl [Ho0]; · iexists _; iexact Ho0
    isplitl [Ho1]; · iexists _; iexact Ho1
    iexists _; iexact Ho2
  iexists W'; isplitr; · ipureintro; exact fun _ _ => Or.inl trivial
  iexact HW

theorem body_obligation (c : Dev nD) : BodyObligation (dats (F := F) m 0 c) (defs₀ (F := F)) Variants.none () Set.univ := fun t => by
  rw [defs₀_row]
  have h0 : ∀ Ψ : Fin 0 → sProp 𝕄, bigSep Finset.univ Ψ = iprop(emp) := fun Ψ => by
    rw [show (Finset.univ : Finset (Fin 0)) = ∅ from rfl]; exact bigSep_empty
  refine triple_restated (sound_body m c t) rfl ?_ fun _ => ?_
  · rw [h0]
    iintro ⟨Ha, Hb, -⟩
    isplitl [Ha]; · iexact Ha
    iexact Hb
  · rw [h0]
    iintro ⟨Ha, Hb⟩
    isplitl [Ha]; · iexact Ha
    isplitl [Hb]; · iexact Hb
    iempintro

/-! ## The run and the frame -/

set_option backward.isDefEq.respectTransparency.types false in
theorem run_main : θ_run defs (onTc (τ := τ) (main (F := F))) (s₀ m ρ)
    (fun r => Pipeline.FramePostR cfgs (dats m) 0 (R ∪ T) (V m) r ∧ r.2.sem = fun _ => 0) :=
  Pipeline.θ_run_frame_dmaR_around (Q' := _) cfgs (dats m) (0 : Fin 1) launch0 osem defs₀ Variants.none ownSemFacts H R T H_sub R_sub m ρ main
    (hbody := fun c => (body_obligation m c).loose) (hshare := fun c => (dats m 0 c).share_full fun _ => rfl)
    (howed := fun _ _ => rfl) (V₀ := V0 m) (opss := [hostOps1]) sfx_sub sfx_fresh sfx_keeps
    (hT := by
      intro ops hops op hop b hb
      simp only [List.mem_cons, List.mem_nil_iff, or_false] at hops
      rcases hops with rfl
      simp only [hostOps1, List.mem_cons, List.mem_nil_iff, or_false] at hop
      rcases hop with rfl | rfl
      all_goals
        simp only [StableHlo.reshape_writes, Finset.mem_singleton] at hb
        have := Proc.devRef_injective _ hb
        subst this; decide)
    (hmain := hmain m Variants.none) (hA := fun _ w => w.elim0)
    (hin := fun _ => .rfl) (hout := fun _ => .rfl) (hQ' := fun _ h => h)

/-- Every weight of the fair schedule runs the program to its end, faults nowhere, leaves the five argument arrays as
    they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_main m ρ)

end Cert.KernelIdeal.Hand

end
-- ==== Proof.Distinct.lean ====
module

public import proofs.«01_k».proof.Pre_ids_distinct
public import Idealize.ShloMosaic.Lib.Pointwise
public import Idealize.ShloMosaic.PureOps.Ideal

@[expose] public section

set_option maxRecDepth 65536

noncomputable section

namespace Cert.Pre_ids_distinct.Hand

open Cert.Pre_ids_distinct
open Idealize.ShloMosaic Idealize.ShloMosaic.TcCoe Idealize.ShloMosaic.Tactic

/-! What the precondition says of the chosen experts: each token's eight are experts, and different. -/

/-- The shape relations the precondition states hold. -/
theorem facts : Facts where
  bcast_S2x768x8_S2x768x8x1_0_1_2 := by decide
  bcast_S2x768x8_S2x768x1x8_0_1_3 := by decide
  bcast_S_S2x768x8x1 := by decide
  bcast_S2x768x8x1_S2x768x8x8_0_1_2_3 := by decide
  bcast_S2x768x1x8_S2x768x8x8_0_1_2_3 := by decide

variable [Facts]
variable (a0 : FVec Ideal S2x768x7168 .fp8e4m3) (a1 : FVec Ideal S2x768 .f32) (a2 : FVec Ideal S7168x256 .bf16)
  (a3 : IVec S2x768x8 32) (a4 : FVec Ideal S2x768x8 .bf16)

/-- A word between 0 and 256, read signed, is below 256 read plainly. -/
theorem small {x : BitVec 32} (h0 : IntOp.cmpi .sge x 0#32 = 1#1) (h1 : IntOp.cmpi .slt x 256#32 = 1#1) :
    x.toNat < 256 := by
  simp only [IntOp.cmpi] at h0 h1
  have h0' : (0#32).sle x = true := by
    cases h : (0#32).sle x
    · simp [h] at h0
    · rfl
  have h1' : x.slt 256#32 = true := by
    cases h : x.slt 256#32
    · simp [h] at h1
    · rfl
  simp only [BitVec.sle, BitVec.slt, decide_eq_true_eq] at h0' h1'
  have e0 : (0#32).toInt = 0 := by decide
  have e1 : (256#32).toInt = 256 := by decide
  rw [e0] at h0'
  rw [e1] at h1'
  rw [BitVec.toInt_eq_toNat_cond] at h0' h1'
  split at h0' <;> omega

/-- The conjunction of two bits is set only if both are. -/
theorem both {x y : BitVec 1} (h : IntOp.andi x y = 1#1) : x = 1#1 ∧ y = 1#1 := by
  revert x y
  decide

/-- The disjunction of two bits is set only if one is. -/
theorem either {x y : BitVec 1} (h : IntOp.ori x y = 1#1) : x = 1#1 ∨ y = 1#1 := by
  revert x y
  decide

/-- Words compared unequal are different. -/
theorem ne_of {x y : BitVec 32} (h : IntOp.cmpi .ne x y = 1#1) : x ≠ y := by
  rintro rfl
  simp [IntOp.cmpi] at h

/-- Words compared equal are the same. -/
theorem eq_of {x y : BitVec 32} (h : IntOp.cmpi .eq x y = 1#1) : x = y := by
  by_contra hne
  have hf : (x == y) = false := by simpa using hne
  simp [IntOp.cmpi, hf] at h

/-- The precondition at a token and a pair of its slots: the first slot's word is an expert, and either the two words
    differ or the slots are one. -/
theorem fn_at (b : Fin 2) (s : Fin 768) (i j : Fin 8) :
    fn a0 a1 a2 a3 a4 (ix4 b s i j)
      = IntOp.andi
      (IntOp.andi (IntOp.cmpi CmpIPredicate.sge (a3 (ix3 b s i)) 0#32)
        (IntOp.cmpi CmpIPredicate.slt (a3 (ix3 b s i)) 256#32))
      (IntOp.ori (IntOp.cmpi CmpIPredicate.ne (a3 (ix3 b s i)) (a3 (ix3 b s j)))
        (IntOp.cmpi CmpIPredicate.eq (BitVec.ofNat 32 ↑i) (BitVec.ofNat 32 ↑j))) := by
  pointwise [fn]

/-- Under the precondition each token's eight words name eight different experts. -/
theorem distinct (h : fn a0 a1 a2 a3 a4 = fun _ => 1#1) (b : Fin 2) (s : Fin 768) :
    ∃ id : Fin 8 → Fin 256, Function.Injective id ∧ ∀ k, a3 (ix3 b s k) = BitVec.ofNat 32 (id k).val := by
  have hb : ∀ i j : Fin 8, _ := fun i j => both ((fn_at a0 a1 a2 a3 a4 b s i j).symm.trans (congrFun h (ix4 b s i j)))
  have hlt : ∀ k : Fin 8, (a3 (ix3 b s k)).toNat < 256 := fun k =>
    small (both (hb k k).1).1 (both (hb k k).1).2
  refine ⟨fun k => ⟨(a3 (ix3 b s k)).toNat, hlt k⟩, fun i j hij => ?_, fun k => by simp⟩
  have hw : a3 (ix3 b s i) = a3 (ix3 b s j) := by
    apply BitVec.eq_of_toNat_eq
    exact congrArg (fun z : Fin 256 => z.val) hij
  rcases either (hb i j).2 with hne | heq
  · exact absurd hw (ne_of hne)
  · have e := congrArg BitVec.toNat (eq_of heq)
    have hi := i.isLt
    have hj := j.isLt
    rw [BitVec.toNat_ofNat, BitVec.toNat_ofNat, Nat.mod_eq_of_lt (by omega), Nat.mod_eq_of_lt (by omega)] at e
    exact Fin.ext e

end Cert.Pre_ids_distinct.Hand
-- ==== Proof.KernelIdeal.Tiles.lean ====
module

public import proofs.«01_k».proof.Proof.KernelIdeal.Run

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The router-logit gradient of one tile of 128 tokens, experts first: from the tile's chosen experts, its upstream
    gradients, its row scales and its unscaled logits. -/
def tile (ids : Vec F S1x8x128 .i32) (dg : Vec F S1x8x128 .bf16) (sc : Vec F S1x128 .f32) (lg : Vec F S256x128 .f32) :
    FVec F S256x128 .f32 :=
  k0_pay30
    (k0_pay26 run.sl.v102 (k0_pay21 ids) (k0_pay22 dg) (k0_pay23 run.sl.v102 k0_pay1 ids dg)
      (k0_pay24 run.sl.v102 ids) (k0_pay25 dg))
    (k0_pay27 run.sl.v102 (k0_pay21 ids)) (k0_pay28 sc lg) k0_pay29

/-- What a tile stores of its gradient `d` in the f32 result: `d` transposed. -/
def dlP (d : FVec F S256x128 .f32) : FVec F S128x256 .f32 :=
  shapeCast S128x256 (transpose S128x256 [1, 0] d transposes_S256x128_p1_0_S128x256) shapeCasts_S128x256_S128x256

/-- What a tile stores of its gradient `d` for the product that gives the first result: `d` transposed, in bf16. -/
def dl16P (d : FVec F S256x128 .f32) : FVec F S128x256 .bf16 :=
  shapeCast S128x256 (truncf .bf16 (transpose S128x256 [1, 0] d transposes_S256x128_p1_0_S128x256) bitsLt_bf16_f32)
    shapeCasts_S128x256_S128x256

/-- What a tile stores of its gradient `d` for the product that gives the second result: `d` in bf16, scaled by the rows'
    scales in bf16. -/
def dlstP (sc : Vec F S1x128 .f32) (d : FVec F S256x128 .f32) : FVec F S256x128 .bf16 :=
  shapeCast S256x128
    (mulf (truncf .bf16 d bitsLt_bf16_f32) (broadcastTo S256x128 (truncf .bf16 sc bitsLt_bf16_f32) broadcasts_S1x128_S256x128))
    shapeCasts_S256x128_S256x128

/-! The payloads of the twelve tiles, cut differently by the printed body, are these functions of the tile's reads. -/

variable (c : Dev nD) (f0 : Bf (F := F) c main_v2) (f1 : Bf (F := F) c main_arg1) (f2 : Bf (F := F) c main_arg2)
  (f3 : Bf (F := F) c main_v0) (f4 : Bf (F := F) c main_v1)
  (s3 : Bf (F := F) c cc0_scratch3) (s4 : Bf (F := F) c cc0_scratch4) (s5 : Bf (F := F) c cc0_scratch5)

theorem tile0_7 : k0_pay32 (run.sl.r_8 c f3 f4 s4 s5) (run.sl.r_9 c f3 s4) (run.sl.r_10 c f0 f1 f2 s3) k0_pay29
    = dlP (tile (run.sl.v276 c f3 s4) (run.sl.v278 c f4 s5) (run.sl.v281 c f1 s3) (run.sl.v370 c f0 f2)) := rfl

theorem tile0_8 : k0_pay33 (run.sl.r_8 c f3 f4 s4 s5) (run.sl.r_9 c f3 s4) (run.sl.r_10 c f0 f1 f2 s3) k0_pay29
    = dl16P (tile (run.sl.v276 c f3 s4) (run.sl.v278 c f4 s5) (run.sl.v281 c f1 s3) (run.sl.v370 c f0 f2)) := rfl

theorem tile0_9 : k0_pay34 (run.sl.v281 c f1 s3) (run.sl.r_8 c f3 f4 s4 s5) (run.sl.r_9 c f3 s4) (run.sl.r_10 c f0 f1 f2 s3) k0_pay29
    = dlstP (run.sl.v281 c f1 s3) (tile (run.sl.v276 c f3 s4) (run.sl.v278 c f4 s5) (run.sl.v281 c f1 s3) (run.sl.v370 c f0 f2)) := rfl

theorem tile1_7 : k0_pay42 (run.sl.r_13 c f3 s4) (run.sl.r_14 c f0 f1 f2 f3 f4 s3 s4 s5)
    = dlP (tile (run.sl.v409 c f3 s4) (run.sl.v411 c f4 s5) (run.sl.v414 c f1 s3) (run.sl.v503 c f0 f2)) := rfl

theorem tile1_8 : k0_pay43 (run.sl.r_13 c f3 s4) (run.sl.r_14 c f0 f1 f2 f3 f4 s3 s4 s5)
    = dl16P (tile (run.sl.v409 c f3 s4) (run.sl.v411 c f4 s5) (run.sl.v414 c f1 s3) (run.sl.v503 c f0 f2)) := rfl

theorem tile1_9 : k0_pay44 (run.sl.v414 c f1 s3) (run.sl.r_13 c f3 s4) (run.sl.r_14 c f0 f1 f2 f3 f4 s3 s4 s5)
    = dlstP (run.sl.v414 c f1 s3) (tile (run.sl.v409 c f3 s4) (run.sl.v411 c f4 s5) (run.sl.v414 c f1 s3) (run.sl.v503 c f0 f2)) := rfl

theorem tile2_7 : k0_pay61 run.sl.v102 (run.sl.v547 c f1 s3) (run.sl.v604 c f3 f4 s4 s5) (run.sl.v607 c f3 s4) (run.sl.v610 c f3 s4) (run.sl.v613 c f3 s4) (run.sl.v572 c f3 s4) (run.sl.v579 c f3 s4) (run.sl.v586 c f3 s4) (run.sl.v593 c f3 s4) (run.sl.v598 c f3 s4) (run.sl.v636 c f0 f2)
    = dlP (tile (run.sl.v542 c f3 s4) (run.sl.v544 c f4 s5) (run.sl.v547 c f1 s3) (run.sl.v636 c f0 f2)) := rfl

theorem tile2_8 : k0_pay62 run.sl.v102 (run.sl.v547 c f1 s3) (run.sl.v604 c f3 f4 s4 s5) (run.sl.v607 c f3 s4) (run.sl.v610 c f3 s4) (run.sl.v613 c f3 s4) (run.sl.v572 c f3 s4) (run.sl.v579 c f3 s4) (run.sl.v586 c f3 s4) (run.sl.v593 c f3 s4) (run.sl.v598 c f3 s4) (run.sl.v636 c f0 f2)
    = dl16P (tile (run.sl.v542 c f3 s4) (run.sl.v544 c f4 s5) (run.sl.v547 c f1 s3) (run.sl.v636 c f0 f2)) := rfl

theorem tile2_9 : k0_pay64 (run.sl.r_20 c f0 f1 f2 f3 f4 s3 s4 s5)
    = dlstP (run.sl.v547 c f1 s3) (tile (run.sl.v542 c f3 s4) (run.sl.v544 c f4 s5) (run.sl.v547 c f1 s3) (run.sl.v636 c f0 f2)) := rfl

theorem tile3_7 : k0_pay75 (run.sl.r_26 c f3 f4 s4 s5) (run.sl.r_27 c f3 s4) (run.sl.r_28 c f0 f1 f2 f3 s3 s4)
    = dlP (tile (run.sl.v675 c f3 s4) (run.sl.v677 c f4 s5) (run.sl.v680 c f1 s3) (run.sl.v769 c f0 f2)) := rfl

theorem tile3_8 : k0_pay76 (run.sl.r_26 c f3 f4 s4 s5) (run.sl.r_27 c f3 s4) (run.sl.r_28 c f0 f1 f2 f3 s3 s4)
    = dl16P (tile (run.sl.v675 c f3 s4) (run.sl.v677 c f4 s5) (run.sl.v680 c f1 s3) (run.sl.v769 c f0 f2)) := rfl

theorem tile3_9 : k0_pay77 (run.sl.v680 c f1 s3) (run.sl.r_26 c f3 f4 s4 s5) (run.sl.r_27 c f3 s4) (run.sl.r_28 c f0 f1 f2 f3 s3 s4)
    = dlstP (run.sl.v680 c f1 s3) (tile (run.sl.v675 c f3 s4) (run.sl.v677 c f4 s5) (run.sl.v680 c f1 s3) (run.sl.v769 c f0 f2)) := rfl

theorem tile4_7 : k0_pay87 (run.sl.r_34 c f0 f1 f2 f3 f4 s3 s4 s5)
    = dlP (tile (run.sl.v808 c f3 s4) (run.sl.v810 c f4 s5) (run.sl.v813 c f1 s3) (run.sl.v902 c f0 f2)) := rfl

theorem tile4_8 : k0_pay88 (run.sl.r_34 c f0 f1 f2 f3 f4 s3 s4 s5)
    = dl16P (tile (run.sl.v808 c f3 s4) (run.sl.v810 c f4 s5) (run.sl.v813 c f1 s3) (run.sl.v902 c f0 f2)) := rfl

theorem tile4_9 : k0_pay89 (run.sl.v813 c f1 s3) (run.sl.r_33 c f0 f1 f2 f3 f4 s3 s4 s5)
    = dlstP (run.sl.v813 c f1 s3) (tile (run.sl.v808 c f3 s4) (run.sl.v810 c f4 s5) (run.sl.v813 c f1 s3) (run.sl.v902 c f0 f2)) := rfl

theorem tile5_7 : k0_pay101 (run.sl.v946 c f1 s3) (run.sl.v1003 c f3 f4 s4 s5) (run.sl.v985 c f3 s4) (run.sl.v992 c f3 s4) (run.sl.v999 c f3 s4) (run.sl.v1031 c f3 s4) (run.sl.v1035 c f0 f2)
    = dlP (tile (run.sl.v941 c f3 s4) (run.sl.v943 c f4 s5) (run.sl.v946 c f1 s3) (run.sl.v1035 c f0 f2)) := rfl

theorem tile5_8 : k0_pay102 (run.sl.v946 c f1 s3) (run.sl.v1003 c f3 f4 s4 s5) (run.sl.v985 c f3 s4) (run.sl.v992 c f3 s4) (run.sl.v999 c f3 s4) (run.sl.v1031 c f3 s4) (run.sl.v1035 c f0 f2)
    = dl16P (tile (run.sl.v941 c f3 s4) (run.sl.v943 c f4 s5) (run.sl.v946 c f1 s3) (run.sl.v1035 c f0 f2)) := rfl

theorem tile5_9 : k0_pay103 (run.sl.v946 c f1 s3) (run.sl.v1003 c f3 f4 s4 s5) (run.sl.v985 c f3 s4) (run.sl.v992 c f3 s4) (run.sl.v999 c f3 s4) (run.sl.v1031 c f3 s4) (run.sl.v1035 c f0 f2)
    = dlstP (run.sl.v946 c f1 s3) (tile (run.sl.v941 c f3 s4) (run.sl.v943 c f4 s5) (run.sl.v946 c f1 s3) (run.sl.v1035 c f0 f2)) := rfl

theorem tile6_7 : k0_pay114 (run.sl.r_44 c f3 f4 s4 s5) (run.sl.r_45 c f3 s4) (run.sl.r_46 c f0 f1 f2 f3 s3 s4)
    = dlP (tile (run.sl.v1074 c f3 s4) (run.sl.v1076 c f4 s5) (run.sl.v1079 c f1 s3) (run.sl.v1168 c f0 f2)) := rfl

theorem tile6_8 : k0_pay115 (run.sl.r_44 c f3 f4 s4 s5) (run.sl.r_45 c f3 s4) (run.sl.r_46 c f0 f1 f2 f3 s3 s4)
    = dl16P (tile (run.sl.v1074 c f3 s4) (run.sl.v1076 c f4 s5) (run.sl.v1079 c f1 s3) (run.sl.v1168 c f0 f2)) := rfl

theorem tile6_9 : k0_pay116 (run.sl.v1079 c f1 s3) (run.sl.r_44 c f3 f4 s4 s5) (run.sl.r_45 c f3 s4) (run.sl.r_46 c f0 f1 f2 f3 s3 s4)
    = dlstP (run.sl.v1079 c f1 s3) (tile (run.sl.v1074 c f3 s4) (run.sl.v1076 c f4 s5) (run.sl.v1079 c f1 s3) (run.sl.v1168 c f0 f2)) := rfl

theorem tile7_7 : k0_pay128 run.sl.v102 (run.sl.r_47 c f3 s4) (run.sl.v1212 c f1 s3) (run.sl.v1269 c f3 f4 s4 s5) (run.sl.v1272 c f3 s4) (run.sl.v1275 c f3 s4) (run.sl.v1230 c f3 s4) (run.sl.v1237 c f3 s4) (run.sl.v1301 c f0 f2)
    = dlP (tile (run.sl.v1207 c f3 s4) (run.sl.v1209 c f4 s5) (run.sl.v1212 c f1 s3) (run.sl.v1301 c f0 f2)) := rfl

theorem tile7_8 : k0_pay130 (run.sl.r_52 c f0 f1 f2 f3 f4 s3 s4 s5)
    = dl16P (tile (run.sl.v1207 c f3 s4) (run.sl.v1209 c f4 s5) (run.sl.v1212 c f1 s3) (run.sl.v1301 c f0 f2)) := rfl

theorem tile7_9 : k0_pay131 (run.sl.v1212 c f1 s3) (run.sl.r_51 c f0 f1 f2 f3 f4 s3 s4 s5)
    = dlstP (run.sl.v1212 c f1 s3) (tile (run.sl.v1207 c f3 s4) (run.sl.v1209 c f4 s5) (run.sl.v1212 c f1 s3) (run.sl.v1301 c f0 f2)) := rfl

theorem tile8_7 : k0_pay154 (run.sl.r_62 c f3 f4 s4 s5) (run.sl.r_63 c f3 s4) (run.sl.r_64 c f0 f1 f2 s3)
    = dlP (tile (run.sl.v1438 c f3 s4) (run.sl.v1440 c f4 s5) (run.sl.v1443 c f1 s3) (run.sl.v1532 c f0 f2)) := rfl

theorem tile8_8 : k0_pay155 (run.sl.r_62 c f3 f4 s4 s5) (run.sl.r_63 c f3 s4) (run.sl.r_64 c f0 f1 f2 s3)
    = dl16P (tile (run.sl.v1438 c f3 s4) (run.sl.v1440 c f4 s5) (run.sl.v1443 c f1 s3) (run.sl.v1532 c f0 f2)) := rfl

theorem tile8_9 : k0_pay156 (run.sl.v1443 c f1 s3) (run.sl.r_62 c f3 f4 s4 s5) (run.sl.r_63 c f3 s4) (run.sl.r_64 c f0 f1 f2 s3)
    = dlstP (run.sl.v1443 c f1 s3) (tile (run.sl.v1438 c f3 s4) (run.sl.v1440 c f4 s5) (run.sl.v1443 c f1 s3) (run.sl.v1532 c f0 f2)) := rfl

theorem tile9_7 : k0_pay168 (run.sl.r_69 c f3 f4 s4 s5) (run.sl.r_70 c f3 s4) (run.sl.r_71 c f0 f1 f2 f3 s3 s4) (run.sl.r_72 c f0 f1 f2 f3 f4 s3 s4 s5)
    = dlP (tile (run.sl.v1571 c f3 s4) (run.sl.v1573 c f4 s5) (run.sl.v1576 c f1 s3) (run.sl.v1665 c f0 f2)) := rfl

theorem tile9_8 : k0_pay169 (run.sl.r_69 c f3 f4 s4 s5) (run.sl.r_70 c f3 s4) (run.sl.r_71 c f0 f1 f2 f3 s3 s4) (run.sl.r_72 c f0 f1 f2 f3 f4 s3 s4 s5)
    = dl16P (tile (run.sl.v1571 c f3 s4) (run.sl.v1573 c f4 s5) (run.sl.v1576 c f1 s3) (run.sl.v1665 c f0 f2)) := rfl

theorem tile9_9 : k0_pay170 (run.sl.v1576 c f1 s3) (run.sl.r_69 c f3 f4 s4 s5) (run.sl.r_70 c f3 s4) (run.sl.r_71 c f0 f1 f2 f3 s3 s4) (run.sl.r_72 c f0 f1 f2 f3 f4 s3 s4 s5)
    = dlstP (run.sl.v1576 c f1 s3) (tile (run.sl.v1571 c f3 s4) (run.sl.v1573 c f4 s5) (run.sl.v1576 c f1 s3) (run.sl.v1665 c f0 f2)) := rfl

theorem tile10_7 : k0_pay185 run.sl.v102 (run.sl.r_73 c f3 s4) (run.sl.v1709 c f1 s3) (run.sl.v1766 c f3 f4 s4 s5) (run.sl.v1769 c f3 s4) (run.sl.v1772 c f3 s4) (run.sl.v1775 c f3 s4) (run.sl.v1734 c f3 s4) (run.sl.v1741 c f3 s4) (run.sl.v1748 c f3 s4) (run.sl.v1754 c f3 s4) (run.sl.v1798 c f0 f2)
    = dlP (tile (run.sl.v1704 c f3 s4) (run.sl.v1706 c f4 s5) (run.sl.v1709 c f1 s3) (run.sl.v1798 c f0 f2)) := rfl

theorem tile10_8 : k0_pay186 run.sl.v102 (run.sl.r_73 c f3 s4) (run.sl.v1709 c f1 s3) (run.sl.v1766 c f3 f4 s4 s5) (run.sl.v1769 c f3 s4) (run.sl.v1772 c f3 s4) (run.sl.v1775 c f3 s4) (run.sl.v1734 c f3 s4) (run.sl.v1741 c f3 s4) (run.sl.v1748 c f3 s4) (run.sl.v1754 c f3 s4) (run.sl.v1798 c f0 f2)
    = dl16P (tile (run.sl.v1704 c f3 s4) (run.sl.v1706 c f4 s5) (run.sl.v1709 c f1 s3) (run.sl.v1798 c f0 f2)) := rfl

theorem tile10_9 : k0_pay189 (run.sl.r_77 c f0 f1 f2 f3 f4 s3 s4 s5) (run.sl.r_78 c f1 s3)
    = dlstP (run.sl.v1709 c f1 s3) (tile (run.sl.v1704 c f3 s4) (run.sl.v1706 c f4 s5) (run.sl.v1709 c f1 s3) (run.sl.v1798 c f0 f2)) := rfl

theorem tile11_7 : k0_pay200 (run.sl.r_83 c f3 f4 s4 s5) (run.sl.r_84 c f3 s4) (run.sl.r_85 c f0 f1 f2 f3 s3 s4) (run.sl.r_86 c f0 f1 f2 f3 s3 s4)
    = dlP (tile (run.sl.v1837 c f3 s4) (run.sl.v1839 c f4 s5) (run.sl.v1842 c f1 s3) (run.sl.v1931 c f0 f2)) := rfl

theorem tile11_8 : k0_pay201 (run.sl.r_83 c f3 f4 s4 s5) (run.sl.r_84 c f3 s4) (run.sl.r_85 c f0 f1 f2 f3 s3 s4) (run.sl.r_86 c f0 f1 f2 f3 s3 s4)
    = dl16P (tile (run.sl.v1837 c f3 s4) (run.sl.v1839 c f4 s5) (run.sl.v1842 c f1 s3) (run.sl.v1931 c f0 f2)) := rfl

theorem tile11_9 : k0_pay202 (run.sl.v1842 c f1 s3) (run.sl.r_83 c f3 f4 s4 s5) (run.sl.r_84 c f3 s4) (run.sl.r_85 c f0 f1 f2 f3 s3 s4) (run.sl.r_86 c f0 f1 f2 f3 s3 s4)
    = dlstP (run.sl.v1842 c f1 s3) (tile (run.sl.v1837 c f3 s4) (run.sl.v1839 c f4 s5) (run.sl.v1842 c f1 s3) (run.sl.v1931 c f0 f2)) := rfl

end Cert.KernelIdeal.Hand
-- ==== Proof.KernelIdeal.Reads.lean ====
module

public import proofs.«01_k».proof.Proof.KernelIdeal.Tiles
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- A load after covering writes that all agree with one function `G` reads `G`. -/
theorem readCov_of_pieces {s : Shape} {e : EltTy} {sp : Space} (v : View sig .tc sp s e) (G : s.Idx → Elt F e)
    (L : List (View.Piece (Elt F) s e)) (B : LoadRect s) (hL : ∀ p ∈ L, ∀ x : p.1.shape.Idx, p.2 x = G (p.1.emb x))
    (hc : ∀ y, ∃ p ∈ L, y ∈ p.1.set) : v.readCov L B = fun j => G (B.idx j) := by
  rw [View.readCov_eq_canon']
  funext j
  exact View.canon_apply_of_pieces G L hL _ (hc _)

/-- A load inside the last write, whose payload agrees with `G`, reads `G`. -/
theorem readCov_of_head {s : Shape} {e : EltTy} {sp : Space} (v : View sig .tc sp s e) (G : s.Idx → Elt F e)
    (r : Rect s) (w : r.shape.Idx → Elt F e) (L : List (View.Piece (Elt F) s e)) (B : LoadRect s)
    (hw : ∀ x : r.shape.Idx, w x = G (r.emb x)) (hm : ∀ j, B.idx j ∈ r.set) :
    v.readCov (⟨r, w⟩ :: L) B = fun j => G (B.idx j) := by
  rw [View.readCov_eq_canon']
  funext j
  obtain ⟨x, hx⟩ := r.exists_idx_of_mem (hm j)
  show View.canon _ (B.idx j) = G (B.idx j)
  rw [← hx, show r.idx x = r.emb x from rfl, View.canon_cons_emb]
  exact hw x

/-- A load of a buffer that a copy filled reads what landed. -/
theorem readAt_landed {s : Shape} {e : EltTy} {sp : Space} (v : View sig .tc sp s e) (B : LoadRect s)
    (f : v.ty.Contents (Elt F)) (w : s.Idx → Elt F e) :
    v.readAt (Elt F) B (v.write (Elt F) f w Finset.univ) = fun j => w (B.idx j) :=
  funext fun j => congrFun (View.read_write_univ (v := v) f w) (B.idx j)

/-- Pieces that agree with `G` are extended by one more such piece. -/
theorem pieces_cons {s : Shape} {e : EltTy} {G : s.Idx → Elt F e} {r : Rect s} {w : r.shape.Idx → Elt F e}
    {L : List (View.Piece (Elt F) s e)} (hw : ∀ x : r.shape.Idx, w x = G (r.emb x))
    (hL : ∀ p ∈ L, ∀ x : p.1.shape.Idx, p.2 x = G (p.1.emb x)) :
    ∀ p ∈ (⟨r, w⟩ :: L : List (View.Piece (Elt F) s e)), ∀ x : p.1.shape.Idx, p.2 x = G (p.1.emb x) :=
  List.forall_mem_cons.mpr ⟨hw, hL⟩

/-- The place of an index of a rectangle of a matrix. -/
theorem emb_ix2 {A B h w a b : ℕ} (inb : ∀ x : Fin 2, (![a, b] : Fin 2 → ℕ) x + (![h, w] : Fin 2 → ℕ) x ≤ (![A, B] : Fin 2 → ℕ) x)
    (i : Fin h) (j : Fin w) :
    (Rect.unit (s := ⟨2, ![A, B]⟩) ![a, b] ![h, w] inb).emb (ix2 i j)
      = ix2 ⟨a + i, lt_of_lt_of_le (Nat.add_lt_add_left i.isLt a) (inb 0)⟩ ⟨b + j, lt_of_lt_of_le (Nat.add_lt_add_left j.isLt b) (inb 1)⟩ := by
  funext x
  refine Fin.cases ?_ (fun y => ?_) x
  · exact Fin.ext (show a + 1 * i.val = a + i.val by rw [Nat.one_mul])
  · obtain rfl : y = 0 := Subsingleton.elim _ _
    exact Fin.ext (show b + 1 * j.val = b + j.val by rw [Nat.one_mul])

variable (c : Dev nD) (f0 : Vec F S1536x7168 .fp8e4m3) (f1 : Vec F S2x768 .f32) (f2 : Vec F S7168x256 .bf16)
  (f3 : Vec F S2x8x768 .i32) (f4 : Vec F S2x8x768 .bf16)
  (s3 : Bf (F := F) c cc0_scratch3) (s4 : Bf (F := F) c cc0_scratch4) (s5 : Bf (F := F) c cc0_scratch5)

/-- The copies that fill the scratch buffer of `f0`, last first. -/
def xPieces : List (View.Piece (Elt F) S1536x7168 .fp8e4m3) :=
    [⟨Rect.unit ![1024, 6144] S512x1024.size (by decide), run.sl.dma0_26 c f0⟩,
     ⟨Rect.unit ![1024, 5120] S512x1024.size (by decide), run.sl.dma0_25 c f0⟩,
     ⟨Rect.unit ![1024, 4096] S512x1024.size (by decide), run.sl.dma0_24 c f0⟩,
     ⟨Rect.unit ![1024, 3072] S512x1024.size (by decide), run.sl.dma0_23 c f0⟩,
     ⟨Rect.unit ![1024, 2048] S512x1024.size (by decide), run.sl.dma0_22 c f0⟩,
     ⟨Rect.unit ![1024, 1024] S512x1024.size (by decide), run.sl.dma0_21 c f0⟩,
     ⟨Rect.unit ![1024, 512] S512x512.size (by decide), run.sl.dma0_20 c f0⟩,
     ⟨Rect.unit ![1024, 0] S512x512.size (by decide), run.sl.dma0_19 c f0⟩,
     ⟨Rect.unit ![0, 6144] S1024x1024.size (by decide), run.sl.dma0_18 c f0⟩,
     ⟨Rect.unit ![0, 5120] S1024x1024.size (by decide), run.sl.dma0_16 c f0⟩,
     ⟨Rect.unit ![0, 4096] S1024x1024.size (by decide), run.sl.dma0_14 c f0⟩,
     ⟨Rect.unit ![0, 3072] S1024x1024.size (by decide), run.sl.dma0_12 c f0⟩,
     ⟨Rect.unit ![0, 2048] S1024x1024.size (by decide), run.sl.dma0_10 c f0⟩,
     ⟨Rect.unit ![0, 1024] S1024x1024.size (by decide), run.sl.dma0_8 c f0⟩,
     ⟨Rect.unit ![0, 512] S1024x512.size (by decide), run.sl.dma0_3 c f0⟩,
     ⟨Rect.unit ![0, 0] S1024x512.size (by decide), run.sl.dma0_1 c f0⟩]

theorem xPieces_ok : ∀ p ∈ xPieces c f0, ∀ x : p.1.shape.Idx, p.2 x = f0 (p.1.emb x) := by
  unfold xPieces
  repeat (first | exact fun p hp => absurd hp List.not_mem_nil | refine List.forall_mem_cons.mpr ⟨fun x => rfl, ?_⟩)

theorem xPieces_cover (y : S1536x7168.Idx) : ∃ p ∈ xPieces c f0, y ∈ p.1.set := by
  idx_vars y
  unfold xPieces
  simp only [List.exists_mem_cons_iff, Rect.mem_set_unit, Fin.forall_fin_two, List.not_mem_nil, false_and, exists_false, or_false]
  simp only [ix2_0, ix2_1, Matrix.cons_val_zero, Matrix.cons_val_one, Shape.size]
  omega

theorem v118_eq : run.sl.v118 c f0 = (Memref.whole cc0_scratch0).view.readCov (xPieces c f0)
    (Rect.unit ![0, 0] S1024x512.size (by decide) : Rect S1536x7168).toLoadRect := rfl

theorem v118_at (a : Fin 1024) (b : Fin 512) : run.sl.v118 c f0 (ix2 a b) = f0 (ix2 ⟨0 + a, by omega⟩ ⟨0 + b, by omega⟩) := by
  rw [v118_eq, readCov_of_pieces _ f0 _ _ (xPieces_ok c f0) (xPieces_cover c f0)]
  pointwise

theorem v137_eq : run.sl.v137 c f0 = (Memref.whole cc0_scratch0).view.readCov (xPieces c f0)
    (Rect.unit ![0, 512] S1024x512.size (by decide) : Rect S1536x7168).toLoadRect := rfl

theorem v137_at (a : Fin 1024) (b : Fin 512) : run.sl.v137 c f0 (ix2 a b) = f0 (ix2 ⟨0 + a, by omega⟩ ⟨512 + b, by omega⟩) := by
  rw [v137_eq, readCov_of_pieces _ f0 _ _ (xPieces_ok c f0) (xPieces_cover c f0)]
  pointwise

theorem v158_eq : run.sl.v158 c f0 = (Memref.whole cc0_scratch0).view.readCov (xPieces c f0)
    (Rect.unit ![0, 1024] S1024x1024.size (by decide) : Rect S1536x7168).toLoadRect := rfl

theorem v158_at (a : Fin 1024) (b : Fin 1024) : run.sl.v158 c f0 (ix2 a b) = f0 (ix2 ⟨0 + a, by omega⟩ ⟨1024 + b, by omega⟩) := by
  rw [v158_eq, readCov_of_pieces _ f0 _ _ (xPieces_ok c f0) (xPieces_cover c f0)]
  pointwise

theorem v179_eq : run.sl.v179 c f0 = (Memref.whole cc0_scratch0).view.readCov (xPieces c f0)
    (Rect.unit ![0, 2048] S1024x1024.size (by decide) : Rect S1536x7168).toLoadRect := rfl

theorem v179_at (a : Fin 1024) (b : Fin 1024) : run.sl.v179 c f0 (ix2 a b) = f0 (ix2 ⟨0 + a, by omega⟩ ⟨2048 + b, by omega⟩) := by
  rw [v179_eq, readCov_of_pieces _ f0 _ _ (xPieces_ok c f0) (xPieces_cover c f0)]
  pointwise

theorem v200_eq : run.sl.v200 c f0 = (Memref.whole cc0_scratch0).view.readCov (xPieces c f0)
    (Rect.unit ![0, 3072] S1024x1024.size (by decide) : Rect S1536x7168).toLoadRect := rfl

theorem v200_at (a : Fin 1024) (b : Fin 1024) : run.sl.v200 c f0 (ix2 a b) = f0 (ix2 ⟨0 + a, by omega⟩ ⟨3072 + b, by omega⟩) := by
  rw [v200_eq, readCov_of_pieces _ f0 _ _ (xPieces_ok c f0) (xPieces_cover c f0)]
  pointwise

theorem v221_eq : run.sl.v221 c f0 = (Memref.whole cc0_scratch0).view.readCov (xPieces c f0)
    (Rect.unit ![0, 4096] S1024x1024.size (by decide) : Rect S1536x7168).toLoadRect := rfl

theorem v221_at (a : Fin 1024) (b : Fin 1024) : run.sl.v221 c f0 (ix2 a b) = f0 (ix2 ⟨0 + a, by omega⟩ ⟨4096 + b, by omega⟩) := by
  rw [v221_eq, readCov_of_pieces _ f0 _ _ (xPieces_ok c f0) (xPieces_cover c f0)]
  pointwise

theorem v242_eq : run.sl.v242 c f0 = (Memref.whole cc0_scratch0).view.readCov (xPieces c f0)
    (Rect.unit ![0, 5120] S1024x1024.size (by decide) : Rect S1536x7168).toLoadRect := rfl

theorem v242_at (a : Fin 1024) (b : Fin 1024) : run.sl.v242 c f0 (ix2 a b) = f0 (ix2 ⟨0 + a, by omega⟩ ⟨5120 + b, by omega⟩) := by
  rw [v242_eq, readCov_of_pieces _ f0 _ _ (xPieces_ok c f0) (xPieces_cover c f0)]
  pointwise

theorem v263_eq : run.sl.v263 c f0 = (Memref.whole cc0_scratch0).view.readCov (xPieces c f0)
    (Rect.unit ![0, 6144] S1024x1024.size (by decide) : Rect S1536x7168).toLoadRect := rfl

theorem v263_at (a : Fin 1024) (b : Fin 1024) : run.sl.v263 c f0 (ix2 a b) = f0 (ix2 ⟨0 + a, by omega⟩ ⟨6144 + b, by omega⟩) := by
  rw [v263_eq, readCov_of_pieces _ f0 _ _ (xPieces_ok c f0) (xPieces_cover c f0)]
  pointwise

theorem v1345_eq : run.sl.v1345 c f0 = (Memref.whole cc0_scratch0).view.readCov (xPieces c f0)
    (Rect.unit ![1024, 0] S512x512.size (by decide) : Rect S1536x7168).toLoadRect := rfl

theorem v1345_at (a : Fin 512) (b : Fin 512) : run.sl.v1345 c f0 (ix2 a b) = f0 (ix2 ⟨1024 + a, by omega⟩ ⟨0 + b, by omega⟩) := by
  rw [v1345_eq, readCov_of_pieces _ f0 _ _ (xPieces_ok c f0) (xPieces_cover c f0)]
  pointwise

theorem v1355_eq : run.sl.v1355 c f0 = (Memref.whole cc0_scratch0).view.readCov (xPieces c f0)
    (Rect.unit ![1024, 512] S512x512.size (by decide) : Rect S1536x7168).toLoadRect := rfl

theorem v1355_at (a : Fin 512) (b : Fin 512) : run.sl.v1355 c f0 (ix2 a b) = f0 (ix2 ⟨1024 + a, by omega⟩ ⟨512 + b, by omega⟩) := by
  rw [v1355_eq, readCov_of_pieces _ f0 _ _ (xPieces_ok c f0) (xPieces_cover c f0)]
  pointwise

theorem v1367_eq : run.sl.v1367 c f0 = (Memref.whole cc0_scratch0).view.readCov (xPieces c f0)
    (Rect.unit ![1024, 1024] S512x1024.size (by decide) : Rect S1536x7168).toLoadRect := rfl

theorem v1367_at (a : Fin 512) (b : Fin 1024) : run.sl.v1367 c f0 (ix2 a b) = f0 (ix2 ⟨1024 + a, by omega⟩ ⟨1024 + b, by omega⟩) := by
  rw [v1367_eq, readCov_of_pieces _ f0 _ _ (xPieces_ok c f0) (xPieces_cover c f0)]
  pointwise

theorem v1379_eq : run.sl.v1379 c f0 = (Memref.whole cc0_scratch0).view.readCov (xPieces c f0)
    (Rect.unit ![1024, 2048] S512x1024.size (by decide) : Rect S1536x7168).toLoadRect := rfl

theorem v1379_at (a : Fin 512) (b : Fin 1024) : run.sl.v1379 c f0 (ix2 a b) = f0 (ix2 ⟨1024 + a, by omega⟩ ⟨2048 + b, by omega⟩) := by
  rw [v1379_eq, readCov_of_pieces _ f0 _ _ (xPieces_ok c f0) (xPieces_cover c f0)]
  pointwise

theorem v1391_eq : run.sl.v1391 c f0 = (Memref.whole cc0_scratch0).view.readCov (xPieces c f0)
    (Rect.unit ![1024, 3072] S512x1024.size (by decide) : Rect S1536x7168).toLoadRect := rfl

theorem v1391_at (a : Fin 512) (b : Fin 1024) : run.sl.v1391 c f0 (ix2 a b) = f0 (ix2 ⟨1024 + a, by omega⟩ ⟨3072 + b, by omega⟩) := by
  rw [v1391_eq, readCov_of_pieces _ f0 _ _ (xPieces_ok c f0) (xPieces_cover c f0)]
  pointwise

theorem v1403_eq : run.sl.v1403 c f0 = (Memref.whole cc0_scratch0).view.readCov (xPieces c f0)
    (Rect.unit ![1024, 4096] S512x1024.size (by decide) : Rect S1536x7168).toLoadRect := rfl

theorem v1403_at (a : Fin 512) (b : Fin 1024) : run.sl.v1403 c f0 (ix2 a b) = f0 (ix2 ⟨1024 + a, by omega⟩ ⟨4096 + b, by omega⟩) := by
  rw [v1403_eq, readCov_of_pieces _ f0 _ _ (xPieces_ok c f0) (xPieces_cover c f0)]
  pointwise

theorem v1415_eq : run.sl.v1415 c f0 = (Memref.whole cc0_scratch0).view.readCov (xPieces c f0)
    (Rect.unit ![1024, 5120] S512x1024.size (by decide) : Rect S1536x7168).toLoadRect := rfl

theorem v1415_at (a : Fin 512) (b : Fin 1024) : run.sl.v1415 c f0 (ix2 a b) = f0 (ix2 ⟨1024 + a, by omega⟩ ⟨5120 + b, by omega⟩) := by
  rw [v1415_eq, readCov_of_pieces _ f0 _ _ (xPieces_ok c f0) (xPieces_cover c f0)]
  pointwise

theorem v1427_eq : run.sl.v1427 c f0 = (Memref.whole cc0_scratch0).view.readCov (xPieces c f0)
    (Rect.unit ![1024, 6144] S512x1024.size (by decide) : Rect S1536x7168).toLoadRect := rfl

theorem v1427_at (a : Fin 512) (b : Fin 1024) : run.sl.v1427 c f0 (ix2 a b) = f0 (ix2 ⟨1024 + a, by omega⟩ ⟨6144 + b, by omega⟩) := by
  rw [v1427_eq, readCov_of_pieces _ f0 _ _ (xPieces_ok c f0) (xPieces_cover c f0)]
  pointwise

theorem v1978_eq : run.sl.v1978 c f0 = (Memref.whole cc0_scratch0).view.readCov (xPieces c f0)
    (Rect.unit ![0, 0] S1536x512.size (by decide) : Rect S1536x7168).toLoadRect := rfl

theorem v1978_at (a : Fin 1536) (b : Fin 512) : run.sl.v1978 c f0 (ix2 a b) = f0 (ix2 ⟨0 + a, by omega⟩ ⟨0 + b, by omega⟩) := by
  rw [v1978_eq, readCov_of_pieces _ f0 _ _ (xPieces_ok c f0) (xPieces_cover c f0)]
  pointwise

theorem v2006_eq : run.sl.v2006 c f0 = (Memref.whole cc0_scratch0).view.readCov (xPieces c f0)
    (Rect.unit ![0, 512] S1536x512.size (by decide) : Rect S1536x7168).toLoadRect := rfl

theorem v2006_at (a : Fin 1536) (b : Fin 512) : run.sl.v2006 c f0 (ix2 a b) = f0 (ix2 ⟨0 + a, by omega⟩ ⟨512 + b, by omega⟩) := by
  rw [v2006_eq, readCov_of_pieces _ f0 _ _ (xPieces_ok c f0) (xPieces_cover c f0)]
  pointwise

theorem v2040_eq : run.sl.v2040 c f0 = (Memref.whole cc0_scratch0).view.readCov (xPieces c f0)
    (Rect.unit ![0, 1024] S1536x512.size (by decide) : Rect S1536x7168).toLoadRect := rfl

theorem v2040_at (a : Fin 1536) (b : Fin 512) : run.sl.v2040 c f0 (ix2 a b) = f0 (ix2 ⟨0 + a, by omega⟩ ⟨1024 + b, by omega⟩) := by
  rw [v2040_eq, readCov_of_pieces _ f0 _ _ (xPieces_ok c f0) (xPieces_cover c f0)]
  pointwise

theorem v2074_eq : run.sl.v2074 c f0 = (Memref.whole cc0_scratch0).view.readCov (xPieces c f0)
    (Rect.unit ![0, 1536] S1536x512.size (by decide) : Rect S1536x7168).toLoadRect := rfl

theorem v2074_at (a : Fin 1536) (b : Fin 512) : run.sl.v2074 c f0 (ix2 a b) = f0 (ix2 ⟨0 + a, by omega⟩ ⟨1536 + b, by omega⟩) := by
  rw [v2074_eq, readCov_of_pieces _ f0 _ _ (xPieces_ok c f0) (xPieces_cover c f0)]
  pointwise

theorem v2108_eq : run.sl.v2108 c f0 = (Memref.whole cc0_scratch0).view.readCov (xPieces c f0)
    (Rect.unit ![0, 2048] S1536x512.size (by decide) : Rect S1536x7168).toLoadRect := rfl

theorem v2108_at (a : Fin 1536) (b : Fin 512) : run.sl.v2108 c f0 (ix2 a b) = f0 (ix2 ⟨0 + a, by omega⟩ ⟨2048 + b, by omega⟩) := by
  rw [v2108_eq, readCov_of_pieces _ f0 _ _ (xPieces_ok c f0) (xPieces_cover c f0)]
  pointwise

theorem v2142_eq : run.sl.v2142 c f0 = (Memref.whole cc0_scratch0).view.readCov (xPieces c f0)
    (Rect.unit ![0, 2560] S1536x512.size (by decide) : Rect S1536x7168).toLoadRect := rfl

theorem v2142_at (a : Fin 1536) (b : Fin 512) : run.sl.v2142 c f0 (ix2 a b) = f0 (ix2 ⟨0 + a, by omega⟩ ⟨2560 + b, by omega⟩) := by
  rw [v2142_eq, readCov_of_pieces _ f0 _ _ (xPieces_ok c f0) (xPieces_cover c f0)]
  pointwise

theorem v2176_eq : run.sl.v2176 c f0 = (Memref.whole cc0_scratch0).view.readCov (xPieces c f0)
    (Rect.unit ![0, 3072] S1536x512.size (by decide) : Rect S1536x7168).toLoadRect := rfl

theorem v2176_at (a : Fin 1536) (b : Fin 512) : run.sl.v2176 c f0 (ix2 a b) = f0 (ix2 ⟨0 + a, by omega⟩ ⟨3072 + b, by omega⟩) := by
  rw [v2176_eq, readCov_of_pieces _ f0 _ _ (xPieces_ok c f0) (xPieces_cover c f0)]
  pointwise

theorem v2210_eq : run.sl.v2210 c f0 = (Memref.whole cc0_scratch0).view.readCov (xPieces c f0)
    (Rect.unit ![0, 3584] S1536x512.size (by decide) : Rect S1536x7168).toLoadRect := rfl

theorem v2210_at (a : Fin 1536) (b : Fin 512) : run.sl.v2210 c f0 (ix2 a b) = f0 (ix2 ⟨0 + a, by omega⟩ ⟨3584 + b, by omega⟩) := by
  rw [v2210_eq, readCov_of_pieces _ f0 _ _ (xPieces_ok c f0) (xPieces_cover c f0)]
  pointwise

theorem v2244_eq : run.sl.v2244 c f0 = (Memref.whole cc0_scratch0).view.readCov (xPieces c f0)
    (Rect.unit ![0, 4096] S1536x512.size (by decide) : Rect S1536x7168).toLoadRect := rfl

theorem v2244_at (a : Fin 1536) (b : Fin 512) : run.sl.v2244 c f0 (ix2 a b) = f0 (ix2 ⟨0 + a, by omega⟩ ⟨4096 + b, by omega⟩) := by
  rw [v2244_eq, readCov_of_pieces _ f0 _ _ (xPieces_ok c f0) (xPieces_cover c f0)]
  pointwise

theorem v2278_eq : run.sl.v2278 c f0 = (Memref.whole cc0_scratch0).view.readCov (xPieces c f0)
    (Rect.unit ![0, 4608] S1536x512.size (by decide) : Rect S1536x7168).toLoadRect := rfl

theorem v2278_at (a : Fin 1536) (b : Fin 512) : run.sl.v2278 c f0 (ix2 a b) = f0 (ix2 ⟨0 + a, by omega⟩ ⟨4608 + b, by omega⟩) := by
  rw [v2278_eq, readCov_of_pieces _ f0 _ _ (xPieces_ok c f0) (xPieces_cover c f0)]
  pointwise

theorem v2312_eq : run.sl.v2312 c f0 = (Memref.whole cc0_scratch0).view.readCov (xPieces c f0)
    (Rect.unit ![0, 5120] S1536x512.size (by decide) : Rect S1536x7168).toLoadRect := rfl

theorem v2312_at (a : Fin 1536) (b : Fin 512) : run.sl.v2312 c f0 (ix2 a b) = f0 (ix2 ⟨0 + a, by omega⟩ ⟨5120 + b, by omega⟩) := by
  rw [v2312_eq, readCov_of_pieces _ f0 _ _ (xPieces_ok c f0) (xPieces_cover c f0)]
  pointwise

theorem v2346_eq : run.sl.v2346 c f0 = (Memref.whole cc0_scratch0).view.readCov (xPieces c f0)
    (Rect.unit ![0, 5632] S1536x512.size (by decide) : Rect S1536x7168).toLoadRect := rfl

theorem v2346_at (a : Fin 1536) (b : Fin 512) : run.sl.v2346 c f0 (ix2 a b) = f0 (ix2 ⟨0 + a, by omega⟩ ⟨5632 + b, by omega⟩) := by
  rw [v2346_eq, readCov_of_pieces _ f0 _ _ (xPieces_ok c f0) (xPieces_cover c f0)]
  pointwise

theorem v2380_eq : run.sl.v2380 c f0 = (Memref.whole cc0_scratch0).view.readCov (xPieces c f0)
    (Rect.unit ![0, 6144] S1536x512.size (by decide) : Rect S1536x7168).toLoadRect := rfl

theorem v2380_at (a : Fin 1536) (b : Fin 512) : run.sl.v2380 c f0 (ix2 a b) = f0 (ix2 ⟨0 + a, by omega⟩ ⟨6144 + b, by omega⟩) := by
  rw [v2380_eq, readCov_of_pieces _ f0 _ _ (xPieces_ok c f0) (xPieces_cover c f0)]
  pointwise

theorem v2414_eq : run.sl.v2414 c f0 = (Memref.whole cc0_scratch0).view.readCov (xPieces c f0)
    (Rect.unit ![0, 6656] S1536x512.size (by decide) : Rect S1536x7168).toLoadRect := rfl

theorem v2414_at (a : Fin 1536) (b : Fin 512) : run.sl.v2414 c f0 (ix2 a b) = f0 (ix2 ⟨0 + a, by omega⟩ ⟨6656 + b, by omega⟩) := by
  rw [v2414_eq, readCov_of_pieces _ f0 _ _ (xPieces_ok c f0) (xPieces_cover c f0)]
  pointwise

/-- The copies that fill the scratch buffer of `f2`, last first. -/
def wPieces : List (View.Piece (Elt F) S7168x256 .bf16) :=
    [⟨Rect.unit ![6144, 0] S1024x256.size (by decide), run.sl.dma0_17 c f2⟩,
     ⟨Rect.unit ![5120, 0] S1024x256.size (by decide), run.sl.dma0_15 c f2⟩,
     ⟨Rect.unit ![4096, 0] S1024x256.size (by decide), run.sl.dma0_13 c f2⟩,
     ⟨Rect.unit ![3072, 0] S1024x256.size (by decide), run.sl.dma0_11 c f2⟩,
     ⟨Rect.unit ![2048, 0] S1024x256.size (by decide), run.sl.dma0_9 c f2⟩,
     ⟨Rect.unit ![1024, 0] S1024x256.size (by decide), run.sl.dma0_7 c f2⟩,
     ⟨Rect.unit ![512, 0] S512x256.size (by decide), run.sl.dma0_2 c f2⟩,
     ⟨Rect.unit ![0, 0] S512x256.size (by decide), run.sl.dma0 c f2⟩]

theorem wPieces_ok : ∀ p ∈ wPieces c f2, ∀ x : p.1.shape.Idx, p.2 x = f2 (p.1.emb x) := by
  unfold wPieces
  repeat (first | exact fun p hp => absurd hp List.not_mem_nil | refine List.forall_mem_cons.mpr ⟨fun x => rfl, ?_⟩)

theorem wPieces_cover (y : S7168x256.Idx) : ∃ p ∈ wPieces c f2, y ∈ p.1.set := by
  idx_vars y
  unfold wPieces
  simp only [List.exists_mem_cons_iff, Rect.mem_set_unit, Fin.forall_fin_two, List.not_mem_nil, false_and, exists_false, or_false]
  simp only [ix2_0, ix2_1, Matrix.cons_val_zero, Matrix.cons_val_one, Shape.size]
  omega

theorem v108_eq : run.sl.v108 c f2 = (Memref.whole cc0_scratch1).view.readCov (wPieces c f2)
    (Rect.unit ![0, 0] S512x256.size (by decide) : Rect S7168x256).toLoadRect := rfl

theorem v108_at (a : Fin 512) (b : Fin 256) : run.sl.v108 c f2 (ix2 a b) = f2 (ix2 ⟨0 + a, by omega⟩ ⟨0 + b, by omega⟩) := by
  rw [v108_eq, readCov_of_pieces _ f2 _ _ (wPieces_ok c f2) (wPieces_cover c f2)]
  pointwise

theorem v127_eq : run.sl.v127 c f2 = (Memref.whole cc0_scratch1).view.readCov (wPieces c f2)
    (Rect.unit ![512, 0] S512x256.size (by decide) : Rect S7168x256).toLoadRect := rfl

theorem v127_at (a : Fin 512) (b : Fin 256) : run.sl.v127 c f2 (ix2 a b) = f2 (ix2 ⟨512 + a, by omega⟩ ⟨0 + b, by omega⟩) := by
  rw [v127_eq, readCov_of_pieces _ f2 _ _ (wPieces_ok c f2) (wPieces_cover c f2)]
  pointwise

theorem v148_eq : run.sl.v148 c f2 = (Memref.whole cc0_scratch1).view.readCov (wPieces c f2)
    (Rect.unit ![1024, 0] S1024x256.size (by decide) : Rect S7168x256).toLoadRect := rfl

theorem v148_at (a : Fin 1024) (b : Fin 256) : run.sl.v148 c f2 (ix2 a b) = f2 (ix2 ⟨1024 + a, by omega⟩ ⟨0 + b, by omega⟩) := by
  rw [v148_eq, readCov_of_pieces _ f2 _ _ (wPieces_ok c f2) (wPieces_cover c f2)]
  pointwise

theorem v169_eq : run.sl.v169 c f2 = (Memref.whole cc0_scratch1).view.readCov (wPieces c f2)
    (Rect.unit ![2048, 0] S1024x256.size (by decide) : Rect S7168x256).toLoadRect := rfl

theorem v169_at (a : Fin 1024) (b : Fin 256) : run.sl.v169 c f2 (ix2 a b) = f2 (ix2 ⟨2048 + a, by omega⟩ ⟨0 + b, by omega⟩) := by
  rw [v169_eq, readCov_of_pieces _ f2 _ _ (wPieces_ok c f2) (wPieces_cover c f2)]
  pointwise

theorem v190_eq : run.sl.v190 c f2 = (Memref.whole cc0_scratch1).view.readCov (wPieces c f2)
    (Rect.unit ![3072, 0] S1024x256.size (by decide) : Rect S7168x256).toLoadRect := rfl

theorem v190_at (a : Fin 1024) (b : Fin 256) : run.sl.v190 c f2 (ix2 a b) = f2 (ix2 ⟨3072 + a, by omega⟩ ⟨0 + b, by omega⟩) := by
  rw [v190_eq, readCov_of_pieces _ f2 _ _ (wPieces_ok c f2) (wPieces_cover c f2)]
  pointwise

theorem v211_eq : run.sl.v211 c f2 = (Memref.whole cc0_scratch1).view.readCov (wPieces c f2)
    (Rect.unit ![4096, 0] S1024x256.size (by decide) : Rect S7168x256).toLoadRect := rfl

theorem v211_at (a : Fin 1024) (b : Fin 256) : run.sl.v211 c f2 (ix2 a b) = f2 (ix2 ⟨4096 + a, by omega⟩ ⟨0 + b, by omega⟩) := by
  rw [v211_eq, readCov_of_pieces _ f2 _ _ (wPieces_ok c f2) (wPieces_cover c f2)]
  pointwise

theorem v232_eq : run.sl.v232 c f2 = (Memref.whole cc0_scratch1).view.readCov (wPieces c f2)
    (Rect.unit ![5120, 0] S1024x256.size (by decide) : Rect S7168x256).toLoadRect := rfl

theorem v232_at (a : Fin 1024) (b : Fin 256) : run.sl.v232 c f2 (ix2 a b) = f2 (ix2 ⟨5120 + a, by omega⟩ ⟨0 + b, by omega⟩) := by
  rw [v232_eq, readCov_of_pieces _ f2 _ _ (wPieces_ok c f2) (wPieces_cover c f2)]
  pointwise

theorem v253_eq : run.sl.v253 c f2 = (Memref.whole cc0_scratch1).view.readCov (wPieces c f2)
    (Rect.unit ![6144, 0] S1024x256.size (by decide) : Rect S7168x256).toLoadRect := rfl

theorem v253_at (a : Fin 1024) (b : Fin 256) : run.sl.v253 c f2 (ix2 a b) = f2 (ix2 ⟨6144 + a, by omega⟩ ⟨0 + b, by omega⟩) := by
  rw [v253_eq, readCov_of_pieces _ f2 _ _ (wPieces_ok c f2) (wPieces_cover c f2)]
  pointwise

theorem v276_eq : run.sl.v276 c f3 s4 = (Memref.whole cc0_scratch4).view.readAt (Elt F)
    (Rect.unit ![0, 0, 0] S1x8x128.size (by decide) : Rect S2x8x768).toLoadRect
    ((Memref.whole cc0_scratch4).view.write (Elt F) s4 (run.sl.dma0_5 c f3) Finset.univ) := rfl

theorem v276_at (k : Fin 8) (i : Fin 128) : run.sl.v276 c f3 s4 (ix3 0 k i) = f3 (ix3 0 k ⟨0 + i, by omega⟩) := by
  rw [v276_eq, readAt_landed, show run.sl.dma0_5 c f3 = f3 from rfl]
  pointwise

theorem v278_eq : run.sl.v278 c f4 s5 = (Memref.whole cc0_scratch5).view.readAt (Elt F)
    (Rect.unit ![0, 0, 0] S1x8x128.size (by decide) : Rect S2x8x768).toLoadRect
    ((Memref.whole cc0_scratch5).view.write (Elt F) s5 (run.sl.dma0_6 c f4) Finset.univ) := rfl

theorem v278_at (k : Fin 8) (i : Fin 128) : run.sl.v278 c f4 s5 (ix3 0 k i) = f4 (ix3 0 k ⟨0 + i, by omega⟩) := by
  rw [v278_eq, readAt_landed, show run.sl.dma0_6 c f4 = f4 from rfl]
  pointwise

theorem v281_eq : run.sl.v281 c f1 s3 = (Memref.whole cc0_scratch3).view.readAt (Elt F)
    (Rect.unit ![0, 0] S1x128.size (by decide) : Rect S2x768).toLoadRect
    ((Memref.whole cc0_scratch3).view.write (Elt F) s3 (run.sl.dma0_4 c f1) Finset.univ) := rfl

theorem v281_at (i : Fin 128) : run.sl.v281 c f1 s3 (ix2 0 i) = f1 (ix2 0 ⟨0 + i, by omega⟩) := by
  rw [v281_eq, readAt_landed, show run.sl.dma0_4 c f1 = f1 from rfl]
  pointwise

theorem v409_eq : run.sl.v409 c f3 s4 = (Memref.whole cc0_scratch4).view.readAt (Elt F)
    (Rect.unit ![0, 0, 128] S1x8x128.size (by decide) : Rect S2x8x768).toLoadRect
    ((Memref.whole cc0_scratch4).view.write (Elt F) s4 (run.sl.dma0_5 c f3) Finset.univ) := rfl

theorem v409_at (k : Fin 8) (i : Fin 128) : run.sl.v409 c f3 s4 (ix3 0 k i) = f3 (ix3 0 k ⟨128 + i, by omega⟩) := by
  rw [v409_eq, readAt_landed, show run.sl.dma0_5 c f3 = f3 from rfl]
  pointwise

theorem v411_eq : run.sl.v411 c f4 s5 = (Memref.whole cc0_scratch5).view.readAt (Elt F)
    (Rect.unit ![0, 0, 128] S1x8x128.size (by decide) : Rect S2x8x768).toLoadRect
    ((Memref.whole cc0_scratch5).view.write (Elt F) s5 (run.sl.dma0_6 c f4) Finset.univ) := rfl

theorem v411_at (k : Fin 8) (i : Fin 128) : run.sl.v411 c f4 s5 (ix3 0 k i) = f4 (ix3 0 k ⟨128 + i, by omega⟩) := by
  rw [v411_eq, readAt_landed, show run.sl.dma0_6 c f4 = f4 from rfl]
  pointwise

theorem v414_eq : run.sl.v414 c f1 s3 = (Memref.whole cc0_scratch3).view.readAt (Elt F)
    (Rect.unit ![0, 128] S1x128.size (by decide) : Rect S2x768).toLoadRect
    ((Memref.whole cc0_scratch3).view.write (Elt F) s3 (run.sl.dma0_4 c f1) Finset.univ) := rfl

theorem v414_at (i : Fin 128) : run.sl.v414 c f1 s3 (ix2 0 i) = f1 (ix2 0 ⟨128 + i, by omega⟩) := by
  rw [v414_eq, readAt_landed, show run.sl.dma0_4 c f1 = f1 from rfl]
  pointwise

theorem v542_eq : run.sl.v542 c f3 s4 = (Memref.whole cc0_scratch4).view.readAt (Elt F)
    (Rect.unit ![0, 0, 256] S1x8x128.size (by decide) : Rect S2x8x768).toLoadRect
    ((Memref.whole cc0_scratch4).view.write (Elt F) s4 (run.sl.dma0_5 c f3) Finset.univ) := rfl

theorem v542_at (k : Fin 8) (i : Fin 128) : run.sl.v542 c f3 s4 (ix3 0 k i) = f3 (ix3 0 k ⟨256 + i, by omega⟩) := by
  rw [v542_eq, readAt_landed, show run.sl.dma0_5 c f3 = f3 from rfl]
  pointwise

theorem v544_eq : run.sl.v544 c f4 s5 = (Memref.whole cc0_scratch5).view.readAt (Elt F)
    (Rect.unit ![0, 0, 256] S1x8x128.size (by decide) : Rect S2x8x768).toLoadRect
    ((Memref.whole cc0_scratch5).view.write (Elt F) s5 (run.sl.dma0_6 c f4) Finset.univ) := rfl

theorem v544_at (k : Fin 8) (i : Fin 128) : run.sl.v544 c f4 s5 (ix3 0 k i) = f4 (ix3 0 k ⟨256 + i, by omega⟩) := by
  rw [v544_eq, readAt_landed, show run.sl.dma0_6 c f4 = f4 from rfl]
  pointwise

theorem v547_eq : run.sl.v547 c f1 s3 = (Memref.whole cc0_scratch3).view.readAt (Elt F)
    (Rect.unit ![0, 256] S1x128.size (by decide) : Rect S2x768).toLoadRect
    ((Memref.whole cc0_scratch3).view.write (Elt F) s3 (run.sl.dma0_4 c f1) Finset.univ) := rfl

theorem v547_at (i : Fin 128) : run.sl.v547 c f1 s3 (ix2 0 i) = f1 (ix2 0 ⟨256 + i, by omega⟩) := by
  rw [v547_eq, readAt_landed, show run.sl.dma0_4 c f1 = f1 from rfl]
  pointwise

theorem v675_eq : run.sl.v675 c f3 s4 = (Memref.whole cc0_scratch4).view.readAt (Elt F)
    (Rect.unit ![0, 0, 384] S1x8x128.size (by decide) : Rect S2x8x768).toLoadRect
    ((Memref.whole cc0_scratch4).view.write (Elt F) s4 (run.sl.dma0_5 c f3) Finset.univ) := rfl

theorem v675_at (k : Fin 8) (i : Fin 128) : run.sl.v675 c f3 s4 (ix3 0 k i) = f3 (ix3 0 k ⟨384 + i, by omega⟩) := by
  rw [v675_eq, readAt_landed, show run.sl.dma0_5 c f3 = f3 from rfl]
  pointwise

theorem v677_eq : run.sl.v677 c f4 s5 = (Memref.whole cc0_scratch5).view.readAt (Elt F)
    (Rect.unit ![0, 0, 384] S1x8x128.size (by decide) : Rect S2x8x768).toLoadRect
    ((Memref.whole cc0_scratch5).view.write (Elt F) s5 (run.sl.dma0_6 c f4) Finset.univ) := rfl

theorem v677_at (k : Fin 8) (i : Fin 128) : run.sl.v677 c f4 s5 (ix3 0 k i) = f4 (ix3 0 k ⟨384 + i, by omega⟩) := by
  rw [v677_eq, readAt_landed, show run.sl.dma0_6 c f4 = f4 from rfl]
  pointwise

theorem v680_eq : run.sl.v680 c f1 s3 = (Memref.whole cc0_scratch3).view.readAt (Elt F)
    (Rect.unit ![0, 384] S1x128.size (by decide) : Rect S2x768).toLoadRect
    ((Memref.whole cc0_scratch3).view.write (Elt F) s3 (run.sl.dma0_4 c f1) Finset.univ) := rfl

theorem v680_at (i : Fin 128) : run.sl.v680 c f1 s3 (ix2 0 i) = f1 (ix2 0 ⟨384 + i, by omega⟩) := by
  rw [v680_eq, readAt_landed, show run.sl.dma0_4 c f1 = f1 from rfl]
  pointwise

theorem v808_eq : run.sl.v808 c f3 s4 = (Memref.whole cc0_scratch4).view.readAt (Elt F)
    (Rect.unit ![0, 0, 512] S1x8x128.size (by decide) : Rect S2x8x768).toLoadRect
    ((Memref.whole cc0_scratch4).view.write (Elt F) s4 (run.sl.dma0_5 c f3) Finset.univ) := rfl

theorem v808_at (k : Fin 8) (i : Fin 128) : run.sl.v808 c f3 s4 (ix3 0 k i) = f3 (ix3 0 k ⟨512 + i, by omega⟩) := by
  rw [v808_eq, readAt_landed, show run.sl.dma0_5 c f3 = f3 from rfl]
  pointwise

theorem v810_eq : run.sl.v810 c f4 s5 = (Memref.whole cc0_scratch5).view.readAt (Elt F)
    (Rect.unit ![0, 0, 512] S1x8x128.size (by decide) : Rect S2x8x768).toLoadRect
    ((Memref.whole cc0_scratch5).view.write (Elt F) s5 (run.sl.dma0_6 c f4) Finset.univ) := rfl

theorem v810_at (k : Fin 8) (i : Fin 128) : run.sl.v810 c f4 s5 (ix3 0 k i) = f4 (ix3 0 k ⟨512 + i, by omega⟩) := by
  rw [v810_eq, readAt_landed, show run.sl.dma0_6 c f4 = f4 from rfl]
  pointwise

theorem v813_eq : run.sl.v813 c f1 s3 = (Memref.whole cc0_scratch3).view.readAt (Elt F)
    (Rect.unit ![0, 512] S1x128.size (by decide) : Rect S2x768).toLoadRect
    ((Memref.whole cc0_scratch3).view.write (Elt F) s3 (run.sl.dma0_4 c f1) Finset.univ) := rfl

theorem v813_at (i : Fin 128) : run.sl.v813 c f1 s3 (ix2 0 i) = f1 (ix2 0 ⟨512 + i, by omega⟩) := by
  rw [v813_eq, readAt_landed, show run.sl.dma0_4 c f1 = f1 from rfl]
  pointwise

theorem v941_eq : run.sl.v941 c f3 s4 = (Memref.whole cc0_scratch4).view.readAt (Elt F)
    (Rect.unit ![0, 0, 640] S1x8x128.size (by decide) : Rect S2x8x768).toLoadRect
    ((Memref.whole cc0_scratch4).view.write (Elt F) s4 (run.sl.dma0_5 c f3) Finset.univ) := rfl

theorem v941_at (k : Fin 8) (i : Fin 128) : run.sl.v941 c f3 s4 (ix3 0 k i) = f3 (ix3 0 k ⟨640 + i, by omega⟩) := by
  rw [v941_eq, readAt_landed, show run.sl.dma0_5 c f3 = f3 from rfl]
  pointwise

theorem v943_eq : run.sl.v943 c f4 s5 = (Memref.whole cc0_scratch5).view.readAt (Elt F)
    (Rect.unit ![0, 0, 640] S1x8x128.size (by decide) : Rect S2x8x768).toLoadRect
    ((Memref.whole cc0_scratch5).view.write (Elt F) s5 (run.sl.dma0_6 c f4) Finset.univ) := rfl

theorem v943_at (k : Fin 8) (i : Fin 128) : run.sl.v943 c f4 s5 (ix3 0 k i) = f4 (ix3 0 k ⟨640 + i, by omega⟩) := by
  rw [v943_eq, readAt_landed, show run.sl.dma0_6 c f4 = f4 from rfl]
  pointwise

theorem v946_eq : run.sl.v946 c f1 s3 = (Memref.whole cc0_scratch3).view.readAt (Elt F)
    (Rect.unit ![0, 640] S1x128.size (by decide) : Rect S2x768).toLoadRect
    ((Memref.whole cc0_scratch3).view.write (Elt F) s3 (run.sl.dma0_4 c f1) Finset.univ) := rfl

theorem v946_at (i : Fin 128) : run.sl.v946 c f1 s3 (ix2 0 i) = f1 (ix2 0 ⟨640 + i, by omega⟩) := by
  rw [v946_eq, readAt_landed, show run.sl.dma0_4 c f1 = f1 from rfl]
  pointwise

theorem v1074_eq : run.sl.v1074 c f3 s4 = (Memref.whole cc0_scratch4).view.readAt (Elt F)
    (Rect.unit ![1, 0, 0] S1x8x128.size (by decide) : Rect S2x8x768).toLoadRect
    ((Memref.whole cc0_scratch4).view.write (Elt F) s4 (run.sl.dma0_5 c f3) Finset.univ) := rfl

theorem v1074_at (k : Fin 8) (i : Fin 128) : run.sl.v1074 c f3 s4 (ix3 0 k i) = f3 (ix3 1 k ⟨0 + i, by omega⟩) := by
  rw [v1074_eq, readAt_landed, show run.sl.dma0_5 c f3 = f3 from rfl]
  pointwise

theorem v1076_eq : run.sl.v1076 c f4 s5 = (Memref.whole cc0_scratch5).view.readAt (Elt F)
    (Rect.unit ![1, 0, 0] S1x8x128.size (by decide) : Rect S2x8x768).toLoadRect
    ((Memref.whole cc0_scratch5).view.write (Elt F) s5 (run.sl.dma0_6 c f4) Finset.univ) := rfl

theorem v1076_at (k : Fin 8) (i : Fin 128) : run.sl.v1076 c f4 s5 (ix3 0 k i) = f4 (ix3 1 k ⟨0 + i, by omega⟩) := by
  rw [v1076_eq, readAt_landed, show run.sl.dma0_6 c f4 = f4 from rfl]
  pointwise

theorem v1079_eq : run.sl.v1079 c f1 s3 = (Memref.whole cc0_scratch3).view.readAt (Elt F)
    (Rect.unit ![1, 0] S1x128.size (by decide) : Rect S2x768).toLoadRect
    ((Memref.whole cc0_scratch3).view.write (Elt F) s3 (run.sl.dma0_4 c f1) Finset.univ) := rfl

theorem v1079_at (i : Fin 128) : run.sl.v1079 c f1 s3 (ix2 0 i) = f1 (ix2 1 ⟨0 + i, by omega⟩) := by
  rw [v1079_eq, readAt_landed, show run.sl.dma0_4 c f1 = f1 from rfl]
  pointwise

theorem v1207_eq : run.sl.v1207 c f3 s4 = (Memref.whole cc0_scratch4).view.readAt (Elt F)
    (Rect.unit ![1, 0, 128] S1x8x128.size (by decide) : Rect S2x8x768).toLoadRect
    ((Memref.whole cc0_scratch4).view.write (Elt F) s4 (run.sl.dma0_5 c f3) Finset.univ) := rfl

theorem v1207_at (k : Fin 8) (i : Fin 128) : run.sl.v1207 c f3 s4 (ix3 0 k i) = f3 (ix3 1 k ⟨128 + i, by omega⟩) := by
  rw [v1207_eq, readAt_landed, show run.sl.dma0_5 c f3 = f3 from rfl]
  pointwise

theorem v1209_eq : run.sl.v1209 c f4 s5 = (Memref.whole cc0_scratch5).view.readAt (Elt F)
    (Rect.unit ![1, 0, 128] S1x8x128.size (by decide) : Rect S2x8x768).toLoadRect
    ((Memref.whole cc0_scratch5).view.write (Elt F) s5 (run.sl.dma0_6 c f4) Finset.univ) := rfl

theorem v1209_at (k : Fin 8) (i : Fin 128) : run.sl.v1209 c f4 s5 (ix3 0 k i) = f4 (ix3 1 k ⟨128 + i, by omega⟩) := by
  rw [v1209_eq, readAt_landed, show run.sl.dma0_6 c f4 = f4 from rfl]
  pointwise

theorem v1212_eq : run.sl.v1212 c f1 s3 = (Memref.whole cc0_scratch3).view.readAt (Elt F)
    (Rect.unit ![1, 128] S1x128.size (by decide) : Rect S2x768).toLoadRect
    ((Memref.whole cc0_scratch3).view.write (Elt F) s3 (run.sl.dma0_4 c f1) Finset.univ) := rfl

theorem v1212_at (i : Fin 128) : run.sl.v1212 c f1 s3 (ix2 0 i) = f1 (ix2 1 ⟨128 + i, by omega⟩) := by
  rw [v1212_eq, readAt_landed, show run.sl.dma0_4 c f1 = f1 from rfl]
  pointwise

theorem v1438_eq : run.sl.v1438 c f3 s4 = (Memref.whole cc0_scratch4).view.readAt (Elt F)
    (Rect.unit ![1, 0, 256] S1x8x128.size (by decide) : Rect S2x8x768).toLoadRect
    ((Memref.whole cc0_scratch4).view.write (Elt F) s4 (run.sl.dma0_5 c f3) Finset.univ) := rfl

theorem v1438_at (k : Fin 8) (i : Fin 128) : run.sl.v1438 c f3 s4 (ix3 0 k i) = f3 (ix3 1 k ⟨256 + i, by omega⟩) := by
  rw [v1438_eq, readAt_landed, show run.sl.dma0_5 c f3 = f3 from rfl]
  pointwise

theorem v1440_eq : run.sl.v1440 c f4 s5 = (Memref.whole cc0_scratch5).view.readAt (Elt F)
    (Rect.unit ![1, 0, 256] S1x8x128.size (by decide) : Rect S2x8x768).toLoadRect
    ((Memref.whole cc0_scratch5).view.write (Elt F) s5 (run.sl.dma0_6 c f4) Finset.univ) := rfl

theorem v1440_at (k : Fin 8) (i : Fin 128) : run.sl.v1440 c f4 s5 (ix3 0 k i) = f4 (ix3 1 k ⟨256 + i, by omega⟩) := by
  rw [v1440_eq, readAt_landed, show run.sl.dma0_6 c f4 = f4 from rfl]
  pointwise

theorem v1443_eq : run.sl.v1443 c f1 s3 = (Memref.whole cc0_scratch3).view.readAt (Elt F)
    (Rect.unit ![1, 256] S1x128.size (by decide) : Rect S2x768).toLoadRect
    ((Memref.whole cc0_scratch3).view.write (Elt F) s3 (run.sl.dma0_4 c f1) Finset.univ) := rfl

theorem v1443_at (i : Fin 128) : run.sl.v1443 c f1 s3 (ix2 0 i) = f1 (ix2 1 ⟨256 + i, by omega⟩) := by
  rw [v1443_eq, readAt_landed, show run.sl.dma0_4 c f1 = f1 from rfl]
  pointwise

theorem v1571_eq : run.sl.v1571 c f3 s4 = (Memref.whole cc0_scratch4).view.readAt (Elt F)
    (Rect.unit ![1, 0, 384] S1x8x128.size (by decide) : Rect S2x8x768).toLoadRect
    ((Memref.whole cc0_scratch4).view.write (Elt F) s4 (run.sl.dma0_5 c f3) Finset.univ) := rfl

theorem v1571_at (k : Fin 8) (i : Fin 128) : run.sl.v1571 c f3 s4 (ix3 0 k i) = f3 (ix3 1 k ⟨384 + i, by omega⟩) := by
  rw [v1571_eq, readAt_landed, show run.sl.dma0_5 c f3 = f3 from rfl]
  pointwise

theorem v1573_eq : run.sl.v1573 c f4 s5 = (Memref.whole cc0_scratch5).view.readAt (Elt F)
    (Rect.unit ![1, 0, 384] S1x8x128.size (by decide) : Rect S2x8x768).toLoadRect
    ((Memref.whole cc0_scratch5).view.write (Elt F) s5 (run.sl.dma0_6 c f4) Finset.univ) := rfl

theorem v1573_at (k : Fin 8) (i : Fin 128) : run.sl.v1573 c f4 s5 (ix3 0 k i) = f4 (ix3 1 k ⟨384 + i, by omega⟩) := by
  rw [v1573_eq, readAt_landed, show run.sl.dma0_6 c f4 = f4 from rfl]
  pointwise

theorem v1576_eq : run.sl.v1576 c f1 s3 = (Memref.whole cc0_scratch3).view.readAt (Elt F)
    (Rect.unit ![1, 384] S1x128.size (by decide) : Rect S2x768).toLoadRect
    ((Memref.whole cc0_scratch3).view.write (Elt F) s3 (run.sl.dma0_4 c f1) Finset.univ) := rfl

theorem v1576_at (i : Fin 128) : run.sl.v1576 c f1 s3 (ix2 0 i) = f1 (ix2 1 ⟨384 + i, by omega⟩) := by
  rw [v1576_eq, readAt_landed, show run.sl.dma0_4 c f1 = f1 from rfl]
  pointwise

theorem v1704_eq : run.sl.v1704 c f3 s4 = (Memref.whole cc0_scratch4).view.readAt (Elt F)
    (Rect.unit ![1, 0, 512] S1x8x128.size (by decide) : Rect S2x8x768).toLoadRect
    ((Memref.whole cc0_scratch4).view.write (Elt F) s4 (run.sl.dma0_5 c f3) Finset.univ) := rfl

theorem v1704_at (k : Fin 8) (i : Fin 128) : run.sl.v1704 c f3 s4 (ix3 0 k i) = f3 (ix3 1 k ⟨512 + i, by omega⟩) := by
  rw [v1704_eq, readAt_landed, show run.sl.dma0_5 c f3 = f3 from rfl]
  pointwise

theorem v1706_eq : run.sl.v1706 c f4 s5 = (Memref.whole cc0_scratch5).view.readAt (Elt F)
    (Rect.unit ![1, 0, 512] S1x8x128.size (by decide) : Rect S2x8x768).toLoadRect
    ((Memref.whole cc0_scratch5).view.write (Elt F) s5 (run.sl.dma0_6 c f4) Finset.univ) := rfl

theorem v1706_at (k : Fin 8) (i : Fin 128) : run.sl.v1706 c f4 s5 (ix3 0 k i) = f4 (ix3 1 k ⟨512 + i, by omega⟩) := by
  rw [v1706_eq, readAt_landed, show run.sl.dma0_6 c f4 = f4 from rfl]
  pointwise

theorem v1709_eq : run.sl.v1709 c f1 s3 = (Memref.whole cc0_scratch3).view.readAt (Elt F)
    (Rect.unit ![1, 512] S1x128.size (by decide) : Rect S2x768).toLoadRect
    ((Memref.whole cc0_scratch3).view.write (Elt F) s3 (run.sl.dma0_4 c f1) Finset.univ) := rfl

theorem v1709_at (i : Fin 128) : run.sl.v1709 c f1 s3 (ix2 0 i) = f1 (ix2 1 ⟨512 + i, by omega⟩) := by
  rw [v1709_eq, readAt_landed, show run.sl.dma0_4 c f1 = f1 from rfl]
  pointwise

theorem v1837_eq : run.sl.v1837 c f3 s4 = (Memref.whole cc0_scratch4).view.readAt (Elt F)
    (Rect.unit ![1, 0, 640] S1x8x128.size (by decide) : Rect S2x8x768).toLoadRect
    ((Memref.whole cc0_scratch4).view.write (Elt F) s4 (run.sl.dma0_5 c f3) Finset.univ) := rfl

theorem v1837_at (k : Fin 8) (i : Fin 128) : run.sl.v1837 c f3 s4 (ix3 0 k i) = f3 (ix3 1 k ⟨640 + i, by omega⟩) := by
  rw [v1837_eq, readAt_landed, show run.sl.dma0_5 c f3 = f3 from rfl]
  pointwise

theorem v1839_eq : run.sl.v1839 c f4 s5 = (Memref.whole cc0_scratch5).view.readAt (Elt F)
    (Rect.unit ![1, 0, 640] S1x8x128.size (by decide) : Rect S2x8x768).toLoadRect
    ((Memref.whole cc0_scratch5).view.write (Elt F) s5 (run.sl.dma0_6 c f4) Finset.univ) := rfl

theorem v1839_at (k : Fin 8) (i : Fin 128) : run.sl.v1839 c f4 s5 (ix3 0 k i) = f4 (ix3 1 k ⟨640 + i, by omega⟩) := by
  rw [v1839_eq, readAt_landed, show run.sl.dma0_6 c f4 = f4 from rfl]
  pointwise

theorem v1842_eq : run.sl.v1842 c f1 s3 = (Memref.whole cc0_scratch3).view.readAt (Elt F)
    (Rect.unit ![1, 640] S1x128.size (by decide) : Rect S2x768).toLoadRect
    ((Memref.whole cc0_scratch3).view.write (Elt F) s3 (run.sl.dma0_4 c f1) Finset.univ) := rfl

theorem v1842_at (i : Fin 128) : run.sl.v1842 c f1 s3 (ix2 0 i) = f1 (ix2 1 ⟨640 + i, by omega⟩) := by
  rw [v1842_eq, readAt_landed, show run.sl.dma0_4 c f1 = f1 from rfl]
  pointwise

end Cert.KernelIdeal.Hand
-- ==== Proof.KernelIdeal.Gates.lean ====
module

public import proofs.«01_k».proof.Proof.KernelIdeal.Reads
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (c : Dev nD) (f0 : Vec F S1536x7168 .fp8e4m3) (f2 : Vec F S7168x256 .bf16)

/-- The gate matrix with its two axes exchanged. -/
def WT (f2 : Vec F S7168x256 .bf16) : Vec F S256x7168 .bf16 := fun i => f2 (ix2 (i 1) (i 0))

theorem wt1_ok (x : (Rect.unit ![0, 0] S256x512.size (by decide) : Rect S256x7168).shape.Idx) :
    k0_pay2 (run.sl.v108 c f2) x = WT f2 ((Rect.unit ![0, 0] S256x512.size (by decide) : Rect S256x7168).emb x) := by
  change S256x512.Idx at x
  idx_vars x
  refine Eq.trans ?_ (congrArg (WT f2) (emb_ix2 (by decide) x0 x1)).symm
  pointwise [k0_pay2, WT]
  rw [v108_at]
  pointwise

theorem Hs2_1_eq : run.sl.Hs2_1 c f2 = ⟨(Rect.unit ![0, 0] S256x512.size (by decide) : Rect S256x7168), k0_pay2 (run.sl.v108 c f2)⟩ :: [] := rfl

theorem Hs2_1_ok : ∀ p ∈ run.sl.Hs2_1 c f2, ∀ x : p.1.shape.Idx, p.2 x = WT f2 (p.1.emb x) := by
  rw [Hs2_1_eq]
  exact pieces_cons (wt1_ok c f2) (fun p hp => absurd hp List.not_mem_nil)

theorem wt2_ok (x : (Rect.unit ![0, 512] S256x512.size (by decide) : Rect S256x7168).shape.Idx) :
    k0_pay4 (run.sl.v127 c f2) x = WT f2 ((Rect.unit ![0, 512] S256x512.size (by decide) : Rect S256x7168).emb x) := by
  change S256x512.Idx at x
  idx_vars x
  refine Eq.trans ?_ (congrArg (WT f2) (emb_ix2 (by decide) x0 x1)).symm
  pointwise [k0_pay4, WT]
  rw [v127_at]
  pointwise

theorem Hs2_2_eq : run.sl.Hs2_2 c f2 = ⟨(Rect.unit ![0, 512] S256x512.size (by decide) : Rect S256x7168), k0_pay4 (run.sl.v127 c f2)⟩ :: run.sl.Hs2_1 c f2 := rfl

theorem Hs2_2_ok : ∀ p ∈ run.sl.Hs2_2 c f2, ∀ x : p.1.shape.Idx, p.2 x = WT f2 (p.1.emb x) := by
  rw [Hs2_2_eq]
  exact pieces_cons (wt2_ok c f2) (Hs2_1_ok c f2)

theorem wt3_ok (x : (Rect.unit ![0, 1024] S256x1024.size (by decide) : Rect S256x7168).shape.Idx) :
    k0_pay7 (run.sl.v148 c f2) x = WT f2 ((Rect.unit ![0, 1024] S256x1024.size (by decide) : Rect S256x7168).emb x) := by
  change S256x1024.Idx at x
  idx_vars x
  refine Eq.trans ?_ (congrArg (WT f2) (emb_ix2 (by decide) x0 x1)).symm
  pointwise [k0_pay7, WT]
  rw [v148_at]
  pointwise

theorem Hs2_3_eq : run.sl.Hs2_3 c f2 = ⟨(Rect.unit ![0, 1024] S256x1024.size (by decide) : Rect S256x7168), k0_pay7 (run.sl.v148 c f2)⟩ :: run.sl.Hs2_2 c f2 := rfl

theorem Hs2_3_ok : ∀ p ∈ run.sl.Hs2_3 c f2, ∀ x : p.1.shape.Idx, p.2 x = WT f2 (p.1.emb x) := by
  rw [Hs2_3_eq]
  exact pieces_cons (wt3_ok c f2) (Hs2_2_ok c f2)

theorem wt4_ok (x : (Rect.unit ![0, 2048] S256x1024.size (by decide) : Rect S256x7168).shape.Idx) :
    k0_pay9 (run.sl.v169 c f2) x = WT f2 ((Rect.unit ![0, 2048] S256x1024.size (by decide) : Rect S256x7168).emb x) := by
  change S256x1024.Idx at x
  idx_vars x
  refine Eq.trans ?_ (congrArg (WT f2) (emb_ix2 (by decide) x0 x1)).symm
  pointwise [k0_pay9, WT]
  rw [v169_at]
  pointwise

theorem Hs2_4_eq : run.sl.Hs2_4 c f2 = ⟨(Rect.unit ![0, 2048] S256x1024.size (by decide) : Rect S256x7168), k0_pay9 (run.sl.v169 c f2)⟩ :: run.sl.Hs2_3 c f2 := rfl

theorem Hs2_4_ok : ∀ p ∈ run.sl.Hs2_4 c f2, ∀ x : p.1.shape.Idx, p.2 x = WT f2 (p.1.emb x) := by
  rw [Hs2_4_eq]
  exact pieces_cons (wt4_ok c f2) (Hs2_3_ok c f2)

theorem wt5_ok (x : (Rect.unit ![0, 3072] S256x1024.size (by decide) : Rect S256x7168).shape.Idx) :
    k0_pay12 (k0_pay11 (run.sl.v190 c f2)) x = WT f2 ((Rect.unit ![0, 3072] S256x1024.size (by decide) : Rect S256x7168).emb x) := by
  change S256x1024.Idx at x
  idx_vars x
  refine Eq.trans ?_ (congrArg (WT f2) (emb_ix2 (by decide) x0 x1)).symm
  pointwise [k0_pay12, k0_pay11, WT]
  rw [v190_at]
  pointwise

theorem Hs2_5_eq : run.sl.Hs2_5 c f2 = ⟨(Rect.unit ![0, 3072] S256x1024.size (by decide) : Rect S256x7168), k0_pay12 (k0_pay11 (run.sl.v190 c f2))⟩ :: run.sl.Hs2_4 c f2 := rfl

theorem Hs2_5_ok : ∀ p ∈ run.sl.Hs2_5 c f2, ∀ x : p.1.shape.Idx, p.2 x = WT f2 (p.1.emb x) := by
  rw [Hs2_5_eq]
  exact pieces_cons (wt5_ok c f2) (Hs2_4_ok c f2)

theorem wt6_ok (x : (Rect.unit ![0, 4096] S256x1024.size (by decide) : Rect S256x7168).shape.Idx) :
    k0_pay14 (run.sl.v211 c f2) x = WT f2 ((Rect.unit ![0, 4096] S256x1024.size (by decide) : Rect S256x7168).emb x) := by
  change S256x1024.Idx at x
  idx_vars x
  refine Eq.trans ?_ (congrArg (WT f2) (emb_ix2 (by decide) x0 x1)).symm
  pointwise [k0_pay14, WT]
  rw [v211_at]
  pointwise

theorem Hs2_6_eq : run.sl.Hs2_6 c f2 = ⟨(Rect.unit ![0, 4096] S256x1024.size (by decide) : Rect S256x7168), k0_pay14 (run.sl.v211 c f2)⟩ :: run.sl.Hs2_5 c f2 := rfl

theorem Hs2_6_ok : ∀ p ∈ run.sl.Hs2_6 c f2, ∀ x : p.1.shape.Idx, p.2 x = WT f2 (p.1.emb x) := by
  rw [Hs2_6_eq]
  exact pieces_cons (wt6_ok c f2) (Hs2_5_ok c f2)

theorem wt7_ok (x : (Rect.unit ![0, 5120] S256x1024.size (by decide) : Rect S256x7168).shape.Idx) :
    k0_pay16 (run.sl.v232 c f2) x = WT f2 ((Rect.unit ![0, 5120] S256x1024.size (by decide) : Rect S256x7168).emb x) := by
  change S256x1024.Idx at x
  idx_vars x
  refine Eq.trans ?_ (congrArg (WT f2) (emb_ix2 (by decide) x0 x1)).symm
  pointwise [k0_pay16, WT]
  rw [v232_at]
  pointwise

theorem Hs2_7_eq : run.sl.Hs2_7 c f2 = ⟨(Rect.unit ![0, 5120] S256x1024.size (by decide) : Rect S256x7168), k0_pay16 (run.sl.v232 c f2)⟩ :: run.sl.Hs2_6 c f2 := rfl

theorem Hs2_7_ok : ∀ p ∈ run.sl.Hs2_7 c f2, ∀ x : p.1.shape.Idx, p.2 x = WT f2 (p.1.emb x) := by
  rw [Hs2_7_eq]
  exact pieces_cons (wt7_ok c f2) (Hs2_6_ok c f2)

theorem wt8_ok (x : (Rect.unit ![0, 6144] S256x1024.size (by decide) : Rect S256x7168).shape.Idx) :
    k0_pay19 (run.sl.v253 c f2) x = WT f2 ((Rect.unit ![0, 6144] S256x1024.size (by decide) : Rect S256x7168).emb x) := by
  change S256x1024.Idx at x
  idx_vars x
  refine Eq.trans ?_ (congrArg (WT f2) (emb_ix2 (by decide) x0 x1)).symm
  pointwise [k0_pay19, WT]
  rw [v253_at]
  pointwise

theorem Hs2_8_eq : run.sl.Hs2_8 c f2 = ⟨(Rect.unit ![0, 6144] S256x1024.size (by decide) : Rect S256x7168), k0_pay19 (run.sl.v253 c f2)⟩ :: run.sl.Hs2_7 c f2 := rfl

theorem Hs2_8_ok : ∀ p ∈ run.sl.Hs2_8 c f2, ∀ x : p.1.shape.Idx, p.2 x = WT f2 (p.1.emb x) := by
  rw [Hs2_8_eq]
  exact pieces_cons (wt8_ok c f2) (Hs2_7_ok c f2)

/-- The rectangles written are all of the transposed gate matrix. -/
theorem Hs2_8_cover (y : S256x7168.Idx) : ∃ p ∈ run.sl.Hs2_8 c f2, y ∈ p.1.set := by
  idx_vars y
  refine (show ∃ p ∈ ([⟨Rect.unit ![0, 6144] S256x1024.size (by decide), k0_pay19 (run.sl.v253 c f2)⟩,
    ⟨Rect.unit ![0, 5120] S256x1024.size (by decide), k0_pay16 (run.sl.v232 c f2)⟩,
    ⟨Rect.unit ![0, 4096] S256x1024.size (by decide), k0_pay14 (run.sl.v211 c f2)⟩,
    ⟨Rect.unit ![0, 3072] S256x1024.size (by decide), k0_pay12 (k0_pay11 (run.sl.v190 c f2))⟩,
    ⟨Rect.unit ![0, 2048] S256x1024.size (by decide), k0_pay9 (run.sl.v169 c f2)⟩,
    ⟨Rect.unit ![0, 1024] S256x1024.size (by decide), k0_pay7 (run.sl.v148 c f2)⟩,
    ⟨Rect.unit ![0, 512] S256x512.size (by decide), k0_pay4 (run.sl.v127 c f2)⟩,
    ⟨Rect.unit ![0, 0] S256x512.size (by decide), k0_pay2 (run.sl.v108 c f2)⟩] : List (View.Piece (Elt F) S256x7168 .bf16)), (ix2 y0 y1 : S256x7168.Idx) ∈ p.1.set from ?_)
  simp only [List.exists_mem_cons_iff, Rect.mem_set_unit, Fin.forall_fin_two, List.not_mem_nil, false_and, exists_false, or_false]
  simp only [ix2_0, ix2_1, Matrix.cons_val_zero, Matrix.cons_val_one, Shape.size]
  omega

theorem v117_at (e : Fin 256) (k : Fin 512) : run.sl.v117 c f2 (ix2 e k) = f2 (ix2 ⟨0 + k, by omega⟩ e) := by
  have h : run.sl.v117 c f2 = k0_pay2 (run.sl.v108 c f2) := by
    refine (show run.sl.v117 c f2 = (Memref.whole cc0_scratch2).view.readCov (run.sl.Hs2_1 c f2)
      (Rect.unit ![0, 0] S256x512.size (by decide) : Rect S256x7168).toLoadRect from rfl).trans ?_
    rw [Hs2_1_eq]
    exact View.readCov_cons_toLoadRect _ _ _ _
  rw [h]
  pointwise [k0_pay2]
  rw [v108_at]
  pointwise

theorem v136_at (e : Fin 256) (k : Fin 512) : run.sl.v136 c f2 (ix2 e k) = f2 (ix2 ⟨512 + k, by omega⟩ e) := by
  have h : run.sl.v136 c f2 = k0_pay4 (run.sl.v127 c f2) := by
    refine (show run.sl.v136 c f2 = (Memref.whole cc0_scratch2).view.readCov (run.sl.Hs2_2 c f2)
      (Rect.unit ![0, 512] S256x512.size (by decide) : Rect S256x7168).toLoadRect from rfl).trans ?_
    rw [Hs2_2_eq]
    exact View.readCov_cons_toLoadRect _ _ _ _
  rw [h]
  pointwise [k0_pay4]
  rw [v127_at]
  pointwise

theorem v157_at (e : Fin 256) (k : Fin 1024) : run.sl.v157 c f2 (ix2 e k) = f2 (ix2 ⟨1024 + k, by omega⟩ e) := by
  have h : run.sl.v157 c f2 = k0_pay7 (run.sl.v148 c f2) := by
    refine (show run.sl.v157 c f2 = (Memref.whole cc0_scratch2).view.readCov (run.sl.Hs2_3 c f2)
      (Rect.unit ![0, 1024] S256x1024.size (by decide) : Rect S256x7168).toLoadRect from rfl).trans ?_
    rw [Hs2_3_eq]
    exact View.readCov_cons_toLoadRect _ _ _ _
  rw [h]
  pointwise [k0_pay7]
  rw [v148_at]
  pointwise

theorem v178_at (e : Fin 256) (k : Fin 1024) : run.sl.v178 c f2 (ix2 e k) = f2 (ix2 ⟨2048 + k, by omega⟩ e) := by
  have h : run.sl.v178 c f2 = k0_pay9 (run.sl.v169 c f2) := by
    refine (show run.sl.v178 c f2 = (Memref.whole cc0_scratch2).view.readCov (run.sl.Hs2_4 c f2)
      (Rect.unit ![0, 2048] S256x1024.size (by decide) : Rect S256x7168).toLoadRect from rfl).trans ?_
    rw [Hs2_4_eq]
    exact View.readCov_cons_toLoadRect _ _ _ _
  rw [h]
  pointwise [k0_pay9]
  rw [v169_at]
  pointwise

theorem v199_at (e : Fin 256) (k : Fin 1024) : run.sl.v199 c f2 (ix2 e k) = f2 (ix2 ⟨3072 + k, by omega⟩ e) := by
  have h : run.sl.v199 c f2 = k0_pay12 (k0_pay11 (run.sl.v190 c f2)) := by
    refine (show run.sl.v199 c f2 = (Memref.whole cc0_scratch2).view.readCov (run.sl.Hs2_5 c f2)
      (Rect.unit ![0, 3072] S256x1024.size (by decide) : Rect S256x7168).toLoadRect from rfl).trans ?_
    rw [Hs2_5_eq]
    exact View.readCov_cons_toLoadRect _ _ _ _
  rw [h]
  pointwise [k0_pay12, k0_pay11]
  rw [v190_at]
  pointwise

theorem v220_at (e : Fin 256) (k : Fin 1024) : run.sl.v220 c f2 (ix2 e k) = f2 (ix2 ⟨4096 + k, by omega⟩ e) := by
  have h : run.sl.v220 c f2 = k0_pay14 (run.sl.v211 c f2) := by
    refine (show run.sl.v220 c f2 = (Memref.whole cc0_scratch2).view.readCov (run.sl.Hs2_6 c f2)
      (Rect.unit ![0, 4096] S256x1024.size (by decide) : Rect S256x7168).toLoadRect from rfl).trans ?_
    rw [Hs2_6_eq]
    exact View.readCov_cons_toLoadRect _ _ _ _
  rw [h]
  pointwise [k0_pay14]
  rw [v211_at]
  pointwise

theorem v241_at (e : Fin 256) (k : Fin 1024) : run.sl.v241 c f2 (ix2 e k) = f2 (ix2 ⟨5120 + k, by omega⟩ e) := by
  have h : run.sl.v241 c f2 = k0_pay16 (run.sl.v232 c f2) := by
    refine (show run.sl.v241 c f2 = (Memref.whole cc0_scratch2).view.readCov (run.sl.Hs2_7 c f2)
      (Rect.unit ![0, 5120] S256x1024.size (by decide) : Rect S256x7168).toLoadRect from rfl).trans ?_
    rw [Hs2_7_eq]
    exact View.readCov_cons_toLoadRect _ _ _ _
  rw [h]
  pointwise [k0_pay16]
  rw [v232_at]
  pointwise

theorem v262_eq : run.sl.v262 c f2 = (Memref.whole cc0_scratch2).view.readCov (run.sl.Hs2_8 c f2)
    (Rect.unit ![0, 6144] S256x1024.size (by decide) : Rect S256x7168).toLoadRect := rfl

theorem v262_at (e : Fin 256) (k : Fin 1024) : run.sl.v262 c f2 (ix2 e k) = f2 (ix2 ⟨6144 + k, by omega⟩ e) := by
  rw [v262_eq, readCov_of_pieces _ (WT f2) _ _ (Hs2_8_ok c f2) (Hs2_8_cover c f2)]
  pointwise [WT]

theorem v1344_eq : run.sl.v1344 c f2 = (Memref.whole cc0_scratch2).view.readCov (run.sl.Hs2_8 c f2)
    (Rect.unit ![0, 0] S256x512.size (by decide) : Rect S256x7168).toLoadRect := rfl

theorem v1344_at (e : Fin 256) (k : Fin 512) : run.sl.v1344 c f2 (ix2 e k) = f2 (ix2 ⟨0 + k, by omega⟩ e) := by
  rw [v1344_eq, readCov_of_pieces _ (WT f2) _ _ (Hs2_8_ok c f2) (Hs2_8_cover c f2)]
  pointwise [WT]

theorem v1354_eq : run.sl.v1354 c f2 = (Memref.whole cc0_scratch2).view.readCov (run.sl.Hs2_8 c f2)
    (Rect.unit ![0, 512] S256x512.size (by decide) : Rect S256x7168).toLoadRect := rfl

theorem v1354_at (e : Fin 256) (k : Fin 512) : run.sl.v1354 c f2 (ix2 e k) = f2 (ix2 ⟨512 + k, by omega⟩ e) := by
  rw [v1354_eq, readCov_of_pieces _ (WT f2) _ _ (Hs2_8_ok c f2) (Hs2_8_cover c f2)]
  pointwise [WT]

theorem v1366_eq : run.sl.v1366 c f2 = (Memref.whole cc0_scratch2).view.readCov (run.sl.Hs2_8 c f2)
    (Rect.unit ![0, 1024] S256x1024.size (by decide) : Rect S256x7168).toLoadRect := rfl

theorem v1366_at (e : Fin 256) (k : Fin 1024) : run.sl.v1366 c f2 (ix2 e k) = f2 (ix2 ⟨1024 + k, by omega⟩ e) := by
  rw [v1366_eq, readCov_of_pieces _ (WT f2) _ _ (Hs2_8_ok c f2) (Hs2_8_cover c f2)]
  pointwise [WT]

theorem v1378_eq : run.sl.v1378 c f2 = (Memref.whole cc0_scratch2).view.readCov (run.sl.Hs2_8 c f2)
    (Rect.unit ![0, 2048] S256x1024.size (by decide) : Rect S256x7168).toLoadRect := rfl

theorem v1378_at (e : Fin 256) (k : Fin 1024) : run.sl.v1378 c f2 (ix2 e k) = f2 (ix2 ⟨2048 + k, by omega⟩ e) := by
  rw [v1378_eq, readCov_of_pieces _ (WT f2) _ _ (Hs2_8_ok c f2) (Hs2_8_cover c f2)]
  pointwise [WT]

theorem v1390_eq : run.sl.v1390 c f2 = (Memref.whole cc0_scratch2).view.readCov (run.sl.Hs2_8 c f2)
    (Rect.unit ![0, 3072] S256x1024.size (by decide) : Rect S256x7168).toLoadRect := rfl

theorem v1390_at (e : Fin 256) (k : Fin 1024) : run.sl.v1390 c f2 (ix2 e k) = f2 (ix2 ⟨3072 + k, by omega⟩ e) := by
  rw [v1390_eq, readCov_of_pieces _ (WT f2) _ _ (Hs2_8_ok c f2) (Hs2_8_cover c f2)]
  pointwise [WT]

theorem v1402_eq : run.sl.v1402 c f2 = (Memref.whole cc0_scratch2).view.readCov (run.sl.Hs2_8 c f2)
    (Rect.unit ![0, 4096] S256x1024.size (by decide) : Rect S256x7168).toLoadRect := rfl

theorem v1402_at (e : Fin 256) (k : Fin 1024) : run.sl.v1402 c f2 (ix2 e k) = f2 (ix2 ⟨4096 + k, by omega⟩ e) := by
  rw [v1402_eq, readCov_of_pieces _ (WT f2) _ _ (Hs2_8_ok c f2) (Hs2_8_cover c f2)]
  pointwise [WT]

theorem v1414_eq : run.sl.v1414 c f2 = (Memref.whole cc0_scratch2).view.readCov (run.sl.Hs2_8 c f2)
    (Rect.unit ![0, 5120] S256x1024.size (by decide) : Rect S256x7168).toLoadRect := rfl

theorem v1414_at (e : Fin 256) (k : Fin 1024) : run.sl.v1414 c f2 (ix2 e k) = f2 (ix2 ⟨5120 + k, by omega⟩ e) := by
  rw [v1414_eq, readCov_of_pieces _ (WT f2) _ _ (Hs2_8_ok c f2) (Hs2_8_cover c f2)]
  pointwise [WT]

theorem v2033_eq : run.sl.v2033 c f2 = (Memref.whole cc0_scratch2).view.readCov (run.sl.Hs2_8 c f2)
    (Rect.unit ![0, 1024] S256x512.size (by decide) : Rect S256x7168).toLoadRect := rfl

theorem v2033_at (e : Fin 256) (k : Fin 512) : run.sl.v2033 c f2 (ix2 e k) = f2 (ix2 ⟨1024 + k, by omega⟩ e) := by
  rw [v2033_eq, readCov_of_pieces _ (WT f2) _ _ (Hs2_8_ok c f2) (Hs2_8_cover c f2)]
  pointwise [WT]

theorem v2067_eq : run.sl.v2067 c f2 = (Memref.whole cc0_scratch2).view.readCov (run.sl.Hs2_8 c f2)
    (Rect.unit ![0, 1536] S256x512.size (by decide) : Rect S256x7168).toLoadRect := rfl

theorem v2067_at (e : Fin 256) (k : Fin 512) : run.sl.v2067 c f2 (ix2 e k) = f2 (ix2 ⟨1536 + k, by omega⟩ e) := by
  rw [v2067_eq, readCov_of_pieces _ (WT f2) _ _ (Hs2_8_ok c f2) (Hs2_8_cover c f2)]
  pointwise [WT]

theorem v2101_eq : run.sl.v2101 c f2 = (Memref.whole cc0_scratch2).view.readCov (run.sl.Hs2_8 c f2)
    (Rect.unit ![0, 2048] S256x512.size (by decide) : Rect S256x7168).toLoadRect := rfl

theorem v2101_at (e : Fin 256) (k : Fin 512) : run.sl.v2101 c f2 (ix2 e k) = f2 (ix2 ⟨2048 + k, by omega⟩ e) := by
  rw [v2101_eq, readCov_of_pieces _ (WT f2) _ _ (Hs2_8_ok c f2) (Hs2_8_cover c f2)]
  pointwise [WT]

theorem v2135_eq : run.sl.v2135 c f2 = (Memref.whole cc0_scratch2).view.readCov (run.sl.Hs2_8 c f2)
    (Rect.unit ![0, 2560] S256x512.size (by decide) : Rect S256x7168).toLoadRect := rfl

theorem v2135_at (e : Fin 256) (k : Fin 512) : run.sl.v2135 c f2 (ix2 e k) = f2 (ix2 ⟨2560 + k, by omega⟩ e) := by
  rw [v2135_eq, readCov_of_pieces _ (WT f2) _ _ (Hs2_8_ok c f2) (Hs2_8_cover c f2)]
  pointwise [WT]

theorem v2169_eq : run.sl.v2169 c f2 = (Memref.whole cc0_scratch2).view.readCov (run.sl.Hs2_8 c f2)
    (Rect.unit ![0, 3072] S256x512.size (by decide) : Rect S256x7168).toLoadRect := rfl

theorem v2169_at (e : Fin 256) (k : Fin 512) : run.sl.v2169 c f2 (ix2 e k) = f2 (ix2 ⟨3072 + k, by omega⟩ e) := by
  rw [v2169_eq, readCov_of_pieces _ (WT f2) _ _ (Hs2_8_ok c f2) (Hs2_8_cover c f2)]
  pointwise [WT]

theorem v2203_eq : run.sl.v2203 c f2 = (Memref.whole cc0_scratch2).view.readCov (run.sl.Hs2_8 c f2)
    (Rect.unit ![0, 3584] S256x512.size (by decide) : Rect S256x7168).toLoadRect := rfl

theorem v2203_at (e : Fin 256) (k : Fin 512) : run.sl.v2203 c f2 (ix2 e k) = f2 (ix2 ⟨3584 + k, by omega⟩ e) := by
  rw [v2203_eq, readCov_of_pieces _ (WT f2) _ _ (Hs2_8_ok c f2) (Hs2_8_cover c f2)]
  pointwise [WT]

theorem v2237_eq : run.sl.v2237 c f2 = (Memref.whole cc0_scratch2).view.readCov (run.sl.Hs2_8 c f2)
    (Rect.unit ![0, 4096] S256x512.size (by decide) : Rect S256x7168).toLoadRect := rfl

theorem v2237_at (e : Fin 256) (k : Fin 512) : run.sl.v2237 c f2 (ix2 e k) = f2 (ix2 ⟨4096 + k, by omega⟩ e) := by
  rw [v2237_eq, readCov_of_pieces _ (WT f2) _ _ (Hs2_8_ok c f2) (Hs2_8_cover c f2)]
  pointwise [WT]

theorem v2271_eq : run.sl.v2271 c f2 = (Memref.whole cc0_scratch2).view.readCov (run.sl.Hs2_8 c f2)
    (Rect.unit ![0, 4608] S256x512.size (by decide) : Rect S256x7168).toLoadRect := rfl

theorem v2271_at (e : Fin 256) (k : Fin 512) : run.sl.v2271 c f2 (ix2 e k) = f2 (ix2 ⟨4608 + k, by omega⟩ e) := by
  rw [v2271_eq, readCov_of_pieces _ (WT f2) _ _ (Hs2_8_ok c f2) (Hs2_8_cover c f2)]
  pointwise [WT]

theorem v2305_eq : run.sl.v2305 c f2 = (Memref.whole cc0_scratch2).view.readCov (run.sl.Hs2_8 c f2)
    (Rect.unit ![0, 5120] S256x512.size (by decide) : Rect S256x7168).toLoadRect := rfl

theorem v2305_at (e : Fin 256) (k : Fin 512) : run.sl.v2305 c f2 (ix2 e k) = f2 (ix2 ⟨5120 + k, by omega⟩ e) := by
  rw [v2305_eq, readCov_of_pieces _ (WT f2) _ _ (Hs2_8_ok c f2) (Hs2_8_cover c f2)]
  pointwise [WT]

theorem v2339_eq : run.sl.v2339 c f2 = (Memref.whole cc0_scratch2).view.readCov (run.sl.Hs2_8 c f2)
    (Rect.unit ![0, 5632] S256x512.size (by decide) : Rect S256x7168).toLoadRect := rfl

theorem v2339_at (e : Fin 256) (k : Fin 512) : run.sl.v2339 c f2 (ix2 e k) = f2 (ix2 ⟨5632 + k, by omega⟩ e) := by
  rw [v2339_eq, readCov_of_pieces _ (WT f2) _ _ (Hs2_8_ok c f2) (Hs2_8_cover c f2)]
  pointwise [WT]

theorem v2373_eq : run.sl.v2373 c f2 = (Memref.whole cc0_scratch2).view.readCov (run.sl.Hs2_8 c f2)
    (Rect.unit ![0, 6144] S256x512.size (by decide) : Rect S256x7168).toLoadRect := rfl

theorem v2373_at (e : Fin 256) (k : Fin 512) : run.sl.v2373 c f2 (ix2 e k) = f2 (ix2 ⟨6144 + k, by omega⟩ e) := by
  rw [v2373_eq, readCov_of_pieces _ (WT f2) _ _ (Hs2_8_ok c f2) (Hs2_8_cover c f2)]
  pointwise [WT]

theorem v2407_eq : run.sl.v2407 c f2 = (Memref.whole cc0_scratch2).view.readCov (run.sl.Hs2_8 c f2)
    (Rect.unit ![0, 6656] S256x512.size (by decide) : Rect S256x7168).toLoadRect := rfl

theorem v2407_at (e : Fin 256) (k : Fin 512) : run.sl.v2407 c f2 (ix2 e k) = f2 (ix2 ⟨6656 + k, by omega⟩ e) := by
  rw [v2407_eq, readCov_of_pieces _ (WT f2) _ _ (Hs2_8_ok c f2) (Hs2_8_cover c f2)]
  pointwise [WT]

end Cert.KernelIdeal.Hand
-- ==== Proof.KernelIdeal.Logits.lean ====
module

public import proofs.«01_k».proof.Proof.KernelIdeal.Gates
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

/-- One product of the logit of expert `e` for token `n`: gate entry times token entry, zero past the last axis position. -/
def lgTerm (f0 : Vec Ideal S1536x7168 .fp8e4m3) (f2 : Vec Ideal S7168x256 .bf16) (e : Fin 256) (n : Fin 1536) (k : ℕ) : EReal :=
  if h : k < 7168 then (f2 (ix2 ⟨k, h⟩ e) : EReal) * (f0 (ix2 n ⟨k, h⟩) : EReal) else 0

/-- The first `D` products of the logit of expert `e` for token `n`, added up. -/
def lgSum (f0 : Vec Ideal S1536x7168 .fp8e4m3) (f2 : Vec Ideal S7168x256 .bf16) (e : Fin 256) (n : Fin 1536) (D : ℕ) : EReal :=
  ∑ k ∈ Finset.range D, lgTerm f0 f2 e n k

/-- A block of `m` products adds to the first `D`. -/
theorem lgSum_step (f0 : Vec Ideal S1536x7168 .fp8e4m3) (f2 : Vec Ideal S7168x256 .bf16) (e : Fin 256) (n : Fin 1536) (D m : ℕ)
    (h : D + m ≤ 7168) (w x : Fin m → EReal) (hw : ∀ k : Fin m, w k = f2 (ix2 ⟨D + k, by omega⟩ e))
    (hx : ∀ k : Fin m, x k = f0 (ix2 n ⟨D + k, by omega⟩)) :
    lgSum f0 f2 e n D + ∑ k, w k * x k = lgSum f0 f2 e n (D + m) := by
  unfold lgSum
  rw [Finset.sum_range_add]
  congr 1
  rw [Finset.sum_range]
  refine Finset.sum_congr rfl fun k _ => ?_
  rw [hw, hx, lgTerm, dif_pos (by omega)]

/-- All the products: the logit as a sum over the model dimension. -/
theorem lgSum_all (f0 : Vec Ideal S1536x7168 .fp8e4m3) (f2 : Vec Ideal S7168x256 .bf16) (e : Fin 256) (n : Fin 1536) :
    lgSum f0 f2 e n 7168 = ∑ k : Fin 7168, (f2 (ix2 k e) : EReal) * (f0 (ix2 n k) : EReal) := by
  unfold lgSum
  rw [Finset.sum_range]
  refine Finset.sum_congr rfl fun k _ => ?_
  rw [lgTerm, dif_pos k.isLt]

variable (c : Dev nD) (f0 : Vec Ideal S1536x7168 .fp8e4m3) (f2 : Vec Ideal S7168x256 .bf16)

theorem lg1_at (e : Fin 256) (i : Fin 1024) : k0_pay3 (run.sl.v117 c f2) (run.sl.v118 c f0) (ix2 e i) = lgSum f0 f2 e ⟨0 + i, by omega⟩ 512 := by
  refine Eq.trans ?_ (lgSum_step f0 f2 e ⟨0 + i, by omega⟩ 0 512 (by omega) _ _ (v117_at c f2 e) (v118_at c f0 i))
  rw [show lgSum f0 f2 e ⟨0 + i, by omega⟩ 0 = 0 from rfl, zero_add]
  pointwise [k0_pay3]

theorem Hs6_1_eq : run.sl.Hs6_1 (F := Ideal) c f0 f2 = ⟨(Rect.unit ![0, 0] S256x1024.size (by decide) : Rect S256x1536), k0_pay3 (run.sl.v117 c f2) (run.sl.v118 c f0)⟩ :: [] := rfl

theorem v139_at (e : Fin 256) (i : Fin 1024) : (run.sl.v139 c f0 f2) (ix2 e i) = lgSum f0 f2 e ⟨0 + i, by omega⟩ 512 := by
  refine (congrFun (?_ : (run.sl.v139 c f0 f2) = k0_pay3 (run.sl.v117 c f2) (run.sl.v118 c f0)) (ix2 e i)).trans (lg1_at c f0 f2 e i)
  refine (show (run.sl.v139 c f0 f2) = (Memref.whole cc0_scratch6).view.readCov (run.sl.Hs6_1 c f0 f2)
    (Rect.unit ![0, 0] S256x1024.size (by decide) : Rect S256x1536).toLoadRect from rfl).trans ?_
  rw [Hs6_1_eq]
  exact View.readCov_cons_toLoadRect _ _ _ _

theorem lg2_at (e : Fin 256) (i : Fin 1024) : k0_pay6 (k0_pay5 (run.sl.v136 c f2) (run.sl.v137 c f0) (run.sl.v139 c f0 f2)) (ix2 e i) = lgSum f0 f2 e ⟨0 + i, by omega⟩ 1024 := by
  refine Eq.trans ?_ (lgSum_step f0 f2 e ⟨0 + i, by omega⟩ 512 512 (by omega) _ _ (v136_at c f2 e) (v137_at c f0 i))
  rw [← v139_at c f0 f2 e i]
  pointwise [k0_pay6, k0_pay5]

theorem Hs6_2_eq : run.sl.Hs6_2 (F := Ideal) c f0 f2 = ⟨(Rect.unit ![0, 0] S256x1024.size (by decide) : Rect S256x1536), k0_pay6 (k0_pay5 (run.sl.v136 c f2) (run.sl.v137 c f0) (run.sl.v139 c f0 f2))⟩ :: run.sl.Hs6_1 c f0 f2 := rfl

theorem v160_at (e : Fin 256) (i : Fin 1024) : (run.sl.v160 c f0 f2) (ix2 e i) = lgSum f0 f2 e ⟨0 + i, by omega⟩ 1024 := by
  refine (congrFun (?_ : (run.sl.v160 c f0 f2) = k0_pay6 (k0_pay5 (run.sl.v136 c f2) (run.sl.v137 c f0) (run.sl.v139 c f0 f2))) (ix2 e i)).trans (lg2_at c f0 f2 e i)
  refine (show (run.sl.v160 c f0 f2) = (Memref.whole cc0_scratch6).view.readCov (run.sl.Hs6_2 c f0 f2)
    (Rect.unit ![0, 0] S256x1024.size (by decide) : Rect S256x1536).toLoadRect from rfl).trans ?_
  rw [Hs6_2_eq]
  exact View.readCov_cons_toLoadRect _ _ _ _

theorem lg3_at (e : Fin 256) (i : Fin 1024) : k0_pay8 (run.sl.v157 c f2) (run.sl.v158 c f0) (run.sl.v160 c f0 f2) (ix2 e i) = lgSum f0 f2 e ⟨0 + i, by omega⟩ 2048 := by
  refine Eq.trans ?_ (lgSum_step f0 f2 e ⟨0 + i, by omega⟩ 1024 1024 (by omega) _ _ (v157_at c f2 e) (v158_at c f0 i))
  rw [← v160_at c f0 f2 e i]
  pointwise [k0_pay8]

theorem Hs6_3_eq : run.sl.Hs6_3 (F := Ideal) c f0 f2 = ⟨(Rect.unit ![0, 0] S256x1024.size (by decide) : Rect S256x1536), k0_pay8 (run.sl.v157 c f2) (run.sl.v158 c f0) (run.sl.v160 c f0 f2)⟩ :: run.sl.Hs6_2 c f0 f2 := rfl

theorem v181_at (e : Fin 256) (i : Fin 1024) : (run.sl.v181 c f0 f2) (ix2 e i) = lgSum f0 f2 e ⟨0 + i, by omega⟩ 2048 := by
  refine (congrFun (?_ : (run.sl.v181 c f0 f2) = k0_pay8 (run.sl.v157 c f2) (run.sl.v158 c f0) (run.sl.v160 c f0 f2)) (ix2 e i)).trans (lg3_at c f0 f2 e i)
  refine (show (run.sl.v181 c f0 f2) = (Memref.whole cc0_scratch6).view.readCov (run.sl.Hs6_3 c f0 f2)
    (Rect.unit ![0, 0] S256x1024.size (by decide) : Rect S256x1536).toLoadRect from rfl).trans ?_
  rw [Hs6_3_eq]
  exact View.readCov_cons_toLoadRect _ _ _ _

theorem lg4_at (e : Fin 256) (i : Fin 1024) : k0_pay10 (run.sl.v178 c f2) (run.sl.v179 c f0) (run.sl.v181 c f0 f2) (ix2 e i) = lgSum f0 f2 e ⟨0 + i, by omega⟩ 3072 := by
  refine Eq.trans ?_ (lgSum_step f0 f2 e ⟨0 + i, by omega⟩ 2048 1024 (by omega) _ _ (v178_at c f2 e) (v179_at c f0 i))
  rw [← v181_at c f0 f2 e i]
  pointwise [k0_pay10]

theorem Hs6_4_eq : run.sl.Hs6_4 (F := Ideal) c f0 f2 = ⟨(Rect.unit ![0, 0] S256x1024.size (by decide) : Rect S256x1536), k0_pay10 (run.sl.v178 c f2) (run.sl.v179 c f0) (run.sl.v181 c f0 f2)⟩ :: run.sl.Hs6_3 c f0 f2 := rfl

theorem v202_at (e : Fin 256) (i : Fin 1024) : (run.sl.v202 c f0 f2) (ix2 e i) = lgSum f0 f2 e ⟨0 + i, by omega⟩ 3072 := by
  refine (congrFun (?_ : (run.sl.v202 c f0 f2) = k0_pay10 (run.sl.v178 c f2) (run.sl.v179 c f0) (run.sl.v181 c f0 f2)) (ix2 e i)).trans (lg4_at c f0 f2 e i)
  refine (show (run.sl.v202 c f0 f2) = (Memref.whole cc0_scratch6).view.readCov (run.sl.Hs6_4 c f0 f2)
    (Rect.unit ![0, 0] S256x1024.size (by decide) : Rect S256x1536).toLoadRect from rfl).trans ?_
  rw [Hs6_4_eq]
  exact View.readCov_cons_toLoadRect _ _ _ _

theorem lg5_at (e : Fin 256) (i : Fin 1024) : k0_pay13 (run.sl.v199 c f2) (run.sl.v200 c f0) (run.sl.v202 c f0 f2) (ix2 e i) = lgSum f0 f2 e ⟨0 + i, by omega⟩ 4096 := by
  refine Eq.trans ?_ (lgSum_step f0 f2 e ⟨0 + i, by omega⟩ 3072 1024 (by omega) _ _ (v199_at c f2 e) (v200_at c f0 i))
  rw [← v202_at c f0 f2 e i]
  pointwise [k0_pay13]

theorem Hs6_5_eq : run.sl.Hs6_5 (F := Ideal) c f0 f2 = ⟨(Rect.unit ![0, 0] S256x1024.size (by decide) : Rect S256x1536), k0_pay13 (run.sl.v199 c f2) (run.sl.v200 c f0) (run.sl.v202 c f0 f2)⟩ :: run.sl.Hs6_4 c f0 f2 := rfl

theorem v223_at (e : Fin 256) (i : Fin 1024) : (run.sl.v223 c f0 f2) (ix2 e i) = lgSum f0 f2 e ⟨0 + i, by omega⟩ 4096 := by
  refine (congrFun (?_ : (run.sl.v223 c f0 f2) = k0_pay13 (run.sl.v199 c f2) (run.sl.v200 c f0) (run.sl.v202 c f0 f2)) (ix2 e i)).trans (lg5_at c f0 f2 e i)
  refine (show (run.sl.v223 c f0 f2) = (Memref.whole cc0_scratch6).view.readCov (run.sl.Hs6_5 c f0 f2)
    (Rect.unit ![0, 0] S256x1024.size (by decide) : Rect S256x1536).toLoadRect from rfl).trans ?_
  rw [Hs6_5_eq]
  exact View.readCov_cons_toLoadRect _ _ _ _

theorem lg6_at (e : Fin 256) (i : Fin 1024) : k0_pay15 (run.sl.v220 c f2) (run.sl.v221 c f0) (run.sl.v223 c f0 f2) (ix2 e i) = lgSum f0 f2 e ⟨0 + i, by omega⟩ 5120 := by
  refine Eq.trans ?_ (lgSum_step f0 f2 e ⟨0 + i, by omega⟩ 4096 1024 (by omega) _ _ (v220_at c f2 e) (v221_at c f0 i))
  rw [← v223_at c f0 f2 e i]
  pointwise [k0_pay15]

theorem Hs6_6_eq : run.sl.Hs6_6 (F := Ideal) c f0 f2 = ⟨(Rect.unit ![0, 0] S256x1024.size (by decide) : Rect S256x1536), k0_pay15 (run.sl.v220 c f2) (run.sl.v221 c f0) (run.sl.v223 c f0 f2)⟩ :: run.sl.Hs6_5 c f0 f2 := rfl

theorem v244_at (e : Fin 256) (i : Fin 1024) : (run.sl.v244 c f0 f2) (ix2 e i) = lgSum f0 f2 e ⟨0 + i, by omega⟩ 5120 := by
  refine (congrFun (?_ : (run.sl.v244 c f0 f2) = k0_pay15 (run.sl.v220 c f2) (run.sl.v221 c f0) (run.sl.v223 c f0 f2)) (ix2 e i)).trans (lg6_at c f0 f2 e i)
  refine (show (run.sl.v244 c f0 f2) = (Memref.whole cc0_scratch6).view.readCov (run.sl.Hs6_6 c f0 f2)
    (Rect.unit ![0, 0] S256x1024.size (by decide) : Rect S256x1536).toLoadRect from rfl).trans ?_
  rw [Hs6_6_eq]
  exact View.readCov_cons_toLoadRect _ _ _ _

theorem lg7_at (e : Fin 256) (i : Fin 1024) : k0_pay18 (k0_pay17 (run.sl.v241 c f2) (run.sl.v242 c f0)) (run.sl.v244 c f0 f2) (ix2 e i) = lgSum f0 f2 e ⟨0 + i, by omega⟩ 6144 := by
  refine Eq.trans ?_ (lgSum_step f0 f2 e ⟨0 + i, by omega⟩ 5120 1024 (by omega) _ _ (v241_at c f2 e) (v242_at c f0 i))
  rw [← v244_at c f0 f2 e i]
  pointwise [k0_pay18, k0_pay17]

theorem Hs6_7_eq : run.sl.Hs6_7 (F := Ideal) c f0 f2 = ⟨(Rect.unit ![0, 0] S256x1024.size (by decide) : Rect S256x1536), k0_pay18 (k0_pay17 (run.sl.v241 c f2) (run.sl.v242 c f0)) (run.sl.v244 c f0 f2)⟩ :: run.sl.Hs6_6 c f0 f2 := rfl

theorem v265_at (e : Fin 256) (i : Fin 1024) : (run.sl.v265 c f0 f2) (ix2 e i) = lgSum f0 f2 e ⟨0 + i, by omega⟩ 6144 := by
  refine (congrFun (?_ : (run.sl.v265 c f0 f2) = k0_pay18 (k0_pay17 (run.sl.v241 c f2) (run.sl.v242 c f0)) (run.sl.v244 c f0 f2)) (ix2 e i)).trans (lg7_at c f0 f2 e i)
  refine (show (run.sl.v265 c f0 f2) = (Memref.whole cc0_scratch6).view.readCov (run.sl.Hs6_7 c f0 f2)
    (Rect.unit ![0, 0] S256x1024.size (by decide) : Rect S256x1536).toLoadRect from rfl).trans ?_
  rw [Hs6_7_eq]
  exact View.readCov_cons_toLoadRect _ _ _ _

theorem lg8_at (e : Fin 256) (i : Fin 1024) : k0_pay20 (run.sl.v262 c f2) (run.sl.v263 c f0) (run.sl.v265 c f0 f2) (ix2 e i) = lgSum f0 f2 e ⟨0 + i, by omega⟩ 7168 := by
  refine Eq.trans ?_ (lgSum_step f0 f2 e ⟨0 + i, by omega⟩ 6144 1024 (by omega) _ _ (v262_at c f2 e) (v263_at c f0 i))
  rw [← v265_at c f0 f2 e i]
  pointwise [k0_pay20]

theorem Hs6_8_eq : run.sl.Hs6_8 (F := Ideal) c f0 f2 = ⟨(Rect.unit ![0, 0] S256x1024.size (by decide) : Rect S256x1536), k0_pay20 (run.sl.v262 c f2) (run.sl.v263 c f0) (run.sl.v265 c f0 f2)⟩ :: run.sl.Hs6_7 c f0 f2 := rfl

theorem lg9_at (e : Fin 256) (i : Fin 512) : k0_pay132 (run.sl.v1344 c f2) (run.sl.v1345 c f0) (ix2 e i) = lgSum f0 f2 e ⟨1024 + i, by omega⟩ 512 := by
  refine Eq.trans ?_ (lgSum_step f0 f2 e ⟨1024 + i, by omega⟩ 0 512 (by omega) _ _ (v1344_at c f2 e) (v1345_at c f0 i))
  rw [show lgSum f0 f2 e ⟨1024 + i, by omega⟩ 0 = 0 from rfl, zero_add]
  pointwise [k0_pay132]

theorem Hs6_9_eq : run.sl.Hs6_9 (F := Ideal) c f0 f2 = ⟨(Rect.unit ![0, 1024] S256x512.size (by decide) : Rect S256x1536), k0_pay132 (run.sl.v1344 c f2) (run.sl.v1345 c f0)⟩ :: run.sl.Hs6_8 c f0 f2 := rfl

theorem v1357_at (e : Fin 256) (i : Fin 512) : (run.sl.v1357 c f0 f2) (ix2 e i) = lgSum f0 f2 e ⟨1024 + i, by omega⟩ 512 := by
  refine (congrFun (?_ : (run.sl.v1357 c f0 f2) = k0_pay132 (run.sl.v1344 c f2) (run.sl.v1345 c f0)) (ix2 e i)).trans (lg9_at c f0 f2 e i)
  refine (show (run.sl.v1357 c f0 f2) = (Memref.whole cc0_scratch6).view.readCov (run.sl.Hs6_9 c f0 f2)
    (Rect.unit ![0, 1024] S256x512.size (by decide) : Rect S256x1536).toLoadRect from rfl).trans ?_
  rw [Hs6_9_eq]
  exact View.readCov_cons_toLoadRect _ _ _ _

theorem lg10_at (e : Fin 256) (i : Fin 512) : k0_pay134 (k0_pay133 (run.sl.v1354 c f2) (run.sl.v1355 c f0)) (run.sl.v1357 c f0 f2) (ix2 e i) = lgSum f0 f2 e ⟨1024 + i, by omega⟩ 1024 := by
  refine Eq.trans ?_ (lgSum_step f0 f2 e ⟨1024 + i, by omega⟩ 512 512 (by omega) _ _ (v1354_at c f2 e) (v1355_at c f0 i))
  rw [← v1357_at c f0 f2 e i]
  pointwise [k0_pay134, k0_pay133]

theorem Hs6_10_eq : run.sl.Hs6_10 (F := Ideal) c f0 f2 = ⟨(Rect.unit ![0, 1024] S256x512.size (by decide) : Rect S256x1536), k0_pay134 (k0_pay133 (run.sl.v1354 c f2) (run.sl.v1355 c f0)) (run.sl.v1357 c f0 f2)⟩ :: run.sl.Hs6_9 c f0 f2 := rfl

theorem v1369_at (e : Fin 256) (i : Fin 512) : (run.sl.v1369 c f0 f2) (ix2 e i) = lgSum f0 f2 e ⟨1024 + i, by omega⟩ 1024 := by
  refine (congrFun (?_ : (run.sl.v1369 c f0 f2) = k0_pay134 (k0_pay133 (run.sl.v1354 c f2) (run.sl.v1355 c f0)) (run.sl.v1357 c f0 f2)) (ix2 e i)).trans (lg10_at c f0 f2 e i)
  refine (show (run.sl.v1369 c f0 f2) = (Memref.whole cc0_scratch6).view.readCov (run.sl.Hs6_10 c f0 f2)
    (Rect.unit ![0, 1024] S256x512.size (by decide) : Rect S256x1536).toLoadRect from rfl).trans ?_
  rw [Hs6_10_eq]
  exact View.readCov_cons_toLoadRect _ _ _ _

theorem lg11_at (e : Fin 256) (i : Fin 512) : k0_pay135 (run.sl.v1366 c f2) (run.sl.v1367 c f0) (run.sl.v1369 c f0 f2) (ix2 e i) = lgSum f0 f2 e ⟨1024 + i, by omega⟩ 2048 := by
  refine Eq.trans ?_ (lgSum_step f0 f2 e ⟨1024 + i, by omega⟩ 1024 1024 (by omega) _ _ (v1366_at c f2 e) (v1367_at c f0 i))
  rw [← v1369_at c f0 f2 e i]
  pointwise [k0_pay135]

theorem Hs6_11_eq : run.sl.Hs6_11 (F := Ideal) c f0 f2 = ⟨(Rect.unit ![0, 1024] S256x512.size (by decide) : Rect S256x1536), k0_pay135 (run.sl.v1366 c f2) (run.sl.v1367 c f0) (run.sl.v1369 c f0 f2)⟩ :: run.sl.Hs6_10 c f0 f2 := rfl

theorem v1381_at (e : Fin 256) (i : Fin 512) : (run.sl.v1381 c f0 f2) (ix2 e i) = lgSum f0 f2 e ⟨1024 + i, by omega⟩ 2048 := by
  refine (congrFun (?_ : (run.sl.v1381 c f0 f2) = k0_pay135 (run.sl.v1366 c f2) (run.sl.v1367 c f0) (run.sl.v1369 c f0 f2)) (ix2 e i)).trans (lg11_at c f0 f2 e i)
  refine (show (run.sl.v1381 c f0 f2) = (Memref.whole cc0_scratch6).view.readCov (run.sl.Hs6_11 c f0 f2)
    (Rect.unit ![0, 1024] S256x512.size (by decide) : Rect S256x1536).toLoadRect from rfl).trans ?_
  rw [Hs6_11_eq]
  exact View.readCov_cons_toLoadRect _ _ _ _

theorem lg12_at (e : Fin 256) (i : Fin 512) : k0_pay137 (k0_pay136 (run.sl.v1378 c f2) (run.sl.v1379 c f0)) (run.sl.v1381 c f0 f2) (ix2 e i) = lgSum f0 f2 e ⟨1024 + i, by omega⟩ 3072 := by
  refine Eq.trans ?_ (lgSum_step f0 f2 e ⟨1024 + i, by omega⟩ 2048 1024 (by omega) _ _ (v1378_at c f2 e) (v1379_at c f0 i))
  rw [← v1381_at c f0 f2 e i]
  pointwise [k0_pay137, k0_pay136]

theorem Hs6_12_eq : run.sl.Hs6_12 (F := Ideal) c f0 f2 = ⟨(Rect.unit ![0, 1024] S256x512.size (by decide) : Rect S256x1536), k0_pay137 (k0_pay136 (run.sl.v1378 c f2) (run.sl.v1379 c f0)) (run.sl.v1381 c f0 f2)⟩ :: run.sl.Hs6_11 c f0 f2 := rfl

theorem v1393_at (e : Fin 256) (i : Fin 512) : (run.sl.v1393 c f0 f2) (ix2 e i) = lgSum f0 f2 e ⟨1024 + i, by omega⟩ 3072 := by
  refine (congrFun (?_ : (run.sl.v1393 c f0 f2) = k0_pay137 (k0_pay136 (run.sl.v1378 c f2) (run.sl.v1379 c f0)) (run.sl.v1381 c f0 f2)) (ix2 e i)).trans (lg12_at c f0 f2 e i)
  refine (show (run.sl.v1393 c f0 f2) = (Memref.whole cc0_scratch6).view.readCov (run.sl.Hs6_12 c f0 f2)
    (Rect.unit ![0, 1024] S256x512.size (by decide) : Rect S256x1536).toLoadRect from rfl).trans ?_
  rw [Hs6_12_eq]
  exact View.readCov_cons_toLoadRect _ _ _ _

theorem lg13_at (e : Fin 256) (i : Fin 512) : k0_pay138 (run.sl.v1390 c f2) (run.sl.v1391 c f0) (run.sl.v1393 c f0 f2) (ix2 e i) = lgSum f0 f2 e ⟨1024 + i, by omega⟩ 4096 := by
  refine Eq.trans ?_ (lgSum_step f0 f2 e ⟨1024 + i, by omega⟩ 3072 1024 (by omega) _ _ (v1390_at c f2 e) (v1391_at c f0 i))
  rw [← v1393_at c f0 f2 e i]
  pointwise [k0_pay138]

theorem Hs6_13_eq : run.sl.Hs6_13 (F := Ideal) c f0 f2 = ⟨(Rect.unit ![0, 1024] S256x512.size (by decide) : Rect S256x1536), k0_pay138 (run.sl.v1390 c f2) (run.sl.v1391 c f0) (run.sl.v1393 c f0 f2)⟩ :: run.sl.Hs6_12 c f0 f2 := rfl

theorem v1405_at (e : Fin 256) (i : Fin 512) : (run.sl.v1405 c f0 f2) (ix2 e i) = lgSum f0 f2 e ⟨1024 + i, by omega⟩ 4096 := by
  refine (congrFun (?_ : (run.sl.v1405 c f0 f2) = k0_pay138 (run.sl.v1390 c f2) (run.sl.v1391 c f0) (run.sl.v1393 c f0 f2)) (ix2 e i)).trans (lg13_at c f0 f2 e i)
  refine (show (run.sl.v1405 c f0 f2) = (Memref.whole cc0_scratch6).view.readCov (run.sl.Hs6_13 c f0 f2)
    (Rect.unit ![0, 1024] S256x512.size (by decide) : Rect S256x1536).toLoadRect from rfl).trans ?_
  rw [Hs6_13_eq]
  exact View.readCov_cons_toLoadRect _ _ _ _

theorem lg14_at (e : Fin 256) (i : Fin 512) : k0_pay140 (k0_pay139 (run.sl.v1402 c f2) (run.sl.v1403 c f0) (run.sl.v1405 c f0 f2)) (ix2 e i) = lgSum f0 f2 e ⟨1024 + i, by omega⟩ 5120 := by
  refine Eq.trans ?_ (lgSum_step f0 f2 e ⟨1024 + i, by omega⟩ 4096 1024 (by omega) _ _ (v1402_at c f2 e) (v1403_at c f0 i))
  rw [← v1405_at c f0 f2 e i]
  pointwise [k0_pay140, k0_pay139]

theorem Hs6_14_eq : run.sl.Hs6_14 (F := Ideal) c f0 f2 = ⟨(Rect.unit ![0, 1024] S256x512.size (by decide) : Rect S256x1536), k0_pay140 (k0_pay139 (run.sl.v1402 c f2) (run.sl.v1403 c f0) (run.sl.v1405 c f0 f2))⟩ :: run.sl.Hs6_13 c f0 f2 := rfl

theorem v1417_at (e : Fin 256) (i : Fin 512) : (run.sl.v1417 c f0 f2) (ix2 e i) = lgSum f0 f2 e ⟨1024 + i, by omega⟩ 5120 := by
  refine (congrFun (?_ : (run.sl.v1417 c f0 f2) = k0_pay140 (k0_pay139 (run.sl.v1402 c f2) (run.sl.v1403 c f0) (run.sl.v1405 c f0 f2))) (ix2 e i)).trans (lg14_at c f0 f2 e i)
  refine (show (run.sl.v1417 c f0 f2) = (Memref.whole cc0_scratch6).view.readCov (run.sl.Hs6_14 c f0 f2)
    (Rect.unit ![0, 1024] S256x512.size (by decide) : Rect S256x1536).toLoadRect from rfl).trans ?_
  rw [Hs6_14_eq]
  exact View.readCov_cons_toLoadRect _ _ _ _

theorem lg15_at (e : Fin 256) (i : Fin 512) : k0_pay141 (run.sl.v1414 c f2) (run.sl.v1415 c f0) (run.sl.v1417 c f0 f2) (ix2 e i) = lgSum f0 f2 e ⟨1024 + i, by omega⟩ 6144 := by
  refine Eq.trans ?_ (lgSum_step f0 f2 e ⟨1024 + i, by omega⟩ 5120 1024 (by omega) _ _ (v1414_at c f2 e) (v1415_at c f0 i))
  rw [← v1417_at c f0 f2 e i]
  pointwise [k0_pay141]

theorem Hs6_15_eq : run.sl.Hs6_15 (F := Ideal) c f0 f2 = ⟨(Rect.unit ![0, 1024] S256x512.size (by decide) : Rect S256x1536), k0_pay141 (run.sl.v1414 c f2) (run.sl.v1415 c f0) (run.sl.v1417 c f0 f2)⟩ :: run.sl.Hs6_14 c f0 f2 := rfl

theorem v1429_at (e : Fin 256) (i : Fin 512) : (run.sl.v1429 c f0 f2) (ix2 e i) = lgSum f0 f2 e ⟨1024 + i, by omega⟩ 6144 := by
  refine (congrFun (?_ : (run.sl.v1429 c f0 f2) = k0_pay141 (run.sl.v1414 c f2) (run.sl.v1415 c f0) (run.sl.v1417 c f0 f2)) (ix2 e i)).trans (lg15_at c f0 f2 e i)
  refine (show (run.sl.v1429 c f0 f2) = (Memref.whole cc0_scratch6).view.readCov (run.sl.Hs6_15 c f0 f2)
    (Rect.unit ![0, 1024] S256x512.size (by decide) : Rect S256x1536).toLoadRect from rfl).trans ?_
  rw [Hs6_15_eq]
  exact View.readCov_cons_toLoadRect _ _ _ _

theorem lg16_at (e : Fin 256) (i : Fin 512) : k0_pay143 (k0_pay142 (run.sl.v262 c f2) (run.sl.v1427 c f0) (run.sl.v1429 c f0 f2)) (ix2 e i) = lgSum f0 f2 e ⟨1024 + i, by omega⟩ 7168 := by
  refine Eq.trans ?_ (lgSum_step f0 f2 e ⟨1024 + i, by omega⟩ 6144 1024 (by omega) _ _ (v262_at c f2 e) (v1427_at c f0 i))
  rw [← v1429_at c f0 f2 e i]
  pointwise [k0_pay143, k0_pay142]

theorem Hs6_16_eq : run.sl.Hs6_16 (F := Ideal) c f0 f2 = ⟨(Rect.unit ![0, 1024] S256x512.size (by decide) : Rect S256x1536), k0_pay143 (k0_pay142 (run.sl.v262 c f2) (run.sl.v1427 c f0) (run.sl.v1429 c f0 f2))⟩ :: run.sl.Hs6_15 c f0 f2 := rfl

/-- The full logits as a matrix, experts by tokens. -/
def LG (f0 : Vec Ideal S1536x7168 .fp8e4m3) (f2 : Vec Ideal S7168x256 .bf16) : Vec Ideal S256x1536 .f32 :=
  fun i => lgSum f0 f2 (i 0) (i 1) 7168

theorem lg8_ok (x : (Rect.unit ![0, 0] S256x1024.size (by decide) : Rect S256x1536).shape.Idx) :
    k0_pay20 (run.sl.v262 c f2) (run.sl.v263 c f0) (run.sl.v265 c f0 f2) x = LG f0 f2 ((Rect.unit ![0, 0] S256x1024.size (by decide) : Rect S256x1536).emb x) := by
  change S256x1024.Idx at x
  idx_vars x
  refine (lg8_at c f0 f2 x0 x1).trans (Eq.trans ?_ (congrArg (LG f0 f2) (emb_ix2 (by decide) x0 x1)).symm)
  show lgSum f0 f2 x0 _ 7168 = lgSum f0 f2 ⟨0 + x0, _⟩ _ 7168
  congr 1
  exact Fin.ext (Nat.zero_add _).symm

theorem v370_at (e : Fin 256) (i : Fin 128) : (run.sl.v370 c f0 f2) (ix2 e i) = lgSum f0 f2 e ⟨0 + i, by omega⟩ 7168 := by
  have h : (run.sl.v370 c f0 f2) = fun j => LG f0 f2 ((Rect.unit ![0, 0] S256x128.size (by decide) : Rect S256x1536).toLoadRect.idx j) := by
    refine (show (run.sl.v370 c f0 f2) = (Memref.whole cc0_scratch6).view.readCov (run.sl.Hs6_8 c f0 f2)
      (Rect.unit ![0, 0] S256x128.size (by decide) : Rect S256x1536).toLoadRect from rfl).trans ?_
    rw [Hs6_8_eq]
    refine readCov_of_head _ (LG f0 f2) _ _ _ _ (lg8_ok c f0 f2) fun j => ?_
    change S256x128.Idx at j
    idx_vars j
    refine (Rect.mem_set_unit (s := S256x1536)).mpr (Fin.forall_fin_two.mpr ⟨⟨?_, ?_⟩, ⟨?_, ?_⟩⟩)
    · exact Nat.zero_le _
    · show 0 + 1 * j0.val < 0 + 256
      omega
    · show 0 ≤ 0 + 1 * j1.val
      omega
    · show 0 + 1 * j1.val < 0 + 1024
      omega
  rw [h]
  pointwise [LG]

theorem v503_at (e : Fin 256) (i : Fin 128) : (run.sl.v503 c f0 f2) (ix2 e i) = lgSum f0 f2 e ⟨128 + i, by omega⟩ 7168 := by
  have h : (run.sl.v503 c f0 f2) = fun j => LG f0 f2 ((Rect.unit ![0, 128] S256x128.size (by decide) : Rect S256x1536).toLoadRect.idx j) := by
    refine (show (run.sl.v503 c f0 f2) = (Memref.whole cc0_scratch6).view.readCov (run.sl.Hs6_8 c f0 f2)
      (Rect.unit ![0, 128] S256x128.size (by decide) : Rect S256x1536).toLoadRect from rfl).trans ?_
    rw [Hs6_8_eq]
    refine readCov_of_head _ (LG f0 f2) _ _ _ _ (lg8_ok c f0 f2) fun j => ?_
    change S256x128.Idx at j
    idx_vars j
    refine (Rect.mem_set_unit (s := S256x1536)).mpr (Fin.forall_fin_two.mpr ⟨⟨?_, ?_⟩, ⟨?_, ?_⟩⟩)
    · exact Nat.zero_le _
    · show 0 + 1 * j0.val < 0 + 256
      omega
    · show 0 ≤ 128 + 1 * j1.val
      omega
    · show 128 + 1 * j1.val < 0 + 1024
      omega
  rw [h]
  pointwise [LG]

theorem v636_at (e : Fin 256) (i : Fin 128) : (run.sl.v636 c f0 f2) (ix2 e i) = lgSum f0 f2 e ⟨256 + i, by omega⟩ 7168 := by
  have h : (run.sl.v636 c f0 f2) = fun j => LG f0 f2 ((Rect.unit ![0, 256] S256x128.size (by decide) : Rect S256x1536).toLoadRect.idx j) := by
    refine (show (run.sl.v636 c f0 f2) = (Memref.whole cc0_scratch6).view.readCov (run.sl.Hs6_8 c f0 f2)
      (Rect.unit ![0, 256] S256x128.size (by decide) : Rect S256x1536).toLoadRect from rfl).trans ?_
    rw [Hs6_8_eq]
    refine readCov_of_head _ (LG f0 f2) _ _ _ _ (lg8_ok c f0 f2) fun j => ?_
    change S256x128.Idx at j
    idx_vars j
    refine (Rect.mem_set_unit (s := S256x1536)).mpr (Fin.forall_fin_two.mpr ⟨⟨?_, ?_⟩, ⟨?_, ?_⟩⟩)
    · exact Nat.zero_le _
    · show 0 + 1 * j0.val < 0 + 256
      omega
    · show 0 ≤ 256 + 1 * j1.val
      omega
    · show 256 + 1 * j1.val < 0 + 1024
      omega
  rw [h]
  pointwise [LG]

theorem v769_at (e : Fin 256) (i : Fin 128) : (run.sl.v769 c f0 f2) (ix2 e i) = lgSum f0 f2 e ⟨384 + i, by omega⟩ 7168 := by
  have h : (run.sl.v769 c f0 f2) = fun j => LG f0 f2 ((Rect.unit ![0, 384] S256x128.size (by decide) : Rect S256x1536).toLoadRect.idx j) := by
    refine (show (run.sl.v769 c f0 f2) = (Memref.whole cc0_scratch6).view.readCov (run.sl.Hs6_8 c f0 f2)
      (Rect.unit ![0, 384] S256x128.size (by decide) : Rect S256x1536).toLoadRect from rfl).trans ?_
    rw [Hs6_8_eq]
    refine readCov_of_head _ (LG f0 f2) _ _ _ _ (lg8_ok c f0 f2) fun j => ?_
    change S256x128.Idx at j
    idx_vars j
    refine (Rect.mem_set_unit (s := S256x1536)).mpr (Fin.forall_fin_two.mpr ⟨⟨?_, ?_⟩, ⟨?_, ?_⟩⟩)
    · exact Nat.zero_le _
    · show 0 + 1 * j0.val < 0 + 256
      omega
    · show 0 ≤ 384 + 1 * j1.val
      omega
    · show 384 + 1 * j1.val < 0 + 1024
      omega
  rw [h]
  pointwise [LG]

theorem v902_at (e : Fin 256) (i : Fin 128) : (run.sl.v902 c f0 f2) (ix2 e i) = lgSum f0 f2 e ⟨512 + i, by omega⟩ 7168 := by
  have h : (run.sl.v902 c f0 f2) = fun j => LG f0 f2 ((Rect.unit ![0, 512] S256x128.size (by decide) : Rect S256x1536).toLoadRect.idx j) := by
    refine (show (run.sl.v902 c f0 f2) = (Memref.whole cc0_scratch6).view.readCov (run.sl.Hs6_8 c f0 f2)
      (Rect.unit ![0, 512] S256x128.size (by decide) : Rect S256x1536).toLoadRect from rfl).trans ?_
    rw [Hs6_8_eq]
    refine readCov_of_head _ (LG f0 f2) _ _ _ _ (lg8_ok c f0 f2) fun j => ?_
    change S256x128.Idx at j
    idx_vars j
    refine (Rect.mem_set_unit (s := S256x1536)).mpr (Fin.forall_fin_two.mpr ⟨⟨?_, ?_⟩, ⟨?_, ?_⟩⟩)
    · exact Nat.zero_le _
    · show 0 + 1 * j0.val < 0 + 256
      omega
    · show 0 ≤ 512 + 1 * j1.val
      omega
    · show 512 + 1 * j1.val < 0 + 1024
      omega
  rw [h]
  pointwise [LG]

theorem v1035_at (e : Fin 256) (i : Fin 128) : (run.sl.v1035 c f0 f2) (ix2 e i) = lgSum f0 f2 e ⟨640 + i, by omega⟩ 7168 := by
  have h : (run.sl.v1035 c f0 f2) = fun j => LG f0 f2 ((Rect.unit ![0, 640] S256x128.size (by decide) : Rect S256x1536).toLoadRect.idx j) := by
    refine (show (run.sl.v1035 c f0 f2) = (Memref.whole cc0_scratch6).view.readCov (run.sl.Hs6_8 c f0 f2)
      (Rect.unit ![0, 640] S256x128.size (by decide) : Rect S256x1536).toLoadRect from rfl).trans ?_
    rw [Hs6_8_eq]
    refine readCov_of_head _ (LG f0 f2) _ _ _ _ (lg8_ok c f0 f2) fun j => ?_
    change S256x128.Idx at j
    idx_vars j
    refine (Rect.mem_set_unit (s := S256x1536)).mpr (Fin.forall_fin_two.mpr ⟨⟨?_, ?_⟩, ⟨?_, ?_⟩⟩)
    · exact Nat.zero_le _
    · show 0 + 1 * j0.val < 0 + 256
      omega
    · show 0 ≤ 640 + 1 * j1.val
      omega
    · show 640 + 1 * j1.val < 0 + 1024
      omega
  rw [h]
  pointwise [LG]

theorem v1168_at (e : Fin 256) (i : Fin 128) : (run.sl.v1168 c f0 f2) (ix2 e i) = lgSum f0 f2 e ⟨768 + i, by omega⟩ 7168 := by
  have h : (run.sl.v1168 c f0 f2) = fun j => LG f0 f2 ((Rect.unit ![0, 768] S256x128.size (by decide) : Rect S256x1536).toLoadRect.idx j) := by
    refine (show (run.sl.v1168 c f0 f2) = (Memref.whole cc0_scratch6).view.readCov (run.sl.Hs6_8 c f0 f2)
      (Rect.unit ![0, 768] S256x128.size (by decide) : Rect S256x1536).toLoadRect from rfl).trans ?_
    rw [Hs6_8_eq]
    refine readCov_of_head _ (LG f0 f2) _ _ _ _ (lg8_ok c f0 f2) fun j => ?_
    change S256x128.Idx at j
    idx_vars j
    refine (Rect.mem_set_unit (s := S256x1536)).mpr (Fin.forall_fin_two.mpr ⟨⟨?_, ?_⟩, ⟨?_, ?_⟩⟩)
    · exact Nat.zero_le _
    · show 0 + 1 * j0.val < 0 + 256
      omega
    · show 0 ≤ 768 + 1 * j1.val
      omega
    · show 768 + 1 * j1.val < 0 + 1024
      omega
  rw [h]
  pointwise [LG]

theorem v1301_at (e : Fin 256) (i : Fin 128) : (run.sl.v1301 c f0 f2) (ix2 e i) = lgSum f0 f2 e ⟨896 + i, by omega⟩ 7168 := by
  have h : (run.sl.v1301 c f0 f2) = fun j => LG f0 f2 ((Rect.unit ![0, 896] S256x128.size (by decide) : Rect S256x1536).toLoadRect.idx j) := by
    refine (show (run.sl.v1301 c f0 f2) = (Memref.whole cc0_scratch6).view.readCov (run.sl.Hs6_8 c f0 f2)
      (Rect.unit ![0, 896] S256x128.size (by decide) : Rect S256x1536).toLoadRect from rfl).trans ?_
    rw [Hs6_8_eq]
    refine readCov_of_head _ (LG f0 f2) _ _ _ _ (lg8_ok c f0 f2) fun j => ?_
    change S256x128.Idx at j
    idx_vars j
    refine (Rect.mem_set_unit (s := S256x1536)).mpr (Fin.forall_fin_two.mpr ⟨⟨?_, ?_⟩, ⟨?_, ?_⟩⟩)
    · exact Nat.zero_le _
    · show 0 + 1 * j0.val < 0 + 256
      omega
    · show 0 ≤ 896 + 1 * j1.val
      omega
    · show 896 + 1 * j1.val < 0 + 1024
      omega
  rw [h]
  pointwise [LG]

theorem lg16_ok (x : (Rect.unit ![0, 1024] S256x512.size (by decide) : Rect S256x1536).shape.Idx) :
    k0_pay143 (k0_pay142 (run.sl.v262 c f2) (run.sl.v1427 c f0) (run.sl.v1429 c f0 f2)) x = LG f0 f2 ((Rect.unit ![0, 1024] S256x512.size (by decide) : Rect S256x1536).emb x) := by
  change S256x512.Idx at x
  idx_vars x
  refine (lg16_at c f0 f2 x0 x1).trans (Eq.trans ?_ (congrArg (LG f0 f2) (emb_ix2 (by decide) x0 x1)).symm)
  show lgSum f0 f2 x0 _ 7168 = lgSum f0 f2 ⟨0 + x0, _⟩ _ 7168
  congr 1
  exact Fin.ext (Nat.zero_add _).symm

theorem v1532_at (e : Fin 256) (i : Fin 128) : (run.sl.v1532 c f0 f2) (ix2 e i) = lgSum f0 f2 e ⟨1024 + i, by omega⟩ 7168 := by
  have h : (run.sl.v1532 c f0 f2) = fun j => LG f0 f2 ((Rect.unit ![0, 1024] S256x128.size (by decide) : Rect S256x1536).toLoadRect.idx j) := by
    refine (show (run.sl.v1532 c f0 f2) = (Memref.whole cc0_scratch6).view.readCov (run.sl.Hs6_16 c f0 f2)
      (Rect.unit ![0, 1024] S256x128.size (by decide) : Rect S256x1536).toLoadRect from rfl).trans ?_
    rw [Hs6_16_eq]
    refine readCov_of_head _ (LG f0 f2) _ _ _ _ (lg16_ok c f0 f2) fun j => ?_
    change S256x128.Idx at j
    idx_vars j
    refine (Rect.mem_set_unit (s := S256x1536)).mpr (Fin.forall_fin_two.mpr ⟨⟨?_, ?_⟩, ⟨?_, ?_⟩⟩)
    · exact Nat.zero_le _
    · show 0 + 1 * j0.val < 0 + 256
      omega
    · show 1024 ≤ 1024 + 1 * j1.val
      omega
    · show 1024 + 1 * j1.val < 1024 + 512
      omega
  rw [h]
  pointwise [LG]

theorem v1665_at (e : Fin 256) (i : Fin 128) : (run.sl.v1665 c f0 f2) (ix2 e i) = lgSum f0 f2 e ⟨1152 + i, by omega⟩ 7168 := by
  have h : (run.sl.v1665 c f0 f2) = fun j => LG f0 f2 ((Rect.unit ![0, 1152] S256x128.size (by decide) : Rect S256x1536).toLoadRect.idx j) := by
    refine (show (run.sl.v1665 c f0 f2) = (Memref.whole cc0_scratch6).view.readCov (run.sl.Hs6_16 c f0 f2)
      (Rect.unit ![0, 1152] S256x128.size (by decide) : Rect S256x1536).toLoadRect from rfl).trans ?_
    rw [Hs6_16_eq]
    refine readCov_of_head _ (LG f0 f2) _ _ _ _ (lg16_ok c f0 f2) fun j => ?_
    change S256x128.Idx at j
    idx_vars j
    refine (Rect.mem_set_unit (s := S256x1536)).mpr (Fin.forall_fin_two.mpr ⟨⟨?_, ?_⟩, ⟨?_, ?_⟩⟩)
    · exact Nat.zero_le _
    · show 0 + 1 * j0.val < 0 + 256
      omega
    · show 1024 ≤ 1152 + 1 * j1.val
      omega
    · show 1152 + 1 * j1.val < 1024 + 512
      omega
  rw [h]
  pointwise [LG]

theorem v1798_at (e : Fin 256) (i : Fin 128) : (run.sl.v1798 c f0 f2) (ix2 e i) = lgSum f0 f2 e ⟨1280 + i, by omega⟩ 7168 := by
  have h : (run.sl.v1798 c f0 f2) = fun j => LG f0 f2 ((Rect.unit ![0, 1280] S256x128.size (by decide) : Rect S256x1536).toLoadRect.idx j) := by
    refine (show (run.sl.v1798 c f0 f2) = (Memref.whole cc0_scratch6).view.readCov (run.sl.Hs6_16 c f0 f2)
      (Rect.unit ![0, 1280] S256x128.size (by decide) : Rect S256x1536).toLoadRect from rfl).trans ?_
    rw [Hs6_16_eq]
    refine readCov_of_head _ (LG f0 f2) _ _ _ _ (lg16_ok c f0 f2) fun j => ?_
    change S256x128.Idx at j
    idx_vars j
    refine (Rect.mem_set_unit (s := S256x1536)).mpr (Fin.forall_fin_two.mpr ⟨⟨?_, ?_⟩, ⟨?_, ?_⟩⟩)
    · exact Nat.zero_le _
    · show 0 + 1 * j0.val < 0 + 256
      omega
    · show 1024 ≤ 1280 + 1 * j1.val
      omega
    · show 1280 + 1 * j1.val < 1024 + 512
      omega
  rw [h]
  pointwise [LG]

theorem v1931_at (e : Fin 256) (i : Fin 128) : (run.sl.v1931 c f0 f2) (ix2 e i) = lgSum f0 f2 e ⟨1408 + i, by omega⟩ 7168 := by
  have h : (run.sl.v1931 c f0 f2) = fun j => LG f0 f2 ((Rect.unit ![0, 1408] S256x128.size (by decide) : Rect S256x1536).toLoadRect.idx j) := by
    refine (show (run.sl.v1931 c f0 f2) = (Memref.whole cc0_scratch6).view.readCov (run.sl.Hs6_16 c f0 f2)
      (Rect.unit ![0, 1408] S256x128.size (by decide) : Rect S256x1536).toLoadRect from rfl).trans ?_
    rw [Hs6_16_eq]
    refine readCov_of_head _ (LG f0 f2) _ _ _ _ (lg16_ok c f0 f2) fun j => ?_
    change S256x128.Idx at j
    idx_vars j
    refine (Rect.mem_set_unit (s := S256x1536)).mpr (Fin.forall_fin_two.mpr ⟨⟨?_, ?_⟩, ⟨?_, ?_⟩⟩)
    · exact Nat.zero_le _
    · show 0 + 1 * j0.val < 0 + 256
      omega
    · show 1024 ≤ 1408 + 1 * j1.val
      omega
    · show 1408 + 1 * j1.val < 1024 + 512
      omega
  rw [h]
  pointwise [LG]

end Cert.KernelIdeal.Hand
-- ==== Proof.Router.lean ====
module

public import proofs.«01_k».proof.KernelIdeal
public import Idealize.ShloMosaic.Lib.Pointwise

@[expose] public section

noncomputable section

namespace Cert.Router

open Idealize.ShloMosaic Idealize.ShloMosaic.TcCoe Idealize.ShloMosaic.Tactic

/-- The bit that says one of a token's eight chosen experts is expert `e`. -/
def sel (ids : Fin 8 → BitVec 32) (e : Fin 256) : BitVec 1 :=
  IntOp.ori (IntOp.ori (IntOp.ori (IntOp.ori (IntOp.ori (IntOp.ori (IntOp.ori
    (IntOp.cmpi .eq (BitVec.ofNat 32 e) (ids 0)) (IntOp.cmpi .eq (BitVec.ofNat 32 e) (ids 1)))
    (IntOp.cmpi .eq (BitVec.ofNat 32 e) (ids 2))) (IntOp.cmpi .eq (BitVec.ofNat 32 e) (ids 3)))
    (IntOp.cmpi .eq (BitVec.ofNat 32 e) (ids 4))) (IntOp.cmpi .eq (BitVec.ofNat 32 e) (ids 5)))
    (IntOp.cmpi .eq (BitVec.ofNat 32 e) (ids 6))) (IntOp.cmpi .eq (BitVec.ofNat 32 e) (ids 7))

/-- The upstream gradient spread over the experts: expert `e`'s slot's entry, and a marker where no slot chose `e`. -/
def spread (ids : Fin 8 → BitVec 32) (dg : Fin 8 → EReal) (e : Fin 256) : EReal :=
  Scalar.select (IntOp.cmpi .eq (BitVec.ofNat 32 e) (ids 7)) (dg 7)
    (Scalar.select (IntOp.cmpi .eq (BitVec.ofNat 32 e) (ids 6)) (dg 6)
      (Scalar.select (IntOp.cmpi .eq (BitVec.ofNat 32 e) (ids 5)) (dg 5)
        (Scalar.select (IntOp.cmpi .eq (BitVec.ofNat 32 e) (ids 4)) (dg 4)
          (Scalar.select (IntOp.cmpi .eq (BitVec.ofNat 32 e) (ids 3)) (dg 3)
            (Scalar.select (IntOp.cmpi .eq (BitVec.ofNat 32 e) (ids 2)) (dg 2)
              (Scalar.select (IntOp.cmpi .eq (BitVec.ofNat 32 e) (ids 1)) (dg 1)
                (Scalar.select (IntOp.cmpi .eq (BitVec.ofNat 32 e) (ids 0)) (dg 0)
                  (Ideal.ofBits FTy.f32 1#32))))))))

/-- The logits with the experts that were not chosen at minus infinity. -/
def masked (ids : Fin 8 → BitVec 32) (L : Fin 256 → EReal) (e : Fin 256) : EReal :=
  Scalar.select (sel ids e) (L e) (Ideal.ofBits FTy.f32 4286578688#32)

/-- The largest masked logit. -/
def top (ids : Fin 8 → BitVec 32) (L : Fin 256 → EReal) : EReal :=
  Finset.fold max (Ideal.ofBits FTy.f32 4286578688#32) (fun x => masked ids L x) Finset.univ

/-- The softmax over all experts of the masked logits. -/
def prob (ids : Fin 8 → BitVec 32) (L : Fin 256 → EReal) (e : Fin 256) : EReal :=
  Ideal.div (Ideal.exp (masked ids L e - top ids L)) (∑ x, Ideal.exp (masked ids L x - top ids L))

/-- The gradient of one token's logits as the kernel forms it, over all experts. -/
def grad (ids : Fin 8 → BitVec 32) (dg : Fin 8 → EReal) (L : Fin 256 → EReal) (e : Fin 256) : EReal :=
  Scalar.select (sel ids e)
    (prob ids L e * (spread ids dg e - ∑ x, Scalar.select (sel ids x) (prob ids L x * spread ids dg x) 0)) 0

end Cert.Router
-- ==== Proof.KernelIdeal.TileAt.lean ====
module

public import proofs.«01_k».proof.Proof.KernelIdeal.Logits
public import proofs.«01_k».proof.Proof.Router

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

/-- A tile's gradient, entry by entry: the gradient of the token's logits. -/
theorem tile_at (ids : Vec Ideal S1x8x128 .i32) (dg : Vec Ideal S1x8x128 .bf16) (sc : Vec Ideal S1x128 .f32) (lg : Vec Ideal S256x128 .f32) (e : Fin 256) (i : Fin 128) :
    (tile ids dg sc lg : Vec Ideal S256x128 .f32) (ix2 e i)
      = Router.grad (fun k => ids (ix3 0 k i)) (fun k => dg (ix3 0 k i)) (fun e => (lg (ix2 e i) : EReal) * (sc (ix2 0 i) : EReal)) e := by
  have hS : ∀ e : Fin 256, (k0_pay27 run.sl.v102 (k0_pay21 ids) : IVec S256x128 1) (ix2 e i) = Router.sel (fun k => ids (ix3 0 k i)) e := by
    intro e
    pointwise [k0_pay27, k0_pay21, run.sl.v102, Router.sel]
  have hD : ∀ e : Fin 256, (k0_pay26 run.sl.v102 (k0_pay21 ids) (k0_pay22 dg) (k0_pay23 run.sl.v102 k0_pay1 ids dg)
      (k0_pay24 run.sl.v102 ids) (k0_pay25 dg) : FVec Ideal S256x128 .f32) (ix2 e i) = Router.spread (fun k => ids (ix3 0 k i)) (fun k => dg (ix3 0 k i)) e := by
    intro e
    pointwise [k0_pay26, k0_pay21, run.sl.v102, k0_pay22, k0_pay23, k0_pay24, k0_pay25, k0_pay1, Router.spread]
  unfold tile
  generalize k0_pay27 run.sl.v102 (k0_pay21 ids) = S at hS ⊢
  generalize k0_pay26 run.sl.v102 (k0_pay21 ids) (k0_pay22 dg) (k0_pay23 run.sl.v102 k0_pay1 ids dg)
      (k0_pay24 run.sl.v102 ids) (k0_pay25 dg) = D at hD ⊢
  pointwise [k0_pay30, k0_pay28, k0_pay29]
  simp only [hS, hD]
  rfl

/-- The gradient of the logits of token `n`, from the five inputs the kernel reads. -/
def dlG (f0 : Vec Ideal S1536x7168 .fp8e4m3) (f1 : Vec Ideal S2x768 .f32) (f2 : Vec Ideal S7168x256 .bf16)
    (f3 : Vec Ideal S2x8x768 .i32) (f4 : Vec Ideal S2x8x768 .bf16) (b : Fin 2) (s : Fin 768) (n : Fin 1536) (e : Fin 256) : EReal :=
  Router.grad (fun k => f3 (ix3 b k s)) (fun k => f4 (ix3 b k s))
    (fun e => lgSum f0 f2 e n 7168 * (f1 (ix2 b s) : EReal)) e

/-- The batch of token `n`. -/
def bOf (n : Fin 1536) : Fin 2 := ⟨n / 768, by omega⟩

/-- The place of token `n` in its batch. -/
def sOf (n : Fin 1536) : Fin 768 := ⟨n % 768, by omega⟩

theorem bOf_eq (n : Fin 1536) (b : Fin 2) (s : Fin 768) (h : n.val = 768 * b.val + s.val) : bOf n = b :=
  Fin.ext (show n.val / 768 = b.val by omega)

theorem sOf_eq (n : Fin 1536) (b : Fin 2) (s : Fin 768) (h : n.val = 768 * b.val + s.val) : sOf n = s :=
  Fin.ext (show n.val % 768 = s.val by omega)

variable (f0 : Vec Ideal S1536x7168 .fp8e4m3) (f1 : Vec Ideal S2x768 .f32) (f2 : Vec Ideal S7168x256 .bf16)
  (f3 : Vec Ideal S2x8x768 .i32) (f4 : Vec Ideal S2x8x768 .bf16)

/-- The gradient of the logits, tokens by experts. -/
def DL : Vec Ideal S1536x256 .f32 := fun i => dlG f0 f1 f2 f3 f4 (bOf (i 0)) (sOf (i 0)) (i 0) (i 1)

/-- The same, held in bf16. -/
def DL16 : Vec Ideal S1536x256 .bf16 := DL f0 f1 f2 f3 f4

/-- The gradient of the logits scaled by the rows' scales, experts by tokens. -/
def DLST : Vec Ideal S256x1536 .bf16 := fun i =>
  (DL f0 f1 f2 f3 f4 (ix2 (i 1) (i 0)) : EReal) * (f1 (ix2 (bOf (i 1)) (sOf (i 1))) : EReal)

/-- The first result: the gradient of the tokens. -/
def DX : Vec Ideal S1536x7168 .bf16 := fun i => (∑ e : Fin 256, (DL f0 f1 f2 f3 f4 (ix2 (i 0) e) : EReal) * (f2 (ix2 (i 1) e) : EReal) : EReal)

/-- The second result: the gradient of the gate matrix. -/
def DW : Vec Ideal S7168x256 .f32 := fun i =>
  (∑ n : Fin 1536, (DLST f0 f1 f2 f3 f4 (ix2 (i 1) n) : EReal) * (f0 (ix2 n (i 0)) : EReal) : EReal)

/-- A tile's gradient is the slice of `DL` at the tile's tokens, given what the tile's reads are. -/
theorem tile_DL (ids : Vec Ideal S1x8x128 .i32) (dg : Vec Ideal S1x8x128 .bf16) (sc : Vec Ideal S1x128 .f32) (lg : Vec Ideal S256x128 .f32)
    (b : Fin 2) (s : Fin 768) (n : Fin 1536) (i : Fin 128) (hn : n.val = 768 * b.val + s.val)
    (h3 : ∀ k, ids (ix3 0 k i) = f3 (ix3 b k s)) (h4 : ∀ k, dg (ix3 0 k i) = f4 (ix3 b k s))
    (h1 : sc (ix2 0 i) = f1 (ix2 b s)) (hl : ∀ e, lg (ix2 e i) = lgSum f0 f2 e n 7168) (e : Fin 256) :
    (tile ids dg sc lg : Vec Ideal S256x128 .f32) (ix2 e i) = DL f0 f1 f2 f3 f4 (ix2 n e) := by
  rw [tile_at]
  simp only [h3, h4, h1, hl]
  show Router.grad _ _ _ _ = dlG f0 f1 f2 f3 f4 (bOf n) (sOf n) n e
  rw [bOf_eq n b s hn, sOf_eq n b s hn]
  rfl

theorem dlP_at (d : FVec Ideal S256x128 .f32) (i : Fin 128) (e : Fin 256) : (dlP d : Vec Ideal S128x256 .f32) (ix2 i e) = d (ix2 e i) := by
  pointwise [dlP]

theorem dl16P_at (d : FVec Ideal S256x128 .f32) (i : Fin 128) (e : Fin 256) : (dl16P d : Vec Ideal S128x256 .bf16) (ix2 i e) = d (ix2 e i) := by
  pointwise [dl16P]

theorem dlstP_at (sc : Vec Ideal S1x128 .f32) (d : FVec Ideal S256x128 .f32) (e : Fin 256) (i : Fin 128) :
    (dlstP sc d : Vec Ideal S256x128 .bf16) (ix2 e i) = ((d (ix2 e i) : EReal) * (sc (ix2 0 i) : EReal) : EReal) := by
  pointwise [dlstP]

end Cert.KernelIdeal.Hand
-- ==== Proof.KernelIdeal.Stores.lean ====
module

public import proofs.«01_k».proof.Proof.KernelIdeal.TileAt
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

/-- A squeezed slot of a buffer, read right after the slot was written, is the payload written. -/
theorem read_slot {F : FTy → Type} [FloatOps F] {κ : Kind} {sp : Space} {s s' : Shape} {e : EltTy} (M : Memref sig κ sp s e) (r : Rect s)
    (hs : ∀ a, r.stride a = 1) (hq : r.shape.Squeezes s') (hc : r.shape.ShapeCasts s') (f : M.view.ty.Contents (Elt F)) (w : r.shape.Idx → Elt F e)
    (L : List (View.Piece (Elt F) s e)) :
    View.read (Elt F) ((M.slice r hs).squeeze s' hq).view (M.view.writes (Elt F) f (⟨r, w⟩ :: L)) = shapeCast s' w hc :=
  (Memref.read_squeeze_slice M r hs hq hc _).trans
    (congrArg (fun x => shapeCast s' x hc) (funext fun j => View.read_writes_cons_emb M.view f r w L j))

/-- A slice of a buffer, read after writes that agree with `G` and cover the slice, is `G` there. -/
theorem read_slice {F : FTy → Type} [FloatOps F] {κ : Kind} {sp : Space} {s : Shape} {e : EltTy} (M : Memref sig κ sp s e) (r : Rect s)
    (hs : ∀ a, r.stride a = 1) (f : M.view.ty.Contents (Elt F)) (L : List (View.Piece (Elt F) s e)) (G : s.Idx → Elt F e)
    (hL : ∀ p ∈ L, ∀ x : p.1.shape.Idx, p.2 x = G (p.1.emb x)) (hc : ∀ y, ∃ p ∈ L, r.emb y ∈ p.1.set) :
    View.read (Elt F) (M.slice r hs).view (M.view.writes (Elt F) f L) = fun y => G (r.emb y) :=
  funext fun y => (View.read_writes_apply_eq_canon M.view f (r.emb y) L (hc y)).trans (View.canon_apply_of_pieces G L hL _ (hc y))

theorem slot_x (w : Vec Ideal S1x1536x512 .bf16) (hc) (n : Fin 1536) (j : Fin 512) : shapeCast S1536x512 w hc (ix2 n j) = w (ix3 0 n j) := by
  pointwise

theorem slot_w (w : Vec Ideal S1x512x256 .f32) (hc) (n : Fin 512) (j : Fin 256) : shapeCast S512x256 w hc (ix2 n j) = w (ix3 0 n j) := by
  pointwise
/-- The place of an index of a block of whole rows. -/
theorem emb_rows {A h w a : ℕ} (inb : ∀ x : Fin 2, (![a, 0] : Fin 2 → ℕ) x + (![h, w] : Fin 2 → ℕ) x ≤ (![A, w] : Fin 2 → ℕ) x)
    (i : Fin h) (j : Fin w) :
    (Rect.unit (s := ⟨2, ![A, w]⟩) ![a, 0] ![h, w] inb).emb (ix2 i j) = ix2 ⟨a + i, lt_of_lt_of_le (Nat.add_lt_add_left i.isLt a) (inb 0)⟩ j :=
  (emb_ix2 inb i j).trans (congrArg (ix2 _) (Fin.ext (Nat.zero_add _)))

/-- The place of an index of a block of whole columns. -/
theorem emb_cols {B h w b : ℕ} (inb : ∀ x : Fin 2, (![0, b] : Fin 2 → ℕ) x + (![h, w] : Fin 2 → ℕ) x ≤ (![h, B] : Fin 2 → ℕ) x)
    (i : Fin h) (j : Fin w) :
    (Rect.unit (s := ⟨2, ![h, B]⟩) ![0, b] ![h, w] inb).emb (ix2 i j) = ix2 i ⟨b + j, lt_of_lt_of_le (Nat.add_lt_add_left j.isLt b) (inb 1)⟩ :=
  (emb_ix2 inb i j).trans (congrArg (fun x => ix2 x _) (Fin.ext (Nat.zero_add _)))

variable (c : Dev nD) (f0 : Vec Ideal S1536x7168 .fp8e4m3) (f1 : Vec Ideal S2x768 .f32) (f2 : Vec Ideal S7168x256 .bf16)
  (f3 : Vec Ideal S2x8x768 .i32) (f4 : Vec Ideal S2x8x768 .bf16)
  (s3 : Bf (F := Ideal) c cc0_scratch3) (s4 : Bf (F := Ideal) c cc0_scratch4) (s5 : Bf (F := Ideal) c cc0_scratch5)

theorem tile0_DL (e : Fin 256) (i : Fin 128) : (tile (run.sl.v276 c f3 s4) (run.sl.v278 c f4 s5) (run.sl.v281 c f1 s3) (run.sl.v370 c f0 f2) : Vec Ideal S256x128 .f32) (ix2 e i)
    = DL f0 f1 f2 f3 f4 (ix2 ⟨0 + i, by omega⟩ e) :=
  tile_DL f0 f1 f2 f3 f4 _ _ _ _ 0 ⟨0 + i, by omega⟩ ⟨0 + i, by omega⟩ i (by show 0 + i.val = 768 * 0 + (0 + i.val); omega)
    (fun k => v276_at c f3 s4 k i) (fun k => v278_at c f4 s5 k i) (v281_at c f1 s3 i) (fun e => v370_at c f0 f2 e i) e

theorem st7_0_ok (x : (Rect.unit ![0, 0] S128x256.size (by decide) : Rect S1536x256).shape.Idx) :
    k0_pay32 (run.sl.r_8 c f3 f4 s4 s5) (run.sl.r_9 c f3 s4) (run.sl.r_10 c f0 f1 f2 s3) k0_pay29 x = DL f0 f1 f2 f3 f4 ((Rect.unit ![0, 0] S128x256.size (by decide) : Rect S1536x256).emb x) := by
  change S128x256.Idx at x
  idx_vars x
  refine Eq.trans ?_ (congrArg (DL f0 f1 f2 f3 f4) (emb_rows (A := 1536) (w := 256) (h := 128) (a := 0) (by decide) x0 x1)).symm
  rw [tile0_7]
  exact (dlP_at _ x0 x1).trans (tile0_DL c f0 f1 f2 f3 f4 s3 s4 s5 x1 x0)

theorem st8_0_ok (x : (Rect.unit ![0, 0] S128x256.size (by decide) : Rect S1536x256).shape.Idx) :
    k0_pay33 (run.sl.r_8 c f3 f4 s4 s5) (run.sl.r_9 c f3 s4) (run.sl.r_10 c f0 f1 f2 s3) k0_pay29 x = DL16 f0 f1 f2 f3 f4 ((Rect.unit ![0, 0] S128x256.size (by decide) : Rect S1536x256).emb x) := by
  change S128x256.Idx at x
  idx_vars x
  refine Eq.trans ?_ (congrArg (DL16 f0 f1 f2 f3 f4) (emb_rows (A := 1536) (w := 256) (h := 128) (a := 0) (by decide) x0 x1)).symm
  rw [tile0_8]
  exact (dl16P_at _ x0 x1).trans (tile0_DL c f0 f1 f2 f3 f4 s3 s4 s5 x1 x0)

theorem st9_0_ok (x : (Rect.unit ![0, 0] S256x128.size (by decide) : Rect S256x1536).shape.Idx) :
    k0_pay34 (run.sl.v281 c f1 s3) (run.sl.r_8 c f3 f4 s4 s5) (run.sl.r_9 c f3 s4) (run.sl.r_10 c f0 f1 f2 s3) k0_pay29 x = DLST f0 f1 f2 f3 f4 ((Rect.unit ![0, 0] S256x128.size (by decide) : Rect S256x1536).emb x) := by
  change S256x128.Idx at x
  idx_vars x
  refine Eq.trans ?_ (congrArg (DLST f0 f1 f2 f3 f4) (emb_cols (B := 1536) (h := 256) (w := 128) (b := 0) (by decide) x0 x1)).symm
  rw [tile0_9]
  refine (dlstP_at _ _ x0 x1).trans ?_
  rw [tile0_DL, v281_at]
  refine congrArg (fun y => DL f0 f1 f2 f3 f4 (ix2 ⟨0 + x1, by omega⟩ x0) * f1 y) ?_
  exact (congrArg₂ (fun b s => ix2 b s)
    (bOf_eq ⟨0 + x1, by omega⟩ 0 ⟨0 + x1, by omega⟩ (by show 0 + x1.val = 768 * 0 + (0 + x1.val); omega))
    (sOf_eq ⟨0 + x1, by omega⟩ 0 ⟨0 + x1, by omega⟩ (by show 0 + x1.val = 768 * 0 + (0 + x1.val); omega))).symm

theorem Hs7_1_eq : run.sl.Hs7_1 (F := Ideal) c f0 f1 f2 f3 f4 s3 s4 s5 = ⟨(Rect.unit ![0, 0] S128x256.size (by decide) : Rect S1536x256), k0_pay32 (run.sl.r_8 c f3 f4 s4 s5) (run.sl.r_9 c f3 s4) (run.sl.r_10 c f0 f1 f2 s3) k0_pay29⟩ :: [] := rfl

theorem Hs7_1_ok : ∀ p ∈ run.sl.Hs7_1 (F := Ideal) c f0 f1 f2 f3 f4 s3 s4 s5, ∀ x : p.1.shape.Idx, p.2 x = DL f0 f1 f2 f3 f4 (p.1.emb x) := by
  rw [Hs7_1_eq]
  exact pieces_cons (st7_0_ok c f0 f1 f2 f3 f4 s3 s4 s5) (fun p hp => absurd hp List.not_mem_nil)

theorem Hs8_1_eq : run.sl.Hs8_1 (F := Ideal) c f0 f1 f2 f3 f4 s3 s4 s5 = ⟨(Rect.unit ![0, 0] S128x256.size (by decide) : Rect S1536x256), k0_pay33 (run.sl.r_8 c f3 f4 s4 s5) (run.sl.r_9 c f3 s4) (run.sl.r_10 c f0 f1 f2 s3) k0_pay29⟩ :: [] := rfl

theorem Hs8_1_ok : ∀ p ∈ run.sl.Hs8_1 (F := Ideal) c f0 f1 f2 f3 f4 s3 s4 s5, ∀ x : p.1.shape.Idx, p.2 x = DL16 f0 f1 f2 f3 f4 (p.1.emb x) := by
  rw [Hs8_1_eq]
  exact pieces_cons (st8_0_ok c f0 f1 f2 f3 f4 s3 s4 s5) (fun p hp => absurd hp List.not_mem_nil)

theorem Hs9_1_eq : run.sl.Hs9_1 (F := Ideal) c f0 f1 f2 f3 f4 s3 s4 s5 = ⟨(Rect.unit ![0, 0] S256x128.size (by decide) : Rect S256x1536), k0_pay34 (run.sl.v281 c f1 s3) (run.sl.r_8 c f3 f4 s4 s5) (run.sl.r_9 c f3 s4) (run.sl.r_10 c f0 f1 f2 s3) k0_pay29⟩ :: [] := rfl

theorem Hs9_1_ok : ∀ p ∈ run.sl.Hs9_1 (F := Ideal) c f0 f1 f2 f3 f4 s3 s4 s5, ∀ x : p.1.shape.Idx, p.2 x = DLST f0 f1 f2 f3 f4 (p.1.emb x) := by
  rw [Hs9_1_eq]
  exact pieces_cons (st9_0_ok c f0 f1 f2 f3 f4 s3 s4 s5) (fun p hp => absurd hp List.not_mem_nil)

theorem tile1_DL (e : Fin 256) (i : Fin 128) : (tile (run.sl.v409 c f3 s4) (run.sl.v411 c f4 s5) (run.sl.v414 c f1 s3) (run.sl.v503 c f0 f2) : Vec Ideal S256x128 .f32) (ix2 e i)
    = DL f0 f1 f2 f3 f4 (ix2 ⟨128 + i, by omega⟩ e) :=
  tile_DL f0 f1 f2 f3 f4 _ _ _ _ 0 ⟨128 + i, by omega⟩ ⟨128 + i, by omega⟩ i (by show 128 + i.val = 768 * 0 + (128 + i.val); omega)
    (fun k => v409_at c f3 s4 k i) (fun k => v411_at c f4 s5 k i) (v414_at c f1 s3 i) (fun e => v503_at c f0 f2 e i) e

theorem st7_1_ok (x : (Rect.unit ![128, 0] S128x256.size (by decide) : Rect S1536x256).shape.Idx) :
    k0_pay42 (run.sl.r_13 c f3 s4) (run.sl.r_14 c f0 f1 f2 f3 f4 s3 s4 s5) x = DL f0 f1 f2 f3 f4 ((Rect.unit ![128, 0] S128x256.size (by decide) : Rect S1536x256).emb x) := by
  change S128x256.Idx at x
  idx_vars x
  refine Eq.trans ?_ (congrArg (DL f0 f1 f2 f3 f4) (emb_rows (A := 1536) (w := 256) (h := 128) (a := 128) (by decide) x0 x1)).symm
  rw [tile1_7]
  exact (dlP_at _ x0 x1).trans (tile1_DL c f0 f1 f2 f3 f4 s3 s4 s5 x1 x0)

theorem st8_1_ok (x : (Rect.unit ![128, 0] S128x256.size (by decide) : Rect S1536x256).shape.Idx) :
    k0_pay43 (run.sl.r_13 c f3 s4) (run.sl.r_14 c f0 f1 f2 f3 f4 s3 s4 s5) x = DL16 f0 f1 f2 f3 f4 ((Rect.unit ![128, 0] S128x256.size (by decide) : Rect S1536x256).emb x) := by
  change S128x256.Idx at x
  idx_vars x
  refine Eq.trans ?_ (congrArg (DL16 f0 f1 f2 f3 f4) (emb_rows (A := 1536) (w := 256) (h := 128) (a := 128) (by decide) x0 x1)).symm
  rw [tile1_8]
  exact (dl16P_at _ x0 x1).trans (tile1_DL c f0 f1 f2 f3 f4 s3 s4 s5 x1 x0)

theorem st9_1_ok (x : (Rect.unit ![0, 128] S256x128.size (by decide) : Rect S256x1536).shape.Idx) :
    k0_pay44 (run.sl.v414 c f1 s3) (run.sl.r_13 c f3 s4) (run.sl.r_14 c f0 f1 f2 f3 f4 s3 s4 s5) x = DLST f0 f1 f2 f3 f4 ((Rect.unit ![0, 128] S256x128.size (by decide) : Rect S256x1536).emb x) := by
  change S256x128.Idx at x
  idx_vars x
  refine Eq.trans ?_ (congrArg (DLST f0 f1 f2 f3 f4) (emb_cols (B := 1536) (h := 256) (w := 128) (b := 128) (by decide) x0 x1)).symm
  rw [tile1_9]
  refine (dlstP_at _ _ x0 x1).trans ?_
  rw [tile1_DL, v414_at]
  refine congrArg (fun y => DL f0 f1 f2 f3 f4 (ix2 ⟨128 + x1, by omega⟩ x0) * f1 y) ?_
  exact (congrArg₂ (fun b s => ix2 b s)
    (bOf_eq ⟨128 + x1, by omega⟩ 0 ⟨128 + x1, by omega⟩ (by show 128 + x1.val = 768 * 0 + (128 + x1.val); omega))
    (sOf_eq ⟨128 + x1, by omega⟩ 0 ⟨128 + x1, by omega⟩ (by show 128 + x1.val = 768 * 0 + (128 + x1.val); omega))).symm

theorem Hs7_2_eq : run.sl.Hs7_2 (F := Ideal) c f0 f1 f2 f3 f4 s3 s4 s5 = ⟨(Rect.unit ![128, 0] S128x256.size (by decide) : Rect S1536x256), k0_pay42 (run.sl.r_13 c f3 s4) (run.sl.r_14 c f0 f1 f2 f3 f4 s3 s4 s5)⟩ :: run.sl.Hs7_1 c f0 f1 f2 f3 f4 s3 s4 s5 := rfl

theorem Hs7_2_ok : ∀ p ∈ run.sl.Hs7_2 (F := Ideal) c f0 f1 f2 f3 f4 s3 s4 s5, ∀ x : p.1.shape.Idx, p.2 x = DL f0 f1 f2 f3 f4 (p.1.emb x) := by
  rw [Hs7_2_eq]
  exact pieces_cons (st7_1_ok c f0 f1 f2 f3 f4 s3 s4 s5) (Hs7_1_ok c f0 f1 f2 f3 f4 s3 s4 s5)

theorem Hs8_2_eq : run.sl.Hs8_2 (F := Ideal) c f0 f1 f2 f3 f4 s3 s4 s5 = ⟨(Rect.unit ![128, 0] S128x256.size (by decide) : Rect S1536x256), k0_pay43 (run.sl.r_13 c f3 s4) (run.sl.r_14 c f0 f1 f2 f3 f4 s3 s4 s5)⟩ :: run.sl.Hs8_1 c f0 f1 f2 f3 f4 s3 s4 s5 := rfl

theorem Hs8_2_ok : ∀ p ∈ run.sl.Hs8_2 (F := Ideal) c f0 f1 f2 f3 f4 s3 s4 s5, ∀ x : p.1.shape.Idx, p.2 x = DL16 f0 f1 f2 f3 f4 (p.1.emb x) := by
  rw [Hs8_2_eq]
  exact pieces_cons (st8_1_ok c f0 f1 f2 f3 f4 s3 s4 s5) (Hs8_1_ok c f0 f1 f2 f3 f4 s3 s4 s5)

theorem Hs9_2_eq : run.sl.Hs9_2 (F := Ideal) c f0 f1 f2 f3 f4 s3 s4 s5 = ⟨(Rect.unit ![0, 128] S256x128.size (by decide) : Rect S256x1536), k0_pay44 (run.sl.v414 c f1 s3) (run.sl.r_13 c f3 s4) (run.sl.r_14 c f0 f1 f2 f3 f4 s3 s4 s5)⟩ :: run.sl.Hs9_1 c f0 f1 f2 f3 f4 s3 s4 s5 := rfl

theorem Hs9_2_ok : ∀ p ∈ run.sl.Hs9_2 (F := Ideal) c f0 f1 f2 f3 f4 s3 s4 s5, ∀ x : p.1.shape.Idx, p.2 x = DLST f0 f1 f2 f3 f4 (p.1.emb x) := by
  rw [Hs9_2_eq]
  exact pieces_cons (st9_1_ok c f0 f1 f2 f3 f4 s3 s4 s5) (Hs9_1_ok c f0 f1 f2 f3 f4 s3 s4 s5)

theorem tile2_DL (e : Fin 256) (i : Fin 128) : (tile (run.sl.v542 c f3 s4) (run.sl.v544 c f4 s5) (run.sl.v547 c f1 s3) (run.sl.v636 c f0 f2) : Vec Ideal S256x128 .f32) (ix2 e i)
    = DL f0 f1 f2 f3 f4 (ix2 ⟨256 + i, by omega⟩ e) :=
  tile_DL f0 f1 f2 f3 f4 _ _ _ _ 0 ⟨256 + i, by omega⟩ ⟨256 + i, by omega⟩ i (by show 256 + i.val = 768 * 0 + (256 + i.val); omega)
    (fun k => v542_at c f3 s4 k i) (fun k => v544_at c f4 s5 k i) (v547_at c f1 s3 i) (fun e => v636_at c f0 f2 e i) e

theorem st7_2_ok (x : (Rect.unit ![256, 0] S128x256.size (by decide) : Rect S1536x256).shape.Idx) :
    k0_pay61 run.sl.v102 (run.sl.v547 c f1 s3) (run.sl.v604 c f3 f4 s4 s5) (run.sl.v607 c f3 s4) (run.sl.v610 c f3 s4) (run.sl.v613 c f3 s4) (run.sl.v572 c f3 s4) (run.sl.v579 c f3 s4) (run.sl.v586 c f3 s4) (run.sl.v593 c f3 s4) (run.sl.v598 c f3 s4) (run.sl.v636 c f0 f2) x = DL f0 f1 f2 f3 f4 ((Rect.unit ![256, 0] S128x256.size (by decide) : Rect S1536x256).emb x) := by
  change S128x256.Idx at x
  idx_vars x
  refine Eq.trans ?_ (congrArg (DL f0 f1 f2 f3 f4) (emb_rows (A := 1536) (w := 256) (h := 128) (a := 256) (by decide) x0 x1)).symm
  rw [tile2_7]
  exact (dlP_at _ x0 x1).trans (tile2_DL c f0 f1 f2 f3 f4 s3 s4 s5 x1 x0)

theorem st8_2_ok (x : (Rect.unit ![256, 0] S128x256.size (by decide) : Rect S1536x256).shape.Idx) :
    k0_pay62 run.sl.v102 (run.sl.v547 c f1 s3) (run.sl.v604 c f3 f4 s4 s5) (run.sl.v607 c f3 s4) (run.sl.v610 c f3 s4) (run.sl.v613 c f3 s4) (run.sl.v572 c f3 s4) (run.sl.v579 c f3 s4) (run.sl.v586 c f3 s4) (run.sl.v593 c f3 s4) (run.sl.v598 c f3 s4) (run.sl.v636 c f0 f2) x = DL16 f0 f1 f2 f3 f4 ((Rect.unit ![256, 0] S128x256.size (by decide) : Rect S1536x256).emb x) := by
  change S128x256.Idx at x
  idx_vars x
  refine Eq.trans ?_ (congrArg (DL16 f0 f1 f2 f3 f4) (emb_rows (A := 1536) (w := 256) (h := 128) (a := 256) (by decide) x0 x1)).symm
  rw [tile2_8]
  exact (dl16P_at _ x0 x1).trans (tile2_DL c f0 f1 f2 f3 f4 s3 s4 s5 x1 x0)

theorem st9_2_ok (x : (Rect.unit ![0, 256] S256x128.size (by decide) : Rect S256x1536).shape.Idx) :
    k0_pay64 (run.sl.r_20 c f0 f1 f2 f3 f4 s3 s4 s5) x = DLST f0 f1 f2 f3 f4 ((Rect.unit ![0, 256] S256x128.size (by decide) : Rect S256x1536).emb x) := by
  change S256x128.Idx at x
  idx_vars x
  refine Eq.trans ?_ (congrArg (DLST f0 f1 f2 f3 f4) (emb_cols (B := 1536) (h := 256) (w := 128) (b := 256) (by decide) x0 x1)).symm
  rw [tile2_9]
  refine (dlstP_at _ _ x0 x1).trans ?_
  rw [tile2_DL, v547_at]
  refine congrArg (fun y => DL f0 f1 f2 f3 f4 (ix2 ⟨256 + x1, by omega⟩ x0) * f1 y) ?_
  exact (congrArg₂ (fun b s => ix2 b s)
    (bOf_eq ⟨256 + x1, by omega⟩ 0 ⟨256 + x1, by omega⟩ (by show 256 + x1.val = 768 * 0 + (256 + x1.val); omega))
    (sOf_eq ⟨256 + x1, by omega⟩ 0 ⟨256 + x1, by omega⟩ (by show 256 + x1.val = 768 * 0 + (256 + x1.val); omega))).symm

theorem Hs7_3_eq : run.sl.Hs7_3 (F := Ideal) c f0 f1 f2 f3 f4 s3 s4 s5 = ⟨(Rect.unit ![256, 0] S128x256.size (by decide) : Rect S1536x256), k0_pay61 run.sl.v102 (run.sl.v547 c f1 s3) (run.sl.v604 c f3 f4 s4 s5) (run.sl.v607 c f3 s4) (run.sl.v610 c f3 s4) (run.sl.v613 c f3 s4) (run.sl.v572 c f3 s4) (run.sl.v579 c f3 s4) (run.sl.v586 c f3 s4) (run.sl.v593 c f3 s4) (run.sl.v598 c f3 s4) (run.sl.v636 c f0 f2)⟩ :: run.sl.Hs7_2 c f0 f1 f2 f3 f4 s3 s4 s5 := rfl

theorem Hs7_3_ok : ∀ p ∈ run.sl.Hs7_3 (F := Ideal) c f0 f1 f2 f3 f4 s3 s4 s5, ∀ x : p.1.shape.Idx, p.2 x = DL f0 f1 f2 f3 f4 (p.1.emb x) := by
  rw [Hs7_3_eq]
  exact pieces_cons (st7_2_ok c f0 f1 f2 f3 f4 s3 s4 s5) (Hs7_2_ok c f0 f1 f2 f3 f4 s3 s4 s5)

theorem Hs8_3_eq : run.sl.Hs8_3 (F := Ideal) c f0 f1 f2 f3 f4 s3 s4 s5 = ⟨(Rect.unit ![256, 0] S128x256.size (by decide) : Rect S1536x256), k0_pay62 run.sl.v102 (run.sl.v547 c f1 s3) (run.sl.v604 c f3 f4 s4 s5) (run.sl.v607 c f3 s4) (run.sl.v610 c f3 s4) (run.sl.v613 c f3 s4) (run.sl.v572 c f3 s4) (run.sl.v579 c f3 s4) (run.sl.v586 c f3 s4) (run.sl.v593 c f3 s4) (run.sl.v598 c f3 s4) (run.sl.v636 c f0 f2)⟩ :: run.sl.Hs8_2 c f0 f1 f2 f3 f4 s3 s4 s5 := rfl

theorem Hs8_3_ok : ∀ p ∈ run.sl.Hs8_3 (F := Ideal) c f0 f1 f2 f3 f4 s3 s4 s5, ∀ x : p.1.shape.Idx, p.2 x = DL16 f0 f1 f2 f3 f4 (p.1.emb x) := by
  rw [Hs8_3_eq]
  exact pieces_cons (st8_2_ok c f0 f1 f2 f3 f4 s3 s4 s5) (Hs8_2_ok c f0 f1 f2 f3 f4 s3 s4 s5)

theorem Hs9_3_eq : run.sl.Hs9_3 (F := Ideal) c f0 f1 f2 f3 f4 s3 s4 s5 = ⟨(Rect.unit ![0, 256] S256x128.size (by decide) : Rect S256x1536), k0_pay64 (run.sl.r_20 c f0 f1 f2 f3 f4 s3 s4 s5)⟩ :: run.sl.Hs9_2 c f0 f1 f2 f3 f4 s3 s4 s5 := rfl

theorem Hs9_3_ok : ∀ p ∈ run.sl.Hs9_3 (F := Ideal) c f0 f1 f2 f3 f4 s3 s4 s5, ∀ x : p.1.shape.Idx, p.2 x = DLST f0 f1 f2 f3 f4 (p.1.emb x) := by
  rw [Hs9_3_eq]
  exact pieces_cons (st9_2_ok c f0 f1 f2 f3 f4 s3 s4 s5) (Hs9_2_ok c f0 f1 f2 f3 f4 s3 s4 s5)

theorem tile3_DL (e : Fin 256) (i : Fin 128) : (tile (run.sl.v675 c f3 s4) (run.sl.v677 c f4 s5) (run.sl.v680 c f1 s3) (run.sl.v769 c f0 f2) : Vec Ideal S256x128 .f32) (ix2 e i)
    = DL f0 f1 f2 f3 f4 (ix2 ⟨384 + i, by omega⟩ e) :=
  tile_DL f0 f1 f2 f3 f4 _ _ _ _ 0 ⟨384 + i, by omega⟩ ⟨384 + i, by omega⟩ i (by show 384 + i.val = 768 * 0 + (384 + i.val); omega)
    (fun k => v675_at c f3 s4 k i) (fun k => v677_at c f4 s5 k i) (v680_at c f1 s3 i) (fun e => v769_at c f0 f2 e i) e

theorem st7_3_ok (x : (Rect.unit ![384, 0] S128x256.size (by decide) : Rect S1536x256).shape.Idx) :
    k0_pay75 (run.sl.r_26 c f3 f4 s4 s5) (run.sl.r_27 c f3 s4) (run.sl.r_28 c f0 f1 f2 f3 s3 s4) x = DL f0 f1 f2 f3 f4 ((Rect.unit ![384, 0] S128x256.size (by decide) : Rect S1536x256).emb x) := by
  change S128x256.Idx at x
  idx_vars x
  refine Eq.trans ?_ (congrArg (DL f0 f1 f2 f3 f4) (emb_rows (A := 1536) (w := 256) (h := 128) (a := 384) (by decide) x0 x1)).symm
  rw [tile3_7]
  exact (dlP_at _ x0 x1).trans (tile3_DL c f0 f1 f2 f3 f4 s3 s4 s5 x1 x0)

theorem st8_3_ok (x : (Rect.unit ![384, 0] S128x256.size (by decide) : Rect S1536x256).shape.Idx) :
    k0_pay76 (run.sl.r_26 c f3 f4 s4 s5) (run.sl.r_27 c f3 s4) (run.sl.r_28 c f0 f1 f2 f3 s3 s4) x = DL16 f0 f1 f2 f3 f4 ((Rect.unit ![384, 0] S128x256.size (by decide) : Rect S1536x256).emb x) := by
  change S128x256.Idx at x
  idx_vars x
  refine Eq.trans ?_ (congrArg (DL16 f0 f1 f2 f3 f4) (emb_rows (A := 1536) (w := 256) (h := 128) (a := 384) (by decide) x0 x1)).symm
  rw [tile3_8]
  exact (dl16P_at _ x0 x1).trans (tile3_DL c f0 f1 f2 f3 f4 s3 s4 s5 x1 x0)

theorem st9_3_ok (x : (Rect.unit ![0, 384] S256x128.size (by decide) : Rect S256x1536).shape.Idx) :
    k0_pay77 (run.sl.v680 c f1 s3) (run.sl.r_26 c f3 f4 s4 s5) (run.sl.r_27 c f3 s4) (run.sl.r_28 c f0 f1 f2 f3 s3 s4) x = DLST f0 f1 f2 f3 f4 ((Rect.unit ![0, 384] S256x128.size (by decide) : Rect S256x1536).emb x) := by
  change S256x128.Idx at x
  idx_vars x
  refine Eq.trans ?_ (congrArg (DLST f0 f1 f2 f3 f4) (emb_cols (B := 1536) (h := 256) (w := 128) (b := 384) (by decide) x0 x1)).symm
  rw [tile3_9]
  refine (dlstP_at _ _ x0 x1).trans ?_
  rw [tile3_DL, v680_at]
  refine congrArg (fun y => DL f0 f1 f2 f3 f4 (ix2 ⟨384 + x1, by omega⟩ x0) * f1 y) ?_
  exact (congrArg₂ (fun b s => ix2 b s)
    (bOf_eq ⟨384 + x1, by omega⟩ 0 ⟨384 + x1, by omega⟩ (by show 384 + x1.val = 768 * 0 + (384 + x1.val); omega))
    (sOf_eq ⟨384 + x1, by omega⟩ 0 ⟨384 + x1, by omega⟩ (by show 384 + x1.val = 768 * 0 + (384 + x1.val); omega))).symm

theorem Hs7_4_eq : run.sl.Hs7_4 (F := Ideal) c f0 f1 f2 f3 f4 s3 s4 s5 = ⟨(Rect.unit ![384, 0] S128x256.size (by decide) : Rect S1536x256), k0_pay75 (run.sl.r_26 c f3 f4 s4 s5) (run.sl.r_27 c f3 s4) (run.sl.r_28 c f0 f1 f2 f3 s3 s4)⟩ :: run.sl.Hs7_3 c f0 f1 f2 f3 f4 s3 s4 s5 := rfl

theorem Hs7_4_ok : ∀ p ∈ run.sl.Hs7_4 (F := Ideal) c f0 f1 f2 f3 f4 s3 s4 s5, ∀ x : p.1.shape.Idx, p.2 x = DL f0 f1 f2 f3 f4 (p.1.emb x) := by
  rw [Hs7_4_eq]
  exact pieces_cons (st7_3_ok c f0 f1 f2 f3 f4 s3 s4 s5) (Hs7_3_ok c f0 f1 f2 f3 f4 s3 s4 s5)

theorem Hs8_4_eq : run.sl.Hs8_4 (F := Ideal) c f0 f1 f2 f3 f4 s3 s4 s5 = ⟨(Rect.unit ![384, 0] S128x256.size (by decide) : Rect S1536x256), k0_pay76 (run.sl.r_26 c f3 f4 s4 s5) (run.sl.r_27 c f3 s4) (run.sl.r_28 c f0 f1 f2 f3 s3 s4)⟩ :: run.sl.Hs8_3 c f0 f1 f2 f3 f4 s3 s4 s5 := rfl

theorem Hs8_4_ok : ∀ p ∈ run.sl.Hs8_4 (F := Ideal) c f0 f1 f2 f3 f4 s3 s4 s5, ∀ x : p.1.shape.Idx, p.2 x = DL16 f0 f1 f2 f3 f4 (p.1.emb x) := by
  rw [Hs8_4_eq]
  exact pieces_cons (st8_3_ok c f0 f1 f2 f3 f4 s3 s4 s5) (Hs8_3_ok c f0 f1 f2 f3 f4 s3 s4 s5)

theorem Hs9_4_eq : run.sl.Hs9_4 (F := Ideal) c f0 f1 f2 f3 f4 s3 s4 s5 = ⟨(Rect.unit ![0, 384] S256x128.size (by decide) : Rect S256x1536), k0_pay77 (run.sl.v680 c f1 s3) (run.sl.r_26 c f3 f4 s4 s5) (run.sl.r_27 c f3 s4) (run.sl.r_28 c f0 f1 f2 f3 s3 s4)⟩ :: run.sl.Hs9_3 c f0 f1 f2 f3 f4 s3 s4 s5 := rfl

theorem Hs9_4_ok : ∀ p ∈ run.sl.Hs9_4 (F := Ideal) c f0 f1 f2 f3 f4 s3 s4 s5, ∀ x : p.1.shape.Idx, p.2 x = DLST f0 f1 f2 f3 f4 (p.1.emb x) := by
  rw [Hs9_4_eq]
  exact pieces_cons (st9_3_ok c f0 f1 f2 f3 f4 s3 s4 s5) (Hs9_3_ok c f0 f1 f2 f3 f4 s3 s4 s5)

theorem tile4_DL (e : Fin 256) (i : Fin 128) : (tile (run.sl.v808 c f3 s4) (run.sl.v810 c f4 s5) (run.sl.v813 c f1 s3) (run.sl.v902 c f0 f2) : Vec Ideal S256x128 .f32) (ix2 e i)
    = DL f0 f1 f2 f3 f4 (ix2 ⟨512 + i, by omega⟩ e) :=
  tile_DL f0 f1 f2 f3 f4 _ _ _ _ 0 ⟨512 + i, by omega⟩ ⟨512 + i, by omega⟩ i (by show 512 + i.val = 768 * 0 + (512 + i.val); omega)
    (fun k => v808_at c f3 s4 k i) (fun k => v810_at c f4 s5 k i) (v813_at c f1 s3 i) (fun e => v902_at c f0 f2 e i) e

theorem st7_4_ok (x : (Rect.unit ![512, 0] S128x256.size (by decide) : Rect S1536x256).shape.Idx) :
    k0_pay87 (run.sl.r_34 c f0 f1 f2 f3 f4 s3 s4 s5) x = DL f0 f1 f2 f3 f4 ((Rect.unit ![512, 0] S128x256.size (by decide) : Rect S1536x256).emb x) := by
  change S128x256.Idx at x
  idx_vars x
  refine Eq.trans ?_ (congrArg (DL f0 f1 f2 f3 f4) (emb_rows (A := 1536) (w := 256) (h := 128) (a := 512) (by decide) x0 x1)).symm
  rw [tile4_7]
  exact (dlP_at _ x0 x1).trans (tile4_DL c f0 f1 f2 f3 f4 s3 s4 s5 x1 x0)

theorem st8_4_ok (x : (Rect.unit ![512, 0] S128x256.size (by decide) : Rect S1536x256).shape.Idx) :
    k0_pay88 (run.sl.r_34 c f0 f1 f2 f3 f4 s3 s4 s5) x = DL16 f0 f1 f2 f3 f4 ((Rect.unit ![512, 0] S128x256.size (by decide) : Rect S1536x256).emb x) := by
  change S128x256.Idx at x
  idx_vars x
  refine Eq.trans ?_ (congrArg (DL16 f0 f1 f2 f3 f4) (emb_rows (A := 1536) (w := 256) (h := 128) (a := 512) (by decide) x0 x1)).symm
  rw [tile4_8]
  exact (dl16P_at _ x0 x1).trans (tile4_DL c f0 f1 f2 f3 f4 s3 s4 s5 x1 x0)

theorem st9_4_ok (x : (Rect.unit ![0, 512] S256x128.size (by decide) : Rect S256x1536).shape.Idx) :
    k0_pay89 (run.sl.v813 c f1 s3) (run.sl.r_33 c f0 f1 f2 f3 f4 s3 s4 s5) x = DLST f0 f1 f2 f3 f4 ((Rect.unit ![0, 512] S256x128.size (by decide) : Rect S256x1536).emb x) := by
  change S256x128.Idx at x
  idx_vars x
  refine Eq.trans ?_ (congrArg (DLST f0 f1 f2 f3 f4) (emb_cols (B := 1536) (h := 256) (w := 128) (b := 512) (by decide) x0 x1)).symm
  rw [tile4_9]
  refine (dlstP_at _ _ x0 x1).trans ?_
  rw [tile4_DL, v813_at]
  refine congrArg (fun y => DL f0 f1 f2 f3 f4 (ix2 ⟨512 + x1, by omega⟩ x0) * f1 y) ?_
  exact (congrArg₂ (fun b s => ix2 b s)
    (bOf_eq ⟨512 + x1, by omega⟩ 0 ⟨512 + x1, by omega⟩ (by show 512 + x1.val = 768 * 0 + (512 + x1.val); omega))
    (sOf_eq ⟨512 + x1, by omega⟩ 0 ⟨512 + x1, by omega⟩ (by show 512 + x1.val = 768 * 0 + (512 + x1.val); omega))).symm

theorem Hs7_5_eq : run.sl.Hs7_5 (F := Ideal) c f0 f1 f2 f3 f4 s3 s4 s5 = ⟨(Rect.unit ![512, 0] S128x256.size (by decide) : Rect S1536x256), k0_pay87 (run.sl.r_34 c f0 f1 f2 f3 f4 s3 s4 s5)⟩ :: run.sl.Hs7_4 c f0 f1 f2 f3 f4 s3 s4 s5 := rfl

theorem Hs7_5_ok : ∀ p ∈ run.sl.Hs7_5 (F := Ideal) c f0 f1 f2 f3 f4 s3 s4 s5, ∀ x : p.1.shape.Idx, p.2 x = DL f0 f1 f2 f3 f4 (p.1.emb x) := by
  rw [Hs7_5_eq]
  exact pieces_cons (st7_4_ok c f0 f1 f2 f3 f4 s3 s4 s5) (Hs7_4_ok c f0 f1 f2 f3 f4 s3 s4 s5)

theorem Hs8_5_eq : run.sl.Hs8_5 (F := Ideal) c f0 f1 f2 f3 f4 s3 s4 s5 = ⟨(Rect.unit ![512, 0] S128x256.size (by decide) : Rect S1536x256), k0_pay88 (run.sl.r_34 c f0 f1 f2 f3 f4 s3 s4 s5)⟩ :: run.sl.Hs8_4 c f0 f1 f2 f3 f4 s3 s4 s5 := rfl

theorem Hs8_5_ok : ∀ p ∈ run.sl.Hs8_5 (F := Ideal) c f0 f1 f2 f3 f4 s3 s4 s5, ∀ x : p.1.shape.Idx, p.2 x = DL16 f0 f1 f2 f3 f4 (p.1.emb x) := by
  rw [Hs8_5_eq]
  exact pieces_cons (st8_4_ok c f0 f1 f2 f3 f4 s3 s4 s5) (Hs8_4_ok c f0 f1 f2 f3 f4 s3 s4 s5)

theorem Hs9_5_eq : run.sl.Hs9_5 (F := Ideal) c f0 f1 f2 f3 f4 s3 s4 s5 = ⟨(Rect.unit ![0, 512] S256x128.size (by decide) : Rect S256x1536), k0_pay89 (run.sl.v813 c f1 s3) (run.sl.r_33 c f0 f1 f2 f3 f4 s3 s4 s5)⟩ :: run.sl.Hs9_4 c f0 f1 f2 f3 f4 s3 s4 s5 := rfl

theorem Hs9_5_ok : ∀ p ∈ run.sl.Hs9_5 (F := Ideal) c f0 f1 f2 f3 f4 s3 s4 s5, ∀ x : p.1.shape.Idx, p.2 x = DLST f0 f1 f2 f3 f4 (p.1.emb x) := by
  rw [Hs9_5_eq]
  exact pieces_cons (st9_4_ok c f0 f1 f2 f3 f4 s3 s4 s5) (Hs9_4_ok c f0 f1 f2 f3 f4 s3 s4 s5)

theorem tile5_DL (e : Fin 256) (i : Fin 128) : (tile (run.sl.v941 c f3 s4) (run.sl.v943 c f4 s5) (run.sl.v946 c f1 s3) (run.sl.v1035 c f0 f2) : Vec Ideal S256x128 .f32) (ix2 e i)
    = DL f0 f1 f2 f3 f4 (ix2 ⟨640 + i, by omega⟩ e) :=
  tile_DL f0 f1 f2 f3 f4 _ _ _ _ 0 ⟨640 + i, by omega⟩ ⟨640 + i, by omega⟩ i (by show 640 + i.val = 768 * 0 + (640 + i.val); omega)
    (fun k => v941_at c f3 s4 k i) (fun k => v943_at c f4 s5 k i) (v946_at c f1 s3 i) (fun e => v1035_at c f0 f2 e i) e

theorem st7_5_ok (x : (Rect.unit ![640, 0] S128x256.size (by decide) : Rect S1536x256).shape.Idx) :
    k0_pay101 (run.sl.v946 c f1 s3) (run.sl.v1003 c f3 f4 s4 s5) (run.sl.v985 c f3 s4) (run.sl.v992 c f3 s4) (run.sl.v999 c f3 s4) (run.sl.v1031 c f3 s4) (run.sl.v1035 c f0 f2) x = DL f0 f1 f2 f3 f4 ((Rect.unit ![640, 0] S128x256.size (by decide) : Rect S1536x256).emb x) := by
  change S128x256.Idx at x
  idx_vars x
  refine Eq.trans ?_ (congrArg (DL f0 f1 f2 f3 f4) (emb_rows (A := 1536) (w := 256) (h := 128) (a := 640) (by decide) x0 x1)).symm
  rw [tile5_7]
  exact (dlP_at _ x0 x1).trans (tile5_DL c f0 f1 f2 f3 f4 s3 s4 s5 x1 x0)

theorem st8_5_ok (x : (Rect.unit ![640, 0] S128x256.size (by decide) : Rect S1536x256).shape.Idx) :
    k0_pay102 (run.sl.v946 c f1 s3) (run.sl.v1003 c f3 f4 s4 s5) (run.sl.v985 c f3 s4) (run.sl.v992 c f3 s4) (run.sl.v999 c f3 s4) (run.sl.v1031 c f3 s4) (run.sl.v1035 c f0 f2) x = DL16 f0 f1 f2 f3 f4 ((Rect.unit ![640, 0] S128x256.size (by decide) : Rect S1536x256).emb x) := by
  change S128x256.Idx at x
  idx_vars x
  refine Eq.trans ?_ (congrArg (DL16 f0 f1 f2 f3 f4) (emb_rows (A := 1536) (w := 256) (h := 128) (a := 640) (by decide) x0 x1)).symm
  rw [tile5_8]
  exact (dl16P_at _ x0 x1).trans (tile5_DL c f0 f1 f2 f3 f4 s3 s4 s5 x1 x0)

theorem st9_5_ok (x : (Rect.unit ![0, 640] S256x128.size (by decide) : Rect S256x1536).shape.Idx) :
    k0_pay103 (run.sl.v946 c f1 s3) (run.sl.v1003 c f3 f4 s4 s5) (run.sl.v985 c f3 s4) (run.sl.v992 c f3 s4) (run.sl.v999 c f3 s4) (run.sl.v1031 c f3 s4) (run.sl.v1035 c f0 f2) x = DLST f0 f1 f2 f3 f4 ((Rect.unit ![0, 640] S256x128.size (by decide) : Rect S256x1536).emb x) := by
  change S256x128.Idx at x
  idx_vars x
  refine Eq.trans ?_ (congrArg (DLST f0 f1 f2 f3 f4) (emb_cols (B := 1536) (h := 256) (w := 128) (b := 640) (by decide) x0 x1)).symm
  rw [tile5_9]
  refine (dlstP_at _ _ x0 x1).trans ?_
  rw [tile5_DL, v946_at]
  refine congrArg (fun y => DL f0 f1 f2 f3 f4 (ix2 ⟨640 + x1, by omega⟩ x0) * f1 y) ?_
  exact (congrArg₂ (fun b s => ix2 b s)
    (bOf_eq ⟨640 + x1, by omega⟩ 0 ⟨640 + x1, by omega⟩ (by show 640 + x1.val = 768 * 0 + (640 + x1.val); omega))
    (sOf_eq ⟨640 + x1, by omega⟩ 0 ⟨640 + x1, by omega⟩ (by show 640 + x1.val = 768 * 0 + (640 + x1.val); omega))).symm

theorem Hs7_6_eq : run.sl.Hs7_6 (F := Ideal) c f0 f1 f2 f3 f4 s3 s4 s5 = ⟨(Rect.unit ![640, 0] S128x256.size (by decide) : Rect S1536x256), k0_pay101 (run.sl.v946 c f1 s3) (run.sl.v1003 c f3 f4 s4 s5) (run.sl.v985 c f3 s4) (run.sl.v992 c f3 s4) (run.sl.v999 c f3 s4) (run.sl.v1031 c f3 s4) (run.sl.v1035 c f0 f2)⟩ :: run.sl.Hs7_5 c f0 f1 f2 f3 f4 s3 s4 s5 := rfl

theorem Hs7_6_ok : ∀ p ∈ run.sl.Hs7_6 (F := Ideal) c f0 f1 f2 f3 f4 s3 s4 s5, ∀ x : p.1.shape.Idx, p.2 x = DL f0 f1 f2 f3 f4 (p.1.emb x) := by
  rw [Hs7_6_eq]
  exact pieces_cons (st7_5_ok c f0 f1 f2 f3 f4 s3 s4 s5) (Hs7_5_ok c f0 f1 f2 f3 f4 s3 s4 s5)

theorem Hs8_6_eq : run.sl.Hs8_6 (F := Ideal) c f0 f1 f2 f3 f4 s3 s4 s5 = ⟨(Rect.unit ![640, 0] S128x256.size (by decide) : Rect S1536x256), k0_pay102 (run.sl.v946 c f1 s3) (run.sl.v1003 c f3 f4 s4 s5) (run.sl.v985 c f3 s4) (run.sl.v992 c f3 s4) (run.sl.v999 c f3 s4) (run.sl.v1031 c f3 s4) (run.sl.v1035 c f0 f2)⟩ :: run.sl.Hs8_5 c f0 f1 f2 f3 f4 s3 s4 s5 := rfl

theorem Hs8_6_ok : ∀ p ∈ run.sl.Hs8_6 (F := Ideal) c f0 f1 f2 f3 f4 s3 s4 s5, ∀ x : p.1.shape.Idx, p.2 x = DL16 f0 f1 f2 f3 f4 (p.1.emb x) := by
  rw [Hs8_6_eq]
  exact pieces_cons (st8_5_ok c f0 f1 f2 f3 f4 s3 s4 s5) (Hs8_5_ok c f0 f1 f2 f3 f4 s3 s4 s5)

theorem Hs9_6_eq : run.sl.Hs9_6 (F := Ideal) c f0 f1 f2 f3 f4 s3 s4 s5 = ⟨(Rect.unit ![0, 640] S256x128.size (by decide) : Rect S256x1536), k0_pay103 (run.sl.v946 c f1 s3) (run.sl.v1003 c f3 f4 s4 s5) (run.sl.v985 c f3 s4) (run.sl.v992 c f3 s4) (run.sl.v999 c f3 s4) (run.sl.v1031 c f3 s4) (run.sl.v1035 c f0 f2)⟩ :: run.sl.Hs9_5 c f0 f1 f2 f3 f4 s3 s4 s5 := rfl

theorem Hs9_6_ok : ∀ p ∈ run.sl.Hs9_6 (F := Ideal) c f0 f1 f2 f3 f4 s3 s4 s5, ∀ x : p.1.shape.Idx, p.2 x = DLST f0 f1 f2 f3 f4 (p.1.emb x) := by
  rw [Hs9_6_eq]
  exact pieces_cons (st9_5_ok c f0 f1 f2 f3 f4 s3 s4 s5) (Hs9_5_ok c f0 f1 f2 f3 f4 s3 s4 s5)

theorem tile6_DL (e : Fin 256) (i : Fin 128) : (tile (run.sl.v1074 c f3 s4) (run.sl.v1076 c f4 s5) (run.sl.v1079 c f1 s3) (run.sl.v1168 c f0 f2) : Vec Ideal S256x128 .f32) (ix2 e i)
    = DL f0 f1 f2 f3 f4 (ix2 ⟨768 + i, by omega⟩ e) :=
  tile_DL f0 f1 f2 f3 f4 _ _ _ _ 1 ⟨0 + i, by omega⟩ ⟨768 + i, by omega⟩ i (by show 768 + i.val = 768 * 1 + (0 + i.val); omega)
    (fun k => v1074_at c f3 s4 k i) (fun k => v1076_at c f4 s5 k i) (v1079_at c f1 s3 i) (fun e => v1168_at c f0 f2 e i) e

theorem st7_6_ok (x : (Rect.unit ![768, 0] S128x256.size (by decide) : Rect S1536x256).shape.Idx) :
    k0_pay114 (run.sl.r_44 c f3 f4 s4 s5) (run.sl.r_45 c f3 s4) (run.sl.r_46 c f0 f1 f2 f3 s3 s4) x = DL f0 f1 f2 f3 f4 ((Rect.unit ![768, 0] S128x256.size (by decide) : Rect S1536x256).emb x) := by
  change S128x256.Idx at x
  idx_vars x
  refine Eq.trans ?_ (congrArg (DL f0 f1 f2 f3 f4) (emb_rows (A := 1536) (w := 256) (h := 128) (a := 768) (by decide) x0 x1)).symm
  rw [tile6_7]
  exact (dlP_at _ x0 x1).trans (tile6_DL c f0 f1 f2 f3 f4 s3 s4 s5 x1 x0)

theorem st8_6_ok (x : (Rect.unit ![768, 0] S128x256.size (by decide) : Rect S1536x256).shape.Idx) :
    k0_pay115 (run.sl.r_44 c f3 f4 s4 s5) (run.sl.r_45 c f3 s4) (run.sl.r_46 c f0 f1 f2 f3 s3 s4) x = DL16 f0 f1 f2 f3 f4 ((Rect.unit ![768, 0] S128x256.size (by decide) : Rect S1536x256).emb x) := by
  change S128x256.Idx at x
  idx_vars x
  refine Eq.trans ?_ (congrArg (DL16 f0 f1 f2 f3 f4) (emb_rows (A := 1536) (w := 256) (h := 128) (a := 768) (by decide) x0 x1)).symm
  rw [tile6_8]
  exact (dl16P_at _ x0 x1).trans (tile6_DL c f0 f1 f2 f3 f4 s3 s4 s5 x1 x0)

theorem st9_6_ok (x : (Rect.unit ![0, 768] S256x128.size (by decide) : Rect S256x1536).shape.Idx) :
    k0_pay116 (run.sl.v1079 c f1 s3) (run.sl.r_44 c f3 f4 s4 s5) (run.sl.r_45 c f3 s4) (run.sl.r_46 c f0 f1 f2 f3 s3 s4) x = DLST f0 f1 f2 f3 f4 ((Rect.unit ![0, 768] S256x128.size (by decide) : Rect S256x1536).emb x) := by
  change S256x128.Idx at x
  idx_vars x
  refine Eq.trans ?_ (congrArg (DLST f0 f1 f2 f3 f4) (emb_cols (B := 1536) (h := 256) (w := 128) (b := 768) (by decide) x0 x1)).symm
  rw [tile6_9]
  refine (dlstP_at _ _ x0 x1).trans ?_
  rw [tile6_DL, v1079_at]
  refine congrArg (fun y => DL f0 f1 f2 f3 f4 (ix2 ⟨768 + x1, by omega⟩ x0) * f1 y) ?_
  exact (congrArg₂ (fun b s => ix2 b s)
    (bOf_eq ⟨768 + x1, by omega⟩ 1 ⟨0 + x1, by omega⟩ (by show 768 + x1.val = 768 * 1 + (0 + x1.val); omega))
    (sOf_eq ⟨768 + x1, by omega⟩ 1 ⟨0 + x1, by omega⟩ (by show 768 + x1.val = 768 * 1 + (0 + x1.val); omega))).symm

theorem Hs7_7_eq : run.sl.Hs7_7 (F := Ideal) c f0 f1 f2 f3 f4 s3 s4 s5 = ⟨(Rect.unit ![768, 0] S128x256.size (by decide) : Rect S1536x256), k0_pay114 (run.sl.r_44 c f3 f4 s4 s5) (run.sl.r_45 c f3 s4) (run.sl.r_46 c f0 f1 f2 f3 s3 s4)⟩ :: run.sl.Hs7_6 c f0 f1 f2 f3 f4 s3 s4 s5 := rfl

theorem Hs7_7_ok : ∀ p ∈ run.sl.Hs7_7 (F := Ideal) c f0 f1 f2 f3 f4 s3 s4 s5, ∀ x : p.1.shape.Idx, p.2 x = DL f0 f1 f2 f3 f4 (p.1.emb x) := by
  rw [Hs7_7_eq]
  exact pieces_cons (st7_6_ok c f0 f1 f2 f3 f4 s3 s4 s5) (Hs7_6_ok c f0 f1 f2 f3 f4 s3 s4 s5)

theorem Hs8_7_eq : run.sl.Hs8_7 (F := Ideal) c f0 f1 f2 f3 f4 s3 s4 s5 = ⟨(Rect.unit ![768, 0] S128x256.size (by decide) : Rect S1536x256), k0_pay115 (run.sl.r_44 c f3 f4 s4 s5) (run.sl.r_45 c f3 s4) (run.sl.r_46 c f0 f1 f2 f3 s3 s4)⟩ :: run.sl.Hs8_6 c f0 f1 f2 f3 f4 s3 s4 s5 := rfl

theorem Hs8_7_ok : ∀ p ∈ run.sl.Hs8_7 (F := Ideal) c f0 f1 f2 f3 f4 s3 s4 s5, ∀ x : p.1.shape.Idx, p.2 x = DL16 f0 f1 f2 f3 f4 (p.1.emb x) := by
  rw [Hs8_7_eq]
  exact pieces_cons (st8_6_ok c f0 f1 f2 f3 f4 s3 s4 s5) (Hs8_6_ok c f0 f1 f2 f3 f4 s3 s4 s5)

theorem Hs9_7_eq : run.sl.Hs9_7 (F := Ideal) c f0 f1 f2 f3 f4 s3 s4 s5 = ⟨(Rect.unit ![0, 768] S256x128.size (by decide) : Rect S256x1536), k0_pay116 (run.sl.v1079 c f1 s3) (run.sl.r_44 c f3 f4 s4 s5) (run.sl.r_45 c f3 s4) (run.sl.r_46 c f0 f1 f2 f3 s3 s4)⟩ :: run.sl.Hs9_6 c f0 f1 f2 f3 f4 s3 s4 s5 := rfl

theorem Hs9_7_ok : ∀ p ∈ run.sl.Hs9_7 (F := Ideal) c f0 f1 f2 f3 f4 s3 s4 s5, ∀ x : p.1.shape.Idx, p.2 x = DLST f0 f1 f2 f3 f4 (p.1.emb x) := by
  rw [Hs9_7_eq]
  exact pieces_cons (st9_6_ok c f0 f1 f2 f3 f4 s3 s4 s5) (Hs9_6_ok c f0 f1 f2 f3 f4 s3 s4 s5)

theorem tile7_DL (e : Fin 256) (i : Fin 128) : (tile (run.sl.v1207 c f3 s4) (run.sl.v1209 c f4 s5) (run.sl.v1212 c f1 s3) (run.sl.v1301 c f0 f2) : Vec Ideal S256x128 .f32) (ix2 e i)
    = DL f0 f1 f2 f3 f4 (ix2 ⟨896 + i, by omega⟩ e) :=
  tile_DL f0 f1 f2 f3 f4 _ _ _ _ 1 ⟨128 + i, by omega⟩ ⟨896 + i, by omega⟩ i (by show 896 + i.val = 768 * 1 + (128 + i.val); omega)
    (fun k => v1207_at c f3 s4 k i) (fun k => v1209_at c f4 s5 k i) (v1212_at c f1 s3 i) (fun e => v1301_at c f0 f2 e i) e

theorem st7_7_ok (x : (Rect.unit ![896, 0] S128x256.size (by decide) : Rect S1536x256).shape.Idx) :
    k0_pay128 run.sl.v102 (run.sl.r_47 c f3 s4) (run.sl.v1212 c f1 s3) (run.sl.v1269 c f3 f4 s4 s5) (run.sl.v1272 c f3 s4) (run.sl.v1275 c f3 s4) (run.sl.v1230 c f3 s4) (run.sl.v1237 c f3 s4) (run.sl.v1301 c f0 f2) x = DL f0 f1 f2 f3 f4 ((Rect.unit ![896, 0] S128x256.size (by decide) : Rect S1536x256).emb x) := by
  change S128x256.Idx at x
  idx_vars x
  refine Eq.trans ?_ (congrArg (DL f0 f1 f2 f3 f4) (emb_rows (A := 1536) (w := 256) (h := 128) (a := 896) (by decide) x0 x1)).symm
  rw [tile7_7]
  exact (dlP_at _ x0 x1).trans (tile7_DL c f0 f1 f2 f3 f4 s3 s4 s5 x1 x0)

theorem st8_7_ok (x : (Rect.unit ![896, 0] S128x256.size (by decide) : Rect S1536x256).shape.Idx) :
    k0_pay130 (run.sl.r_52 c f0 f1 f2 f3 f4 s3 s4 s5) x = DL16 f0 f1 f2 f3 f4 ((Rect.unit ![896, 0] S128x256.size (by decide) : Rect S1536x256).emb x) := by
  change S128x256.Idx at x
  idx_vars x
  refine Eq.trans ?_ (congrArg (DL16 f0 f1 f2 f3 f4) (emb_rows (A := 1536) (w := 256) (h := 128) (a := 896) (by decide) x0 x1)).symm
  rw [tile7_8]
  exact (dl16P_at _ x0 x1).trans (tile7_DL c f0 f1 f2 f3 f4 s3 s4 s5 x1 x0)

theorem st9_7_ok (x : (Rect.unit ![0, 896] S256x128.size (by decide) : Rect S256x1536).shape.Idx) :
    k0_pay131 (run.sl.v1212 c f1 s3) (run.sl.r_51 c f0 f1 f2 f3 f4 s3 s4 s5) x = DLST f0 f1 f2 f3 f4 ((Rect.unit ![0, 896] S256x128.size (by decide) : Rect S256x1536).emb x) := by
  change S256x128.Idx at x
  idx_vars x
  refine Eq.trans ?_ (congrArg (DLST f0 f1 f2 f3 f4) (emb_cols (B := 1536) (h := 256) (w := 128) (b := 896) (by decide) x0 x1)).symm
  rw [tile7_9]
  refine (dlstP_at _ _ x0 x1).trans ?_
  rw [tile7_DL, v1212_at]
  refine congrArg (fun y => DL f0 f1 f2 f3 f4 (ix2 ⟨896 + x1, by omega⟩ x0) * f1 y) ?_
  exact (congrArg₂ (fun b s => ix2 b s)
    (bOf_eq ⟨896 + x1, by omega⟩ 1 ⟨128 + x1, by omega⟩ (by show 896 + x1.val = 768 * 1 + (128 + x1.val); omega))
    (sOf_eq ⟨896 + x1, by omega⟩ 1 ⟨128 + x1, by omega⟩ (by show 896 + x1.val = 768 * 1 + (128 + x1.val); omega))).symm

theorem Hs7_8_eq : run.sl.Hs7_8 (F := Ideal) c f0 f1 f2 f3 f4 s3 s4 s5 = ⟨(Rect.unit ![896, 0] S128x256.size (by decide) : Rect S1536x256), k0_pay128 run.sl.v102 (run.sl.r_47 c f3 s4) (run.sl.v1212 c f1 s3) (run.sl.v1269 c f3 f4 s4 s5) (run.sl.v1272 c f3 s4) (run.sl.v1275 c f3 s4) (run.sl.v1230 c f3 s4) (run.sl.v1237 c f3 s4) (run.sl.v1301 c f0 f2)⟩ :: run.sl.Hs7_7 c f0 f1 f2 f3 f4 s3 s4 s5 := rfl

theorem Hs7_8_ok : ∀ p ∈ run.sl.Hs7_8 (F := Ideal) c f0 f1 f2 f3 f4 s3 s4 s5, ∀ x : p.1.shape.Idx, p.2 x = DL f0 f1 f2 f3 f4 (p.1.emb x) := by
  rw [Hs7_8_eq]
  exact pieces_cons (st7_7_ok c f0 f1 f2 f3 f4 s3 s4 s5) (Hs7_7_ok c f0 f1 f2 f3 f4 s3 s4 s5)

theorem Hs8_8_eq : run.sl.Hs8_8 (F := Ideal) c f0 f1 f2 f3 f4 s3 s4 s5 = ⟨(Rect.unit ![896, 0] S128x256.size (by decide) : Rect S1536x256), k0_pay130 (run.sl.r_52 c f0 f1 f2 f3 f4 s3 s4 s5)⟩ :: run.sl.Hs8_7 c f0 f1 f2 f3 f4 s3 s4 s5 := rfl

theorem Hs8_8_ok : ∀ p ∈ run.sl.Hs8_8 (F := Ideal) c f0 f1 f2 f3 f4 s3 s4 s5, ∀ x : p.1.shape.Idx, p.2 x = DL16 f0 f1 f2 f3 f4 (p.1.emb x) := by
  rw [Hs8_8_eq]
  exact pieces_cons (st8_7_ok c f0 f1 f2 f3 f4 s3 s4 s5) (Hs8_7_ok c f0 f1 f2 f3 f4 s3 s4 s5)

theorem Hs9_8_eq : run.sl.Hs9_8 (F := Ideal) c f0 f1 f2 f3 f4 s3 s4 s5 = ⟨(Rect.unit ![0, 896] S256x128.size (by decide) : Rect S256x1536), k0_pay131 (run.sl.v1212 c f1 s3) (run.sl.r_51 c f0 f1 f2 f3 f4 s3 s4 s5)⟩ :: run.sl.Hs9_7 c f0 f1 f2 f3 f4 s3 s4 s5 := rfl

theorem Hs9_8_ok : ∀ p ∈ run.sl.Hs9_8 (F := Ideal) c f0 f1 f2 f3 f4 s3 s4 s5, ∀ x : p.1.shape.Idx, p.2 x = DLST f0 f1 f2 f3 f4 (p.1.emb x) := by
  rw [Hs9_8_eq]
  exact pieces_cons (st9_7_ok c f0 f1 f2 f3 f4 s3 s4 s5) (Hs9_7_ok c f0 f1 f2 f3 f4 s3 s4 s5)

theorem tile8_DL (e : Fin 256) (i : Fin 128) : (tile (run.sl.v1438 c f3 s4) (run.sl.v1440 c f4 s5) (run.sl.v1443 c f1 s3) (run.sl.v1532 c f0 f2) : Vec Ideal S256x128 .f32) (ix2 e i)
    = DL f0 f1 f2 f3 f4 (ix2 ⟨1024 + i, by omega⟩ e) :=
  tile_DL f0 f1 f2 f3 f4 _ _ _ _ 1 ⟨256 + i, by omega⟩ ⟨1024 + i, by omega⟩ i (by show 1024 + i.val = 768 * 1 + (256 + i.val); omega)
    (fun k => v1438_at c f3 s4 k i) (fun k => v1440_at c f4 s5 k i) (v1443_at c f1 s3 i) (fun e => v1532_at c f0 f2 e i) e

theorem st7_8_ok (x : (Rect.unit ![1024, 0] S128x256.size (by decide) : Rect S1536x256).shape.Idx) :
    k0_pay154 (run.sl.r_62 c f3 f4 s4 s5) (run.sl.r_63 c f3 s4) (run.sl.r_64 c f0 f1 f2 s3) x = DL f0 f1 f2 f3 f4 ((Rect.unit ![1024, 0] S128x256.size (by decide) : Rect S1536x256).emb x) := by
  change S128x256.Idx at x
  idx_vars x
  refine Eq.trans ?_ (congrArg (DL f0 f1 f2 f3 f4) (emb_rows (A := 1536) (w := 256) (h := 128) (a := 1024) (by decide) x0 x1)).symm
  rw [tile8_7]
  exact (dlP_at _ x0 x1).trans (tile8_DL c f0 f1 f2 f3 f4 s3 s4 s5 x1 x0)

theorem st8_8_ok (x : (Rect.unit ![1024, 0] S128x256.size (by decide) : Rect S1536x256).shape.Idx) :
    k0_pay155 (run.sl.r_62 c f3 f4 s4 s5) (run.sl.r_63 c f3 s4) (run.sl.r_64 c f0 f1 f2 s3) x = DL16 f0 f1 f2 f3 f4 ((Rect.unit ![1024, 0] S128x256.size (by decide) : Rect S1536x256).emb x) := by
  change S128x256.Idx at x
  idx_vars x
  refine Eq.trans ?_ (congrArg (DL16 f0 f1 f2 f3 f4) (emb_rows (A := 1536) (w := 256) (h := 128) (a := 1024) (by decide) x0 x1)).symm
  rw [tile8_8]
  exact (dl16P_at _ x0 x1).trans (tile8_DL c f0 f1 f2 f3 f4 s3 s4 s5 x1 x0)

theorem st9_8_ok (x : (Rect.unit ![0, 1024] S256x128.size (by decide) : Rect S256x1536).shape.Idx) :
    k0_pay156 (run.sl.v1443 c f1 s3) (run.sl.r_62 c f3 f4 s4 s5) (run.sl.r_63 c f3 s4) (run.sl.r_64 c f0 f1 f2 s3) x = DLST f0 f1 f2 f3 f4 ((Rect.unit ![0, 1024] S256x128.size (by decide) : Rect S256x1536).emb x) := by
  change S256x128.Idx at x
  idx_vars x
  refine Eq.trans ?_ (congrArg (DLST f0 f1 f2 f3 f4) (emb_cols (B := 1536) (h := 256) (w := 128) (b := 1024) (by decide) x0 x1)).symm
  rw [tile8_9]
  refine (dlstP_at _ _ x0 x1).trans ?_
  rw [tile8_DL, v1443_at]
  refine congrArg (fun y => DL f0 f1 f2 f3 f4 (ix2 ⟨1024 + x1, by omega⟩ x0) * f1 y) ?_
  exact (congrArg₂ (fun b s => ix2 b s)
    (bOf_eq ⟨1024 + x1, by omega⟩ 1 ⟨256 + x1, by omega⟩ (by show 1024 + x1.val = 768 * 1 + (256 + x1.val); omega))
    (sOf_eq ⟨1024 + x1, by omega⟩ 1 ⟨256 + x1, by omega⟩ (by show 1024 + x1.val = 768 * 1 + (256 + x1.val); omega))).symm

theorem Hs7_9_eq : run.sl.Hs7_9 (F := Ideal) c f0 f1 f2 f3 f4 s3 s4 s5 = ⟨(Rect.unit ![1024, 0] S128x256.size (by decide) : Rect S1536x256), k0_pay154 (run.sl.r_62 c f3 f4 s4 s5) (run.sl.r_63 c f3 s4) (run.sl.r_64 c f0 f1 f2 s3)⟩ :: run.sl.Hs7_8 c f0 f1 f2 f3 f4 s3 s4 s5 := rfl

theorem Hs7_9_ok : ∀ p ∈ run.sl.Hs7_9 (F := Ideal) c f0 f1 f2 f3 f4 s3 s4 s5, ∀ x : p.1.shape.Idx, p.2 x = DL f0 f1 f2 f3 f4 (p.1.emb x) := by
  rw [Hs7_9_eq]
  exact pieces_cons (st7_8_ok c f0 f1 f2 f3 f4 s3 s4 s5) (Hs7_8_ok c f0 f1 f2 f3 f4 s3 s4 s5)

theorem Hs8_9_eq : run.sl.Hs8_9 (F := Ideal) c f0 f1 f2 f3 f4 s3 s4 s5 = ⟨(Rect.unit ![1024, 0] S128x256.size (by decide) : Rect S1536x256), k0_pay155 (run.sl.r_62 c f3 f4 s4 s5) (run.sl.r_63 c f3 s4) (run.sl.r_64 c f0 f1 f2 s3)⟩ :: run.sl.Hs8_8 c f0 f1 f2 f3 f4 s3 s4 s5 := rfl

theorem Hs8_9_ok : ∀ p ∈ run.sl.Hs8_9 (F := Ideal) c f0 f1 f2 f3 f4 s3 s4 s5, ∀ x : p.1.shape.Idx, p.2 x = DL16 f0 f1 f2 f3 f4 (p.1.emb x) := by
  rw [Hs8_9_eq]
  exact pieces_cons (st8_8_ok c f0 f1 f2 f3 f4 s3 s4 s5) (Hs8_8_ok c f0 f1 f2 f3 f4 s3 s4 s5)

theorem Hs9_9_eq : run.sl.Hs9_9 (F := Ideal) c f0 f1 f2 f3 f4 s3 s4 s5 = ⟨(Rect.unit ![0, 1024] S256x128.size (by decide) : Rect S256x1536), k0_pay156 (run.sl.v1443 c f1 s3) (run.sl.r_62 c f3 f4 s4 s5) (run.sl.r_63 c f3 s4) (run.sl.r_64 c f0 f1 f2 s3)⟩ :: run.sl.Hs9_8 c f0 f1 f2 f3 f4 s3 s4 s5 := rfl

theorem Hs9_9_ok : ∀ p ∈ run.sl.Hs9_9 (F := Ideal) c f0 f1 f2 f3 f4 s3 s4 s5, ∀ x : p.1.shape.Idx, p.2 x = DLST f0 f1 f2 f3 f4 (p.1.emb x) := by
  rw [Hs9_9_eq]
  exact pieces_cons (st9_8_ok c f0 f1 f2 f3 f4 s3 s4 s5) (Hs9_8_ok c f0 f1 f2 f3 f4 s3 s4 s5)

theorem tile9_DL (e : Fin 256) (i : Fin 128) : (tile (run.sl.v1571 c f3 s4) (run.sl.v1573 c f4 s5) (run.sl.v1576 c f1 s3) (run.sl.v1665 c f0 f2) : Vec Ideal S256x128 .f32) (ix2 e i)
    = DL f0 f1 f2 f3 f4 (ix2 ⟨1152 + i, by omega⟩ e) :=
  tile_DL f0 f1 f2 f3 f4 _ _ _ _ 1 ⟨384 + i, by omega⟩ ⟨1152 + i, by omega⟩ i (by show 1152 + i.val = 768 * 1 + (384 + i.val); omega)
    (fun k => v1571_at c f3 s4 k i) (fun k => v1573_at c f4 s5 k i) (v1576_at c f1 s3 i) (fun e => v1665_at c f0 f2 e i) e

theorem st7_9_ok (x : (Rect.unit ![1152, 0] S128x256.size (by decide) : Rect S1536x256).shape.Idx) :
    k0_pay168 (run.sl.r_69 c f3 f4 s4 s5) (run.sl.r_70 c f3 s4) (run.sl.r_71 c f0 f1 f2 f3 s3 s4) (run.sl.r_72 c f0 f1 f2 f3 f4 s3 s4 s5) x = DL f0 f1 f2 f3 f4 ((Rect.unit ![1152, 0] S128x256.size (by decide) : Rect S1536x256).emb x) := by
  change S128x256.Idx at x
  idx_vars x
  refine Eq.trans ?_ (congrArg (DL f0 f1 f2 f3 f4) (emb_rows (A := 1536) (w := 256) (h := 128) (a := 1152) (by decide) x0 x1)).symm
  rw [tile9_7]
  exact (dlP_at _ x0 x1).trans (tile9_DL c f0 f1 f2 f3 f4 s3 s4 s5 x1 x0)

theorem st8_9_ok (x : (Rect.unit ![1152, 0] S128x256.size (by decide) : Rect S1536x256).shape.Idx) :
    k0_pay169 (run.sl.r_69 c f3 f4 s4 s5) (run.sl.r_70 c f3 s4) (run.sl.r_71 c f0 f1 f2 f3 s3 s4) (run.sl.r_72 c f0 f1 f2 f3 f4 s3 s4 s5) x = DL16 f0 f1 f2 f3 f4 ((Rect.unit ![1152, 0] S128x256.size (by decide) : Rect S1536x256).emb x) := by
  change S128x256.Idx at x
  idx_vars x
  refine Eq.trans ?_ (congrArg (DL16 f0 f1 f2 f3 f4) (emb_rows (A := 1536) (w := 256) (h := 128) (a := 1152) (by decide) x0 x1)).symm
  rw [tile9_8]
  exact (dl16P_at _ x0 x1).trans (tile9_DL c f0 f1 f2 f3 f4 s3 s4 s5 x1 x0)

theorem st9_9_ok (x : (Rect.unit ![0, 1152] S256x128.size (by decide) : Rect S256x1536).shape.Idx) :
    k0_pay170 (run.sl.v1576 c f1 s3) (run.sl.r_69 c f3 f4 s4 s5) (run.sl.r_70 c f3 s4) (run.sl.r_71 c f0 f1 f2 f3 s3 s4) (run.sl.r_72 c f0 f1 f2 f3 f4 s3 s4 s5) x = DLST f0 f1 f2 f3 f4 ((Rect.unit ![0, 1152] S256x128.size (by decide) : Rect S256x1536).emb x) := by
  change S256x128.Idx at x
  idx_vars x
  refine Eq.trans ?_ (congrArg (DLST f0 f1 f2 f3 f4) (emb_cols (B := 1536) (h := 256) (w := 128) (b := 1152) (by decide) x0 x1)).symm
  rw [tile9_9]
  refine (dlstP_at _ _ x0 x1).trans ?_
  rw [tile9_DL, v1576_at]
  refine congrArg (fun y => DL f0 f1 f2 f3 f4 (ix2 ⟨1152 + x1, by omega⟩ x0) * f1 y) ?_
  exact (congrArg₂ (fun b s => ix2 b s)
    (bOf_eq ⟨1152 + x1, by omega⟩ 1 ⟨384 + x1, by omega⟩ (by show 1152 + x1.val = 768 * 1 + (384 + x1.val); omega))
    (sOf_eq ⟨1152 + x1, by omega⟩ 1 ⟨384 + x1, by omega⟩ (by show 1152 + x1.val = 768 * 1 + (384 + x1.val); omega))).symm

theorem Hs7_10_eq : run.sl.Hs7_10 (F := Ideal) c f0 f1 f2 f3 f4 s3 s4 s5 = ⟨(Rect.unit ![1152, 0] S128x256.size (by decide) : Rect S1536x256), k0_pay168 (run.sl.r_69 c f3 f4 s4 s5) (run.sl.r_70 c f3 s4) (run.sl.r_71 c f0 f1 f2 f3 s3 s4) (run.sl.r_72 c f0 f1 f2 f3 f4 s3 s4 s5)⟩ :: run.sl.Hs7_9 c f0 f1 f2 f3 f4 s3 s4 s5 := rfl

theorem Hs7_10_ok : ∀ p ∈ run.sl.Hs7_10 (F := Ideal) c f0 f1 f2 f3 f4 s3 s4 s5, ∀ x : p.1.shape.Idx, p.2 x = DL f0 f1 f2 f3 f4 (p.1.emb x) := by
  rw [Hs7_10_eq]
  exact pieces_cons (st7_9_ok c f0 f1 f2 f3 f4 s3 s4 s5) (Hs7_9_ok c f0 f1 f2 f3 f4 s3 s4 s5)

theorem Hs8_10_eq : run.sl.Hs8_10 (F := Ideal) c f0 f1 f2 f3 f4 s3 s4 s5 = ⟨(Rect.unit ![1152, 0] S128x256.size (by decide) : Rect S1536x256), k0_pay169 (run.sl.r_69 c f3 f4 s4 s5) (run.sl.r_70 c f3 s4) (run.sl.r_71 c f0 f1 f2 f3 s3 s4) (run.sl.r_72 c f0 f1 f2 f3 f4 s3 s4 s5)⟩ :: run.sl.Hs8_9 c f0 f1 f2 f3 f4 s3 s4 s5 := rfl

theorem Hs8_10_ok : ∀ p ∈ run.sl.Hs8_10 (F := Ideal) c f0 f1 f2 f3 f4 s3 s4 s5, ∀ x : p.1.shape.Idx, p.2 x = DL16 f0 f1 f2 f3 f4 (p.1.emb x) := by
  rw [Hs8_10_eq]
  exact pieces_cons (st8_9_ok c f0 f1 f2 f3 f4 s3 s4 s5) (Hs8_9_ok c f0 f1 f2 f3 f4 s3 s4 s5)

theorem Hs9_10_eq : run.sl.Hs9_10 (F := Ideal) c f0 f1 f2 f3 f4 s3 s4 s5 = ⟨(Rect.unit ![0, 1152] S256x128.size (by decide) : Rect S256x1536), k0_pay170 (run.sl.v1576 c f1 s3) (run.sl.r_69 c f3 f4 s4 s5) (run.sl.r_70 c f3 s4) (run.sl.r_71 c f0 f1 f2 f3 s3 s4) (run.sl.r_72 c f0 f1 f2 f3 f4 s3 s4 s5)⟩ :: run.sl.Hs9_9 c f0 f1 f2 f3 f4 s3 s4 s5 := rfl

theorem Hs9_10_ok : ∀ p ∈ run.sl.Hs9_10 (F := Ideal) c f0 f1 f2 f3 f4 s3 s4 s5, ∀ x : p.1.shape.Idx, p.2 x = DLST f0 f1 f2 f3 f4 (p.1.emb x) := by
  rw [Hs9_10_eq]
  exact pieces_cons (st9_9_ok c f0 f1 f2 f3 f4 s3 s4 s5) (Hs9_9_ok c f0 f1 f2 f3 f4 s3 s4 s5)

theorem tile10_DL (e : Fin 256) (i : Fin 128) : (tile (run.sl.v1704 c f3 s4) (run.sl.v1706 c f4 s5) (run.sl.v1709 c f1 s3) (run.sl.v1798 c f0 f2) : Vec Ideal S256x128 .f32) (ix2 e i)
    = DL f0 f1 f2 f3 f4 (ix2 ⟨1280 + i, by omega⟩ e) :=
  tile_DL f0 f1 f2 f3 f4 _ _ _ _ 1 ⟨512 + i, by omega⟩ ⟨1280 + i, by omega⟩ i (by show 1280 + i.val = 768 * 1 + (512 + i.val); omega)
    (fun k => v1704_at c f3 s4 k i) (fun k => v1706_at c f4 s5 k i) (v1709_at c f1 s3 i) (fun e => v1798_at c f0 f2 e i) e

theorem st7_10_ok (x : (Rect.unit ![1280, 0] S128x256.size (by decide) : Rect S1536x256).shape.Idx) :
    k0_pay185 run.sl.v102 (run.sl.r_73 c f3 s4) (run.sl.v1709 c f1 s3) (run.sl.v1766 c f3 f4 s4 s5) (run.sl.v1769 c f3 s4) (run.sl.v1772 c f3 s4) (run.sl.v1775 c f3 s4) (run.sl.v1734 c f3 s4) (run.sl.v1741 c f3 s4) (run.sl.v1748 c f3 s4) (run.sl.v1754 c f3 s4) (run.sl.v1798 c f0 f2) x = DL f0 f1 f2 f3 f4 ((Rect.unit ![1280, 0] S128x256.size (by decide) : Rect S1536x256).emb x) := by
  change S128x256.Idx at x
  idx_vars x
  refine Eq.trans ?_ (congrArg (DL f0 f1 f2 f3 f4) (emb_rows (A := 1536) (w := 256) (h := 128) (a := 1280) (by decide) x0 x1)).symm
  rw [tile10_7]
  exact (dlP_at _ x0 x1).trans (tile10_DL c f0 f1 f2 f3 f4 s3 s4 s5 x1 x0)

theorem st8_10_ok (x : (Rect.unit ![1280, 0] S128x256.size (by decide) : Rect S1536x256).shape.Idx) :
    k0_pay186 run.sl.v102 (run.sl.r_73 c f3 s4) (run.sl.v1709 c f1 s3) (run.sl.v1766 c f3 f4 s4 s5) (run.sl.v1769 c f3 s4) (run.sl.v1772 c f3 s4) (run.sl.v1775 c f3 s4) (run.sl.v1734 c f3 s4) (run.sl.v1741 c f3 s4) (run.sl.v1748 c f3 s4) (run.sl.v1754 c f3 s4) (run.sl.v1798 c f0 f2) x = DL16 f0 f1 f2 f3 f4 ((Rect.unit ![1280, 0] S128x256.size (by decide) : Rect S1536x256).emb x) := by
  change S128x256.Idx at x
  idx_vars x
  refine Eq.trans ?_ (congrArg (DL16 f0 f1 f2 f3 f4) (emb_rows (A := 1536) (w := 256) (h := 128) (a := 1280) (by decide) x0 x1)).symm
  rw [tile10_8]
  exact (dl16P_at _ x0 x1).trans (tile10_DL c f0 f1 f2 f3 f4 s3 s4 s5 x1 x0)

theorem st9_10_ok (x : (Rect.unit ![0, 1280] S256x128.size (by decide) : Rect S256x1536).shape.Idx) :
    k0_pay189 (run.sl.r_77 c f0 f1 f2 f3 f4 s3 s4 s5) (run.sl.r_78 c f1 s3) x = DLST f0 f1 f2 f3 f4 ((Rect.unit ![0, 1280] S256x128.size (by decide) : Rect S256x1536).emb x) := by
  change S256x128.Idx at x
  idx_vars x
  refine Eq.trans ?_ (congrArg (DLST f0 f1 f2 f3 f4) (emb_cols (B := 1536) (h := 256) (w := 128) (b := 1280) (by decide) x0 x1)).symm
  rw [tile10_9]
  refine (dlstP_at _ _ x0 x1).trans ?_
  rw [tile10_DL, v1709_at]
  refine congrArg (fun y => DL f0 f1 f2 f3 f4 (ix2 ⟨1280 + x1, by omega⟩ x0) * f1 y) ?_
  exact (congrArg₂ (fun b s => ix2 b s)
    (bOf_eq ⟨1280 + x1, by omega⟩ 1 ⟨512 + x1, by omega⟩ (by show 1280 + x1.val = 768 * 1 + (512 + x1.val); omega))
    (sOf_eq ⟨1280 + x1, by omega⟩ 1 ⟨512 + x1, by omega⟩ (by show 1280 + x1.val = 768 * 1 + (512 + x1.val); omega))).symm

theorem Hs7_11_eq : run.sl.Hs7_11 (F := Ideal) c f0 f1 f2 f3 f4 s3 s4 s5 = ⟨(Rect.unit ![1280, 0] S128x256.size (by decide) : Rect S1536x256), k0_pay185 run.sl.v102 (run.sl.r_73 c f3 s4) (run.sl.v1709 c f1 s3) (run.sl.v1766 c f3 f4 s4 s5) (run.sl.v1769 c f3 s4) (run.sl.v1772 c f3 s4) (run.sl.v1775 c f3 s4) (run.sl.v1734 c f3 s4) (run.sl.v1741 c f3 s4) (run.sl.v1748 c f3 s4) (run.sl.v1754 c f3 s4) (run.sl.v1798 c f0 f2)⟩ :: run.sl.Hs7_10 c f0 f1 f2 f3 f4 s3 s4 s5 := rfl

theorem Hs7_11_ok : ∀ p ∈ run.sl.Hs7_11 (F := Ideal) c f0 f1 f2 f3 f4 s3 s4 s5, ∀ x : p.1.shape.Idx, p.2 x = DL f0 f1 f2 f3 f4 (p.1.emb x) := by
  rw [Hs7_11_eq]
  exact pieces_cons (st7_10_ok c f0 f1 f2 f3 f4 s3 s4 s5) (Hs7_10_ok c f0 f1 f2 f3 f4 s3 s4 s5)

theorem Hs8_11_eq : run.sl.Hs8_11 (F := Ideal) c f0 f1 f2 f3 f4 s3 s4 s5 = ⟨(Rect.unit ![1280, 0] S128x256.size (by decide) : Rect S1536x256), k0_pay186 run.sl.v102 (run.sl.r_73 c f3 s4) (run.sl.v1709 c f1 s3) (run.sl.v1766 c f3 f4 s4 s5) (run.sl.v1769 c f3 s4) (run.sl.v1772 c f3 s4) (run.sl.v1775 c f3 s4) (run.sl.v1734 c f3 s4) (run.sl.v1741 c f3 s4) (run.sl.v1748 c f3 s4) (run.sl.v1754 c f3 s4) (run.sl.v1798 c f0 f2)⟩ :: run.sl.Hs8_10 c f0 f1 f2 f3 f4 s3 s4 s5 := rfl

theorem Hs8_11_ok : ∀ p ∈ run.sl.Hs8_11 (F := Ideal) c f0 f1 f2 f3 f4 s3 s4 s5, ∀ x : p.1.shape.Idx, p.2 x = DL16 f0 f1 f2 f3 f4 (p.1.emb x) := by
  rw [Hs8_11_eq]
  exact pieces_cons (st8_10_ok c f0 f1 f2 f3 f4 s3 s4 s5) (Hs8_10_ok c f0 f1 f2 f3 f4 s3 s4 s5)

theorem Hs9_11_eq : run.sl.Hs9_11 (F := Ideal) c f0 f1 f2 f3 f4 s3 s4 s5 = ⟨(Rect.unit ![0, 1280] S256x128.size (by decide) : Rect S256x1536), k0_pay189 (run.sl.r_77 c f0 f1 f2 f3 f4 s3 s4 s5) (run.sl.r_78 c f1 s3)⟩ :: run.sl.Hs9_10 c f0 f1 f2 f3 f4 s3 s4 s5 := rfl

theorem Hs9_11_ok : ∀ p ∈ run.sl.Hs9_11 (F := Ideal) c f0 f1 f2 f3 f4 s3 s4 s5, ∀ x : p.1.shape.Idx, p.2 x = DLST f0 f1 f2 f3 f4 (p.1.emb x) := by
  rw [Hs9_11_eq]
  exact pieces_cons (st9_10_ok c f0 f1 f2 f3 f4 s3 s4 s5) (Hs9_10_ok c f0 f1 f2 f3 f4 s3 s4 s5)

theorem tile11_DL (e : Fin 256) (i : Fin 128) : (tile (run.sl.v1837 c f3 s4) (run.sl.v1839 c f4 s5) (run.sl.v1842 c f1 s3) (run.sl.v1931 c f0 f2) : Vec Ideal S256x128 .f32) (ix2 e i)
    = DL f0 f1 f2 f3 f4 (ix2 ⟨1408 + i, by omega⟩ e) :=
  tile_DL f0 f1 f2 f3 f4 _ _ _ _ 1 ⟨640 + i, by omega⟩ ⟨1408 + i, by omega⟩ i (by show 1408 + i.val = 768 * 1 + (640 + i.val); omega)
    (fun k => v1837_at c f3 s4 k i) (fun k => v1839_at c f4 s5 k i) (v1842_at c f1 s3 i) (fun e => v1931_at c f0 f2 e i) e

theorem st7_11_ok (x : (Rect.unit ![1408, 0] S128x256.size (by decide) : Rect S1536x256).shape.Idx) :
    k0_pay200 (run.sl.r_83 c f3 f4 s4 s5) (run.sl.r_84 c f3 s4) (run.sl.r_85 c f0 f1 f2 f3 s3 s4) (run.sl.r_86 c f0 f1 f2 f3 s3 s4) x = DL f0 f1 f2 f3 f4 ((Rect.unit ![1408, 0] S128x256.size (by decide) : Rect S1536x256).emb x) := by
  change S128x256.Idx at x
  idx_vars x
  refine Eq.trans ?_ (congrArg (DL f0 f1 f2 f3 f4) (emb_rows (A := 1536) (w := 256) (h := 128) (a := 1408) (by decide) x0 x1)).symm
  rw [tile11_7]
  exact (dlP_at _ x0 x1).trans (tile11_DL c f0 f1 f2 f3 f4 s3 s4 s5 x1 x0)

theorem st8_11_ok (x : (Rect.unit ![1408, 0] S128x256.size (by decide) : Rect S1536x256).shape.Idx) :
    k0_pay201 (run.sl.r_83 c f3 f4 s4 s5) (run.sl.r_84 c f3 s4) (run.sl.r_85 c f0 f1 f2 f3 s3 s4) (run.sl.r_86 c f0 f1 f2 f3 s3 s4) x = DL16 f0 f1 f2 f3 f4 ((Rect.unit ![1408, 0] S128x256.size (by decide) : Rect S1536x256).emb x) := by
  change S128x256.Idx at x
  idx_vars x
  refine Eq.trans ?_ (congrArg (DL16 f0 f1 f2 f3 f4) (emb_rows (A := 1536) (w := 256) (h := 128) (a := 1408) (by decide) x0 x1)).symm
  rw [tile11_8]
  exact (dl16P_at _ x0 x1).trans (tile11_DL c f0 f1 f2 f3 f4 s3 s4 s5 x1 x0)

theorem st9_11_ok (x : (Rect.unit ![0, 1408] S256x128.size (by decide) : Rect S256x1536).shape.Idx) :
    k0_pay202 (run.sl.v1842 c f1 s3) (run.sl.r_83 c f3 f4 s4 s5) (run.sl.r_84 c f3 s4) (run.sl.r_85 c f0 f1 f2 f3 s3 s4) (run.sl.r_86 c f0 f1 f2 f3 s3 s4) x = DLST f0 f1 f2 f3 f4 ((Rect.unit ![0, 1408] S256x128.size (by decide) : Rect S256x1536).emb x) := by
  change S256x128.Idx at x
  idx_vars x
  refine Eq.trans ?_ (congrArg (DLST f0 f1 f2 f3 f4) (emb_cols (B := 1536) (h := 256) (w := 128) (b := 1408) (by decide) x0 x1)).symm
  rw [tile11_9]
  refine (dlstP_at _ _ x0 x1).trans ?_
  rw [tile11_DL, v1842_at]
  refine congrArg (fun y => DL f0 f1 f2 f3 f4 (ix2 ⟨1408 + x1, by omega⟩ x0) * f1 y) ?_
  exact (congrArg₂ (fun b s => ix2 b s)
    (bOf_eq ⟨1408 + x1, by omega⟩ 1 ⟨640 + x1, by omega⟩ (by show 1408 + x1.val = 768 * 1 + (640 + x1.val); omega))
    (sOf_eq ⟨1408 + x1, by omega⟩ 1 ⟨640 + x1, by omega⟩ (by show 1408 + x1.val = 768 * 1 + (640 + x1.val); omega))).symm

theorem Hs7_12_eq : run.sl.Hs7_12 (F := Ideal) c f0 f1 f2 f3 f4 s3 s4 s5 = ⟨(Rect.unit ![1408, 0] S128x256.size (by decide) : Rect S1536x256), k0_pay200 (run.sl.r_83 c f3 f4 s4 s5) (run.sl.r_84 c f3 s4) (run.sl.r_85 c f0 f1 f2 f3 s3 s4) (run.sl.r_86 c f0 f1 f2 f3 s3 s4)⟩ :: run.sl.Hs7_11 c f0 f1 f2 f3 f4 s3 s4 s5 := rfl

theorem Hs7_12_ok : ∀ p ∈ run.sl.Hs7_12 (F := Ideal) c f0 f1 f2 f3 f4 s3 s4 s5, ∀ x : p.1.shape.Idx, p.2 x = DL f0 f1 f2 f3 f4 (p.1.emb x) := by
  rw [Hs7_12_eq]
  exact pieces_cons (st7_11_ok c f0 f1 f2 f3 f4 s3 s4 s5) (Hs7_11_ok c f0 f1 f2 f3 f4 s3 s4 s5)

theorem Hs8_12_eq : run.sl.Hs8_12 (F := Ideal) c f0 f1 f2 f3 f4 s3 s4 s5 = ⟨(Rect.unit ![1408, 0] S128x256.size (by decide) : Rect S1536x256), k0_pay201 (run.sl.r_83 c f3 f4 s4 s5) (run.sl.r_84 c f3 s4) (run.sl.r_85 c f0 f1 f2 f3 s3 s4) (run.sl.r_86 c f0 f1 f2 f3 s3 s4)⟩ :: run.sl.Hs8_11 c f0 f1 f2 f3 f4 s3 s4 s5 := rfl

theorem Hs8_12_ok : ∀ p ∈ run.sl.Hs8_12 (F := Ideal) c f0 f1 f2 f3 f4 s3 s4 s5, ∀ x : p.1.shape.Idx, p.2 x = DL16 f0 f1 f2 f3 f4 (p.1.emb x) := by
  rw [Hs8_12_eq]
  exact pieces_cons (st8_11_ok c f0 f1 f2 f3 f4 s3 s4 s5) (Hs8_11_ok c f0 f1 f2 f3 f4 s3 s4 s5)

theorem Hs9_12_eq : run.sl.Hs9_12 (F := Ideal) c f0 f1 f2 f3 f4 s3 s4 s5 = ⟨(Rect.unit ![0, 1408] S256x128.size (by decide) : Rect S256x1536), k0_pay202 (run.sl.v1842 c f1 s3) (run.sl.r_83 c f3 f4 s4 s5) (run.sl.r_84 c f3 s4) (run.sl.r_85 c f0 f1 f2 f3 s3 s4) (run.sl.r_86 c f0 f1 f2 f3 s3 s4)⟩ :: run.sl.Hs9_11 c f0 f1 f2 f3 f4 s3 s4 s5 := rfl

theorem Hs9_12_ok : ∀ p ∈ run.sl.Hs9_12 (F := Ideal) c f0 f1 f2 f3 f4 s3 s4 s5, ∀ x : p.1.shape.Idx, p.2 x = DLST f0 f1 f2 f3 f4 (p.1.emb x) := by
  rw [Hs9_12_eq]
  exact pieces_cons (st9_11_ok c f0 f1 f2 f3 f4 s3 s4 s5) (Hs9_11_ok c f0 f1 f2 f3 f4 s3 s4 s5)

/-- The first eight tiles store the first 1024 tokens. -/
theorem Hs7_8_cover (y : S1536x256.Idx) (h : (y 0).val < 1024) : ∃ p ∈ run.sl.Hs7_8 (F := Ideal) c f0 f1 f2 f3 f4 s3 s4 s5, y ∈ p.1.set := by
  idx_vars y
  change y0.val < 1024 at h
  refine (show ∃ p ∈ ([⟨Rect.unit ![896, 0] S128x256.size (by decide), k0_pay128 run.sl.v102 (run.sl.r_47 c f3 s4) (run.sl.v1212 c f1 s3) (run.sl.v1269 c f3 f4 s4 s5) (run.sl.v1272 c f3 s4) (run.sl.v1275 c f3 s4) (run.sl.v1230 c f3 s4) (run.sl.v1237 c f3 s4) (run.sl.v1301 c f0 f2)⟩,
    ⟨Rect.unit ![768, 0] S128x256.size (by decide), k0_pay114 (run.sl.r_44 c f3 f4 s4 s5) (run.sl.r_45 c f3 s4) (run.sl.r_46 c f0 f1 f2 f3 s3 s4)⟩,
    ⟨Rect.unit ![640, 0] S128x256.size (by decide), k0_pay101 (run.sl.v946 c f1 s3) (run.sl.v1003 c f3 f4 s4 s5) (run.sl.v985 c f3 s4) (run.sl.v992 c f3 s4) (run.sl.v999 c f3 s4) (run.sl.v1031 c f3 s4) (run.sl.v1035 c f0 f2)⟩,
    ⟨Rect.unit ![512, 0] S128x256.size (by decide), k0_pay87 (run.sl.r_34 c f0 f1 f2 f3 f4 s3 s4 s5)⟩,
    ⟨Rect.unit ![384, 0] S128x256.size (by decide), k0_pay75 (run.sl.r_26 c f3 f4 s4 s5) (run.sl.r_27 c f3 s4) (run.sl.r_28 c f0 f1 f2 f3 s3 s4)⟩,
    ⟨Rect.unit ![256, 0] S128x256.size (by decide), k0_pay61 run.sl.v102 (run.sl.v547 c f1 s3) (run.sl.v604 c f3 f4 s4 s5) (run.sl.v607 c f3 s4) (run.sl.v610 c f3 s4) (run.sl.v613 c f3 s4) (run.sl.v572 c f3 s4) (run.sl.v579 c f3 s4) (run.sl.v586 c f3 s4) (run.sl.v593 c f3 s4) (run.sl.v598 c f3 s4) (run.sl.v636 c f0 f2)⟩,
    ⟨Rect.unit ![128, 0] S128x256.size (by decide), k0_pay42 (run.sl.r_13 c f3 s4) (run.sl.r_14 c f0 f1 f2 f3 f4 s3 s4 s5)⟩,
    ⟨Rect.unit ![0, 0] S128x256.size (by decide), k0_pay32 (run.sl.r_8 c f3 f4 s4 s5) (run.sl.r_9 c f3 s4) (run.sl.r_10 c f0 f1 f2 s3) k0_pay29⟩] : List (View.Piece (Elt Ideal) S1536x256 .f32)), (ix2 y0 y1 : S1536x256.Idx) ∈ p.1.set from ?_)
  simp only [List.exists_mem_cons_iff, Rect.mem_set_unit, Fin.forall_fin_two, List.not_mem_nil, false_and, exists_false, or_false]
  simp only [ix2_0, ix2_1, Matrix.cons_val_zero, Matrix.cons_val_one, Shape.size]
  omega

/-- The twelve tiles store every token. -/
theorem Hs7_12_cover (y : S1536x256.Idx)  : ∃ p ∈ run.sl.Hs7_12 (F := Ideal) c f0 f1 f2 f3 f4 s3 s4 s5, y ∈ p.1.set := by
  idx_vars y

  refine (show ∃ p ∈ ([⟨Rect.unit ![1408, 0] S128x256.size (by decide), k0_pay200 (run.sl.r_83 c f3 f4 s4 s5) (run.sl.r_84 c f3 s4) (run.sl.r_85 c f0 f1 f2 f3 s3 s4) (run.sl.r_86 c f0 f1 f2 f3 s3 s4)⟩,
    ⟨Rect.unit ![1280, 0] S128x256.size (by decide), k0_pay185 run.sl.v102 (run.sl.r_73 c f3 s4) (run.sl.v1709 c f1 s3) (run.sl.v1766 c f3 f4 s4 s5) (run.sl.v1769 c f3 s4) (run.sl.v1772 c f3 s4) (run.sl.v1775 c f3 s4) (run.sl.v1734 c f3 s4) (run.sl.v1741 c f3 s4) (run.sl.v1748 c f3 s4) (run.sl.v1754 c f3 s4) (run.sl.v1798 c f0 f2)⟩,
    ⟨Rect.unit ![1152, 0] S128x256.size (by decide), k0_pay168 (run.sl.r_69 c f3 f4 s4 s5) (run.sl.r_70 c f3 s4) (run.sl.r_71 c f0 f1 f2 f3 s3 s4) (run.sl.r_72 c f0 f1 f2 f3 f4 s3 s4 s5)⟩,
    ⟨Rect.unit ![1024, 0] S128x256.size (by decide), k0_pay154 (run.sl.r_62 c f3 f4 s4 s5) (run.sl.r_63 c f3 s4) (run.sl.r_64 c f0 f1 f2 s3)⟩,
    ⟨Rect.unit ![896, 0] S128x256.size (by decide), k0_pay128 run.sl.v102 (run.sl.r_47 c f3 s4) (run.sl.v1212 c f1 s3) (run.sl.v1269 c f3 f4 s4 s5) (run.sl.v1272 c f3 s4) (run.sl.v1275 c f3 s4) (run.sl.v1230 c f3 s4) (run.sl.v1237 c f3 s4) (run.sl.v1301 c f0 f2)⟩,
    ⟨Rect.unit ![768, 0] S128x256.size (by decide), k0_pay114 (run.sl.r_44 c f3 f4 s4 s5) (run.sl.r_45 c f3 s4) (run.sl.r_46 c f0 f1 f2 f3 s3 s4)⟩,
    ⟨Rect.unit ![640, 0] S128x256.size (by decide), k0_pay101 (run.sl.v946 c f1 s3) (run.sl.v1003 c f3 f4 s4 s5) (run.sl.v985 c f3 s4) (run.sl.v992 c f3 s4) (run.sl.v999 c f3 s4) (run.sl.v1031 c f3 s4) (run.sl.v1035 c f0 f2)⟩,
    ⟨Rect.unit ![512, 0] S128x256.size (by decide), k0_pay87 (run.sl.r_34 c f0 f1 f2 f3 f4 s3 s4 s5)⟩,
    ⟨Rect.unit ![384, 0] S128x256.size (by decide), k0_pay75 (run.sl.r_26 c f3 f4 s4 s5) (run.sl.r_27 c f3 s4) (run.sl.r_28 c f0 f1 f2 f3 s3 s4)⟩,
    ⟨Rect.unit ![256, 0] S128x256.size (by decide), k0_pay61 run.sl.v102 (run.sl.v547 c f1 s3) (run.sl.v604 c f3 f4 s4 s5) (run.sl.v607 c f3 s4) (run.sl.v610 c f3 s4) (run.sl.v613 c f3 s4) (run.sl.v572 c f3 s4) (run.sl.v579 c f3 s4) (run.sl.v586 c f3 s4) (run.sl.v593 c f3 s4) (run.sl.v598 c f3 s4) (run.sl.v636 c f0 f2)⟩,
    ⟨Rect.unit ![128, 0] S128x256.size (by decide), k0_pay42 (run.sl.r_13 c f3 s4) (run.sl.r_14 c f0 f1 f2 f3 f4 s3 s4 s5)⟩,
    ⟨Rect.unit ![0, 0] S128x256.size (by decide), k0_pay32 (run.sl.r_8 c f3 f4 s4 s5) (run.sl.r_9 c f3 s4) (run.sl.r_10 c f0 f1 f2 s3) k0_pay29⟩] : List (View.Piece (Elt Ideal) S1536x256 .f32)), (ix2 y0 y1 : S1536x256.Idx) ∈ p.1.set from ?_)
  simp only [List.exists_mem_cons_iff, Rect.mem_set_unit, Fin.forall_fin_two, List.not_mem_nil, false_and, exists_false, or_false]
  simp only [ix2_0, ix2_1, Matrix.cons_val_zero, Matrix.cons_val_one, Shape.size]
  omega

/-- The twelve tiles store every token. -/
theorem Hs8_12_cover (y : S1536x256.Idx)  : ∃ p ∈ run.sl.Hs8_12 (F := Ideal) c f0 f1 f2 f3 f4 s3 s4 s5, y ∈ p.1.set := by
  idx_vars y

  refine (show ∃ p ∈ ([⟨Rect.unit ![1408, 0] S128x256.size (by decide), k0_pay201 (run.sl.r_83 c f3 f4 s4 s5) (run.sl.r_84 c f3 s4) (run.sl.r_85 c f0 f1 f2 f3 s3 s4) (run.sl.r_86 c f0 f1 f2 f3 s3 s4)⟩,
    ⟨Rect.unit ![1280, 0] S128x256.size (by decide), k0_pay186 run.sl.v102 (run.sl.r_73 c f3 s4) (run.sl.v1709 c f1 s3) (run.sl.v1766 c f3 f4 s4 s5) (run.sl.v1769 c f3 s4) (run.sl.v1772 c f3 s4) (run.sl.v1775 c f3 s4) (run.sl.v1734 c f3 s4) (run.sl.v1741 c f3 s4) (run.sl.v1748 c f3 s4) (run.sl.v1754 c f3 s4) (run.sl.v1798 c f0 f2)⟩,
    ⟨Rect.unit ![1152, 0] S128x256.size (by decide), k0_pay169 (run.sl.r_69 c f3 f4 s4 s5) (run.sl.r_70 c f3 s4) (run.sl.r_71 c f0 f1 f2 f3 s3 s4) (run.sl.r_72 c f0 f1 f2 f3 f4 s3 s4 s5)⟩,
    ⟨Rect.unit ![1024, 0] S128x256.size (by decide), k0_pay155 (run.sl.r_62 c f3 f4 s4 s5) (run.sl.r_63 c f3 s4) (run.sl.r_64 c f0 f1 f2 s3)⟩,
    ⟨Rect.unit ![896, 0] S128x256.size (by decide), k0_pay130 (run.sl.r_52 c f0 f1 f2 f3 f4 s3 s4 s5)⟩,
    ⟨Rect.unit ![768, 0] S128x256.size (by decide), k0_pay115 (run.sl.r_44 c f3 f4 s4 s5) (run.sl.r_45 c f3 s4) (run.sl.r_46 c f0 f1 f2 f3 s3 s4)⟩,
    ⟨Rect.unit ![640, 0] S128x256.size (by decide), k0_pay102 (run.sl.v946 c f1 s3) (run.sl.v1003 c f3 f4 s4 s5) (run.sl.v985 c f3 s4) (run.sl.v992 c f3 s4) (run.sl.v999 c f3 s4) (run.sl.v1031 c f3 s4) (run.sl.v1035 c f0 f2)⟩,
    ⟨Rect.unit ![512, 0] S128x256.size (by decide), k0_pay88 (run.sl.r_34 c f0 f1 f2 f3 f4 s3 s4 s5)⟩,
    ⟨Rect.unit ![384, 0] S128x256.size (by decide), k0_pay76 (run.sl.r_26 c f3 f4 s4 s5) (run.sl.r_27 c f3 s4) (run.sl.r_28 c f0 f1 f2 f3 s3 s4)⟩,
    ⟨Rect.unit ![256, 0] S128x256.size (by decide), k0_pay62 run.sl.v102 (run.sl.v547 c f1 s3) (run.sl.v604 c f3 f4 s4 s5) (run.sl.v607 c f3 s4) (run.sl.v610 c f3 s4) (run.sl.v613 c f3 s4) (run.sl.v572 c f3 s4) (run.sl.v579 c f3 s4) (run.sl.v586 c f3 s4) (run.sl.v593 c f3 s4) (run.sl.v598 c f3 s4) (run.sl.v636 c f0 f2)⟩,
    ⟨Rect.unit ![128, 0] S128x256.size (by decide), k0_pay43 (run.sl.r_13 c f3 s4) (run.sl.r_14 c f0 f1 f2 f3 f4 s3 s4 s5)⟩,
    ⟨Rect.unit ![0, 0] S128x256.size (by decide), k0_pay33 (run.sl.r_8 c f3 f4 s4 s5) (run.sl.r_9 c f3 s4) (run.sl.r_10 c f0 f1 f2 s3) k0_pay29⟩] : List (View.Piece (Elt Ideal) S1536x256 .bf16)), (ix2 y0 y1 : S1536x256.Idx) ∈ p.1.set from ?_)
  simp only [List.exists_mem_cons_iff, Rect.mem_set_unit, Fin.forall_fin_two, List.not_mem_nil, false_and, exists_false, or_false]
  simp only [ix2_0, ix2_1, Matrix.cons_val_zero, Matrix.cons_val_one, Shape.size]
  omega

/-- The twelve tiles store every token. -/
theorem Hs9_12_cover (y : S256x1536.Idx)  : ∃ p ∈ run.sl.Hs9_12 (F := Ideal) c f0 f1 f2 f3 f4 s3 s4 s5, y ∈ p.1.set := by
  idx_vars y

  refine (show ∃ p ∈ ([⟨Rect.unit ![0, 1408] S256x128.size (by decide), k0_pay202 (run.sl.v1842 c f1 s3) (run.sl.r_83 c f3 f4 s4 s5) (run.sl.r_84 c f3 s4) (run.sl.r_85 c f0 f1 f2 f3 s3 s4) (run.sl.r_86 c f0 f1 f2 f3 s3 s4)⟩,
    ⟨Rect.unit ![0, 1280] S256x128.size (by decide), k0_pay189 (run.sl.r_77 c f0 f1 f2 f3 f4 s3 s4 s5) (run.sl.r_78 c f1 s3)⟩,
    ⟨Rect.unit ![0, 1152] S256x128.size (by decide), k0_pay170 (run.sl.v1576 c f1 s3) (run.sl.r_69 c f3 f4 s4 s5) (run.sl.r_70 c f3 s4) (run.sl.r_71 c f0 f1 f2 f3 s3 s4) (run.sl.r_72 c f0 f1 f2 f3 f4 s3 s4 s5)⟩,
    ⟨Rect.unit ![0, 1024] S256x128.size (by decide), k0_pay156 (run.sl.v1443 c f1 s3) (run.sl.r_62 c f3 f4 s4 s5) (run.sl.r_63 c f3 s4) (run.sl.r_64 c f0 f1 f2 s3)⟩,
    ⟨Rect.unit ![0, 896] S256x128.size (by decide), k0_pay131 (run.sl.v1212 c f1 s3) (run.sl.r_51 c f0 f1 f2 f3 f4 s3 s4 s5)⟩,
    ⟨Rect.unit ![0, 768] S256x128.size (by decide), k0_pay116 (run.sl.v1079 c f1 s3) (run.sl.r_44 c f3 f4 s4 s5) (run.sl.r_45 c f3 s4) (run.sl.r_46 c f0 f1 f2 f3 s3 s4)⟩,
    ⟨Rect.unit ![0, 640] S256x128.size (by decide), k0_pay103 (run.sl.v946 c f1 s3) (run.sl.v1003 c f3 f4 s4 s5) (run.sl.v985 c f3 s4) (run.sl.v992 c f3 s4) (run.sl.v999 c f3 s4) (run.sl.v1031 c f3 s4) (run.sl.v1035 c f0 f2)⟩,
    ⟨Rect.unit ![0, 512] S256x128.size (by decide), k0_pay89 (run.sl.v813 c f1 s3) (run.sl.r_33 c f0 f1 f2 f3 f4 s3 s4 s5)⟩,
    ⟨Rect.unit ![0, 384] S256x128.size (by decide), k0_pay77 (run.sl.v680 c f1 s3) (run.sl.r_26 c f3 f4 s4 s5) (run.sl.r_27 c f3 s4) (run.sl.r_28 c f0 f1 f2 f3 s3 s4)⟩,
    ⟨Rect.unit ![0, 256] S256x128.size (by decide), k0_pay64 (run.sl.r_20 c f0 f1 f2 f3 f4 s3 s4 s5)⟩,
    ⟨Rect.unit ![0, 128] S256x128.size (by decide), k0_pay44 (run.sl.v414 c f1 s3) (run.sl.r_13 c f3 s4) (run.sl.r_14 c f0 f1 f2 f3 f4 s3 s4 s5)⟩,
    ⟨Rect.unit ![0, 0] S256x128.size (by decide), k0_pay34 (run.sl.v281 c f1 s3) (run.sl.r_8 c f3 f4 s4 s5) (run.sl.r_9 c f3 s4) (run.sl.r_10 c f0 f1 f2 s3) k0_pay29⟩] : List (View.Piece (Elt Ideal) S256x1536 .bf16)), (ix2 y0 y1 : S256x1536.Idx) ∈ p.1.set from ?_)
  simp only [List.exists_mem_cons_iff, Rect.mem_set_unit, Fin.forall_fin_two, List.not_mem_nil, false_and, exists_false, or_false]
  simp only [ix2_0, ix2_1, Matrix.cons_val_zero, Matrix.cons_val_one, Shape.size]
  omega

theorem v1970_at (a : Fin 1536) (b : Fin 256) : run.sl.v1970 (F := Ideal) c f0 f1 f2 f3 f4 s3 s4 s5 (ix2 a b) = DL16 f0 f1 f2 f3 f4 (ix2 a b) := by
  have h : run.sl.v1970 (F := Ideal) c f0 f1 f2 f3 f4 s3 s4 s5 = fun j => DL16 f0 f1 f2 f3 f4 ((Rect.unit ![0, 0] S1536x256.size (by decide) : Rect S1536x256).toLoadRect.idx j) :=
    (show run.sl.v1970 (F := Ideal) c f0 f1 f2 f3 f4 s3 s4 s5 = (Memref.whole cc0_scratch8).view.readCov (run.sl.Hs8_12 c f0 f1 f2 f3 f4 s3 s4 s5)
      (Rect.unit ![0, 0] S1536x256.size (by decide) : Rect S1536x256).toLoadRect from rfl).trans
      (readCov_of_pieces _ (DL16 f0 f1 f2 f3 f4) _ _ (Hs8_12_ok c f0 f1 f2 f3 f4 s3 s4 s5) (Hs8_12_cover c f0 f1 f2 f3 f4 s3 s4 s5))
  rw [h]
  pointwise

theorem v1977_at (a : Fin 256) (b : Fin 1536) : run.sl.v1977 (F := Ideal) c f0 f1 f2 f3 f4 s3 s4 s5 (ix2 a b) = DLST f0 f1 f2 f3 f4 (ix2 a b) := by
  have h : run.sl.v1977 (F := Ideal) c f0 f1 f2 f3 f4 s3 s4 s5 = fun j => DLST f0 f1 f2 f3 f4 ((Rect.unit ![0, 0] S256x1536.size (by decide) : Rect S256x1536).toLoadRect.idx j) :=
    (show run.sl.v1977 (F := Ideal) c f0 f1 f2 f3 f4 s3 s4 s5 = (Memref.whole cc0_scratch9).view.readCov (run.sl.Hs9_12 c f0 f1 f2 f3 f4 s3 s4 s5)
      (Rect.unit ![0, 0] S256x1536.size (by decide) : Rect S256x1536).toLoadRect from rfl).trans
      (readCov_of_pieces _ (DLST f0 f1 f2 f3 f4) _ _ (Hs9_12_ok c f0 f1 f2 f3 f4 s3 s4 s5) (Hs9_12_cover c f0 f1 f2 f3 f4 s3 s4 s5))
  rw [h]
  pointwise

theorem dma182_at (s7 : Bf (F := Ideal) c cc0_scratch7) (a : Fin 1024) (b : Fin 256) :
    run.sl.dma182 (F := Ideal) c f0 f1 f2 f3 f4 s3 s4 s5 s7 (ix2 a b) = DL f0 f1 f2 f3 f4 (ix2 ⟨0 + a, by omega⟩ b) := by
  have h := read_slice (Memref.whole cc0_scratch7) (Rect.unit ![0, 0] S1024x256.size (by decide) : Rect S1536x256) (fun _ => rfl) s7
    (run.sl.Hs7_8 (F := Ideal) c f0 f1 f2 f3 f4 s3 s4 s5) (DL f0 f1 f2 f3 f4) (Hs7_8_ok c f0 f1 f2 f3 f4 s3 s4 s5) (fun y => Hs7_8_cover c f0 f1 f2 f3 f4 s3 s4 s5 _ (by change S1024x256.Idx at y; idx_vars y; show 0 + 1 * y0.val < 1024; omega))
  refine (congrFun (show run.sl.dma182 (F := Ideal) c f0 f1 f2 f3 f4 s3 s4 s5 s7 = _ from h) (ix2 a b)).trans ?_
  exact congrArg (DL f0 f1 f2 f3 f4) (emb_rows (A := 1536) (w := 256) (h := 1024) (a := 0) (by decide) a b)

theorem dma230_at (s7 : Bf (F := Ideal) c cc0_scratch7) (a : Fin 512) (b : Fin 256) :
    run.sl.dma230 (F := Ideal) c f0 f1 f2 f3 f4 s3 s4 s5 s7 (ix2 a b) = DL f0 f1 f2 f3 f4 (ix2 ⟨1024 + a, by omega⟩ b) := by
  have h := read_slice (Memref.whole cc0_scratch7) (Rect.unit ![1024, 0] S512x256.size (by decide) : Rect S1536x256) (fun _ => rfl) s7
    (run.sl.Hs7_12 (F := Ideal) c f0 f1 f2 f3 f4 s3 s4 s5) (DL f0 f1 f2 f3 f4) (Hs7_12_ok c f0 f1 f2 f3 f4 s3 s4 s5) (fun y => Hs7_12_cover c f0 f1 f2 f3 f4 s3 s4 s5 _ )
  refine (congrFun (show run.sl.dma230 (F := Ideal) c f0 f1 f2 f3 f4 s3 s4 s5 s7 = _ from h) (ix2 a b)).trans ?_
  exact congrArg (DL f0 f1 f2 f3 f4) (emb_rows (A := 1536) (w := 256) (h := 512) (a := 1024) (by decide) a b)

end Cert.KernelIdeal.Hand
-- ==== Proof.KernelIdeal.Outs.lean ====
module

public import proofs.«01_k».proof.Proof.KernelIdeal.Stores
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable (c : Dev nD) (f0 : Vec Ideal S1536x7168 .fp8e4m3) (f1 : Vec Ideal S2x768 .f32) (f2 : Vec Ideal S7168x256 .bf16)
  (f3 : Vec Ideal S2x8x768 .i32) (f4 : Vec Ideal S2x8x768 .bf16)
  (s3 : Bf (F := Ideal) c cc0_scratch3) (s4 : Bf (F := Ideal) c cc0_scratch4) (s5 : Bf (F := Ideal) c cc0_scratch5)

theorem dx0_at (n : Fin 1536) (j : Fin 512) : (k0_pay203 (run.sl.v1970 c f0 f1 f2 f3 f4 s3 s4 s5) (run.sl.v1344 c f2) : Vec Ideal S1x1536x512 .bf16) (ix3 0 n j) = DX f0 f1 f2 f3 f4 (ix2 n ⟨0 + j, by omega⟩) := by
  pointwise [k0_pay203, DX]
  refine Finset.sum_congr rfl fun e _ => ?_
  rw [v1970_at, v1344_at]
  exact congrArg (fun y => (DL f0 f1 f2 f3 f4 (ix2 n e) : EReal) * (f2 (ix2 y e) : EReal)) (Fin.ext (Nat.zero_add j.val))

theorem dma230_1_at (s10 : Bf (F := Ideal) c cc0_scratch10) (n : Fin 1536) (j : Fin 512) :
    run.sl.dma230_1 (F := Ideal) c f0 f1 f2 f3 f4 s3 s4 s5 s10 (ix2 n j) = DX f0 f1 f2 f3 f4 (ix2 n ⟨0 + j, by omega⟩) := by
  have h := read_slot (Memref.whole cc0_scratch10) (Rect.unit ![0, 0, 0] S1x1536x512.size (by decide) : Rect S2x1536x512) (fun _ => rfl)
    squeezes_S1x1536x512_S1536x512 (by decide) s10 (k0_pay203 (run.sl.v1970 c f0 f1 f2 f3 f4 s3 s4 s5) (run.sl.v1344 c f2) : Vec Ideal S1x1536x512 .bf16) ([])
  refine (congrFun (show run.sl.dma230_1 (F := Ideal) c f0 f1 f2 f3 f4 s3 s4 s5 s10 = _ from h) (ix2 n j)).trans ?_
  exact (slot_x _ _ n j).trans (dx0_at c f0 f1 f2 f3 f4 s3 s4 s5 n j)

theorem dx1_at (n : Fin 1536) (j : Fin 512) : (k0_pay206 (k0_pay205 (run.sl.v1970 c f0 f1 f2 f3 f4 s3 s4 s5) (run.sl.v1354 c f2)) : Vec Ideal S1x1536x512 .bf16) (ix3 0 n j) = DX f0 f1 f2 f3 f4 (ix2 n ⟨512 + j, by omega⟩) := by
  pointwise [k0_pay206, k0_pay205, DX]
  refine Finset.sum_congr rfl fun e _ => ?_
  rw [v1970_at, v1354_at]
  rfl

theorem dma238_at (s10 : Bf (F := Ideal) c cc0_scratch10) (n : Fin 1536) (j : Fin 512) :
    run.sl.dma238 (F := Ideal) c f0 f1 f2 f3 f4 s3 s4 s5 s10 (ix2 n j) = DX f0 f1 f2 f3 f4 (ix2 n ⟨512 + j, by omega⟩) := by
  have h := read_slot (Memref.whole cc0_scratch10) (Rect.unit ![1, 0, 0] S1x1536x512.size (by decide) : Rect S2x1536x512) (fun _ => rfl)
    squeezes_S1x1536x512_S1536x512 (by decide) s10 (k0_pay206 (k0_pay205 (run.sl.v1970 c f0 f1 f2 f3 f4 s3 s4 s5) (run.sl.v1354 c f2)) : Vec Ideal S1x1536x512 .bf16) (run.sl.Hs10_1 c f0 f1 f2 f3 f4 s3 s4 s5)
  refine (congrFun (show run.sl.dma238 (F := Ideal) c f0 f1 f2 f3 f4 s3 s4 s5 s10 = _ from h) (ix2 n j)).trans ?_
  exact (slot_x _ _ n j).trans (dx1_at c f0 f1 f2 f3 f4 s3 s4 s5 n j)

theorem dx2_at (n : Fin 1536) (j : Fin 512) : (k0_pay208 (run.sl.v1970 c f0 f1 f2 f3 f4 s3 s4 s5) (run.sl.v2033 c f2) : Vec Ideal S1x1536x512 .bf16) (ix3 0 n j) = DX f0 f1 f2 f3 f4 (ix2 n ⟨1024 + j, by omega⟩) := by
  pointwise [k0_pay208, DX]
  refine Finset.sum_congr rfl fun e _ => ?_
  rw [v1970_at, v2033_at]
  rfl

theorem dma246_at (s10 : Bf (F := Ideal) c cc0_scratch10) (n : Fin 1536) (j : Fin 512) :
    run.sl.dma246 (F := Ideal) c f0 f1 f2 f3 f4 s3 s4 s5 s10 (ix2 n j) = DX f0 f1 f2 f3 f4 (ix2 n ⟨1024 + j, by omega⟩) := by
  have h := read_slot (Memref.whole cc0_scratch10) (Rect.unit ![0, 0, 0] S1x1536x512.size (by decide) : Rect S2x1536x512) (fun _ => rfl)
    squeezes_S1x1536x512_S1536x512 (by decide) s10 (k0_pay208 (run.sl.v1970 c f0 f1 f2 f3 f4 s3 s4 s5) (run.sl.v2033 c f2) : Vec Ideal S1x1536x512 .bf16) (run.sl.Hs10_2 c f0 f1 f2 f3 f4 s3 s4 s5)
  refine (congrFun (show run.sl.dma246 (F := Ideal) c f0 f1 f2 f3 f4 s3 s4 s5 s10 = _ from h) (ix2 n j)).trans ?_
  exact (slot_x _ _ n j).trans (dx2_at c f0 f1 f2 f3 f4 s3 s4 s5 n j)

theorem dx3_at (n : Fin 1536) (j : Fin 512) : (k0_pay210 (run.sl.v1970 c f0 f1 f2 f3 f4 s3 s4 s5) (run.sl.v2067 c f2) : Vec Ideal S1x1536x512 .bf16) (ix3 0 n j) = DX f0 f1 f2 f3 f4 (ix2 n ⟨1536 + j, by omega⟩) := by
  pointwise [k0_pay210, DX]
  refine Finset.sum_congr rfl fun e _ => ?_
  rw [v1970_at, v2067_at]
  rfl

theorem dma254_at (s10 : Bf (F := Ideal) c cc0_scratch10) (n : Fin 1536) (j : Fin 512) :
    run.sl.dma254 (F := Ideal) c f0 f1 f2 f3 f4 s3 s4 s5 s10 (ix2 n j) = DX f0 f1 f2 f3 f4 (ix2 n ⟨1536 + j, by omega⟩) := by
  have h := read_slot (Memref.whole cc0_scratch10) (Rect.unit ![1, 0, 0] S1x1536x512.size (by decide) : Rect S2x1536x512) (fun _ => rfl)
    squeezes_S1x1536x512_S1536x512 (by decide) s10 (k0_pay210 (run.sl.v1970 c f0 f1 f2 f3 f4 s3 s4 s5) (run.sl.v2067 c f2) : Vec Ideal S1x1536x512 .bf16) (run.sl.Hs10_3 c f0 f1 f2 f3 f4 s3 s4 s5)
  refine (congrFun (show run.sl.dma254 (F := Ideal) c f0 f1 f2 f3 f4 s3 s4 s5 s10 = _ from h) (ix2 n j)).trans ?_
  exact (slot_x _ _ n j).trans (dx3_at c f0 f1 f2 f3 f4 s3 s4 s5 n j)

theorem dx4_at (n : Fin 1536) (j : Fin 512) : (k0_pay214 (k0_pay213 (run.sl.v1970 c f0 f1 f2 f3 f4 s3 s4 s5) (run.sl.v2101 c f2)) : Vec Ideal S1x1536x512 .bf16) (ix3 0 n j) = DX f0 f1 f2 f3 f4 (ix2 n ⟨2048 + j, by omega⟩) := by
  pointwise [k0_pay214, k0_pay213, DX]
  refine Finset.sum_congr rfl fun e _ => ?_
  rw [v1970_at, v2101_at]
  rfl

theorem dma262_at (s10 : Bf (F := Ideal) c cc0_scratch10) (n : Fin 1536) (j : Fin 512) :
    run.sl.dma262 (F := Ideal) c f0 f1 f2 f3 f4 s3 s4 s5 s10 (ix2 n j) = DX f0 f1 f2 f3 f4 (ix2 n ⟨2048 + j, by omega⟩) := by
  have h := read_slot (Memref.whole cc0_scratch10) (Rect.unit ![0, 0, 0] S1x1536x512.size (by decide) : Rect S2x1536x512) (fun _ => rfl)
    squeezes_S1x1536x512_S1536x512 (by decide) s10 (k0_pay214 (k0_pay213 (run.sl.v1970 c f0 f1 f2 f3 f4 s3 s4 s5) (run.sl.v2101 c f2)) : Vec Ideal S1x1536x512 .bf16) (run.sl.Hs10_4 c f0 f1 f2 f3 f4 s3 s4 s5)
  refine (congrFun (show run.sl.dma262 (F := Ideal) c f0 f1 f2 f3 f4 s3 s4 s5 s10 = _ from h) (ix2 n j)).trans ?_
  exact (slot_x _ _ n j).trans (dx4_at c f0 f1 f2 f3 f4 s3 s4 s5 n j)

theorem dx5_at (n : Fin 1536) (j : Fin 512) : (k0_pay216 (run.sl.v1970 c f0 f1 f2 f3 f4 s3 s4 s5) (run.sl.v2135 c f2) : Vec Ideal S1x1536x512 .bf16) (ix3 0 n j) = DX f0 f1 f2 f3 f4 (ix2 n ⟨2560 + j, by omega⟩) := by
  pointwise [k0_pay216, DX]
  refine Finset.sum_congr rfl fun e _ => ?_
  rw [v1970_at, v2135_at]
  rfl

theorem dma270_at (s10 : Bf (F := Ideal) c cc0_scratch10) (n : Fin 1536) (j : Fin 512) :
    run.sl.dma270 (F := Ideal) c f0 f1 f2 f3 f4 s3 s4 s5 s10 (ix2 n j) = DX f0 f1 f2 f3 f4 (ix2 n ⟨2560 + j, by omega⟩) := by
  have h := read_slot (Memref.whole cc0_scratch10) (Rect.unit ![1, 0, 0] S1x1536x512.size (by decide) : Rect S2x1536x512) (fun _ => rfl)
    squeezes_S1x1536x512_S1536x512 (by decide) s10 (k0_pay216 (run.sl.v1970 c f0 f1 f2 f3 f4 s3 s4 s5) (run.sl.v2135 c f2) : Vec Ideal S1x1536x512 .bf16) (run.sl.Hs10_5 c f0 f1 f2 f3 f4 s3 s4 s5)
  refine (congrFun (show run.sl.dma270 (F := Ideal) c f0 f1 f2 f3 f4 s3 s4 s5 s10 = _ from h) (ix2 n j)).trans ?_
  exact (slot_x _ _ n j).trans (dx5_at c f0 f1 f2 f3 f4 s3 s4 s5 n j)

theorem dx6_at (n : Fin 1536) (j : Fin 512) : (k0_pay218 (run.sl.v1970 c f0 f1 f2 f3 f4 s3 s4 s5) (run.sl.v2169 c f2) : Vec Ideal S1x1536x512 .bf16) (ix3 0 n j) = DX f0 f1 f2 f3 f4 (ix2 n ⟨3072 + j, by omega⟩) := by
  pointwise [k0_pay218, DX]
  refine Finset.sum_congr rfl fun e _ => ?_
  rw [v1970_at, v2169_at]
  rfl

theorem dma278_at (s10 : Bf (F := Ideal) c cc0_scratch10) (n : Fin 1536) (j : Fin 512) :
    run.sl.dma278 (F := Ideal) c f0 f1 f2 f3 f4 s3 s4 s5 s10 (ix2 n j) = DX f0 f1 f2 f3 f4 (ix2 n ⟨3072 + j, by omega⟩) := by
  have h := read_slot (Memref.whole cc0_scratch10) (Rect.unit ![0, 0, 0] S1x1536x512.size (by decide) : Rect S2x1536x512) (fun _ => rfl)
    squeezes_S1x1536x512_S1536x512 (by decide) s10 (k0_pay218 (run.sl.v1970 c f0 f1 f2 f3 f4 s3 s4 s5) (run.sl.v2169 c f2) : Vec Ideal S1x1536x512 .bf16) (run.sl.Hs10_6 c f0 f1 f2 f3 f4 s3 s4 s5)
  refine (congrFun (show run.sl.dma278 (F := Ideal) c f0 f1 f2 f3 f4 s3 s4 s5 s10 = _ from h) (ix2 n j)).trans ?_
  exact (slot_x _ _ n j).trans (dx6_at c f0 f1 f2 f3 f4 s3 s4 s5 n j)

theorem dx7_at (n : Fin 1536) (j : Fin 512) : (k0_pay222 (k0_pay221 (run.sl.v1970 c f0 f1 f2 f3 f4 s3 s4 s5) (run.sl.v2203 c f2)) : Vec Ideal S1x1536x512 .bf16) (ix3 0 n j) = DX f0 f1 f2 f3 f4 (ix2 n ⟨3584 + j, by omega⟩) := by
  pointwise [k0_pay222, k0_pay221, DX]
  refine Finset.sum_congr rfl fun e _ => ?_
  rw [v1970_at, v2203_at]
  rfl

theorem dma286_at (s10 : Bf (F := Ideal) c cc0_scratch10) (n : Fin 1536) (j : Fin 512) :
    run.sl.dma286 (F := Ideal) c f0 f1 f2 f3 f4 s3 s4 s5 s10 (ix2 n j) = DX f0 f1 f2 f3 f4 (ix2 n ⟨3584 + j, by omega⟩) := by
  have h := read_slot (Memref.whole cc0_scratch10) (Rect.unit ![1, 0, 0] S1x1536x512.size (by decide) : Rect S2x1536x512) (fun _ => rfl)
    squeezes_S1x1536x512_S1536x512 (by decide) s10 (k0_pay222 (k0_pay221 (run.sl.v1970 c f0 f1 f2 f3 f4 s3 s4 s5) (run.sl.v2203 c f2)) : Vec Ideal S1x1536x512 .bf16) (run.sl.Hs10_7 c f0 f1 f2 f3 f4 s3 s4 s5)
  refine (congrFun (show run.sl.dma286 (F := Ideal) c f0 f1 f2 f3 f4 s3 s4 s5 s10 = _ from h) (ix2 n j)).trans ?_
  exact (slot_x _ _ n j).trans (dx7_at c f0 f1 f2 f3 f4 s3 s4 s5 n j)

theorem dx8_at (n : Fin 1536) (j : Fin 512) : (k0_pay224 (run.sl.v1970 c f0 f1 f2 f3 f4 s3 s4 s5) (run.sl.v2237 c f2) : Vec Ideal S1x1536x512 .bf16) (ix3 0 n j) = DX f0 f1 f2 f3 f4 (ix2 n ⟨4096 + j, by omega⟩) := by
  pointwise [k0_pay224, DX]
  refine Finset.sum_congr rfl fun e _ => ?_
  rw [v1970_at, v2237_at]
  rfl

theorem dma294_at (s10 : Bf (F := Ideal) c cc0_scratch10) (n : Fin 1536) (j : Fin 512) :
    run.sl.dma294 (F := Ideal) c f0 f1 f2 f3 f4 s3 s4 s5 s10 (ix2 n j) = DX f0 f1 f2 f3 f4 (ix2 n ⟨4096 + j, by omega⟩) := by
  have h := read_slot (Memref.whole cc0_scratch10) (Rect.unit ![0, 0, 0] S1x1536x512.size (by decide) : Rect S2x1536x512) (fun _ => rfl)
    squeezes_S1x1536x512_S1536x512 (by decide) s10 (k0_pay224 (run.sl.v1970 c f0 f1 f2 f3 f4 s3 s4 s5) (run.sl.v2237 c f2) : Vec Ideal S1x1536x512 .bf16) (run.sl.Hs10_8 c f0 f1 f2 f3 f4 s3 s4 s5)
  refine (congrFun (show run.sl.dma294 (F := Ideal) c f0 f1 f2 f3 f4 s3 s4 s5 s10 = _ from h) (ix2 n j)).trans ?_
  exact (slot_x _ _ n j).trans (dx8_at c f0 f1 f2 f3 f4 s3 s4 s5 n j)

theorem dx9_at (n : Fin 1536) (j : Fin 512) : (k0_pay226 (run.sl.v1970 c f0 f1 f2 f3 f4 s3 s4 s5) (run.sl.v2271 c f2) : Vec Ideal S1x1536x512 .bf16) (ix3 0 n j) = DX f0 f1 f2 f3 f4 (ix2 n ⟨4608 + j, by omega⟩) := by
  pointwise [k0_pay226, DX]
  refine Finset.sum_congr rfl fun e _ => ?_
  rw [v1970_at, v2271_at]
  rfl

theorem dma302_at (s10 : Bf (F := Ideal) c cc0_scratch10) (n : Fin 1536) (j : Fin 512) :
    run.sl.dma302 (F := Ideal) c f0 f1 f2 f3 f4 s3 s4 s5 s10 (ix2 n j) = DX f0 f1 f2 f3 f4 (ix2 n ⟨4608 + j, by omega⟩) := by
  have h := read_slot (Memref.whole cc0_scratch10) (Rect.unit ![1, 0, 0] S1x1536x512.size (by decide) : Rect S2x1536x512) (fun _ => rfl)
    squeezes_S1x1536x512_S1536x512 (by decide) s10 (k0_pay226 (run.sl.v1970 c f0 f1 f2 f3 f4 s3 s4 s5) (run.sl.v2271 c f2) : Vec Ideal S1x1536x512 .bf16) (run.sl.Hs10_9 c f0 f1 f2 f3 f4 s3 s4 s5)
  refine (congrFun (show run.sl.dma302 (F := Ideal) c f0 f1 f2 f3 f4 s3 s4 s5 s10 = _ from h) (ix2 n j)).trans ?_
  exact (slot_x _ _ n j).trans (dx9_at c f0 f1 f2 f3 f4 s3 s4 s5 n j)

theorem dx10_at (n : Fin 1536) (j : Fin 512) : (k0_pay230 (k0_pay229 (run.sl.v1970 c f0 f1 f2 f3 f4 s3 s4 s5) (run.sl.v2305 c f2)) : Vec Ideal S1x1536x512 .bf16) (ix3 0 n j) = DX f0 f1 f2 f3 f4 (ix2 n ⟨5120 + j, by omega⟩) := by
  pointwise [k0_pay230, k0_pay229, DX]
  refine Finset.sum_congr rfl fun e _ => ?_
  rw [v1970_at, v2305_at]
  rfl

theorem dma310_at (s10 : Bf (F := Ideal) c cc0_scratch10) (n : Fin 1536) (j : Fin 512) :
    run.sl.dma310 (F := Ideal) c f0 f1 f2 f3 f4 s3 s4 s5 s10 (ix2 n j) = DX f0 f1 f2 f3 f4 (ix2 n ⟨5120 + j, by omega⟩) := by
  have h := read_slot (Memref.whole cc0_scratch10) (Rect.unit ![0, 0, 0] S1x1536x512.size (by decide) : Rect S2x1536x512) (fun _ => rfl)
    squeezes_S1x1536x512_S1536x512 (by decide) s10 (k0_pay230 (k0_pay229 (run.sl.v1970 c f0 f1 f2 f3 f4 s3 s4 s5) (run.sl.v2305 c f2)) : Vec Ideal S1x1536x512 .bf16) (run.sl.Hs10_10 c f0 f1 f2 f3 f4 s3 s4 s5)
  refine (congrFun (show run.sl.dma310 (F := Ideal) c f0 f1 f2 f3 f4 s3 s4 s5 s10 = _ from h) (ix2 n j)).trans ?_
  exact (slot_x _ _ n j).trans (dx10_at c f0 f1 f2 f3 f4 s3 s4 s5 n j)

theorem dx11_at (n : Fin 1536) (j : Fin 512) : (k0_pay232 (run.sl.v1970 c f0 f1 f2 f3 f4 s3 s4 s5) (run.sl.v2339 c f2) : Vec Ideal S1x1536x512 .bf16) (ix3 0 n j) = DX f0 f1 f2 f3 f4 (ix2 n ⟨5632 + j, by omega⟩) := by
  pointwise [k0_pay232, DX]
  refine Finset.sum_congr rfl fun e _ => ?_
  rw [v1970_at, v2339_at]
  rfl

theorem dma318_at (s10 : Bf (F := Ideal) c cc0_scratch10) (n : Fin 1536) (j : Fin 512) :
    run.sl.dma318 (F := Ideal) c f0 f1 f2 f3 f4 s3 s4 s5 s10 (ix2 n j) = DX f0 f1 f2 f3 f4 (ix2 n ⟨5632 + j, by omega⟩) := by
  have h := read_slot (Memref.whole cc0_scratch10) (Rect.unit ![1, 0, 0] S1x1536x512.size (by decide) : Rect S2x1536x512) (fun _ => rfl)
    squeezes_S1x1536x512_S1536x512 (by decide) s10 (k0_pay232 (run.sl.v1970 c f0 f1 f2 f3 f4 s3 s4 s5) (run.sl.v2339 c f2) : Vec Ideal S1x1536x512 .bf16) (run.sl.Hs10_11 c f0 f1 f2 f3 f4 s3 s4 s5)
  refine (congrFun (show run.sl.dma318 (F := Ideal) c f0 f1 f2 f3 f4 s3 s4 s5 s10 = _ from h) (ix2 n j)).trans ?_
  exact (slot_x _ _ n j).trans (dx11_at c f0 f1 f2 f3 f4 s3 s4 s5 n j)

theorem dx12_at (n : Fin 1536) (j : Fin 512) : (k0_pay234 (run.sl.v1970 c f0 f1 f2 f3 f4 s3 s4 s5) (run.sl.v2373 c f2) : Vec Ideal S1x1536x512 .bf16) (ix3 0 n j) = DX f0 f1 f2 f3 f4 (ix2 n ⟨6144 + j, by omega⟩) := by
  pointwise [k0_pay234, DX]
  refine Finset.sum_congr rfl fun e _ => ?_
  rw [v1970_at, v2373_at]
  rfl

theorem dma326_at (s10 : Bf (F := Ideal) c cc0_scratch10) (n : Fin 1536) (j : Fin 512) :
    run.sl.dma326 (F := Ideal) c f0 f1 f2 f3 f4 s3 s4 s5 s10 (ix2 n j) = DX f0 f1 f2 f3 f4 (ix2 n ⟨6144 + j, by omega⟩) := by
  have h := read_slot (Memref.whole cc0_scratch10) (Rect.unit ![0, 0, 0] S1x1536x512.size (by decide) : Rect S2x1536x512) (fun _ => rfl)
    squeezes_S1x1536x512_S1536x512 (by decide) s10 (k0_pay234 (run.sl.v1970 c f0 f1 f2 f3 f4 s3 s4 s5) (run.sl.v2373 c f2) : Vec Ideal S1x1536x512 .bf16) (run.sl.Hs10_12 c f0 f1 f2 f3 f4 s3 s4 s5)
  refine (congrFun (show run.sl.dma326 (F := Ideal) c f0 f1 f2 f3 f4 s3 s4 s5 s10 = _ from h) (ix2 n j)).trans ?_
  exact (slot_x _ _ n j).trans (dx12_at c f0 f1 f2 f3 f4 s3 s4 s5 n j)

theorem dx13_at (n : Fin 1536) (j : Fin 512) : (k0_pay238 (k0_pay237 (run.sl.v1970 c f0 f1 f2 f3 f4 s3 s4 s5) (run.sl.v2407 c f2)) : Vec Ideal S1x1536x512 .bf16) (ix3 0 n j) = DX f0 f1 f2 f3 f4 (ix2 n ⟨6656 + j, by omega⟩) := by
  pointwise [k0_pay238, k0_pay237, DX]
  refine Finset.sum_congr rfl fun e _ => ?_
  rw [v1970_at, v2407_at]
  rfl

theorem dma334_at (s10 : Bf (F := Ideal) c cc0_scratch10) (n : Fin 1536) (j : Fin 512) :
    run.sl.dma334 (F := Ideal) c f0 f1 f2 f3 f4 s3 s4 s5 s10 (ix2 n j) = DX f0 f1 f2 f3 f4 (ix2 n ⟨6656 + j, by omega⟩) := by
  have h := read_slot (Memref.whole cc0_scratch10) (Rect.unit ![1, 0, 0] S1x1536x512.size (by decide) : Rect S2x1536x512) (fun _ => rfl)
    squeezes_S1x1536x512_S1536x512 (by decide) s10 (k0_pay238 (k0_pay237 (run.sl.v1970 c f0 f1 f2 f3 f4 s3 s4 s5) (run.sl.v2407 c f2)) : Vec Ideal S1x1536x512 .bf16) (run.sl.Hs10_13 c f0 f1 f2 f3 f4 s3 s4 s5)
  refine (congrFun (show run.sl.dma334 (F := Ideal) c f0 f1 f2 f3 f4 s3 s4 s5 s10 = _ from h) (ix2 n j)).trans ?_
  exact (slot_x _ _ n j).trans (dx13_at c f0 f1 f2 f3 f4 s3 s4 s5 n j)

theorem dw0_at (j : Fin 512) (e : Fin 256) : (k0_pay204 (run.sl.v1977 c f0 f1 f2 f3 f4 s3 s4 s5) (run.sl.v1978 c f0) : Vec Ideal S1x512x256 .f32) (ix3 0 j e) = DW f0 f1 f2 f3 f4 (ix2 ⟨0 + j, by omega⟩ e) := by
  pointwise [k0_pay204, DW]
  refine Finset.sum_congr rfl fun n _ => ?_
  rw [v1977_at, v1978_at]
  exact congrArg₂ (fun y z => (DLST f0 f1 f2 f3 f4 (ix2 e n) : EReal) * (f0 (ix2 y z) : EReal)) (Fin.ext (Nat.zero_add n.val)) (Fin.ext (Nat.zero_add j.val))

theorem dma230_2_at (s11 : Bf (F := Ideal) c cc0_scratch11) (j : Fin 512) (e : Fin 256) :
    run.sl.dma230_2 (F := Ideal) c f0 f1 f2 f3 f4 s3 s4 s5 s11 (ix2 j e) = DW f0 f1 f2 f3 f4 (ix2 ⟨0 + j, by omega⟩ e) := by
  have h := read_slot (Memref.whole cc0_scratch11) (Rect.unit ![0, 0, 0] S1x512x256.size (by decide) : Rect S2x512x256) (fun _ => rfl)
    squeezes_S1x512x256_S512x256 (by decide) s11 (k0_pay204 (run.sl.v1977 c f0 f1 f2 f3 f4 s3 s4 s5) (run.sl.v1978 c f0) : Vec Ideal S1x512x256 .f32) ([])
  refine (congrFun (show run.sl.dma230_2 (F := Ideal) c f0 f1 f2 f3 f4 s3 s4 s5 s11 = _ from h) (ix2 j e)).trans ?_
  exact (slot_w _ _ j e).trans (dw0_at c f0 f1 f2 f3 f4 s3 s4 s5 j e)

theorem dw1_at (j : Fin 512) (e : Fin 256) : (k0_pay207 (run.sl.v1977 c f0 f1 f2 f3 f4 s3 s4 s5) (run.sl.v2006 c f0) : Vec Ideal S1x512x256 .f32) (ix3 0 j e) = DW f0 f1 f2 f3 f4 (ix2 ⟨512 + j, by omega⟩ e) := by
  pointwise [k0_pay207, DW]
  refine Finset.sum_congr rfl fun n _ => ?_
  rw [v1977_at, v2006_at]
  exact congrArg (fun y => (DLST f0 f1 f2 f3 f4 (ix2 e n) : EReal) * (f0 (ix2 y _) : EReal)) (Fin.ext (Nat.zero_add n.val))

theorem dma238_1_at (s11 : Bf (F := Ideal) c cc0_scratch11) (j : Fin 512) (e : Fin 256) :
    run.sl.dma238_1 (F := Ideal) c f0 f1 f2 f3 f4 s3 s4 s5 s11 (ix2 j e) = DW f0 f1 f2 f3 f4 (ix2 ⟨512 + j, by omega⟩ e) := by
  have h := read_slot (Memref.whole cc0_scratch11) (Rect.unit ![1, 0, 0] S1x512x256.size (by decide) : Rect S2x512x256) (fun _ => rfl)
    squeezes_S1x512x256_S512x256 (by decide) s11 (k0_pay207 (run.sl.v1977 c f0 f1 f2 f3 f4 s3 s4 s5) (run.sl.v2006 c f0) : Vec Ideal S1x512x256 .f32) (run.sl.Hs11_1 c f0 f1 f2 f3 f4 s3 s4 s5)
  refine (congrFun (show run.sl.dma238_1 (F := Ideal) c f0 f1 f2 f3 f4 s3 s4 s5 s11 = _ from h) (ix2 j e)).trans ?_
  exact (slot_w _ _ j e).trans (dw1_at c f0 f1 f2 f3 f4 s3 s4 s5 j e)

theorem dw2_at (j : Fin 512) (e : Fin 256) : (k0_pay209 (run.sl.v1977 c f0 f1 f2 f3 f4 s3 s4 s5) (run.sl.v2040 c f0) : Vec Ideal S1x512x256 .f32) (ix3 0 j e) = DW f0 f1 f2 f3 f4 (ix2 ⟨1024 + j, by omega⟩ e) := by
  pointwise [k0_pay209, DW]
  refine Finset.sum_congr rfl fun n _ => ?_
  rw [v1977_at, v2040_at]
  exact congrArg (fun y => (DLST f0 f1 f2 f3 f4 (ix2 e n) : EReal) * (f0 (ix2 y _) : EReal)) (Fin.ext (Nat.zero_add n.val))

theorem dma246_1_at (s11 : Bf (F := Ideal) c cc0_scratch11) (j : Fin 512) (e : Fin 256) :
    run.sl.dma246_1 (F := Ideal) c f0 f1 f2 f3 f4 s3 s4 s5 s11 (ix2 j e) = DW f0 f1 f2 f3 f4 (ix2 ⟨1024 + j, by omega⟩ e) := by
  have h := read_slot (Memref.whole cc0_scratch11) (Rect.unit ![0, 0, 0] S1x512x256.size (by decide) : Rect S2x512x256) (fun _ => rfl)
    squeezes_S1x512x256_S512x256 (by decide) s11 (k0_pay209 (run.sl.v1977 c f0 f1 f2 f3 f4 s3 s4 s5) (run.sl.v2040 c f0) : Vec Ideal S1x512x256 .f32) (run.sl.Hs11_2 c f0 f1 f2 f3 f4 s3 s4 s5)
  refine (congrFun (show run.sl.dma246_1 (F := Ideal) c f0 f1 f2 f3 f4 s3 s4 s5 s11 = _ from h) (ix2 j e)).trans ?_
  exact (slot_w _ _ j e).trans (dw2_at c f0 f1 f2 f3 f4 s3 s4 s5 j e)

theorem dw3_at (j : Fin 512) (e : Fin 256) : (k0_pay212 (k0_pay211 (run.sl.v1977 c f0 f1 f2 f3 f4 s3 s4 s5) (run.sl.v2074 c f0)) : Vec Ideal S1x512x256 .f32) (ix3 0 j e) = DW f0 f1 f2 f3 f4 (ix2 ⟨1536 + j, by omega⟩ e) := by
  pointwise [k0_pay212, k0_pay211, DW]
  refine Finset.sum_congr rfl fun n _ => ?_
  rw [v1977_at, v2074_at]
  exact congrArg (fun y => (DLST f0 f1 f2 f3 f4 (ix2 e n) : EReal) * (f0 (ix2 y _) : EReal)) (Fin.ext (Nat.zero_add n.val))

theorem dma254_1_at (s11 : Bf (F := Ideal) c cc0_scratch11) (j : Fin 512) (e : Fin 256) :
    run.sl.dma254_1 (F := Ideal) c f0 f1 f2 f3 f4 s3 s4 s5 s11 (ix2 j e) = DW f0 f1 f2 f3 f4 (ix2 ⟨1536 + j, by omega⟩ e) := by
  have h := read_slot (Memref.whole cc0_scratch11) (Rect.unit ![1, 0, 0] S1x512x256.size (by decide) : Rect S2x512x256) (fun _ => rfl)
    squeezes_S1x512x256_S512x256 (by decide) s11 (k0_pay212 (k0_pay211 (run.sl.v1977 c f0 f1 f2 f3 f4 s3 s4 s5) (run.sl.v2074 c f0)) : Vec Ideal S1x512x256 .f32) (run.sl.Hs11_3 c f0 f1 f2 f3 f4 s3 s4 s5)
  refine (congrFun (show run.sl.dma254_1 (F := Ideal) c f0 f1 f2 f3 f4 s3 s4 s5 s11 = _ from h) (ix2 j e)).trans ?_
  exact (slot_w _ _ j e).trans (dw3_at c f0 f1 f2 f3 f4 s3 s4 s5 j e)

theorem dw4_at (j : Fin 512) (e : Fin 256) : (k0_pay215 (run.sl.v1977 c f0 f1 f2 f3 f4 s3 s4 s5) (run.sl.v2108 c f0) : Vec Ideal S1x512x256 .f32) (ix3 0 j e) = DW f0 f1 f2 f3 f4 (ix2 ⟨2048 + j, by omega⟩ e) := by
  pointwise [k0_pay215, DW]
  refine Finset.sum_congr rfl fun n _ => ?_
  rw [v1977_at, v2108_at]
  exact congrArg (fun y => (DLST f0 f1 f2 f3 f4 (ix2 e n) : EReal) * (f0 (ix2 y _) : EReal)) (Fin.ext (Nat.zero_add n.val))

theorem dma262_1_at (s11 : Bf (F := Ideal) c cc0_scratch11) (j : Fin 512) (e : Fin 256) :
    run.sl.dma262_1 (F := Ideal) c f0 f1 f2 f3 f4 s3 s4 s5 s11 (ix2 j e) = DW f0 f1 f2 f3 f4 (ix2 ⟨2048 + j, by omega⟩ e) := by
  have h := read_slot (Memref.whole cc0_scratch11) (Rect.unit ![0, 0, 0] S1x512x256.size (by decide) : Rect S2x512x256) (fun _ => rfl)
    squeezes_S1x512x256_S512x256 (by decide) s11 (k0_pay215 (run.sl.v1977 c f0 f1 f2 f3 f4 s3 s4 s5) (run.sl.v2108 c f0) : Vec Ideal S1x512x256 .f32) (run.sl.Hs11_4 c f0 f1 f2 f3 f4 s3 s4 s5)
  refine (congrFun (show run.sl.dma262_1 (F := Ideal) c f0 f1 f2 f3 f4 s3 s4 s5 s11 = _ from h) (ix2 j e)).trans ?_
  exact (slot_w _ _ j e).trans (dw4_at c f0 f1 f2 f3 f4 s3 s4 s5 j e)

theorem dw5_at (j : Fin 512) (e : Fin 256) : (k0_pay217 (run.sl.v1977 c f0 f1 f2 f3 f4 s3 s4 s5) (run.sl.v2142 c f0) : Vec Ideal S1x512x256 .f32) (ix3 0 j e) = DW f0 f1 f2 f3 f4 (ix2 ⟨2560 + j, by omega⟩ e) := by
  pointwise [k0_pay217, DW]
  refine Finset.sum_congr rfl fun n _ => ?_
  rw [v1977_at, v2142_at]
  exact congrArg (fun y => (DLST f0 f1 f2 f3 f4 (ix2 e n) : EReal) * (f0 (ix2 y _) : EReal)) (Fin.ext (Nat.zero_add n.val))

theorem dma270_1_at (s11 : Bf (F := Ideal) c cc0_scratch11) (j : Fin 512) (e : Fin 256) :
    run.sl.dma270_1 (F := Ideal) c f0 f1 f2 f3 f4 s3 s4 s5 s11 (ix2 j e) = DW f0 f1 f2 f3 f4 (ix2 ⟨2560 + j, by omega⟩ e) := by
  have h := read_slot (Memref.whole cc0_scratch11) (Rect.unit ![1, 0, 0] S1x512x256.size (by decide) : Rect S2x512x256) (fun _ => rfl)
    squeezes_S1x512x256_S512x256 (by decide) s11 (k0_pay217 (run.sl.v1977 c f0 f1 f2 f3 f4 s3 s4 s5) (run.sl.v2142 c f0) : Vec Ideal S1x512x256 .f32) (run.sl.Hs11_5 c f0 f1 f2 f3 f4 s3 s4 s5)
  refine (congrFun (show run.sl.dma270_1 (F := Ideal) c f0 f1 f2 f3 f4 s3 s4 s5 s11 = _ from h) (ix2 j e)).trans ?_
  exact (slot_w _ _ j e).trans (dw5_at c f0 f1 f2 f3 f4 s3 s4 s5 j e)

theorem dw6_at (j : Fin 512) (e : Fin 256) : (k0_pay220 (k0_pay219 (run.sl.v1977 c f0 f1 f2 f3 f4 s3 s4 s5) (run.sl.v2176 c f0)) : Vec Ideal S1x512x256 .f32) (ix3 0 j e) = DW f0 f1 f2 f3 f4 (ix2 ⟨3072 + j, by omega⟩ e) := by
  pointwise [k0_pay220, k0_pay219, DW]
  refine Finset.sum_congr rfl fun n _ => ?_
  rw [v1977_at, v2176_at]
  exact congrArg (fun y => (DLST f0 f1 f2 f3 f4 (ix2 e n) : EReal) * (f0 (ix2 y _) : EReal)) (Fin.ext (Nat.zero_add n.val))

theorem dma278_1_at (s11 : Bf (F := Ideal) c cc0_scratch11) (j : Fin 512) (e : Fin 256) :
    run.sl.dma278_1 (F := Ideal) c f0 f1 f2 f3 f4 s3 s4 s5 s11 (ix2 j e) = DW f0 f1 f2 f3 f4 (ix2 ⟨3072 + j, by omega⟩ e) := by
  have h := read_slot (Memref.whole cc0_scratch11) (Rect.unit ![0, 0, 0] S1x512x256.size (by decide) : Rect S2x512x256) (fun _ => rfl)
    squeezes_S1x512x256_S512x256 (by decide) s11 (k0_pay220 (k0_pay219 (run.sl.v1977 c f0 f1 f2 f3 f4 s3 s4 s5) (run.sl.v2176 c f0)) : Vec Ideal S1x512x256 .f32) (run.sl.Hs11_6 c f0 f1 f2 f3 f4 s3 s4 s5)
  refine (congrFun (show run.sl.dma278_1 (F := Ideal) c f0 f1 f2 f3 f4 s3 s4 s5 s11 = _ from h) (ix2 j e)).trans ?_
  exact (slot_w _ _ j e).trans (dw6_at c f0 f1 f2 f3 f4 s3 s4 s5 j e)

theorem dw7_at (j : Fin 512) (e : Fin 256) : (k0_pay223 (run.sl.v1977 c f0 f1 f2 f3 f4 s3 s4 s5) (run.sl.v2210 c f0) : Vec Ideal S1x512x256 .f32) (ix3 0 j e) = DW f0 f1 f2 f3 f4 (ix2 ⟨3584 + j, by omega⟩ e) := by
  pointwise [k0_pay223, DW]
  refine Finset.sum_congr rfl fun n _ => ?_
  rw [v1977_at, v2210_at]
  exact congrArg (fun y => (DLST f0 f1 f2 f3 f4 (ix2 e n) : EReal) * (f0 (ix2 y _) : EReal)) (Fin.ext (Nat.zero_add n.val))

theorem dma286_1_at (s11 : Bf (F := Ideal) c cc0_scratch11) (j : Fin 512) (e : Fin 256) :
    run.sl.dma286_1 (F := Ideal) c f0 f1 f2 f3 f4 s3 s4 s5 s11 (ix2 j e) = DW f0 f1 f2 f3 f4 (ix2 ⟨3584 + j, by omega⟩ e) := by
  have h := read_slot (Memref.whole cc0_scratch11) (Rect.unit ![1, 0, 0] S1x512x256.size (by decide) : Rect S2x512x256) (fun _ => rfl)
    squeezes_S1x512x256_S512x256 (by decide) s11 (k0_pay223 (run.sl.v1977 c f0 f1 f2 f3 f4 s3 s4 s5) (run.sl.v2210 c f0) : Vec Ideal S1x512x256 .f32) (run.sl.Hs11_7 c f0 f1 f2 f3 f4 s3 s4 s5)
  refine (congrFun (show run.sl.dma286_1 (F := Ideal) c f0 f1 f2 f3 f4 s3 s4 s5 s11 = _ from h) (ix2 j e)).trans ?_
  exact (slot_w _ _ j e).trans (dw7_at c f0 f1 f2 f3 f4 s3 s4 s5 j e)

theorem dw8_at (j : Fin 512) (e : Fin 256) : (k0_pay225 (run.sl.v1977 c f0 f1 f2 f3 f4 s3 s4 s5) (run.sl.v2244 c f0) : Vec Ideal S1x512x256 .f32) (ix3 0 j e) = DW f0 f1 f2 f3 f4 (ix2 ⟨4096 + j, by omega⟩ e) := by
  pointwise [k0_pay225, DW]
  refine Finset.sum_congr rfl fun n _ => ?_
  rw [v1977_at, v2244_at]
  exact congrArg (fun y => (DLST f0 f1 f2 f3 f4 (ix2 e n) : EReal) * (f0 (ix2 y _) : EReal)) (Fin.ext (Nat.zero_add n.val))

theorem dma294_1_at (s11 : Bf (F := Ideal) c cc0_scratch11) (j : Fin 512) (e : Fin 256) :
    run.sl.dma294_1 (F := Ideal) c f0 f1 f2 f3 f4 s3 s4 s5 s11 (ix2 j e) = DW f0 f1 f2 f3 f4 (ix2 ⟨4096 + j, by omega⟩ e) := by
  have h := read_slot (Memref.whole cc0_scratch11) (Rect.unit ![0, 0, 0] S1x512x256.size (by decide) : Rect S2x512x256) (fun _ => rfl)
    squeezes_S1x512x256_S512x256 (by decide) s11 (k0_pay225 (run.sl.v1977 c f0 f1 f2 f3 f4 s3 s4 s5) (run.sl.v2244 c f0) : Vec Ideal S1x512x256 .f32) (run.sl.Hs11_8 c f0 f1 f2 f3 f4 s3 s4 s5)
  refine (congrFun (show run.sl.dma294_1 (F := Ideal) c f0 f1 f2 f3 f4 s3 s4 s5 s11 = _ from h) (ix2 j e)).trans ?_
  exact (slot_w _ _ j e).trans (dw8_at c f0 f1 f2 f3 f4 s3 s4 s5 j e)

theorem dw9_at (j : Fin 512) (e : Fin 256) : (k0_pay228 (k0_pay227 (run.sl.v1977 c f0 f1 f2 f3 f4 s3 s4 s5) (run.sl.v2278 c f0)) : Vec Ideal S1x512x256 .f32) (ix3 0 j e) = DW f0 f1 f2 f3 f4 (ix2 ⟨4608 + j, by omega⟩ e) := by
  pointwise [k0_pay228, k0_pay227, DW]
  refine Finset.sum_congr rfl fun n _ => ?_
  rw [v1977_at, v2278_at]
  exact congrArg (fun y => (DLST f0 f1 f2 f3 f4 (ix2 e n) : EReal) * (f0 (ix2 y _) : EReal)) (Fin.ext (Nat.zero_add n.val))

theorem dma302_1_at (s11 : Bf (F := Ideal) c cc0_scratch11) (j : Fin 512) (e : Fin 256) :
    run.sl.dma302_1 (F := Ideal) c f0 f1 f2 f3 f4 s3 s4 s5 s11 (ix2 j e) = DW f0 f1 f2 f3 f4 (ix2 ⟨4608 + j, by omega⟩ e) := by
  have h := read_slot (Memref.whole cc0_scratch11) (Rect.unit ![1, 0, 0] S1x512x256.size (by decide) : Rect S2x512x256) (fun _ => rfl)
    squeezes_S1x512x256_S512x256 (by decide) s11 (k0_pay228 (k0_pay227 (run.sl.v1977 c f0 f1 f2 f3 f4 s3 s4 s5) (run.sl.v2278 c f0)) : Vec Ideal S1x512x256 .f32) (run.sl.Hs11_9 c f0 f1 f2 f3 f4 s3 s4 s5)
  refine (congrFun (show run.sl.dma302_1 (F := Ideal) c f0 f1 f2 f3 f4 s3 s4 s5 s11 = _ from h) (ix2 j e)).trans ?_
  exact (slot_w _ _ j e).trans (dw9_at c f0 f1 f2 f3 f4 s3 s4 s5 j e)

theorem dw10_at (j : Fin 512) (e : Fin 256) : (k0_pay231 (run.sl.v1977 c f0 f1 f2 f3 f4 s3 s4 s5) (run.sl.v2312 c f0) : Vec Ideal S1x512x256 .f32) (ix3 0 j e) = DW f0 f1 f2 f3 f4 (ix2 ⟨5120 + j, by omega⟩ e) := by
  pointwise [k0_pay231, DW]
  refine Finset.sum_congr rfl fun n _ => ?_
  rw [v1977_at, v2312_at]
  exact congrArg (fun y => (DLST f0 f1 f2 f3 f4 (ix2 e n) : EReal) * (f0 (ix2 y _) : EReal)) (Fin.ext (Nat.zero_add n.val))

theorem dma310_1_at (s11 : Bf (F := Ideal) c cc0_scratch11) (j : Fin 512) (e : Fin 256) :
    run.sl.dma310_1 (F := Ideal) c f0 f1 f2 f3 f4 s3 s4 s5 s11 (ix2 j e) = DW f0 f1 f2 f3 f4 (ix2 ⟨5120 + j, by omega⟩ e) := by
  have h := read_slot (Memref.whole cc0_scratch11) (Rect.unit ![0, 0, 0] S1x512x256.size (by decide) : Rect S2x512x256) (fun _ => rfl)
    squeezes_S1x512x256_S512x256 (by decide) s11 (k0_pay231 (run.sl.v1977 c f0 f1 f2 f3 f4 s3 s4 s5) (run.sl.v2312 c f0) : Vec Ideal S1x512x256 .f32) (run.sl.Hs11_10 c f0 f1 f2 f3 f4 s3 s4 s5)
  refine (congrFun (show run.sl.dma310_1 (F := Ideal) c f0 f1 f2 f3 f4 s3 s4 s5 s11 = _ from h) (ix2 j e)).trans ?_
  exact (slot_w _ _ j e).trans (dw10_at c f0 f1 f2 f3 f4 s3 s4 s5 j e)

theorem dw11_at (j : Fin 512) (e : Fin 256) : (k0_pay233 (run.sl.v1977 c f0 f1 f2 f3 f4 s3 s4 s5) (run.sl.v2346 c f0) : Vec Ideal S1x512x256 .f32) (ix3 0 j e) = DW f0 f1 f2 f3 f4 (ix2 ⟨5632 + j, by omega⟩ e) := by
  pointwise [k0_pay233, DW]
  refine Finset.sum_congr rfl fun n _ => ?_
  rw [v1977_at, v2346_at]
  exact congrArg (fun y => (DLST f0 f1 f2 f3 f4 (ix2 e n) : EReal) * (f0 (ix2 y _) : EReal)) (Fin.ext (Nat.zero_add n.val))

theorem dma318_1_at (s11 : Bf (F := Ideal) c cc0_scratch11) (j : Fin 512) (e : Fin 256) :
    run.sl.dma318_1 (F := Ideal) c f0 f1 f2 f3 f4 s3 s4 s5 s11 (ix2 j e) = DW f0 f1 f2 f3 f4 (ix2 ⟨5632 + j, by omega⟩ e) := by
  have h := read_slot (Memref.whole cc0_scratch11) (Rect.unit ![1, 0, 0] S1x512x256.size (by decide) : Rect S2x512x256) (fun _ => rfl)
    squeezes_S1x512x256_S512x256 (by decide) s11 (k0_pay233 (run.sl.v1977 c f0 f1 f2 f3 f4 s3 s4 s5) (run.sl.v2346 c f0) : Vec Ideal S1x512x256 .f32) (run.sl.Hs11_11 c f0 f1 f2 f3 f4 s3 s4 s5)
  refine (congrFun (show run.sl.dma318_1 (F := Ideal) c f0 f1 f2 f3 f4 s3 s4 s5 s11 = _ from h) (ix2 j e)).trans ?_
  exact (slot_w _ _ j e).trans (dw11_at c f0 f1 f2 f3 f4 s3 s4 s5 j e)

theorem dw12_at (j : Fin 512) (e : Fin 256) : (k0_pay236 (k0_pay235 (run.sl.v1977 c f0 f1 f2 f3 f4 s3 s4 s5) (run.sl.v2380 c f0)) : Vec Ideal S1x512x256 .f32) (ix3 0 j e) = DW f0 f1 f2 f3 f4 (ix2 ⟨6144 + j, by omega⟩ e) := by
  pointwise [k0_pay236, k0_pay235, DW]
  refine Finset.sum_congr rfl fun n _ => ?_
  rw [v1977_at, v2380_at]
  exact congrArg (fun y => (DLST f0 f1 f2 f3 f4 (ix2 e n) : EReal) * (f0 (ix2 y _) : EReal)) (Fin.ext (Nat.zero_add n.val))

theorem dma326_1_at (s11 : Bf (F := Ideal) c cc0_scratch11) (j : Fin 512) (e : Fin 256) :
    run.sl.dma326_1 (F := Ideal) c f0 f1 f2 f3 f4 s3 s4 s5 s11 (ix2 j e) = DW f0 f1 f2 f3 f4 (ix2 ⟨6144 + j, by omega⟩ e) := by
  have h := read_slot (Memref.whole cc0_scratch11) (Rect.unit ![0, 0, 0] S1x512x256.size (by decide) : Rect S2x512x256) (fun _ => rfl)
    squeezes_S1x512x256_S512x256 (by decide) s11 (k0_pay236 (k0_pay235 (run.sl.v1977 c f0 f1 f2 f3 f4 s3 s4 s5) (run.sl.v2380 c f0)) : Vec Ideal S1x512x256 .f32) (run.sl.Hs11_12 c f0 f1 f2 f3 f4 s3 s4 s5)
  refine (congrFun (show run.sl.dma326_1 (F := Ideal) c f0 f1 f2 f3 f4 s3 s4 s5 s11 = _ from h) (ix2 j e)).trans ?_
  exact (slot_w _ _ j e).trans (dw12_at c f0 f1 f2 f3 f4 s3 s4 s5 j e)

theorem dw13_at (j : Fin 512) (e : Fin 256) : (k0_pay239 (run.sl.v1977 c f0 f1 f2 f3 f4 s3 s4 s5) (run.sl.v2414 c f0) : Vec Ideal S1x512x256 .f32) (ix3 0 j e) = DW f0 f1 f2 f3 f4 (ix2 ⟨6656 + j, by omega⟩ e) := by
  pointwise [k0_pay239, DW]
  refine Finset.sum_congr rfl fun n _ => ?_
  rw [v1977_at, v2414_at]
  exact congrArg (fun y => (DLST f0 f1 f2 f3 f4 (ix2 e n) : EReal) * (f0 (ix2 y _) : EReal)) (Fin.ext (Nat.zero_add n.val))

theorem dma334_1_at (s11 : Bf (F := Ideal) c cc0_scratch11) (j : Fin 512) (e : Fin 256) :
    run.sl.dma334_1 (F := Ideal) c f0 f1 f2 f3 f4 s3 s4 s5 s11 (ix2 j e) = DW f0 f1 f2 f3 f4 (ix2 ⟨6656 + j, by omega⟩ e) := by
  have h := read_slot (Memref.whole cc0_scratch11) (Rect.unit ![1, 0, 0] S1x512x256.size (by decide) : Rect S2x512x256) (fun _ => rfl)
    squeezes_S1x512x256_S512x256 (by decide) s11 (k0_pay239 (run.sl.v1977 c f0 f1 f2 f3 f4 s3 s4 s5) (run.sl.v2414 c f0) : Vec Ideal S1x512x256 .f32) (run.sl.Hs11_13 c f0 f1 f2 f3 f4 s3 s4 s5)
  refine (congrFun (show run.sl.dma334_1 (F := Ideal) c f0 f1 f2 f3 f4 s3 s4 s5 s11 = _ from h) (ix2 j e)).trans ?_
  exact (slot_w _ _ j e).trans (dw13_at c f0 f1 f2 f3 f4 s3 s4 s5 j e)

theorem xOut0_ok (s10 : Bf (F := Ideal) c cc0_scratch10) (x : (Rect.unit ![0, 0] S1536x512.size (by decide) : Rect S1536x7168).shape.Idx) :
    run.sl.dma230_1 c f0 f1 f2 f3 f4 s3 s4 s5 s10 x = DX f0 f1 f2 f3 f4 ((Rect.unit ![0, 0] S1536x512.size (by decide) : Rect S1536x7168).emb x) := by
  change S1536x512.Idx at x
  idx_vars x
  exact (dma230_1_at c f0 f1 f2 f3 f4 s3 s4 s5 s10 x0 x1).trans (congrArg (DX f0 f1 f2 f3 f4) (emb_cols (B := 7168) (h := 1536) (w := 512) (b := 0) (by decide) x0 x1)).symm

theorem xOut1_ok (s10 : Bf (F := Ideal) c cc0_scratch10) (x : (Rect.unit ![0, 512] S1536x512.size (by decide) : Rect S1536x7168).shape.Idx) :
    run.sl.dma238 c f0 f1 f2 f3 f4 s3 s4 s5 s10 x = DX f0 f1 f2 f3 f4 ((Rect.unit ![0, 512] S1536x512.size (by decide) : Rect S1536x7168).emb x) := by
  change S1536x512.Idx at x
  idx_vars x
  exact (dma238_at c f0 f1 f2 f3 f4 s3 s4 s5 s10 x0 x1).trans (congrArg (DX f0 f1 f2 f3 f4) (emb_cols (B := 7168) (h := 1536) (w := 512) (b := 512) (by decide) x0 x1)).symm

theorem xOut2_ok (s10 : Bf (F := Ideal) c cc0_scratch10) (x : (Rect.unit ![0, 1024] S1536x512.size (by decide) : Rect S1536x7168).shape.Idx) :
    run.sl.dma246 c f0 f1 f2 f3 f4 s3 s4 s5 s10 x = DX f0 f1 f2 f3 f4 ((Rect.unit ![0, 1024] S1536x512.size (by decide) : Rect S1536x7168).emb x) := by
  change S1536x512.Idx at x
  idx_vars x
  exact (dma246_at c f0 f1 f2 f3 f4 s3 s4 s5 s10 x0 x1).trans (congrArg (DX f0 f1 f2 f3 f4) (emb_cols (B := 7168) (h := 1536) (w := 512) (b := 1024) (by decide) x0 x1)).symm

theorem xOut3_ok (s10 : Bf (F := Ideal) c cc0_scratch10) (x : (Rect.unit ![0, 1536] S1536x512.size (by decide) : Rect S1536x7168).shape.Idx) :
    run.sl.dma254 c f0 f1 f2 f3 f4 s3 s4 s5 s10 x = DX f0 f1 f2 f3 f4 ((Rect.unit ![0, 1536] S1536x512.size (by decide) : Rect S1536x7168).emb x) := by
  change S1536x512.Idx at x
  idx_vars x
  exact (dma254_at c f0 f1 f2 f3 f4 s3 s4 s5 s10 x0 x1).trans (congrArg (DX f0 f1 f2 f3 f4) (emb_cols (B := 7168) (h := 1536) (w := 512) (b := 1536) (by decide) x0 x1)).symm

theorem xOut4_ok (s10 : Bf (F := Ideal) c cc0_scratch10) (x : (Rect.unit ![0, 2048] S1536x512.size (by decide) : Rect S1536x7168).shape.Idx) :
    run.sl.dma262 c f0 f1 f2 f3 f4 s3 s4 s5 s10 x = DX f0 f1 f2 f3 f4 ((Rect.unit ![0, 2048] S1536x512.size (by decide) : Rect S1536x7168).emb x) := by
  change S1536x512.Idx at x
  idx_vars x
  exact (dma262_at c f0 f1 f2 f3 f4 s3 s4 s5 s10 x0 x1).trans (congrArg (DX f0 f1 f2 f3 f4) (emb_cols (B := 7168) (h := 1536) (w := 512) (b := 2048) (by decide) x0 x1)).symm

theorem xOut5_ok (s10 : Bf (F := Ideal) c cc0_scratch10) (x : (Rect.unit ![0, 2560] S1536x512.size (by decide) : Rect S1536x7168).shape.Idx) :
    run.sl.dma270 c f0 f1 f2 f3 f4 s3 s4 s5 s10 x = DX f0 f1 f2 f3 f4 ((Rect.unit ![0, 2560] S1536x512.size (by decide) : Rect S1536x7168).emb x) := by
  change S1536x512.Idx at x
  idx_vars x
  exact (dma270_at c f0 f1 f2 f3 f4 s3 s4 s5 s10 x0 x1).trans (congrArg (DX f0 f1 f2 f3 f4) (emb_cols (B := 7168) (h := 1536) (w := 512) (b := 2560) (by decide) x0 x1)).symm

theorem xOut6_ok (s10 : Bf (F := Ideal) c cc0_scratch10) (x : (Rect.unit ![0, 3072] S1536x512.size (by decide) : Rect S1536x7168).shape.Idx) :
    run.sl.dma278 c f0 f1 f2 f3 f4 s3 s4 s5 s10 x = DX f0 f1 f2 f3 f4 ((Rect.unit ![0, 3072] S1536x512.size (by decide) : Rect S1536x7168).emb x) := by
  change S1536x512.Idx at x
  idx_vars x
  exact (dma278_at c f0 f1 f2 f3 f4 s3 s4 s5 s10 x0 x1).trans (congrArg (DX f0 f1 f2 f3 f4) (emb_cols (B := 7168) (h := 1536) (w := 512) (b := 3072) (by decide) x0 x1)).symm

theorem xOut7_ok (s10 : Bf (F := Ideal) c cc0_scratch10) (x : (Rect.unit ![0, 3584] S1536x512.size (by decide) : Rect S1536x7168).shape.Idx) :
    run.sl.dma286 c f0 f1 f2 f3 f4 s3 s4 s5 s10 x = DX f0 f1 f2 f3 f4 ((Rect.unit ![0, 3584] S1536x512.size (by decide) : Rect S1536x7168).emb x) := by
  change S1536x512.Idx at x
  idx_vars x
  exact (dma286_at c f0 f1 f2 f3 f4 s3 s4 s5 s10 x0 x1).trans (congrArg (DX f0 f1 f2 f3 f4) (emb_cols (B := 7168) (h := 1536) (w := 512) (b := 3584) (by decide) x0 x1)).symm

theorem xOut8_ok (s10 : Bf (F := Ideal) c cc0_scratch10) (x : (Rect.unit ![0, 4096] S1536x512.size (by decide) : Rect S1536x7168).shape.Idx) :
    run.sl.dma294 c f0 f1 f2 f3 f4 s3 s4 s5 s10 x = DX f0 f1 f2 f3 f4 ((Rect.unit ![0, 4096] S1536x512.size (by decide) : Rect S1536x7168).emb x) := by
  change S1536x512.Idx at x
  idx_vars x
  exact (dma294_at c f0 f1 f2 f3 f4 s3 s4 s5 s10 x0 x1).trans (congrArg (DX f0 f1 f2 f3 f4) (emb_cols (B := 7168) (h := 1536) (w := 512) (b := 4096) (by decide) x0 x1)).symm

theorem xOut9_ok (s10 : Bf (F := Ideal) c cc0_scratch10) (x : (Rect.unit ![0, 4608] S1536x512.size (by decide) : Rect S1536x7168).shape.Idx) :
    run.sl.dma302 c f0 f1 f2 f3 f4 s3 s4 s5 s10 x = DX f0 f1 f2 f3 f4 ((Rect.unit ![0, 4608] S1536x512.size (by decide) : Rect S1536x7168).emb x) := by
  change S1536x512.Idx at x
  idx_vars x
  exact (dma302_at c f0 f1 f2 f3 f4 s3 s4 s5 s10 x0 x1).trans (congrArg (DX f0 f1 f2 f3 f4) (emb_cols (B := 7168) (h := 1536) (w := 512) (b := 4608) (by decide) x0 x1)).symm

theorem xOut10_ok (s10 : Bf (F := Ideal) c cc0_scratch10) (x : (Rect.unit ![0, 5120] S1536x512.size (by decide) : Rect S1536x7168).shape.Idx) :
    run.sl.dma310 c f0 f1 f2 f3 f4 s3 s4 s5 s10 x = DX f0 f1 f2 f3 f4 ((Rect.unit ![0, 5120] S1536x512.size (by decide) : Rect S1536x7168).emb x) := by
  change S1536x512.Idx at x
  idx_vars x
  exact (dma310_at c f0 f1 f2 f3 f4 s3 s4 s5 s10 x0 x1).trans (congrArg (DX f0 f1 f2 f3 f4) (emb_cols (B := 7168) (h := 1536) (w := 512) (b := 5120) (by decide) x0 x1)).symm

theorem xOut11_ok (s10 : Bf (F := Ideal) c cc0_scratch10) (x : (Rect.unit ![0, 5632] S1536x512.size (by decide) : Rect S1536x7168).shape.Idx) :
    run.sl.dma318 c f0 f1 f2 f3 f4 s3 s4 s5 s10 x = DX f0 f1 f2 f3 f4 ((Rect.unit ![0, 5632] S1536x512.size (by decide) : Rect S1536x7168).emb x) := by
  change S1536x512.Idx at x
  idx_vars x
  exact (dma318_at c f0 f1 f2 f3 f4 s3 s4 s5 s10 x0 x1).trans (congrArg (DX f0 f1 f2 f3 f4) (emb_cols (B := 7168) (h := 1536) (w := 512) (b := 5632) (by decide) x0 x1)).symm

theorem xOut12_ok (s10 : Bf (F := Ideal) c cc0_scratch10) (x : (Rect.unit ![0, 6144] S1536x512.size (by decide) : Rect S1536x7168).shape.Idx) :
    run.sl.dma326 c f0 f1 f2 f3 f4 s3 s4 s5 s10 x = DX f0 f1 f2 f3 f4 ((Rect.unit ![0, 6144] S1536x512.size (by decide) : Rect S1536x7168).emb x) := by
  change S1536x512.Idx at x
  idx_vars x
  exact (dma326_at c f0 f1 f2 f3 f4 s3 s4 s5 s10 x0 x1).trans (congrArg (DX f0 f1 f2 f3 f4) (emb_cols (B := 7168) (h := 1536) (w := 512) (b := 6144) (by decide) x0 x1)).symm

theorem xOut13_ok (s10 : Bf (F := Ideal) c cc0_scratch10) (x : (Rect.unit ![0, 6656] S1536x512.size (by decide) : Rect S1536x7168).shape.Idx) :
    run.sl.dma334 c f0 f1 f2 f3 f4 s3 s4 s5 s10 x = DX f0 f1 f2 f3 f4 ((Rect.unit ![0, 6656] S1536x512.size (by decide) : Rect S1536x7168).emb x) := by
  change S1536x512.Idx at x
  idx_vars x
  exact (dma334_at c f0 f1 f2 f3 f4 s3 s4 s5 s10 x0 x1).trans (congrArg (DX f0 f1 f2 f3 f4) (emb_cols (B := 7168) (h := 1536) (w := 512) (b := 6656) (by decide) x0 x1)).symm

/-- The copies out to the array of `DX`, last first. -/
def xOut (s10 : Bf (F := Ideal) c cc0_scratch10) : List (View.Piece (Elt Ideal) S1536x7168 .bf16) :=
  [⟨Rect.unit ![0, 6656] S1536x512.size (by decide), run.sl.dma334 c f0 f1 f2 f3 f4 s3 s4 s5 s10⟩,
    ⟨Rect.unit ![0, 6144] S1536x512.size (by decide), run.sl.dma326 c f0 f1 f2 f3 f4 s3 s4 s5 s10⟩,
    ⟨Rect.unit ![0, 5632] S1536x512.size (by decide), run.sl.dma318 c f0 f1 f2 f3 f4 s3 s4 s5 s10⟩,
    ⟨Rect.unit ![0, 5120] S1536x512.size (by decide), run.sl.dma310 c f0 f1 f2 f3 f4 s3 s4 s5 s10⟩,
    ⟨Rect.unit ![0, 4608] S1536x512.size (by decide), run.sl.dma302 c f0 f1 f2 f3 f4 s3 s4 s5 s10⟩,
    ⟨Rect.unit ![0, 4096] S1536x512.size (by decide), run.sl.dma294 c f0 f1 f2 f3 f4 s3 s4 s5 s10⟩,
    ⟨Rect.unit ![0, 3584] S1536x512.size (by decide), run.sl.dma286 c f0 f1 f2 f3 f4 s3 s4 s5 s10⟩,
    ⟨Rect.unit ![0, 3072] S1536x512.size (by decide), run.sl.dma278 c f0 f1 f2 f3 f4 s3 s4 s5 s10⟩,
    ⟨Rect.unit ![0, 2560] S1536x512.size (by decide), run.sl.dma270 c f0 f1 f2 f3 f4 s3 s4 s5 s10⟩,
    ⟨Rect.unit ![0, 2048] S1536x512.size (by decide), run.sl.dma262 c f0 f1 f2 f3 f4 s3 s4 s5 s10⟩,
    ⟨Rect.unit ![0, 1536] S1536x512.size (by decide), run.sl.dma254 c f0 f1 f2 f3 f4 s3 s4 s5 s10⟩,
    ⟨Rect.unit ![0, 1024] S1536x512.size (by decide), run.sl.dma246 c f0 f1 f2 f3 f4 s3 s4 s5 s10⟩,
    ⟨Rect.unit ![0, 512] S1536x512.size (by decide), run.sl.dma238 c f0 f1 f2 f3 f4 s3 s4 s5 s10⟩,
    ⟨Rect.unit ![0, 0] S1536x512.size (by decide), run.sl.dma230_1 c f0 f1 f2 f3 f4 s3 s4 s5 s10⟩]

theorem xOut_ok (s10 : Bf (F := Ideal) c cc0_scratch10) : ∀ p ∈ xOut c f0 f1 f2 f3 f4 s3 s4 s5 s10, ∀ x : p.1.shape.Idx, p.2 x = DX f0 f1 f2 f3 f4 (p.1.emb x) := by
  unfold xOut
  refine pieces_cons (xOut13_ok c f0 f1 f2 f3 f4 s3 s4 s5 s10) ?_
  refine pieces_cons (xOut12_ok c f0 f1 f2 f3 f4 s3 s4 s5 s10) ?_
  refine pieces_cons (xOut11_ok c f0 f1 f2 f3 f4 s3 s4 s5 s10) ?_
  refine pieces_cons (xOut10_ok c f0 f1 f2 f3 f4 s3 s4 s5 s10) ?_
  refine pieces_cons (xOut9_ok c f0 f1 f2 f3 f4 s3 s4 s5 s10) ?_
  refine pieces_cons (xOut8_ok c f0 f1 f2 f3 f4 s3 s4 s5 s10) ?_
  refine pieces_cons (xOut7_ok c f0 f1 f2 f3 f4 s3 s4 s5 s10) ?_
  refine pieces_cons (xOut6_ok c f0 f1 f2 f3 f4 s3 s4 s5 s10) ?_
  refine pieces_cons (xOut5_ok c f0 f1 f2 f3 f4 s3 s4 s5 s10) ?_
  refine pieces_cons (xOut4_ok c f0 f1 f2 f3 f4 s3 s4 s5 s10) ?_
  refine pieces_cons (xOut3_ok c f0 f1 f2 f3 f4 s3 s4 s5 s10) ?_
  refine pieces_cons (xOut2_ok c f0 f1 f2 f3 f4 s3 s4 s5 s10) ?_
  refine pieces_cons (xOut1_ok c f0 f1 f2 f3 f4 s3 s4 s5 s10) ?_
  refine pieces_cons (xOut0_ok c f0 f1 f2 f3 f4 s3 s4 s5 s10) ?_
  exact fun p hp => absurd hp List.not_mem_nil

theorem xOut_cover (s10 : Bf (F := Ideal) c cc0_scratch10) (y : S1536x7168.Idx) : ∃ p ∈ xOut c f0 f1 f2 f3 f4 s3 s4 s5 s10, y ∈ p.1.set := by
  idx_vars y
  unfold xOut
  simp only [List.exists_mem_cons_iff, Rect.mem_set_unit, Fin.forall_fin_two, List.not_mem_nil, false_and, exists_false, or_false]
  simp only [ix2_0, ix2_1, Matrix.cons_val_zero, Matrix.cons_val_one, Shape.size]
  omega

theorem wOut0_ok (s11 : Bf (F := Ideal) c cc0_scratch11) (x : (Rect.unit ![0, 0] S512x256.size (by decide) : Rect S7168x256).shape.Idx) :
    run.sl.dma230_2 c f0 f1 f2 f3 f4 s3 s4 s5 s11 x = DW f0 f1 f2 f3 f4 ((Rect.unit ![0, 0] S512x256.size (by decide) : Rect S7168x256).emb x) := by
  change S512x256.Idx at x
  idx_vars x
  exact (dma230_2_at c f0 f1 f2 f3 f4 s3 s4 s5 s11 x0 x1).trans (congrArg (DW f0 f1 f2 f3 f4) (emb_rows (A := 7168) (w := 256) (h := 512) (a := 0) (by decide) x0 x1)).symm

theorem wOut1_ok (s11 : Bf (F := Ideal) c cc0_scratch11) (x : (Rect.unit ![512, 0] S512x256.size (by decide) : Rect S7168x256).shape.Idx) :
    run.sl.dma238_1 c f0 f1 f2 f3 f4 s3 s4 s5 s11 x = DW f0 f1 f2 f3 f4 ((Rect.unit ![512, 0] S512x256.size (by decide) : Rect S7168x256).emb x) := by
  change S512x256.Idx at x
  idx_vars x
  exact (dma238_1_at c f0 f1 f2 f3 f4 s3 s4 s5 s11 x0 x1).trans (congrArg (DW f0 f1 f2 f3 f4) (emb_rows (A := 7168) (w := 256) (h := 512) (a := 512) (by decide) x0 x1)).symm

theorem wOut2_ok (s11 : Bf (F := Ideal) c cc0_scratch11) (x : (Rect.unit ![1024, 0] S512x256.size (by decide) : Rect S7168x256).shape.Idx) :
    run.sl.dma246_1 c f0 f1 f2 f3 f4 s3 s4 s5 s11 x = DW f0 f1 f2 f3 f4 ((Rect.unit ![1024, 0] S512x256.size (by decide) : Rect S7168x256).emb x) := by
  change S512x256.Idx at x
  idx_vars x
  exact (dma246_1_at c f0 f1 f2 f3 f4 s3 s4 s5 s11 x0 x1).trans (congrArg (DW f0 f1 f2 f3 f4) (emb_rows (A := 7168) (w := 256) (h := 512) (a := 1024) (by decide) x0 x1)).symm

theorem wOut3_ok (s11 : Bf (F := Ideal) c cc0_scratch11) (x : (Rect.unit ![1536, 0] S512x256.size (by decide) : Rect S7168x256).shape.Idx) :
    run.sl.dma254_1 c f0 f1 f2 f3 f4 s3 s4 s5 s11 x = DW f0 f1 f2 f3 f4 ((Rect.unit ![1536, 0] S512x256.size (by decide) : Rect S7168x256).emb x) := by
  change S512x256.Idx at x
  idx_vars x
  exact (dma254_1_at c f0 f1 f2 f3 f4 s3 s4 s5 s11 x0 x1).trans (congrArg (DW f0 f1 f2 f3 f4) (emb_rows (A := 7168) (w := 256) (h := 512) (a := 1536) (by decide) x0 x1)).symm

theorem wOut4_ok (s11 : Bf (F := Ideal) c cc0_scratch11) (x : (Rect.unit ![2048, 0] S512x256.size (by decide) : Rect S7168x256).shape.Idx) :
    run.sl.dma262_1 c f0 f1 f2 f3 f4 s3 s4 s5 s11 x = DW f0 f1 f2 f3 f4 ((Rect.unit ![2048, 0] S512x256.size (by decide) : Rect S7168x256).emb x) := by
  change S512x256.Idx at x
  idx_vars x
  exact (dma262_1_at c f0 f1 f2 f3 f4 s3 s4 s5 s11 x0 x1).trans (congrArg (DW f0 f1 f2 f3 f4) (emb_rows (A := 7168) (w := 256) (h := 512) (a := 2048) (by decide) x0 x1)).symm

theorem wOut5_ok (s11 : Bf (F := Ideal) c cc0_scratch11) (x : (Rect.unit ![2560, 0] S512x256.size (by decide) : Rect S7168x256).shape.Idx) :
    run.sl.dma270_1 c f0 f1 f2 f3 f4 s3 s4 s5 s11 x = DW f0 f1 f2 f3 f4 ((Rect.unit ![2560, 0] S512x256.size (by decide) : Rect S7168x256).emb x) := by
  change S512x256.Idx at x
  idx_vars x
  exact (dma270_1_at c f0 f1 f2 f3 f4 s3 s4 s5 s11 x0 x1).trans (congrArg (DW f0 f1 f2 f3 f4) (emb_rows (A := 7168) (w := 256) (h := 512) (a := 2560) (by decide) x0 x1)).symm

theorem wOut6_ok (s11 : Bf (F := Ideal) c cc0_scratch11) (x : (Rect.unit ![3072, 0] S512x256.size (by decide) : Rect S7168x256).shape.Idx) :
    run.sl.dma278_1 c f0 f1 f2 f3 f4 s3 s4 s5 s11 x = DW f0 f1 f2 f3 f4 ((Rect.unit ![3072, 0] S512x256.size (by decide) : Rect S7168x256).emb x) := by
  change S512x256.Idx at x
  idx_vars x
  exact (dma278_1_at c f0 f1 f2 f3 f4 s3 s4 s5 s11 x0 x1).trans (congrArg (DW f0 f1 f2 f3 f4) (emb_rows (A := 7168) (w := 256) (h := 512) (a := 3072) (by decide) x0 x1)).symm

theorem wOut7_ok (s11 : Bf (F := Ideal) c cc0_scratch11) (x : (Rect.unit ![3584, 0] S512x256.size (by decide) : Rect S7168x256).shape.Idx) :
    run.sl.dma286_1 c f0 f1 f2 f3 f4 s3 s4 s5 s11 x = DW f0 f1 f2 f3 f4 ((Rect.unit ![3584, 0] S512x256.size (by decide) : Rect S7168x256).emb x) := by
  change S512x256.Idx at x
  idx_vars x
  exact (dma286_1_at c f0 f1 f2 f3 f4 s3 s4 s5 s11 x0 x1).trans (congrArg (DW f0 f1 f2 f3 f4) (emb_rows (A := 7168) (w := 256) (h := 512) (a := 3584) (by decide) x0 x1)).symm

theorem wOut8_ok (s11 : Bf (F := Ideal) c cc0_scratch11) (x : (Rect.unit ![4096, 0] S512x256.size (by decide) : Rect S7168x256).shape.Idx) :
    run.sl.dma294_1 c f0 f1 f2 f3 f4 s3 s4 s5 s11 x = DW f0 f1 f2 f3 f4 ((Rect.unit ![4096, 0] S512x256.size (by decide) : Rect S7168x256).emb x) := by
  change S512x256.Idx at x
  idx_vars x
  exact (dma294_1_at c f0 f1 f2 f3 f4 s3 s4 s5 s11 x0 x1).trans (congrArg (DW f0 f1 f2 f3 f4) (emb_rows (A := 7168) (w := 256) (h := 512) (a := 4096) (by decide) x0 x1)).symm

theorem wOut9_ok (s11 : Bf (F := Ideal) c cc0_scratch11) (x : (Rect.unit ![4608, 0] S512x256.size (by decide) : Rect S7168x256).shape.Idx) :
    run.sl.dma302_1 c f0 f1 f2 f3 f4 s3 s4 s5 s11 x = DW f0 f1 f2 f3 f4 ((Rect.unit ![4608, 0] S512x256.size (by decide) : Rect S7168x256).emb x) := by
  change S512x256.Idx at x
  idx_vars x
  exact (dma302_1_at c f0 f1 f2 f3 f4 s3 s4 s5 s11 x0 x1).trans (congrArg (DW f0 f1 f2 f3 f4) (emb_rows (A := 7168) (w := 256) (h := 512) (a := 4608) (by decide) x0 x1)).symm

theorem wOut10_ok (s11 : Bf (F := Ideal) c cc0_scratch11) (x : (Rect.unit ![5120, 0] S512x256.size (by decide) : Rect S7168x256).shape.Idx) :
    run.sl.dma310_1 c f0 f1 f2 f3 f4 s3 s4 s5 s11 x = DW f0 f1 f2 f3 f4 ((Rect.unit ![5120, 0] S512x256.size (by decide) : Rect S7168x256).emb x) := by
  change S512x256.Idx at x
  idx_vars x
  exact (dma310_1_at c f0 f1 f2 f3 f4 s3 s4 s5 s11 x0 x1).trans (congrArg (DW f0 f1 f2 f3 f4) (emb_rows (A := 7168) (w := 256) (h := 512) (a := 5120) (by decide) x0 x1)).symm

theorem wOut11_ok (s11 : Bf (F := Ideal) c cc0_scratch11) (x : (Rect.unit ![5632, 0] S512x256.size (by decide) : Rect S7168x256).shape.Idx) :
    run.sl.dma318_1 c f0 f1 f2 f3 f4 s3 s4 s5 s11 x = DW f0 f1 f2 f3 f4 ((Rect.unit ![5632, 0] S512x256.size (by decide) : Rect S7168x256).emb x) := by
  change S512x256.Idx at x
  idx_vars x
  exact (dma318_1_at c f0 f1 f2 f3 f4 s3 s4 s5 s11 x0 x1).trans (congrArg (DW f0 f1 f2 f3 f4) (emb_rows (A := 7168) (w := 256) (h := 512) (a := 5632) (by decide) x0 x1)).symm

theorem wOut12_ok (s11 : Bf (F := Ideal) c cc0_scratch11) (x : (Rect.unit ![6144, 0] S512x256.size (by decide) : Rect S7168x256).shape.Idx) :
    run.sl.dma326_1 c f0 f1 f2 f3 f4 s3 s4 s5 s11 x = DW f0 f1 f2 f3 f4 ((Rect.unit ![6144, 0] S512x256.size (by decide) : Rect S7168x256).emb x) := by
  change S512x256.Idx at x
  idx_vars x
  exact (dma326_1_at c f0 f1 f2 f3 f4 s3 s4 s5 s11 x0 x1).trans (congrArg (DW f0 f1 f2 f3 f4) (emb_rows (A := 7168) (w := 256) (h := 512) (a := 6144) (by decide) x0 x1)).symm

theorem wOut13_ok (s11 : Bf (F := Ideal) c cc0_scratch11) (x : (Rect.unit ![6656, 0] S512x256.size (by decide) : Rect S7168x256).shape.Idx) :
    run.sl.dma334_1 c f0 f1 f2 f3 f4 s3 s4 s5 s11 x = DW f0 f1 f2 f3 f4 ((Rect.unit ![6656, 0] S512x256.size (by decide) : Rect S7168x256).emb x) := by
  change S512x256.Idx at x
  idx_vars x
  exact (dma334_1_at c f0 f1 f2 f3 f4 s3 s4 s5 s11 x0 x1).trans (congrArg (DW f0 f1 f2 f3 f4) (emb_rows (A := 7168) (w := 256) (h := 512) (a := 6656) (by decide) x0 x1)).symm

/-- The copies out to the array of `DW`, last first. -/
def wOut (s11 : Bf (F := Ideal) c cc0_scratch11) : List (View.Piece (Elt Ideal) S7168x256 .f32) :=
  [⟨Rect.unit ![6656, 0] S512x256.size (by decide), run.sl.dma334_1 c f0 f1 f2 f3 f4 s3 s4 s5 s11⟩,
    ⟨Rect.unit ![6144, 0] S512x256.size (by decide), run.sl.dma326_1 c f0 f1 f2 f3 f4 s3 s4 s5 s11⟩,
    ⟨Rect.unit ![5632, 0] S512x256.size (by decide), run.sl.dma318_1 c f0 f1 f2 f3 f4 s3 s4 s5 s11⟩,
    ⟨Rect.unit ![5120, 0] S512x256.size (by decide), run.sl.dma310_1 c f0 f1 f2 f3 f4 s3 s4 s5 s11⟩,
    ⟨Rect.unit ![4608, 0] S512x256.size (by decide), run.sl.dma302_1 c f0 f1 f2 f3 f4 s3 s4 s5 s11⟩,
    ⟨Rect.unit ![4096, 0] S512x256.size (by decide), run.sl.dma294_1 c f0 f1 f2 f3 f4 s3 s4 s5 s11⟩,
    ⟨Rect.unit ![3584, 0] S512x256.size (by decide), run.sl.dma286_1 c f0 f1 f2 f3 f4 s3 s4 s5 s11⟩,
    ⟨Rect.unit ![3072, 0] S512x256.size (by decide), run.sl.dma278_1 c f0 f1 f2 f3 f4 s3 s4 s5 s11⟩,
    ⟨Rect.unit ![2560, 0] S512x256.size (by decide), run.sl.dma270_1 c f0 f1 f2 f3 f4 s3 s4 s5 s11⟩,
    ⟨Rect.unit ![2048, 0] S512x256.size (by decide), run.sl.dma262_1 c f0 f1 f2 f3 f4 s3 s4 s5 s11⟩,
    ⟨Rect.unit ![1536, 0] S512x256.size (by decide), run.sl.dma254_1 c f0 f1 f2 f3 f4 s3 s4 s5 s11⟩,
    ⟨Rect.unit ![1024, 0] S512x256.size (by decide), run.sl.dma246_1 c f0 f1 f2 f3 f4 s3 s4 s5 s11⟩,
    ⟨Rect.unit ![512, 0] S512x256.size (by decide), run.sl.dma238_1 c f0 f1 f2 f3 f4 s3 s4 s5 s11⟩,
    ⟨Rect.unit ![0, 0] S512x256.size (by decide), run.sl.dma230_2 c f0 f1 f2 f3 f4 s3 s4 s5 s11⟩]

theorem wOut_ok (s11 : Bf (F := Ideal) c cc0_scratch11) : ∀ p ∈ wOut c f0 f1 f2 f3 f4 s3 s4 s5 s11, ∀ x : p.1.shape.Idx, p.2 x = DW f0 f1 f2 f3 f4 (p.1.emb x) := by
  unfold wOut
  refine pieces_cons (wOut13_ok c f0 f1 f2 f3 f4 s3 s4 s5 s11) ?_
  refine pieces_cons (wOut12_ok c f0 f1 f2 f3 f4 s3 s4 s5 s11) ?_
  refine pieces_cons (wOut11_ok c f0 f1 f2 f3 f4 s3 s4 s5 s11) ?_
  refine pieces_cons (wOut10_ok c f0 f1 f2 f3 f4 s3 s4 s5 s11) ?_
  refine pieces_cons (wOut9_ok c f0 f1 f2 f3 f4 s3 s4 s5 s11) ?_
  refine pieces_cons (wOut8_ok c f0 f1 f2 f3 f4 s3 s4 s5 s11) ?_
  refine pieces_cons (wOut7_ok c f0 f1 f2 f3 f4 s3 s4 s5 s11) ?_
  refine pieces_cons (wOut6_ok c f0 f1 f2 f3 f4 s3 s4 s5 s11) ?_
  refine pieces_cons (wOut5_ok c f0 f1 f2 f3 f4 s3 s4 s5 s11) ?_
  refine pieces_cons (wOut4_ok c f0 f1 f2 f3 f4 s3 s4 s5 s11) ?_
  refine pieces_cons (wOut3_ok c f0 f1 f2 f3 f4 s3 s4 s5 s11) ?_
  refine pieces_cons (wOut2_ok c f0 f1 f2 f3 f4 s3 s4 s5 s11) ?_
  refine pieces_cons (wOut1_ok c f0 f1 f2 f3 f4 s3 s4 s5 s11) ?_
  refine pieces_cons (wOut0_ok c f0 f1 f2 f3 f4 s3 s4 s5 s11) ?_
  exact fun p hp => absurd hp List.not_mem_nil

theorem wOut_cover (s11 : Bf (F := Ideal) c cc0_scratch11) (y : S7168x256.Idx) : ∃ p ∈ wOut c f0 f1 f2 f3 f4 s3 s4 s5 s11, y ∈ p.1.set := by
  idx_vars y
  unfold wOut
  simp only [List.exists_mem_cons_iff, Rect.mem_set_unit, Fin.forall_fin_two, List.not_mem_nil, false_and, exists_false, or_false]
  simp only [ix2_0, ix2_1, Matrix.cons_val_zero, Matrix.cons_val_one, Shape.size]
  omega

theorem lOut0_ok (s7 : Bf (F := Ideal) c cc0_scratch7) (x : (Rect.unit ![0, 0] S1024x256.size (by decide) : Rect S1536x256).shape.Idx) :
    run.sl.dma182 c f0 f1 f2 f3 f4 s3 s4 s5 s7 x = DL f0 f1 f2 f3 f4 ((Rect.unit ![0, 0] S1024x256.size (by decide) : Rect S1536x256).emb x) := by
  change S1024x256.Idx at x
  idx_vars x
  exact (dma182_at c f0 f1 f2 f3 f4 s3 s4 s5 s7 x0 x1).trans (congrArg (DL f0 f1 f2 f3 f4) (emb_rows (A := 1536) (w := 256) (h := 1024) (a := 0) (by decide) x0 x1)).symm

theorem lOut1_ok (s7 : Bf (F := Ideal) c cc0_scratch7) (x : (Rect.unit ![1024, 0] S512x256.size (by decide) : Rect S1536x256).shape.Idx) :
    run.sl.dma230 c f0 f1 f2 f3 f4 s3 s4 s5 s7 x = DL f0 f1 f2 f3 f4 ((Rect.unit ![1024, 0] S512x256.size (by decide) : Rect S1536x256).emb x) := by
  change S512x256.Idx at x
  idx_vars x
  exact (dma230_at c f0 f1 f2 f3 f4 s3 s4 s5 s7 x0 x1).trans (congrArg (DL f0 f1 f2 f3 f4) (emb_rows (A := 1536) (w := 256) (h := 512) (a := 1024) (by decide) x0 x1)).symm

/-- The copies out to the array of `DL`, last first. -/
def lOut (s7 : Bf (F := Ideal) c cc0_scratch7) : List (View.Piece (Elt Ideal) S1536x256 .f32) :=
  [⟨Rect.unit ![1024, 0] S512x256.size (by decide), run.sl.dma230 c f0 f1 f2 f3 f4 s3 s4 s5 s7⟩,
    ⟨Rect.unit ![0, 0] S1024x256.size (by decide), run.sl.dma182 c f0 f1 f2 f3 f4 s3 s4 s5 s7⟩]

theorem lOut_ok (s7 : Bf (F := Ideal) c cc0_scratch7) : ∀ p ∈ lOut c f0 f1 f2 f3 f4 s3 s4 s5 s7, ∀ x : p.1.shape.Idx, p.2 x = DL f0 f1 f2 f3 f4 (p.1.emb x) := by
  unfold lOut
  refine pieces_cons (lOut1_ok c f0 f1 f2 f3 f4 s3 s4 s5 s7) ?_
  refine pieces_cons (lOut0_ok c f0 f1 f2 f3 f4 s3 s4 s5 s7) ?_
  exact fun p hp => absurd hp List.not_mem_nil

theorem lOut_cover (s7 : Bf (F := Ideal) c cc0_scratch7) (y : S1536x256.Idx) : ∃ p ∈ lOut c f0 f1 f2 f3 f4 s3 s4 s5 s7, y ∈ p.1.set := by
  idx_vars y
  unfold lOut
  simp only [List.exists_mem_cons_iff, Rect.mem_set_unit, Fin.forall_fin_two, List.not_mem_nil, false_and, exists_false, or_false]
  simp only [ix2_0, ix2_1, Matrix.cons_val_zero, Matrix.cons_val_one, Shape.size]
  omega

end Cert.KernelIdeal.Hand
-- ==== Proof.KernelIdeal.Value.lean ====
module

public import proofs.«01_k».proof.Proof.KernelIdeal.Frame
public import proofs.«01_k».proof.Proof.KernelIdeal.Outs
public import Idealize.ShloMosaic.Lib.StableHlo.RunRead

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

/-- A whole buffer written by pieces that agree with `G` and cover it holds `G`. -/
theorem writes_whole {F : FTy → Type} [FloatOps F] {b : Ref sig .tc} (o : b.ty.Contents (Elt F)) (L : List (View.Piece (Elt F) b.ty.shape b.ty.elt))
    (G : b.ty.shape.Idx → Elt F b.ty.elt) (hL : ∀ p ∈ L, ∀ x : p.1.shape.Idx, p.2 x = G (p.1.emb x)) (hc : ∀ y, ∃ p ∈ L, y ∈ p.1.set) :
    (Memref.whole b).view.writes (Elt F) o L = G :=
  funext fun y => (show (Memref.whole b).view.writes (Elt F) o L y = (Memref.whole b).view.read (Elt F) ((Memref.whole b).view.writes (Elt F) o L) y from rfl).trans
    ((View.read_writes_apply_eq_canon (Memref.whole b).view o y L (hc y)).trans (View.canon_apply_of_pieces G L hL y (hc y)))

/-- What the body leaves in `main_v3_0`: `DX` of the operands, whatever the scratch buffers held. -/
theorem run_x (c : Dev nD) (f0 : Vec Ideal S1536x7168 .fp8e4m3) (f1 : Vec Ideal S2x768 .f32) (f2 : Vec Ideal S7168x256 .bf16)
    (f3 : Vec Ideal S2x8x768 .i32) (f4 : Vec Ideal S2x8x768 .bf16)
    (o0 : Bf (F := Ideal) c main_v3_0) (o1 : Bf (F := Ideal) c main_v3_1) (o2 : Bf (F := Ideal) c main_v3_2)
    (s0 : Bf (F := Ideal) c cc0_scratch0) (s1 : Bf (F := Ideal) c cc0_scratch1) (s2 : Bf (F := Ideal) c cc0_scratch2) (s3 : Bf (F := Ideal) c cc0_scratch3) (s4 : Bf (F := Ideal) c cc0_scratch4) (s5 : Bf (F := Ideal) c cc0_scratch5) (s6 : Bf (F := Ideal) c cc0_scratch6) (s7 : Bf (F := Ideal) c cc0_scratch7) (s8 : Bf (F := Ideal) c cc0_scratch8) (s9 : Bf (F := Ideal) c cc0_scratch9) (s10 : Bf (F := Ideal) c cc0_scratch10) (s11 : Bf (F := Ideal) c cc0_scratch11) :
    (run (F := Ideal) c f0 f1 f2 f3 f4 o0 o1 o2 s0 s1 s2 s3 s4 s5 s6 s7 s8 s9 s10 s11).1.1 = DX f0 f1 f2 f3 f4 := by
  refine Eq.trans ?_ (writes_whole (b := main_v3_0) o0 _ (DX f0 f1 f2 f3 f4) (xOut_ok c f0 f1 f2 f3 f4 s3 s4 s5 s10) (xOut_cover c f0 f1 f2 f3 f4 s3 s4 s5 s10))
  unfold run
  dsimp only
  exact congrArg (View.writes (Val := Elt Ideal) (Memref.whole main_v3_0).view o0) (show _ = xOut c f0 f1 f2 f3 f4 s3 s4 s5 s10 from rfl)

/-- What the body leaves in `main_v3_1`: `DW` of the operands, whatever the scratch buffers held. -/
theorem run_w (c : Dev nD) (f0 : Vec Ideal S1536x7168 .fp8e4m3) (f1 : Vec Ideal S2x768 .f32) (f2 : Vec Ideal S7168x256 .bf16)
    (f3 : Vec Ideal S2x8x768 .i32) (f4 : Vec Ideal S2x8x768 .bf16)
    (o0 : Bf (F := Ideal) c main_v3_0) (o1 : Bf (F := Ideal) c main_v3_1) (o2 : Bf (F := Ideal) c main_v3_2)
    (s0 : Bf (F := Ideal) c cc0_scratch0) (s1 : Bf (F := Ideal) c cc0_scratch1) (s2 : Bf (F := Ideal) c cc0_scratch2) (s3 : Bf (F := Ideal) c cc0_scratch3) (s4 : Bf (F := Ideal) c cc0_scratch4) (s5 : Bf (F := Ideal) c cc0_scratch5) (s6 : Bf (F := Ideal) c cc0_scratch6) (s7 : Bf (F := Ideal) c cc0_scratch7) (s8 : Bf (F := Ideal) c cc0_scratch8) (s9 : Bf (F := Ideal) c cc0_scratch9) (s10 : Bf (F := Ideal) c cc0_scratch10) (s11 : Bf (F := Ideal) c cc0_scratch11) :
    (run (F := Ideal) c f0 f1 f2 f3 f4 o0 o1 o2 s0 s1 s2 s3 s4 s5 s6 s7 s8 s9 s10 s11).1.2.1 = DW f0 f1 f2 f3 f4 := by
  refine Eq.trans ?_ (writes_whole (b := main_v3_1) o1 _ (DW f0 f1 f2 f3 f4) (wOut_ok c f0 f1 f2 f3 f4 s3 s4 s5 s11) (wOut_cover c f0 f1 f2 f3 f4 s3 s4 s5 s11))
  unfold run
  dsimp only
  exact congrArg (View.writes (Val := Elt Ideal) (Memref.whole main_v3_1).view o1) (show _ = wOut c f0 f1 f2 f3 f4 s3 s4 s5 s11 from rfl)

/-- What the body leaves in `main_v3_2`: `DL` of the operands, whatever the scratch buffers held. -/
theorem run_l (c : Dev nD) (f0 : Vec Ideal S1536x7168 .fp8e4m3) (f1 : Vec Ideal S2x768 .f32) (f2 : Vec Ideal S7168x256 .bf16)
    (f3 : Vec Ideal S2x8x768 .i32) (f4 : Vec Ideal S2x8x768 .bf16)
    (o0 : Bf (F := Ideal) c main_v3_0) (o1 : Bf (F := Ideal) c main_v3_1) (o2 : Bf (F := Ideal) c main_v3_2)
    (s0 : Bf (F := Ideal) c cc0_scratch0) (s1 : Bf (F := Ideal) c cc0_scratch1) (s2 : Bf (F := Ideal) c cc0_scratch2) (s3 : Bf (F := Ideal) c cc0_scratch3) (s4 : Bf (F := Ideal) c cc0_scratch4) (s5 : Bf (F := Ideal) c cc0_scratch5) (s6 : Bf (F := Ideal) c cc0_scratch6) (s7 : Bf (F := Ideal) c cc0_scratch7) (s8 : Bf (F := Ideal) c cc0_scratch8) (s9 : Bf (F := Ideal) c cc0_scratch9) (s10 : Bf (F := Ideal) c cc0_scratch10) (s11 : Bf (F := Ideal) c cc0_scratch11) :
    (run (F := Ideal) c f0 f1 f2 f3 f4 o0 o1 o2 s0 s1 s2 s3 s4 s5 s6 s7 s8 s9 s10 s11).1.2.2 = DL f0 f1 f2 f3 f4 := by
  refine Eq.trans ?_ (writes_whole (b := main_v3_2) o2 _ (DL f0 f1 f2 f3 f4) (lOut_ok c f0 f1 f2 f3 f4 s3 s4 s5 s7) (lOut_cover c f0 f1 f2 f3 f4 s3 s4 s5 s7))
  unfold run
  dsimp only
  exact congrArg (View.writes (Val := Elt Ideal) (Memref.whole main_v3_2).view o2) (show _ = lOut c f0 f1 f2 f3 f4 s3 s4 s5 s7 from rfl)

variable (m : (ℓ : Loc nD τ sig) → Buf (Elt Ideal) ℓ) (ρ : Dev nD → PrngReg)

/-- What the region leaves in the results. -/
def out (c : Dev nD) : (b : Ref sig .tc) → Buf (Elt Ideal) ((c.tc : Thread nD τ).loc b) :=
  Function.update (Function.update (Function.update (V m c)
    main_v3_0 (DX (V m c main_v2) (V m c main_arg1) (V m c main_arg2) (V m c main_v0) (V m c main_v1)))
    main_v3_1 (DW (V m c main_v2) (V m c main_arg1) (V m c main_arg2) (V m c main_v0) (V m c main_v1)))
    main_v3_2 (DL (V m c main_v2) (V m c main_arg1) (V m c main_arg2) (V m c main_v0) (V m c main_v1))

theorem out_x (c : Dev nD) : out m c main_v3_0 = DX (V m c main_v2) (V m c main_arg1) (V m c main_arg2) (V m c main_v0) (V m c main_v1) := by
  unfold out
  rw [Function.update_of_ne (by decide), Function.update_of_ne (by decide), Function.update_self]

theorem out_w (c : Dev nD) : out m c main_v3_1 = DW (V m c main_v2) (V m c main_arg1) (V m c main_arg2) (V m c main_v0) (V m c main_v1) := by
  unfold out
  rw [Function.update_of_ne (by decide), Function.update_self]

theorem out_l (c : Dev nD) : out m c main_v3_2 = DL (V m c main_v2) (V m c main_arg1) (V m c main_arg2) (V m c main_v0) (V m c main_v1) := by
  unfold out
  rw [Function.update_self]

/-! ## The body's obligation with the results' contents named -/

/-- No window; the invariant holds the scratch buffers, the cells at zero, the operands, and the results: as the region
    finds them before the body, at `out` after it. -/
def datsV (_ : Fin 1) (c : Dev nD) : Dat τ (Elt Ideal) Unit ℕ (Pipeline.UD sig nD τ) ℕ cfg0 c where
  A w := w.elim0
  after w t := w.elim0
  Φ t := if t.val = 0 then Pipeline.ΦDRV osem (cfg0.spec) H R (V m) (V m) c else Pipeline.ΦDRV osem (cfg0.spec) H R (V m) (out m) c
  q _ := fullShare
  owed _ := 0

theorem datsV_zero (c : Dev nD) (t : Fin (cfg0.N + 1)) (h : t.val = 0) : (datsV m 0 c).Φ t = Pipeline.ΦDRV osem (cfg0.spec) H R (V m) (V m) c :=
  (show (datsV m 0 c).Φ t = (if t.val = 0 then Pipeline.ΦDRV osem (cfg0.spec) H R (V m) (V m) c else Pipeline.ΦDRV osem (cfg0.spec) H R (V m) (out m) c) from rfl).trans (if_pos h)

theorem datsV_pos (c : Dev nD) (t : Fin (cfg0.N + 1)) (h : t.val ≠ 0) : (datsV m 0 c).Φ t = Pipeline.ΦDRV osem (cfg0.spec) H R (V m) (out m) c :=
  (show (datsV m 0 c).Φ t = (if t.val = 0 then Pipeline.ΦDRV osem (cfg0.spec) H R (V m) (V m) c else Pipeline.ΦDRV osem (cfg0.spec) H R (V m) (out m) c) from rfl).trans (if_neg h)

theorem sound_bodyV (c : Dev nD) (t : Fin cfg0.N) :
    iprop((datsV m 0 c).Φ t.castSucc ∗ (datsV m 0 c).owesAt () t.castSucc) ⊢ wp Idealize.ShloMosaic.frame (wpE (defs₀ (F := Ideal)) Variants.none c none) Set.univ (bodyAt0 t)
      (fun _ => iprop((datsV m 0 c).Φ t.succ ∗ (datsV m 0 c).owesAt () t.succ)) := by
  have ht : t.val = 0 := Nat.lt_one_iff.mp t.isLt
  rw [datsV_pos m c t.succ (Nat.succ_ne_zero _), datsV_zero m c t.castSucc ht]
  unfold Pipeline.ΦDRV
  rw [scratch_eq, ownSems_eq, reads_eq, results_eq, results_eq, out_x, out_w, out_l]
  unfold Dat.owesAt Pipeline.owesWithin
  rw [show (datsV m 0 c).owed t.castSucc = 0 from rfl, show (datsV m 0 c).owed t.succ = 0 from rfl]
  unfold bodyAt0
  iintro ⟨⟨⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, ⟨%s8, Hs8⟩, ⟨%s9, Hs9⟩, ⟨%s10, Hs10⟩, ⟨%s11, Hs11⟩⟩, ⟨Hz0, Hz1, Hz2, Hz3, Hz4, Hz5, Hz6, Hz7, Hz8, Hz9, Hz10, Hz11, Hz12, Hz13, Hz14, Hz15, Hz16, Hz17, Hz18, Hz19, Hz20, Hz21, Hz22, Hz23, Hz24, Hz25, Hz26, Hz27, Hz28, Hz29, Hz30, Hz31, Hz32⟩, ⟨Hi0, Hi1, Hi2, Hi3, Hi4⟩, Ho0, Ho1, Ho2⟩, ⟨%W, -, HW⟩⟩
  have e0 := run_x c (V m c main_v2) (V m c main_arg1) (V m c main_arg2) (V m c main_v0) (V m c main_v1) (V m c main_v3_0) (V m c main_v3_1) (V m c main_v3_2) s0 s1 s2 s3 s4 s5 s6 s7 s8 s9 s10 s11
  have e1 := run_w c (V m c main_v2) (V m c main_arg1) (V m c main_arg2) (V m c main_v0) (V m c main_v1) (V m c main_v3_0) (V m c main_v3_1) (V m c main_v3_2) s0 s1 s2 s3 s4 s5 s6 s7 s8 s9 s10 s11
  have e2 := run_l c (V m c main_v2) (V m c main_arg1) (V m c main_arg2) (V m c main_v0) (V m c main_v1) (V m c main_v3_0) (V m c main_v3_1) (V m c main_v3_2) s0 s1 s2 s3 s4 s5 s6 s7 s8 s9 s10 s11
  generalize hL : run c (V m c main_v2) (V m c main_arg1) (V m c main_arg2) (V m c main_v0) (V m c main_v1) (V m c main_v3_0) (V m c main_v3_1) (V m c main_v3_2) s0 s1 s2 s3 s4 s5 s6 s7 s8 s9 s10 s11 = L at e0 e1 e2
  iapply (L.2 W _)
  isplitl [Hi0]; · iexact Hi0
  isplitl [Hi1]; · iexact Hi1
  isplitl [Hi2]; · iexact Hi2
  isplitl [Hi3]; · iexact Hi3
  isplitl [Hi4]; · iexact Hi4
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  isplitl [Hz8]; · iexact Hz8
  isplitl [Hz9]; · iexact Hz9
  isplitl [Hz10]; · iexact Hz10
  isplitl [Hz11]; · iexact Hz11
  isplitl [Hz12]; · iexact Hz12
  isplitl [Hz13]; · iexact Hz13
  isplitl [Hz14]; · iexact Hz14
  isplitl [Hz15]; · iexact Hz15
  isplitl [Hz16]; · iexact Hz16
  isplitl [Hz17]; · iexact Hz17
  isplitl [Hz18]; · iexact Hz18
  isplitl [Hz19]; · iexact Hz19
  isplitl [Hz20]; · iexact Hz20
  isplitl [Hz21]; · iexact Hz21
  isplitl [Hz22]; · iexact Hz22
  isplitl [Hz23]; · iexact Hz23
  isplitl [Hz24]; · iexact Hz24
  isplitl [Hz25]; · iexact Hz25
  isplitl [Hz26]; · iexact Hz26
  isplitl [Hz27]; · iexact Hz27
  isplitl [Hz28]; · iexact Hz28
  isplitl [Hz29]; · iexact Hz29
  isplitl [Hz30]; · iexact Hz30
  isplitl [Hz31]; · iexact Hz31
  isplitl [Hz32]; · iexact Hz32
  isplitl [HW]; · iexact HW
  iintro ⟨Hi0, Hi1, Hi2, Hi3, Hi4, Ho0, Ho1, Ho2, Hs0, Hs1, Hs2, Hs3, Hs4, Hs5, Hs6, Hs7, Hs8, Hs9, Hs10, Hs11, Hz0, Hz1, Hz2, Hz3, Hz4, Hz5, Hz6, Hz7, Hz8, Hz9, Hz10, Hz11, Hz12, Hz13, Hz14, Hz15, Hz16, Hz17, Hz18, Hz19, Hz20, Hz21, Hz22, Hz23, Hz24, Hz25, Hz26, Hz27, Hz28, Hz29, Hz30, Hz31, Hz32, ⟨%W', HW⟩⟩
  rw [e0, e1, e2]
  isplitl [Hs0 Hs1 Hs2 Hs3 Hs4 Hs5 Hs6 Hs7 Hs8 Hs9 Hs10 Hs11 Hz0 Hz1 Hz2 Hz3 Hz4 Hz5 Hz6 Hz7 Hz8 Hz9 Hz10 Hz11 Hz12 Hz13 Hz14 Hz15 Hz16 Hz17 Hz18 Hz19 Hz20 Hz21 Hz22 Hz23 Hz24 Hz25 Hz26 Hz27 Hz28 Hz29 Hz30 Hz31 Hz32 Hi0 Hi1 Hi2 Hi3 Hi4 Ho0 Ho1 Ho2]
  · isplitl [Hs0 Hs1 Hs2 Hs3 Hs4 Hs5 Hs6 Hs7 Hs8 Hs9 Hs10 Hs11]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    isplitl [Hz0 Hz1 Hz2 Hz3 Hz4 Hz5 Hz6 Hz7 Hz8 Hz9 Hz10 Hz11 Hz12 Hz13 Hz14 Hz15 Hz16 Hz17 Hz18 Hz19 Hz20 Hz21 Hz22 Hz23 Hz24 Hz25 Hz26 Hz27 Hz28 Hz29 Hz30 Hz31 Hz32]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      isplitl [Hz19]; · iexact Hz19
      isplitl [Hz20]; · iexact Hz20
      isplitl [Hz21]; · iexact Hz21
      isplitl [Hz22]; · iexact Hz22
      isplitl [Hz23]; · iexact Hz23
      isplitl [Hz24]; · iexact Hz24
      isplitl [Hz25]; · iexact Hz25
      isplitl [Hz26]; · iexact Hz26
      isplitl [Hz27]; · iexact Hz27
      isplitl [Hz28]; · iexact Hz28
      isplitl [Hz29]; · iexact Hz29
      isplitl [Hz30]; · iexact Hz30
      isplitl [Hz31]; · iexact Hz31
      iexact Hz32
    isplitl [Hi0 Hi1 Hi2 Hi3 Hi4]
    · isplitl [Hi0]; · iexact Hi0
      isplitl [Hi1]; · iexact Hi1
      isplitl [Hi2]; · iexact Hi2
      isplitl [Hi3]; · iexact Hi3
      iexact Hi4
    isplitl [Ho0]; · iexact Ho0
    isplitl [Ho1]; · iexact Ho1
    iexact Ho2
  iexists W'; isplitr; · ipureintro; exact fun _ _ => Or.inl trivial
  iexact HW

theorem body_obligationV (c : Dev nD) : BodyObligation (datsV m 0 c) (defs₀ (F := Ideal)) Variants.none () Set.univ := fun t => by
  rw [defs₀_row]
  have h0 : ∀ Ψ : Fin 0 → sProp 𝕄, bigSep Finset.univ Ψ = iprop(emp) := fun Ψ => by
    rw [show (Finset.univ : Finset (Fin 0)) = ∅ from rfl]; exact bigSep_empty
  refine triple_restated (sound_bodyV m c t) rfl ?_ fun _ => ?_
  · rw [h0]
    iintro ⟨Ha, Hb, -⟩
    isplitl [Ha]; · iexact Ha
    iexact Hb
  · rw [h0]
    iintro ⟨Ha, Hb⟩
    isplitl [Ha]; · iexact Ha
    isplitl [Hb]; · iexact Hb
    iempintro

/-! ## The run -/

set_option backward.isDefEq.respectTransparency.types false in
theorem run_mainV : θ_run defs (onTc (τ := τ) (main (F := Ideal))) (s₀ m ρ)
    (fun r => (∀ c : Dev nD, ∀ b ∈ Pipeline.restRefs sig (cfg0.spec), r.2.mem ((c.tc : Thread nD τ).loc b)
      = StableHlo.after ([hostOps1] : List (List (HloOp τ sig (Elt Ideal)))).flatten
        (Pipeline.withArrays (cfg0.spec) c (Pipeline.withR (V0 m c) R c (out m c)) fun w => (datsV m 0 c).arrAt w cfg0.N) (Proc.devRef .tc b))) :=
  Pipeline.θ_run_frame_dmaR_aroundV cfgs (datsV m) (0 : Fin 1) launch0 osem defs₀ Variants.none ownSemFacts H R H_sub R_sub m ρ main
    (hbody := fun c => (body_obligationV m c).loose) (hshare := fun c => (datsV m 0 c).share_full fun _ => rfl)
    (howed := fun _ _ => rfl) (V₀ := V0 m) (opss := [hostOps1]) sfx_sub sfx_fresh sfx_keeps (out m)
    (hmain := hmain m Variants.none) (hA := fun _ w => w.elim0)
    (hin := fun c => by
      rw [datsV_zero m c 0 rfl])
    (hout := fun c => by
      rw [datsV_pos m c (Fin.last cfg0.N) (by decide)])
    (Q' := _) (hQ' := fun r h c b hb => (h.1 c).2 b hb)

end Cert.KernelIdeal.Hand
-- ==== Proof.RouterRef.lean ====
module

public import proofs.«01_k».proof.Proof.Router

@[expose] public section

noncomputable section

namespace Cert.Router

open Idealize.ShloMosaic Idealize.ShloMosaic.Tactic

/-! One token's router gradient over the eight chosen slots, as the plain mathematics writes it. -/

/-- The logit of slot `k`'s expert: the row of logits with every other expert cleared, summed. -/
def pick (ids : Fin 8 → BitVec 32) (L : Fin 256 → EReal) (k : Fin 8) : EReal :=
  ∑ e : Fin 256, Scalar.select (IntOp.cmpi .eq (ids k) (BitVec.ofNat 32 e.val)) (L e) 0

/-- The largest of the chosen logits. -/
def peak (ids : Fin 8 → BitVec 32) (L : Fin 256 → EReal) : EReal :=
  max (Ideal.ofBits FTy.f32 4286578688#32)
    (Finset.fold max (Ideal.ofBits FTy.f32 4286578688#32) (fun k => pick ids L k) Finset.univ)

/-- The softmax of the chosen logits. -/
def gate (ids : Fin 8 → BitVec 32) (L : Fin 256 → EReal) (k : Fin 8) : EReal :=
  Ideal.div (Ideal.exp (pick ids L k - peak ids L)) (∑ j : Fin 8, Ideal.exp (pick ids L j - peak ids L))

/-- The gradient of slot `k`'s logit. -/
def slot (ids : Fin 8 → BitVec 32) (dg : Fin 8 → EReal) (L : Fin 256 → EReal) (k : Fin 8) : EReal :=
  gate ids L k * (dg k - ∑ j : Fin 8, gate ids L j * dg j)

/-- The slots' gradients placed at their experts, later slots over earlier ones, zero elsewhere. -/
def scatter (ids : Fin 8 → BitVec 32) (dg : Fin 8 → EReal) (L : Fin 256 → EReal) (e : Fin 256) : EReal :=
  Scalar.select (IntOp.cmpi .eq (ids 7) (BitVec.ofNat 32 e.val)) (slot ids dg L 7)
  (Scalar.select (IntOp.cmpi .eq (ids 6) (BitVec.ofNat 32 e.val)) (slot ids dg L 6)
  (Scalar.select (IntOp.cmpi .eq (ids 5) (BitVec.ofNat 32 e.val)) (slot ids dg L 5)
  (Scalar.select (IntOp.cmpi .eq (ids 4) (BitVec.ofNat 32 e.val)) (slot ids dg L 4)
  (Scalar.select (IntOp.cmpi .eq (ids 3) (BitVec.ofNat 32 e.val)) (slot ids dg L 3)
  (Scalar.select (IntOp.cmpi .eq (ids 2) (BitVec.ofNat 32 e.val)) (slot ids dg L 2)
  (Scalar.select (IntOp.cmpi .eq (ids 1) (BitVec.ofNat 32 e.val)) (slot ids dg L 1)
  (Scalar.select (IntOp.cmpi .eq (ids 0) (BitVec.ofNat 32 e.val)) (slot ids dg L 0) 0)))))))

/-- The batch of row `n` of the flattened tokens. -/
def batch (n : Fin 1536) : Fin 2 := ⟨n.val / 768, by omega⟩
/-- The token within its batch of row `n` of the flattened tokens. -/
def token (n : Fin 1536) : Fin 768 := ⟨n.val % 768, by omega⟩

end Cert.Router
-- ==== Proof.RouterEq.lean ====
module

public import proofs.«01_k».proof.Proof.RouterRef

@[expose] public section

noncomputable section

namespace Cert.Router

open Idealize.ShloMosaic Idealize.ShloMosaic.Tactic

/-! The two ways of writing one token's router gradient agree when the eight chosen experts are distinct. -/

/-- The comparison bit of two experts. -/
theorem cmp_eq (a b : Fin 256) :
    IntOp.cmpi .eq (BitVec.ofNat 32 a.val) (BitVec.ofNat 32 b.val) = if a = b then 1#1 else 0#1 := by
  have h : (BitVec.ofNat 32 a.val = BitVec.ofNat 32 b.val) ↔ a = b := by
    constructor
    · intro h
      have h' := congrArg BitVec.toNat h
      simp only [BitVec.toNat_ofNat] at h'
      apply Fin.ext
      have := a.isLt
      have := b.isLt
      omega
    · rintro rfl; rfl
  by_cases hab : a = b
  · subst hab
    simp [IntOp.cmpi]
  · have hne : ¬ (BitVec.ofNat 32 a.val = BitVec.ofNat 32 b.val) := fun hh => hab (h.mp hh)
    have hb : (BitVec.ofNat 32 a.val == BitVec.ofNat 32 b.val) = false := beq_false_of_ne hne
    simp only [IntOp.cmpi, hab, hb, if_false]
    rfl

/-- Minus infinity's bits. -/
theorem ninf : Ideal.ofBits FTy.f32 4286578688#32 = (⊥ : EReal) := by
  simp [Ideal.ofBits, Ideal.ieee]

/-- A choice on a set bit. -/
theorem select_one {α : Type} (a b : α) : Scalar.select 1#1 a b = a := by
  simp [Scalar.select]

/-- A choice on a clear bit. -/
theorem select_zero {α : Type} (a b : α) : Scalar.select 0#1 a b = b := by
  simp [Scalar.select]

/-- A choice on a comparison's bit. -/
theorem select_ite {α : Type} (p : Prop) [Decidable p] (a b : α) :
    Scalar.select (if p then 1#1 else 0#1) a b = if p then a else b := by
  by_cases h : p <;> simp [h, Scalar.select]

section

variable (id : Fin 8 → Fin 256) (hinj : Function.Injective id) (dg : Fin 8 → EReal) (L : Fin 256 → EReal)

/-- The chosen experts as the words the programs hold. -/
abbrev word (id : Fin 8 → Fin 256) : Fin 8 → BitVec 32 := fun k => BitVec.ofNat 32 (id k).val

include hinj in
/-- A chosen expert's bit is set. -/
theorem sel_at (k : Fin 8) : sel (word id) (id k) = 1#1 := by
  unfold sel
  simp only [word, cmp_eq, hinj.eq_iff]
  revert k
  decide

/-- Any other expert's bit is clear. -/
theorem sel_out {e : Fin 256} (he : e ∉ Set.range id) : sel (word id) e = 0#1 := by
  have h : ∀ k, ¬ e = id k := fun k hk => he ⟨k, hk.symm⟩
  unfold sel
  simp only [word, cmp_eq, h, if_false]
  decide

include hinj in
/-- The spread gradient at a chosen expert. -/
theorem spread_at (k : Fin 8) : spread (word id) dg (id k) = dg k := by
  unfold spread
  simp only [word, cmp_eq, select_ite, hinj.eq_iff]
  fin_cases k <;> simp

include hinj in
/-- The placed gradient at a chosen expert. -/
theorem scatter_at (k : Fin 8) : scatter (word id) dg L (id k) = slot (word id) dg L k := by
  unfold scatter
  simp only [word, cmp_eq, select_ite, hinj.eq_iff]
  fin_cases k <;> simp

/-- The placed gradient at any other expert. -/
theorem scatter_out {e : Fin 256} (he : e ∉ Set.range id) : scatter (word id) dg L e = 0 := by
  have h : ∀ k, ¬ id k = e := fun k hk => he ⟨k, hk⟩
  unfold scatter
  simp only [word, cmp_eq, select_ite, h, if_false, select_zero]

/-- A slot's logit is its expert's. -/
theorem pick_eq (k : Fin 8) : pick (word id) L k = L (id k) := by
  unfold pick
  simp only [word, cmp_eq, select_ite]
  rw [Finset.sum_ite_eq]
  simp

include hinj in
/-- A chosen expert keeps its logit. -/
theorem masked_at (k : Fin 8) : masked (word id) L (id k) = L (id k) := by
  unfold masked
  rw [sel_at id hinj, select_one]

/-- Any other expert's logit is minus infinity. -/
theorem masked_out {e : Fin 256} (he : e ∉ Set.range id) : masked (word id) L e = ⊥ := by
  unfold masked
  rw [sel_out id he, select_zero, ninf]

include hinj in
/-- The largest logit over all experts is the largest over the slots. -/
theorem top_eq : top (word id) L = peak (word id) L := by
  unfold top peak
  rw [ninf]
  apply le_antisymm
  · rw [Finset.fold_max_le]
    refine ⟨bot_le, fun x _ => ?_⟩
    by_cases hx : x ∈ Set.range id
    · obtain ⟨k, rfl⟩ := hx
      rw [masked_at id hinj, ← pick_eq id L k]
      exact le_max_of_le_right ((Finset.le_fold_max _).mpr (Or.inr ⟨k, Finset.mem_univ _, le_rfl⟩))
    · rw [masked_out id L hx]
      exact bot_le
  · refine max_le bot_le ?_
    rw [Finset.fold_max_le]
    refine ⟨bot_le, fun k _ => ?_⟩
    rw [pick_eq, ← masked_at id hinj L k]
    exact (Finset.le_fold_max _).mpr (Or.inr ⟨id k, Finset.mem_univ _, le_rfl⟩)

include hinj in
/-- The softmax at a chosen expert is the slot's gate. -/
theorem prob_at (k : Fin 8) : prob (word id) L (id k) = gate (word id) L k := by
  unfold prob gate
  rw [masked_at id hinj, top_eq id hinj, pick_eq]
  congr 1
  symm
  refine Fintype.sum_of_injective id hinj _ _ (fun x hx => ?_) (fun j => ?_)
  · rw [masked_out id L hx, EReal.bot_sub, Ideal.exp_bot]
  · rw [masked_at id hinj, pick_eq]

include hinj in
/-- The two ways agree at every expert. -/
theorem grad_eq (e : Fin 256) : grad (word id) dg L e = scatter (word id) dg L e := by
  by_cases he : e ∈ Set.range id
  · obtain ⟨k, rfl⟩ := he
    rw [scatter_at id hinj]
    unfold grad slot
    rw [sel_at id hinj, select_one, prob_at id hinj, spread_at id hinj]
    congr 2
    symm
    refine Fintype.sum_of_injective id hinj _ _ (fun x hx => ?_) (fun j => ?_)
    · rw [sel_out id hx, select_zero]
    · rw [sel_at id hinj, select_one, prob_at id hinj, spread_at id hinj]
  · rw [scatter_out id dg L he]
    unfold grad
    rw [sel_out id he, select_zero]

end

end Cert.Router
-- ==== Proof.Spec.lean ====
module

public import proofs.«01_k».proof.Proof.RouterEq

@[expose] public section

noncomputable section

namespace Cert.Spec

open Idealize.ShloMosaic Idealize.ShloMosaic.TcCoe Idealize.ShloMosaic.Tactic
open Cert.KernelIdeal (S2x768x7168 S2x768 S7168x256 S2x768x8 S2x768x256)

/-! The three results both programs compute, entry by entry, in terms of the five arguments. -/

variable (a0 : Vec Ideal S2x768x7168 .fp8e4m3) (a1 : Vec Ideal S2x768 .f32) (a2 : Vec Ideal S7168x256 .bf16)
  (a3 : Vec Ideal S2x768x8 .i32) (a4 : Vec Ideal S2x768x8 .bf16)

/-- A token's logit of expert `e`: its scaled product with the expert's column. -/
def logit (b : Fin 2) (s : Fin 768) (e : Fin 256) : EReal :=
  (∑ k : Fin 7168, (a0 (ix3 b s k) : EReal) * (a2 (ix2 k e) : EReal)) * (a1 (ix2 b s) : EReal)

/-- A token's gradient of the logit of expert `e`. -/
def dl (b : Fin 2) (s : Fin 768) (e : Fin 256) : EReal :=
  Router.scatter (fun k => a3 (ix3 b s k)) (fun k => (a4 (ix3 b s k) : EReal)) (logit a0 a1 a2 b s) e

/-- A token's gradient of activation `k`. -/
def dx (b : Fin 2) (s : Fin 768) (k : Fin 7168) : EReal :=
  ∑ e : Fin 256, dl a0 a1 a2 a3 a4 b s e * (a2 (ix2 k e) : EReal)

/-- The weight's gradient: the sum over all tokens. -/
def dw (k : Fin 7168) (e : Fin 256) : EReal :=
  ∑ n : Fin 1536, (a0 (ix3 (Router.batch n) (Router.token n) k) : EReal)
    * (dl a0 a1 a2 a3 a4 (Router.batch n) (Router.token n) e * (a1 (ix2 (Router.batch n) (Router.token n)) : EReal))

end Cert.Spec
-- ==== Proof.KernelIdeal.Result.lean ====
module

public import proofs.«01_k».proof.Proof.KernelIdeal.Value
public import proofs.«01_k».proof.Proof.Spec
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

/-! The kernel program's three results in terms of its arguments. -/

variable (m : (ℓ : Loc nD τ sig) → Buf (Elt Ideal) ℓ) (c : Dev nD)

/-- The activations' codes as launched. -/
abbrev arg0 : Vec Ideal S2x768x7168 .fp8e4m3 := m ((c.tc : Thread nD τ).loc main_arg0)
/-- The scales as launched. -/
abbrev arg1 : Vec Ideal S2x768 .f32 := m ((c.tc : Thread nD τ).loc main_arg1)
/-- The weights as launched. -/
abbrev arg2 : Vec Ideal S7168x256 .bf16 := m ((c.tc : Thread nD τ).loc main_arg2)
/-- The chosen experts as launched. -/
abbrev arg3 : Vec Ideal S2x768x8 .i32 := m ((c.tc : Thread nD τ).loc main_arg3)
/-- The gates' gradients as launched. -/
abbrev arg4 : Vec Ideal S2x768x8 .bf16 := m ((c.tc : Thread nD τ).loc main_arg4)

/-- The region finds the experts transposed. -/
theorem V_ids : (V m c main_v0 : Vec Ideal S2x8x768 .i32)
    = transpose S2x8x768 [0, 2, 1] (arg3 m c) transposes_S2x768x8_S2x8x768_0_2_1 := by
  show StableHlo.after (List.flatten [hostOps0]) _ (Proc.devRef .tc main_v0) = _
  after_reads_simp

/-- The region finds the gates' gradients transposed. -/
theorem V_dg : (V m c main_v1 : Vec Ideal S2x8x768 .bf16)
    = transpose S2x8x768 [0, 2, 1] (arg4 m c) transposes_S2x768x8_S2x8x768_0_2_1 := by
  show StableHlo.after (List.flatten [hostOps0]) _ (Proc.devRef .tc main_v1) = _
  after_reads_simp

/-- The region finds the activations flattened over the tokens. -/
theorem V_x : (V m c main_v2 : Vec Ideal S1536x7168 .fp8e4m3)
    = shapeCast S1536x7168 (arg0 m c) shapeCasts_S2x768x7168_S1536x7168 := by
  show StableHlo.after (List.flatten [hostOps0]) _ (Proc.devRef .tc main_v2) = _
  after_reads_simp
  rfl

theorem V_ids_at (b : Fin 2) (k : Fin 8) (s : Fin 768) :
    (V m c main_v0 : Vec Ideal S2x8x768 .i32) (ix3 b k s) = arg3 m c (ix3 b s k) := by
  rw [V_ids]
  pointwise

theorem V_dg_at (b : Fin 2) (k : Fin 8) (s : Fin 768) :
    (V m c main_v1 : Vec Ideal S2x8x768 .bf16) (ix3 b k s) = arg4 m c (ix3 b s k) := by
  rw [V_dg]
  pointwise

theorem V_x_at (n : Fin 1536) (k : Fin 7168) :
    (V m c main_v2 : Vec Ideal S1536x7168 .fp8e4m3) (ix2 n k) = arg0 m c (ix3 (bOf n) (sOf n) k) := by
  rw [V_x]
  pointwise
  rfl

/-- Every token's eight experts are distinct and in range. -/
def Distinct (ids : Vec Ideal S2x768x8 .i32) : Prop :=
  ∀ (b : Fin 2) (s : Fin 768), ∃ id : Fin 8 → Fin 256, Function.Injective id
    ∧ ∀ k, ids (ix3 b s k) = BitVec.ofNat 32 (id k).val

/-- The region's gradient of the logits, entry by entry. -/
theorem DL_eq (h : Distinct (arg3 m c)) (n : Fin 1536) (e : Fin 256) :
    (DL (V m c main_v2) (V m c main_arg1) (V m c main_arg2) (V m c main_v0) (V m c main_v1) (ix2 n e) : EReal)
      = Spec.dl (arg0 m c) (arg1 m c) (arg2 m c) (arg3 m c) (arg4 m c) (bOf n) (sOf n) e := by
  obtain ⟨id, hinj, hid⟩ := h (bOf n) (sOf n)
  show dlG _ _ _ _ _ (bOf n) (sOf n) n e = _
  unfold dlG Spec.dl
  have hi : (fun k => arg3 m c (ix3 (bOf n) (sOf n) k)) = Router.word id := funext hid
  have hi' : (fun k => (V m c main_v0 : Vec Ideal S2x8x768 .i32) (ix3 (bOf n) k (sOf n))) = Router.word id :=
    funext fun k => (V_ids_at m c _ _ _).trans (hid k)
  have hd : (fun k => ((V m c main_v1 : Vec Ideal S2x8x768 .bf16) (ix3 (bOf n) k (sOf n)) : EReal))
      = fun k => (arg4 m c (ix3 (bOf n) (sOf n) k) : EReal) := funext fun k => V_dg_at m c _ _ _
  have hL : (fun e => lgSum (V m c main_v2) (V m c main_arg2) e n 7168 * (V m c main_arg1 : Vec Ideal S2x768 .f32) (ix2 (bOf n) (sOf n)))
      = Spec.logit (arg0 m c) (arg1 m c) (arg2 m c) (bOf n) (sOf n) := by
    funext e
    rw [lgSum_all, V_main_arg1, V_main_arg2]
    unfold Spec.logit
    refine congrArg₂ (fun a b : EReal => a * b) (Finset.sum_congr rfl fun k _ => ?_) rfl
    rw [V_x_at]
    exact mul_comm _ _
  rw [hi]
  refine Eq.trans ?_ (Router.grad_eq id hinj _ _ e)
  exact congr (congr (congrArg₂ Router.grad hi' hd) hL) rfl

variable (h : Distinct (arg3 m c))

/-- What every buffer of the region holds when the lines after it start. -/
abbrev mid : Valuation τ sig (Elt Ideal) :=
  Pipeline.withArrays (cfg0.spec) c (Pipeline.withR (V0 m c) R c (out m c)) fun w => (datsV m 0 c).arrAt w cfg0.N

/-- A result of the region, as the lines after it find it. -/
theorem mid_mem (b : Ref sig .tc) (hb : b ∈ R) (hw : ∀ w, Pipeline.arrRef cfg0.spec w ≠ b) :
    mid m c (Proc.devRef .tc b) = out m c b := by
  unfold mid
  rw [Pipeline.withArrays_of_ne _ c _ _ b hw, Pipeline.withR_of_mem _ R c _ b hb]

/-- Any other buffer, as the lines after the region find it. -/
theorem mid_not_mem (b : Ref sig .tc) (hb : b ∉ R) (hw : ∀ w, Pipeline.arrRef cfg0.spec w ≠ b) :
    mid m c (Proc.devRef .tc b) = V m c b := by
  unfold mid
  rw [Pipeline.withArrays_of_ne _ c _ _ b hw, Pipeline.withR_of_not_mem _ R c _ b hb]

/-- What the program ends with in a buffer. -/
abbrev fin (b : Ref sig .tc) : b.ty.Contents (Elt Ideal) :=
  StableHlo.after ([hostOps1] : List (List (HloOp τ sig (Elt Ideal)))).flatten (mid m c) (Proc.devRef .tc b)

/-- The row of the flattened tokens that token `s` of batch `b` is. -/
def row (b : Fin 2) (s : Fin 768) : Fin 1536 := ⟨b.val * 768 + s.val, by omega⟩
theorem bOf_row (b : Fin 2) (s : Fin 768) : bOf (row b s) = b := bOf_eq _ b s (by simp only [row]; omega)
theorem sOf_row (b : Fin 2) (s : Fin 768) : sOf (row b s) = s := sOf_eq _ b s (by simp only [row]; omega)

/-- A flattened result read back by batch and token. -/
theorem unflat_l (G : Vec Ideal S1536x256 .f32) (b : Fin 2) (s : Fin 768) (e : Fin 256) :
    (shapeCast S2x768x256 G shapeCasts_S1536x256_S2x768x256 : Vec Ideal S2x768x256 .f32) (ix3 b s e) = G (ix2 (row b s) e) := by
  pointwise
  rfl

/-- A flattened result read back by batch and token. -/
theorem unflat_x (G : Vec Ideal S1536x7168 .bf16) (b : Fin 2) (s : Fin 768) (k : Fin 7168) :
    (shapeCast S2x768x7168 G shapeCasts_S1536x7168_S2x768x7168 : Vec Ideal S2x768x7168 .bf16) (ix3 b s k) = G (ix2 (row b s) k) := by
  pointwise
  rfl

include h in
/-- The logits' gradient the program ends with. -/
theorem fin_l (b : Fin 2) (s : Fin 768) (e : Fin 256) :
    ((fin m c main_v5 : Vec Ideal S2x768x256 .f32) (ix3 b s e) : EReal)
      = Spec.dl (arg0 m c) (arg1 m c) (arg2 m c) (arg3 m c) (arg4 m c) b s e := by
  have e1 : (fin m c main_v5 : Vec Ideal S2x768x256 .f32)
      = shapeCast S2x768x256 (out m c main_v3_2 : Vec Ideal S1536x256 .f32) shapeCasts_S1536x256_S2x768x256 := by
    rw [← mid_mem m c main_v3_2 (by decide) (by decide)]
    show StableHlo.after (List.flatten [hostOps1]) (mid m c) (Proc.devRef .tc main_v5) = _
    generalize mid m c = W
    after_reads_simp
    rfl
  have e2 := DL_eq m c h (row b s) e
  rw [bOf_row, sOf_row] at e2
  exact (congrFun e1 _).trans ((unflat_l _ b s e).trans ((congrFun (out_l m c) _).trans e2))

include h in
/-- The activations' gradient the program ends with. -/
theorem fin_x (b : Fin 2) (s : Fin 768) (k : Fin 7168) :
    ((fin m c main_v4 : Vec Ideal S2x768x7168 .bf16) (ix3 b s k) : EReal)
      = Spec.dx (arg0 m c) (arg1 m c) (arg2 m c) (arg3 m c) (arg4 m c) b s k := by
  have e1 : (fin m c main_v4 : Vec Ideal S2x768x7168 .bf16)
      = shapeCast S2x768x7168 (out m c main_v3_0 : Vec Ideal S1536x7168 .bf16) shapeCasts_S1536x7168_S2x768x7168 := by
    rw [← mid_mem m c main_v3_0 (by decide) (by decide)]
    show StableHlo.after (List.flatten [hostOps1]) (mid m c) (Proc.devRef .tc main_v4) = _
    generalize mid m c = W
    after_reads_simp
    rfl
  have e2 : ((fin m c main_v4 : Vec Ideal S2x768x7168 .bf16) (ix3 b s k) : EReal)
      = DX (V m c main_v2) (V m c main_arg1) (V m c main_arg2) (V m c main_v0) (V m c main_v1) (ix2 (row b s) k) :=
    (congrFun e1 _).trans ((unflat_x _ b s k).trans (congrFun (out_x m c) _))
  refine e2.trans ?_
  show (∑ e : Fin 256, (DL _ _ _ _ _ (ix2 (row b s) e) : EReal) * ((V m c main_arg2 : Vec Ideal S7168x256 .bf16) (ix2 k e) : EReal) : EReal) = _
  unfold Spec.dx
  refine Finset.sum_congr rfl fun e _ => ?_
  have e3 := DL_eq m c h (row b s) e
  rw [bOf_row, sOf_row] at e3
  exact congrArg₂ (fun a b : EReal => a * b) e3 (congrFun (V_main_arg2 m c) _)

include h in
/-- The weights' gradient the program ends with. -/
theorem fin_w (k : Fin 7168) (e : Fin 256) :
    ((fin m c main_v3_1 : Vec Ideal S7168x256 .f32) (ix2 k e) : EReal)
      = Spec.dw (arg0 m c) (arg1 m c) (arg2 m c) (arg3 m c) (arg4 m c) k e := by
  have e1 : (fin m c main_v3_1 : Vec Ideal S7168x256 .f32) = out m c main_v3_1 := by
    rw [← mid_mem m c main_v3_1 (by decide) (by decide)]
    show StableHlo.after (List.flatten [hostOps1]) (mid m c) (Proc.devRef .tc main_v3_1) = _
    generalize mid m c = W
    after_reads_simp
  refine ((congrFun e1 _).trans (congrFun (out_w m c) _)).trans ?_
  show (∑ n : Fin 1536, (DLST _ _ _ _ _ (ix2 e n) : EReal) * ((V m c main_v2 : Vec Ideal S1536x7168 .fp8e4m3) (ix2 n k) : EReal) : EReal) = _
  unfold Spec.dw
  refine Finset.sum_congr rfl fun n _ => ?_
  refine (mul_comm _ _).trans ?_
  refine congrArg₂ (fun a b : EReal => a * b) (V_x_at m c n k) ?_
  exact congrArg₂ (fun a b : EReal => a * b) (DL_eq m c h n e) (congrFun (V_main_arg1 m c) _)

/-- An argument ends as launched. -/
theorem fin_arg (b : Ref sig .tc) (hb : b ∉ R) (h4 : b ≠ main_v4) (h5 : b ≠ main_v5) (hw : ∀ w, Pipeline.arrRef cfg0.spec w ≠ b) :
    fin m c b = V m c b := by
  rw [← mid_not_mem m c b hb hw]
  refine StableHlo.after_unwritten [main_v4, main_v5] rfl ?_ (mid m c)
  simp only [List.mem_cons, List.not_mem_nil, or_false, not_or]
  exact ⟨h4, h5⟩

variable (ρ : Dev nD → PrngReg)

/-- The program ends with these results, and its arguments as launched. -/
theorem run_fin :
    θ_run (defs (F := Ideal)) (onTc (τ := τ) (main (F := Ideal))) ⟨m, fun _ => 0, ρ⟩ (fun r => ∀ c : Dev nD,
      r.2.mem ((c.tc : Thread nD τ).loc main_v4) = fin m c main_v4
      ∧ r.2.mem ((c.tc : Thread nD τ).loc main_v3_1) = fin m c main_v3_1
      ∧ r.2.mem ((c.tc : Thread nD τ).loc main_v5) = fin m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r hr c => ?_) (run_mainV m ρ)
  have ha : ∀ b : Ref sig .tc, b ∈ Pipeline.restRefs sig (cfg0.spec) → b ∉ R → b ≠ main_v4 → b ≠ main_v5 →
      (∀ w, Pipeline.arrRef cfg0.spec w ≠ b) → r.2.mem ((c.tc : Thread nD τ).loc b) = V m c b :=
    fun b hb h1 h2 h3 h4 => (hr c b hb).trans (fin_arg m c b h1 h2 h3 h4)
  exact ⟨hr c main_v4 (Pipeline.mem_restRefs_of _ (by decide) (by decide)),
    hr c main_v3_1 (Pipeline.mem_restRefs_of _ (by decide) (by decide)),
    hr c main_v5 (Pipeline.mem_restRefs_of _ (by decide) (by decide)),
    (ha main_arg0 (Pipeline.mem_restRefs_of _ (by decide) (by decide)) (by decide) (by decide) (by decide) (by decide)).trans (V_main_arg0 m c),
    (ha main_arg1 (Pipeline.mem_restRefs_of _ (by decide) (by decide)) (by decide) (by decide) (by decide) (by decide)).trans (V_main_arg1 m c),
    (ha main_arg2 (Pipeline.mem_restRefs_of _ (by decide) (by decide)) (by decide) (by decide) (by decide) (by decide)).trans (V_main_arg2 m c),
    (ha main_arg3 (Pipeline.mem_restRefs_of _ (by decide) (by decide)) (by decide) (by decide) (by decide) (by decide)).trans (V_main_arg3 m c),
    (ha main_arg4 (Pipeline.mem_restRefs_of _ (by decide) (by decide)) (by decide) (by decide) (by decide) (by decide)).trans (V_main_arg4 m c)⟩

end Cert.KernelIdeal.Hand
-- ==== Proof.ReferenceIdeal.Chain.lean ====
module

public import proofs.«01_k».proof.Proof.Gen.ReferenceIdeal.Frame
public import Idealize.ShloMosaic.Lib.StableHlo.RunRead
public import Idealize.ShloMosaic.Lib.Pointwise

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic

/-! The reference's host operations read one at a time: what each leaves, in terms of what its operands end with. -/

/-- All host operations of the reference, in order. -/
abbrev line : List (HloOp τ sig (Elt Ideal)) :=
  List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]

/-- The reference each host operation writes, in order. -/
abbrev lineW : List (Ref sig .tc) :=
  List.flatten [hostOps1_W, hostOps1_1_W, hostOps1_2_W, hostOps1_3_W, hostOps1_4_W, hostOps1_5_W, hostOps1_6_W, hostOps1_7_W, hostOps1_8_W, hostOps1_9_W, hostOps1_10_W, hostOps1_11_W, hostOps1_12_W, hostOps1_13_W, hostOps1_14_W, hostOps1_15_W, hostOps1_16_W, hostOps1_17_W, hostOps1_18_W]

/-- The operations write what `lineW` lists. -/
theorem line_writes : (line).map HloOp.writes = lineW.map fun w => {Proc.devRef (τ := τ) .tc w} := rfl

/-- What a reference holds after all host operations, from the contents `V` before them. -/
def X (V : Valuation τ sig (Elt Ideal)) (r : Ref sig .tc) : r.ty.Contents (Elt Ideal) :=
  StableHlo.after line V (Proc.devRef .tc r)

/-- The operations from position `i` on write what `lineW` lists from `i` on. -/
theorem drop_writes (i : ℕ) :
    (line.drop i).map HloOp.writes = (lineW.drop i).map fun w => {Proc.devRef (τ := τ) .tc w} := by
  rw [List.map_drop, List.map_drop, line_writes]

/-- A reference last written at position `i` ends with what that operation leaves. -/
theorem X_write {i : ℕ} {op : HloOp τ sig (Elt Ideal)} {rest : List (HloOp τ sig (Elt Ideal))} {r : Ref sig .tc}
    (hseg : line.drop i = op :: rest) (hr : r ∉ lineW.drop (i + 1)) (V : Valuation τ sig (Elt Ideal)) :
    X V r = op.result (StableHlo.upto line V i) (Proc.devRef .tc r) := by
  refine StableHlo.after_last_write (lineW.drop (i + 1)) hseg ?_ hr V
  rw [← drop_writes, ← List.drop_drop, hseg]
  rfl

/-- A reference not written from position `i` on holds at `i` what it ends with. -/
theorem X_upto {i : ℕ} {r : Ref sig .tc} (hr : r ∉ lineW.drop i) (V : Valuation τ sig (Elt Ideal)) :
    StableHlo.upto line V i (Proc.devRef .tc r) = X V r := by
  have h := StableHlo.after_unwritten (lineW.drop i) (drop_writes i) hr (StableHlo.upto line V i)
  have e : StableHlo.after (line.drop i) (StableHlo.upto line V i) = StableHlo.after line V := by
    rw [StableHlo.upto, ← StableHlo.after_append, List.take_append_drop]
  rw [e] at h
  exact h.symm

/-- A reference no host operation writes ends as it began. -/
theorem X_arg {r : Ref sig .tc} (hr : r ∉ lineW) (V : Valuation τ sig (Elt Ideal)) :
    X V r = V (Proc.devRef .tc r) :=
  StableHlo.after_unwritten lineW line_writes hr V

/-- A constant's reference ends with the constant. -/
theorem X_nullary {i : ℕ} {y : Ref sig .tc} {v : y.ty.Contents (Elt Ideal)} {hy rest}
    (hseg : line.drop i = StableHlo.nullary y v hy :: rest) (h0 : y ∉ lineW.drop (i + 1))
    (V : Valuation τ sig (Elt Ideal)) : X V y = v :=
  (X_write hseg h0 V).trans (StableHlo.nullary_result' _ _ _)

/-- A one-operand operation's result ends as its function of what the operand ends with. -/
theorem X_unary {i : ℕ} {a y : Ref sig .tc} {f : a.ty.Contents (Elt Ideal) → y.ty.Contents (Elt Ideal)} {ha hy rest}
    (hseg : line.drop i = StableHlo.unary a y f ha hy :: rest) (h0 : y ∉ lineW.drop (i + 1)) (h1 : a ∉ lineW.drop i)
    (V : Valuation τ sig (Elt Ideal)) : X V y = f (X V a) := by
  rw [X_write hseg h0 V, StableHlo.unary_result', X_upto h1]

/-- A two-operand operation's result ends as its function of what the operands end with. -/
theorem X_binary {i : ℕ} {a b y : Ref sig .tc}
    {f : a.ty.Contents (Elt Ideal) → b.ty.Contents (Elt Ideal) → y.ty.Contents (Elt Ideal)} {ha hb hy rest}
    (hseg : line.drop i = StableHlo.binary a b y f ha hb hy :: rest) (h0 : y ∉ lineW.drop (i + 1))
    (h1 : a ∉ lineW.drop i) (h2 : b ∉ lineW.drop i)
    (V : Valuation τ sig (Elt Ideal)) : X V y = f (X V a) (X V b) := by
  rw [X_write hseg h0 V, StableHlo.binary_result', X_upto h1, X_upto h2]

/-- A three-operand operation's result ends as its function of what the operands end with. -/
theorem X_ternary {i : ℕ} {c a b y : Ref sig .tc}
    {f : c.ty.Contents (Elt Ideal) → a.ty.Contents (Elt Ideal) → b.ty.Contents (Elt Ideal) → y.ty.Contents (Elt Ideal)}
    {hc ha hb hy rest}
    (hseg : line.drop i = StableHlo.ternary c a b y f hc ha hb hy :: rest) (h0 : y ∉ lineW.drop (i + 1))
    (h1 : c ∉ lineW.drop i) (h2 : a ∉ lineW.drop i) (h3 : b ∉ lineW.drop i)
    (V : Valuation τ sig (Elt Ideal)) : X V y = f (X V c) (X V a) (X V b) := by
  rw [X_write hseg h0 V, StableHlo.ternary_result', X_upto h1, X_upto h2, X_upto h3]

/-- The same of a three-operand operation at typed references, each reference's contents given at its type. -/
theorem X_typed {i : ℕ} {Tc Ta Tb Ty : BufTy} (c : StableHlo.TRef sig Tc) (a : StableHlo.TRef sig Ta)
    (b : StableHlo.TRef sig Tb) (y : StableHlo.TRef sig Ty)
    (f : Tc.Contents (Elt Ideal) → Ta.Contents (Elt Ideal) → Tb.Contents (Elt Ideal) → Ty.Contents (Elt Ideal)) {rest}
    (hseg : line.drop i = StableHlo.TRef.ternary c a b y f :: rest) (h0 : y.ref ∉ lineW.drop (i + 1))
    (h1 : c.ref ∉ lineW.drop i) (h2 : a.ref ∉ lineW.drop i) (h3 : b.ref ∉ lineW.drop i)
    (V : Valuation τ sig (Elt Ideal)) (vy : Ty.Contents (Elt Ideal)) (vc : Tc.Contents (Elt Ideal))
    (va : Ta.Contents (Elt Ideal)) (vb : Tb.Contents (Elt Ideal)) (hy : y.ofBuf (X V y.ref) = vy)
    (hc : c.ofBuf (X V c.ref) = vc) (ha : a.ofBuf (X V a.ref) = va) (hb : b.ofBuf (X V b.ref) = vb) :
    vy = f vc va vb := by
  rw [← hy, ← hc, ← ha, ← hb, X_ternary hseg h0 h1 h2 h3 V]
  simp only [StableHlo.TRef.ofBuf, StableHlo.TRef.toBuf, cast_cast, cast_eq]

/-- A reshape's result ends as the reshape of what the operand ends with. -/
theorem X_reshape {i : ℕ} {a y : Ref sig .tc} {he : a.ty.elt = y.ty.elt} {hn : a.ty.shape.ShapeCasts y.ty.shape} {ha hy rest}
    (hseg : line.drop i = StableHlo.reshape a y he hn ha hy :: rest) (h0 : y ∉ lineW.drop (i + 1)) (h1 : a ∉ lineW.drop i)
    (V : Valuation τ sig (Elt Ideal)) : X V y = fun j => he ▸ shapeCast y.ty.shape (X V a) hn j := by
  rw [X_write hseg h0 V, StableHlo.reshape_result', X_upto h1]

/-- What `main_v1` ends with. -/
theorem X_main_v1 (V : Valuation τ sig (Elt Ideal)) :
    X V main_v1 = ((fun l r => Host.dotGeneral dot_S2x768x7168_S7168x256_S2x768x256_2_0_01_1_n_n none l r) : FVec Ideal S2x768x7168 .bf16 → FVec Ideal S7168x256 .bf16 → FVec Ideal S2x768x256 .f32) (X V main_v0) (X V main_arg2) := by
  exact (X_binary (i := 0) (a := main_v0) (b := main_arg2) (y := main_v1) rfl (by decide +kernel) (by decide +kernel) (by decide +kernel) V).trans rfl

/-- What `main_v2` ends with. -/
theorem X_main_v2 (V : Valuation τ sig (Elt Ideal)) :
    X V main_v2 = (broadcastInDim S2x768x1 ![0, 1] bcast_S2x768_S2x768x1_0_1 : FVec Ideal S2x768 .f32 → FVec Ideal S2x768x1 .f32) (X V main_arg1) := by
  exact (X_unary (i := 1) (a := main_arg1) (y := main_v2) rfl (by decide +kernel) (by decide +kernel) V).trans rfl

/-- What `main_v3` ends with. -/
theorem X_main_v3 (V : Valuation τ sig (Elt Ideal)) :
    X V main_v3 = (broadcastInDim S2x768x256 ![0, 1, 2] bcast_S2x768x1_S2x768x256_0_1_2 : FVec Ideal S2x768x1 .f32 → FVec Ideal S2x768x256 .f32) (X V main_v2) := by
  exact (X_unary (i := 2) (a := main_v2) (y := main_v3) rfl (by decide +kernel) (by decide +kernel) V).trans rfl

/-- What `main_v4` ends with. -/
theorem X_main_v4 (V : Valuation τ sig (Elt Ideal)) :
    X V main_v4 = (mulf : FVec Ideal S2x768x256 .f32 → FVec Ideal S2x768x256 .f32 → FVec Ideal S2x768x256 .f32) (X V main_v1) (X V main_v3) := by
  exact (X_binary (i := 3) (a := main_v1) (b := main_v3) (y := main_v4) rfl (by decide +kernel) (by decide +kernel) (by decide +kernel) V).trans rfl

/-- What `main_v5` ends with. -/
theorem X_main_v5 (V : Valuation τ sig (Elt Ideal)) :
    X V main_v5 = (broadcastInDim S2x768x8x1 ![0, 1, 2] bcast_S2x768x8_S2x768x8x1_0_1_2 : Vec Ideal S2x768x8 .i32 → Vec Ideal S2x768x8x1 .i32) (X V main_arg3) := by
  exact (X_unary (i := 4) (a := main_arg3) (y := main_v5) rfl (by decide +kernel) (by decide +kernel) V).trans rfl

/-- What `main_v6` ends with. -/
theorem X_main_v6 (V : Valuation τ sig (Elt Ideal)) :
    X V main_v6 = (iotaInDim S256 32 0) := by
  exact (X_nullary (i := 5) (y := main_v6) rfl (by decide +kernel) V).trans rfl

/-- What `main_v7` ends with. -/
theorem X_main_v7 (V : Valuation τ sig (Elt Ideal)) :
    X V main_v7 = (broadcastInDim S1x1x1x256 ![3] bcast_S256_S1x1x1x256_3 : Vec Ideal S256 .i32 → Vec Ideal S1x1x1x256 .i32) (X V main_v6) := by
  exact (X_unary (i := 6) (a := main_v6) (y := main_v7) rfl (by decide +kernel) (by decide +kernel) V).trans rfl

/-- What `main_v8` ends with. -/
theorem X_main_v8 (V : Valuation τ sig (Elt Ideal)) :
    X V main_v8 = (broadcastInDim S2x768x8x256 ![0, 1, 2, 3] bcast_S2x768x8x1_S2x768x8x256_0_1_2_3 : Vec Ideal S2x768x8x1 .i32 → Vec Ideal S2x768x8x256 .i32) (X V main_v5) := by
  exact (X_unary (i := 7) (a := main_v5) (y := main_v8) rfl (by decide +kernel) (by decide +kernel) V).trans rfl

/-- What `main_v9` ends with. -/
theorem X_main_v9 (V : Valuation τ sig (Elt Ideal)) :
    X V main_v9 = (broadcastInDim S2x768x8x256 ![0, 1, 2, 3] bcast_S1x1x1x256_S2x768x8x256_0_1_2_3 : Vec Ideal S1x1x1x256 .i32 → Vec Ideal S2x768x8x256 .i32) (X V main_v7) := by
  exact (X_unary (i := 8) (a := main_v7) (y := main_v9) rfl (by decide +kernel) (by decide +kernel) V).trans rfl

/-- What `main_v10` ends with. -/
theorem X_main_v10 (V : Valuation τ sig (Elt Ideal)) :
    X V main_v10 = (cmpi .eq : Vec Ideal S2x768x8x256 .i32 → Vec Ideal S2x768x8x256 .i32 → Vec Ideal S2x768x8x256 .i1) (X V main_v8) (X V main_v9) := by
  exact (X_binary (i := 9) (a := main_v8) (b := main_v9) (y := main_v10) rfl (by decide +kernel) (by decide +kernel) (by decide +kernel) V).trans rfl

/-- What `main_v11` ends with. -/
theorem X_main_v11 (V : Valuation τ sig (Elt Ideal)) :
    X V main_v11 = (broadcastInDim S2x768x1x256 ![0, 1, 3] bcast_S2x768x256_S2x768x1x256_0_1_3 : FVec Ideal S2x768x256 .f32 → FVec Ideal S2x768x1x256 .f32) (X V main_v4) := by
  exact (X_unary (i := 10) (a := main_v4) (y := main_v11) rfl (by decide +kernel) (by decide +kernel) V).trans rfl

/-- What `main_cst` ends with. -/
theorem X_main_cst (V : Valuation τ sig (Elt Ideal)) :
    X V main_cst = ((constant S_ .f32 0x00000000#32) : FVec Ideal S_ .f32) := by
  exact (X_nullary (i := 11) (y := main_cst) rfl (by decide +kernel) V).trans rfl

/-- What `main_call0_v0` ends with. -/
theorem X_main_call0_v0 (V : Valuation τ sig (Elt Ideal)) :
    X V main_call0_v0 = (id : FVec Ideal S_ .f32 → FVec Ideal S_ .f32) (X V main_cst) := by
  exact (X_unary (i := 12) (a := main_cst) (y := main_call0_v0) rfl (by decide +kernel) (by decide +kernel) V).trans rfl

/-- What `main_call0_v1` ends with. -/
theorem X_main_call0_v1 (V : Valuation τ sig (Elt Ideal)) :
    X V main_call0_v1 = ((broadcastInDim S2x768x8x256 ![0, 1, 2, 3] bcast_S2x768x1x256_S2x768x8x256_0_1_2_3) : FVec Ideal S2x768x1x256 .f32 → FVec Ideal S2x768x8x256 .f32) (X V main_v11) := by
  exact (X_unary (i := 13) (a := main_v11) (y := main_call0_v1) rfl (by decide +kernel) (by decide +kernel) V).trans rfl

/-- What `main_call0_v2` ends with. -/
theorem X_main_call0_v2 (V : Valuation τ sig (Elt Ideal)) :
    X V main_call0_v2 = ((broadcastInDim S2x768x8x256 ![] bcast_S_S2x768x8x256) : FVec Ideal S_ .f32 → FVec Ideal S2x768x8x256 .f32) (X V main_call0_v0) := by
  exact (X_unary (i := 14) (a := main_call0_v0) (y := main_call0_v2) rfl (by decide +kernel) (by decide +kernel) V).trans rfl

/-- What `main_v12` ends with. -/
theorem X_main_v12 (V : Valuation τ sig (Elt Ideal)) :
    X V main_v12 = (select : Vec Ideal S2x768x8x256 .i1 → FVec Ideal S2x768x8x256 .f32 → FVec Ideal S2x768x8x256 .f32 → FVec Ideal S2x768x8x256 .f32) (X V main_v10) (X V main_call0_v1) (X V main_call0_v2) := by
  exact X_typed (i := 15) (.of main_v10 : StableHlo.TRef sig ⟨S2x768x8x256, .i1⟩) (.of main_call0_v1 : StableHlo.TRef sig ⟨S2x768x8x256, .f32⟩) (.of main_call0_v2 : StableHlo.TRef sig ⟨S2x768x8x256, .f32⟩) (.of main_v12 : StableHlo.TRef sig ⟨S2x768x8x256, .f32⟩) (select : Vec Ideal S2x768x8x256 .i1 → FVec Ideal S2x768x8x256 .f32 → FVec Ideal S2x768x8x256 .f32 → FVec Ideal S2x768x8x256 .f32) rfl (by decide +kernel) (by decide +kernel) (by decide +kernel) (by decide +kernel) V _ _ _ _ rfl rfl rfl rfl

/-- What `main_cst_0` ends with. -/
theorem X_main_cst_0 (V : Valuation τ sig (Elt Ideal)) :
    X V main_cst_0 = ((constant S_ .f32 0x00000000#32) : FVec Ideal S_ .f32) := by
  exact (X_nullary (i := 16) (y := main_cst_0) rfl (by decide +kernel) V).trans rfl

/-- What `main_v13` ends with. -/
theorem X_main_v13 (V : Valuation τ sig (Elt Ideal)) :
    X V main_v13 = ((fun x v => Host.reduceAdd x v reducesTo_S2x768x8x256_S2x768x8_d3 h_S_) : FVec Ideal S2x768x8x256 .f32 → FVec Ideal S_ .f32 → FVec Ideal S2x768x8 .f32) (X V main_v12) (X V main_cst_0) := by
  exact (X_binary (i := 17) (a := main_v12) (b := main_cst_0) (y := main_v13) rfl (by decide +kernel) (by decide +kernel) (by decide +kernel) V).trans rfl

/-- What `main_cst_1` ends with. -/
theorem X_main_cst_1 (V : Valuation τ sig (Elt Ideal)) :
    X V main_cst_1 = ((constant S_ .f32 0xFF800000#32) : FVec Ideal S_ .f32) := by
  exact (X_nullary (i := 18) (y := main_cst_1) rfl (by decide +kernel) V).trans rfl

/-- What `main_v14` ends with. -/
theorem X_main_v14 (V : Valuation τ sig (Elt Ideal)) :
    X V main_v14 = ((fun x v => Host.reduce FloatOps.maximumf x v reducesTo_S2x768x8_S2x768_d2 h_S_) : FVec Ideal S2x768x8 .f32 → FVec Ideal S_ .f32 → FVec Ideal S2x768 .f32) (X V main_v13) (X V main_cst_1) := by
  exact (X_binary (i := 19) (a := main_v13) (b := main_cst_1) (y := main_v14) rfl (by decide +kernel) (by decide +kernel) (by decide +kernel) V).trans rfl

/-- What `main_cst_2` ends with. -/
theorem X_main_cst_2 (V : Valuation τ sig (Elt Ideal)) :
    X V main_cst_2 = ((constant S_ .f32 0xFF800000#32) : FVec Ideal S_ .f32) := by
  exact (X_nullary (i := 20) (y := main_cst_2) rfl (by decide +kernel) V).trans rfl

/-- What `main_v15` ends with. -/
theorem X_main_v15 (V : Valuation τ sig (Elt Ideal)) :
    X V main_v15 = (broadcastInDim S2x768 ![] bcast_S_S2x768 : FVec Ideal S_ .f32 → FVec Ideal S2x768 .f32) (X V main_cst_2) := by
  exact (X_unary (i := 21) (a := main_cst_2) (y := main_v15) rfl (by decide +kernel) (by decide +kernel) V).trans rfl

/-- What `main_v16` ends with. -/
theorem X_main_v16 (V : Valuation τ sig (Elt Ideal)) :
    X V main_v16 = (maximumf : FVec Ideal S2x768 .f32 → FVec Ideal S2x768 .f32 → FVec Ideal S2x768 .f32) (X V main_v15) (X V main_v14) := by
  exact (X_binary (i := 22) (a := main_v15) (b := main_v14) (y := main_v16) rfl (by decide +kernel) (by decide +kernel) (by decide +kernel) V).trans rfl

/-- What `main_v17` ends with. -/
theorem X_main_v17 (V : Valuation τ sig (Elt Ideal)) :
    X V main_v17 = (broadcastInDim S2x768x1 ![0, 1] bcast_S2x768_S2x768x1_0_1 : FVec Ideal S2x768 .f32 → FVec Ideal S2x768x1 .f32) (X V main_v16) := by
  exact (X_unary (i := 23) (a := main_v16) (y := main_v17) rfl (by decide +kernel) (by decide +kernel) V).trans rfl

/-- What `main_v18` ends with. -/
theorem X_main_v18 (V : Valuation τ sig (Elt Ideal)) :
    X V main_v18 = (broadcastInDim S2x768x8 ![0, 1, 2] bcast_S2x768x1_S2x768x8_0_1_2 : FVec Ideal S2x768x1 .f32 → FVec Ideal S2x768x8 .f32) (X V main_v17) := by
  exact (X_unary (i := 24) (a := main_v17) (y := main_v18) rfl (by decide +kernel) (by decide +kernel) V).trans rfl

/-- What `main_v19` ends with. -/
theorem X_main_v19 (V : Valuation τ sig (Elt Ideal)) :
    X V main_v19 = (subf : FVec Ideal S2x768x8 .f32 → FVec Ideal S2x768x8 .f32 → FVec Ideal S2x768x8 .f32) (X V main_v13) (X V main_v18) := by
  exact (X_binary (i := 25) (a := main_v13) (b := main_v18) (y := main_v19) rfl (by decide +kernel) (by decide +kernel) (by decide +kernel) V).trans rfl

/-- What `main_v20` ends with. -/
theorem X_main_v20 (V : Valuation τ sig (Elt Ideal)) :
    X V main_v20 = (Host.exp : FVec Ideal S2x768x8 .f32 → FVec Ideal S2x768x8 .f32) (X V main_v19) := by
  exact (X_unary (i := 26) (a := main_v19) (y := main_v20) rfl (by decide +kernel) (by decide +kernel) V).trans rfl

/-- What `main_cst_3` ends with. -/
theorem X_main_cst_3 (V : Valuation τ sig (Elt Ideal)) :
    X V main_cst_3 = ((constant S_ .f32 0x00000000#32) : FVec Ideal S_ .f32) := by
  exact (X_nullary (i := 27) (y := main_cst_3) rfl (by decide +kernel) V).trans rfl

/-- What `main_v21` ends with. -/
theorem X_main_v21 (V : Valuation τ sig (Elt Ideal)) :
    X V main_v21 = ((fun x v => Host.reduceAdd x v reducesTo_S2x768x8_S2x768_d2 h_S_) : FVec Ideal S2x768x8 .f32 → FVec Ideal S_ .f32 → FVec Ideal S2x768 .f32) (X V main_v20) (X V main_cst_3) := by
  exact (X_binary (i := 28) (a := main_v20) (b := main_cst_3) (y := main_v21) rfl (by decide +kernel) (by decide +kernel) (by decide +kernel) V).trans rfl

/-- What `main_v22` ends with. -/
theorem X_main_v22 (V : Valuation τ sig (Elt Ideal)) :
    X V main_v22 = (broadcastInDim S2x768x1 ![0, 1] bcast_S2x768_S2x768x1_0_1 : FVec Ideal S2x768 .f32 → FVec Ideal S2x768x1 .f32) (X V main_v21) := by
  exact (X_unary (i := 29) (a := main_v21) (y := main_v22) rfl (by decide +kernel) (by decide +kernel) V).trans rfl

/-- What `main_v23` ends with. -/
theorem X_main_v23 (V : Valuation τ sig (Elt Ideal)) :
    X V main_v23 = (broadcastInDim S2x768x8 ![0, 1, 2] bcast_S2x768x1_S2x768x8_0_1_2 : FVec Ideal S2x768x1 .f32 → FVec Ideal S2x768x8 .f32) (X V main_v22) := by
  exact (X_unary (i := 30) (a := main_v22) (y := main_v23) rfl (by decide +kernel) (by decide +kernel) V).trans rfl

/-- What `main_v24` ends with. -/
theorem X_main_v24 (V : Valuation τ sig (Elt Ideal)) :
    X V main_v24 = (Host.divf : FVec Ideal S2x768x8 .f32 → FVec Ideal S2x768x8 .f32 → FVec Ideal S2x768x8 .f32) (X V main_v20) (X V main_v23) := by
  exact (X_binary (i := 31) (a := main_v20) (b := main_v23) (y := main_v24) rfl (by decide +kernel) (by decide +kernel) (by decide +kernel) V).trans rfl

/-- What `main_v25` ends with. -/
theorem X_main_v25 (V : Valuation τ sig (Elt Ideal)) :
    X V main_v25 = ((extf .f32 · bitsLt_bf16_f32) : FVec Ideal S2x768x8 .bf16 → FVec Ideal S2x768x8 .f32) (X V main_arg4) := by
  exact (X_unary (i := 32) (a := main_arg4) (y := main_v25) rfl (by decide +kernel) (by decide +kernel) V).trans rfl

/-- What `main_v26` ends with. -/
theorem X_main_v26 (V : Valuation τ sig (Elt Ideal)) :
    X V main_v26 = (mulf : FVec Ideal S2x768x8 .f32 → FVec Ideal S2x768x8 .f32 → FVec Ideal S2x768x8 .f32) (X V main_v24) (X V main_v25) := by
  exact (X_binary (i := 33) (a := main_v24) (b := main_v25) (y := main_v26) rfl (by decide +kernel) (by decide +kernel) (by decide +kernel) V).trans rfl

/-- What `main_cst_4` ends with. -/
theorem X_main_cst_4 (V : Valuation τ sig (Elt Ideal)) :
    X V main_cst_4 = ((constant S_ .f32 0x00000000#32) : FVec Ideal S_ .f32) := by
  exact (X_nullary (i := 34) (y := main_cst_4) rfl (by decide +kernel) V).trans rfl

/-- What `main_v27` ends with. -/
theorem X_main_v27 (V : Valuation τ sig (Elt Ideal)) :
    X V main_v27 = ((fun x v => Host.reduceAdd x v reducesTo_S2x768x8_S2x768_d2 h_S_) : FVec Ideal S2x768x8 .f32 → FVec Ideal S_ .f32 → FVec Ideal S2x768 .f32) (X V main_v26) (X V main_cst_4) := by
  exact (X_binary (i := 35) (a := main_v26) (b := main_cst_4) (y := main_v27) rfl (by decide +kernel) (by decide +kernel) (by decide +kernel) V).trans rfl

/-- What `main_v28` ends with. -/
theorem X_main_v28 (V : Valuation τ sig (Elt Ideal)) :
    X V main_v28 = (broadcastInDim S2x768x1 ![0, 1] bcast_S2x768_S2x768x1_0_1 : FVec Ideal S2x768 .f32 → FVec Ideal S2x768x1 .f32) (X V main_v27) := by
  exact (X_unary (i := 36) (a := main_v27) (y := main_v28) rfl (by decide +kernel) (by decide +kernel) V).trans rfl

/-- What `main_v29` ends with. -/
theorem X_main_v29 (V : Valuation τ sig (Elt Ideal)) :
    X V main_v29 = (broadcastInDim S2x768x8 ![0, 1, 2] bcast_S2x768x1_S2x768x8_0_1_2 : FVec Ideal S2x768x1 .f32 → FVec Ideal S2x768x8 .f32) (X V main_v28) := by
  exact (X_unary (i := 37) (a := main_v28) (y := main_v29) rfl (by decide +kernel) (by decide +kernel) V).trans rfl

/-- What `main_v30` ends with. -/
theorem X_main_v30 (V : Valuation τ sig (Elt Ideal)) :
    X V main_v30 = (subf : FVec Ideal S2x768x8 .f32 → FVec Ideal S2x768x8 .f32 → FVec Ideal S2x768x8 .f32) (X V main_v25) (X V main_v29) := by
  exact (X_binary (i := 38) (a := main_v25) (b := main_v29) (y := main_v30) rfl (by decide +kernel) (by decide +kernel) (by decide +kernel) V).trans rfl

/-- What `main_v31` ends with. -/
theorem X_main_v31 (V : Valuation τ sig (Elt Ideal)) :
    X V main_v31 = (mulf : FVec Ideal S2x768x8 .f32 → FVec Ideal S2x768x8 .f32 → FVec Ideal S2x768x8 .f32) (X V main_v24) (X V main_v30) := by
  exact (X_binary (i := 39) (a := main_v24) (b := main_v30) (y := main_v31) rfl (by decide +kernel) (by decide +kernel) (by decide +kernel) V).trans rfl

/-- What `main_cst_5` ends with. -/
theorem X_main_cst_5 (V : Valuation τ sig (Elt Ideal)) :
    X V main_cst_5 = ((constant S_ .f32 0x00000000#32) : FVec Ideal S_ .f32) := by
  exact (X_nullary (i := 40) (y := main_cst_5) rfl (by decide +kernel) V).trans rfl

/-- What `main_v32` ends with. -/
theorem X_main_v32 (V : Valuation τ sig (Elt Ideal)) :
    X V main_v32 = (broadcastInDim S2x768x256 ![] bcast_S_S2x768x256 : FVec Ideal S_ .f32 → FVec Ideal S2x768x256 .f32) (X V main_cst_5) := by
  exact (X_unary (i := 41) (a := main_cst_5) (y := main_v32) rfl (by decide +kernel) (by decide +kernel) V).trans rfl

/-- What `main_v33` ends with. -/
theorem X_main_v33 (V : Valuation τ sig (Elt Ideal)) :
    X V main_v33 = ((extractStridedSlice S2x768x1x256 ![0, 0, 0, 0] · slices_S2x768x8x256_S2x768x1x256_0_0_0_0) : Vec Ideal S2x768x8x256 .i1 → Vec Ideal S2x768x1x256 .i1) (X V main_v10) := by
  exact (X_unary (i := 42) (a := main_v10) (y := main_v33) rfl (by decide +kernel) (by decide +kernel) V).trans rfl

/-- What `main_v34` ends with. -/
theorem X_main_v34 (V : Valuation τ sig (Elt Ideal)) :
    X V main_v34 = shapeCast S2x768x256 (X V main_v33) shapeCasts_S2x768x1x256_S2x768x256 := by
  exact (X_reshape (i := 43) (a := main_v33) (y := main_v34) rfl (by decide +kernel) (by decide +kernel) V).trans rfl

/-- What `main_v35` ends with. -/
theorem X_main_v35 (V : Valuation τ sig (Elt Ideal)) :
    X V main_v35 = ((extractStridedSlice S2x768x1 ![0, 0, 0] · slices_S2x768x8_S2x768x1_0_0_0) : FVec Ideal S2x768x8 .f32 → FVec Ideal S2x768x1 .f32) (X V main_v31) := by
  exact (X_unary (i := 44) (a := main_v31) (y := main_v35) rfl (by decide +kernel) (by decide +kernel) V).trans rfl

/-- What `main_call1_v0` ends with. -/
theorem X_main_call1_v0 (V : Valuation τ sig (Elt Ideal)) :
    X V main_call1_v0 = ((broadcastInDim S2x768x256 ![0, 1, 2] bcast_S2x768x1_S2x768x256_0_1_2) : FVec Ideal S2x768x1 .f32 → FVec Ideal S2x768x256 .f32) (X V main_v35) := by
  exact (X_unary (i := 45) (a := main_v35) (y := main_call1_v0) rfl (by decide +kernel) (by decide +kernel) V).trans rfl

/-- What `main_v36` ends with. -/
theorem X_main_v36 (V : Valuation τ sig (Elt Ideal)) :
    X V main_v36 = (select : Vec Ideal S2x768x256 .i1 → FVec Ideal S2x768x256 .f32 → FVec Ideal S2x768x256 .f32 → FVec Ideal S2x768x256 .f32) (X V main_v34) (X V main_call1_v0) (X V main_v32) := by
  exact X_typed (i := 46) (.of main_v34 : StableHlo.TRef sig ⟨S2x768x256, .i1⟩) (.of main_call1_v0 : StableHlo.TRef sig ⟨S2x768x256, .f32⟩) (.of main_v32 : StableHlo.TRef sig ⟨S2x768x256, .f32⟩) (.of main_v36 : StableHlo.TRef sig ⟨S2x768x256, .f32⟩) (select : Vec Ideal S2x768x256 .i1 → FVec Ideal S2x768x256 .f32 → FVec Ideal S2x768x256 .f32 → FVec Ideal S2x768x256 .f32) rfl (by decide +kernel) (by decide +kernel) (by decide +kernel) (by decide +kernel) V _ _ _ _ rfl rfl rfl rfl

/-- What `main_v37` ends with. -/
theorem X_main_v37 (V : Valuation τ sig (Elt Ideal)) :
    X V main_v37 = ((extractStridedSlice S2x768x1x256 ![0, 0, 1, 0] · slices_S2x768x8x256_S2x768x1x256_0_0_1_0) : Vec Ideal S2x768x8x256 .i1 → Vec Ideal S2x768x1x256 .i1) (X V main_v10) := by
  exact (X_unary (i := 47) (a := main_v10) (y := main_v37) rfl (by decide +kernel) (by decide +kernel) V).trans rfl

/-- What `main_v38` ends with. -/
theorem X_main_v38 (V : Valuation τ sig (Elt Ideal)) :
    X V main_v38 = shapeCast S2x768x256 (X V main_v37) shapeCasts_S2x768x1x256_S2x768x256 := by
  exact (X_reshape (i := 48) (a := main_v37) (y := main_v38) rfl (by decide +kernel) (by decide +kernel) V).trans rfl

/-- What `main_v39` ends with. -/
theorem X_main_v39 (V : Valuation τ sig (Elt Ideal)) :
    X V main_v39 = ((extractStridedSlice S2x768x1 ![0, 0, 1] · slices_S2x768x8_S2x768x1_0_0_1) : FVec Ideal S2x768x8 .f32 → FVec Ideal S2x768x1 .f32) (X V main_v31) := by
  exact (X_unary (i := 49) (a := main_v31) (y := main_v39) rfl (by decide +kernel) (by decide +kernel) V).trans rfl

/-- What `main_call2_v0` ends with. -/
theorem X_main_call2_v0 (V : Valuation τ sig (Elt Ideal)) :
    X V main_call2_v0 = ((broadcastInDim S2x768x256 ![0, 1, 2] bcast_S2x768x1_S2x768x256_0_1_2) : FVec Ideal S2x768x1 .f32 → FVec Ideal S2x768x256 .f32) (X V main_v39) := by
  exact (X_unary (i := 50) (a := main_v39) (y := main_call2_v0) rfl (by decide +kernel) (by decide +kernel) V).trans rfl

/-- What `main_v40` ends with. -/
theorem X_main_v40 (V : Valuation τ sig (Elt Ideal)) :
    X V main_v40 = (select : Vec Ideal S2x768x256 .i1 → FVec Ideal S2x768x256 .f32 → FVec Ideal S2x768x256 .f32 → FVec Ideal S2x768x256 .f32) (X V main_v38) (X V main_call2_v0) (X V main_v36) := by
  exact X_typed (i := 51) (.of main_v38 : StableHlo.TRef sig ⟨S2x768x256, .i1⟩) (.of main_call2_v0 : StableHlo.TRef sig ⟨S2x768x256, .f32⟩) (.of main_v36 : StableHlo.TRef sig ⟨S2x768x256, .f32⟩) (.of main_v40 : StableHlo.TRef sig ⟨S2x768x256, .f32⟩) (select : Vec Ideal S2x768x256 .i1 → FVec Ideal S2x768x256 .f32 → FVec Ideal S2x768x256 .f32 → FVec Ideal S2x768x256 .f32) rfl (by decide +kernel) (by decide +kernel) (by decide +kernel) (by decide +kernel) V _ _ _ _ rfl rfl rfl rfl

/-- What `main_v41` ends with. -/
theorem X_main_v41 (V : Valuation τ sig (Elt Ideal)) :
    X V main_v41 = ((extractStridedSlice S2x768x1x256 ![0, 0, 2, 0] · slices_S2x768x8x256_S2x768x1x256_0_0_2_0) : Vec Ideal S2x768x8x256 .i1 → Vec Ideal S2x768x1x256 .i1) (X V main_v10) := by
  exact (X_unary (i := 52) (a := main_v10) (y := main_v41) rfl (by decide +kernel) (by decide +kernel) V).trans rfl

/-- What `main_v42` ends with. -/
theorem X_main_v42 (V : Valuation τ sig (Elt Ideal)) :
    X V main_v42 = shapeCast S2x768x256 (X V main_v41) shapeCasts_S2x768x1x256_S2x768x256 := by
  exact (X_reshape (i := 53) (a := main_v41) (y := main_v42) rfl (by decide +kernel) (by decide +kernel) V).trans rfl

/-- What `main_v43` ends with. -/
theorem X_main_v43 (V : Valuation τ sig (Elt Ideal)) :
    X V main_v43 = ((extractStridedSlice S2x768x1 ![0, 0, 2] · slices_S2x768x8_S2x768x1_0_0_2) : FVec Ideal S2x768x8 .f32 → FVec Ideal S2x768x1 .f32) (X V main_v31) := by
  exact (X_unary (i := 54) (a := main_v31) (y := main_v43) rfl (by decide +kernel) (by decide +kernel) V).trans rfl

/-- What `main_call3_v0` ends with. -/
theorem X_main_call3_v0 (V : Valuation τ sig (Elt Ideal)) :
    X V main_call3_v0 = ((broadcastInDim S2x768x256 ![0, 1, 2] bcast_S2x768x1_S2x768x256_0_1_2) : FVec Ideal S2x768x1 .f32 → FVec Ideal S2x768x256 .f32) (X V main_v43) := by
  exact (X_unary (i := 55) (a := main_v43) (y := main_call3_v0) rfl (by decide +kernel) (by decide +kernel) V).trans rfl

/-- What `main_v44` ends with. -/
theorem X_main_v44 (V : Valuation τ sig (Elt Ideal)) :
    X V main_v44 = (select : Vec Ideal S2x768x256 .i1 → FVec Ideal S2x768x256 .f32 → FVec Ideal S2x768x256 .f32 → FVec Ideal S2x768x256 .f32) (X V main_v42) (X V main_call3_v0) (X V main_v40) := by
  exact X_typed (i := 56) (.of main_v42 : StableHlo.TRef sig ⟨S2x768x256, .i1⟩) (.of main_call3_v0 : StableHlo.TRef sig ⟨S2x768x256, .f32⟩) (.of main_v40 : StableHlo.TRef sig ⟨S2x768x256, .f32⟩) (.of main_v44 : StableHlo.TRef sig ⟨S2x768x256, .f32⟩) (select : Vec Ideal S2x768x256 .i1 → FVec Ideal S2x768x256 .f32 → FVec Ideal S2x768x256 .f32 → FVec Ideal S2x768x256 .f32) rfl (by decide +kernel) (by decide +kernel) (by decide +kernel) (by decide +kernel) V _ _ _ _ rfl rfl rfl rfl

/-- What `main_v45` ends with. -/
theorem X_main_v45 (V : Valuation τ sig (Elt Ideal)) :
    X V main_v45 = ((extractStridedSlice S2x768x1x256 ![0, 0, 3, 0] · slices_S2x768x8x256_S2x768x1x256_0_0_3_0) : Vec Ideal S2x768x8x256 .i1 → Vec Ideal S2x768x1x256 .i1) (X V main_v10) := by
  exact (X_unary (i := 57) (a := main_v10) (y := main_v45) rfl (by decide +kernel) (by decide +kernel) V).trans rfl

/-- What `main_v46` ends with. -/
theorem X_main_v46 (V : Valuation τ sig (Elt Ideal)) :
    X V main_v46 = shapeCast S2x768x256 (X V main_v45) shapeCasts_S2x768x1x256_S2x768x256 := by
  exact (X_reshape (i := 58) (a := main_v45) (y := main_v46) rfl (by decide +kernel) (by decide +kernel) V).trans rfl

/-- What `main_v47` ends with. -/
theorem X_main_v47 (V : Valuation τ sig (Elt Ideal)) :
    X V main_v47 = ((extractStridedSlice S2x768x1 ![0, 0, 3] · slices_S2x768x8_S2x768x1_0_0_3) : FVec Ideal S2x768x8 .f32 → FVec Ideal S2x768x1 .f32) (X V main_v31) := by
  exact (X_unary (i := 59) (a := main_v31) (y := main_v47) rfl (by decide +kernel) (by decide +kernel) V).trans rfl

/-- What `main_call4_v0` ends with. -/
theorem X_main_call4_v0 (V : Valuation τ sig (Elt Ideal)) :
    X V main_call4_v0 = ((broadcastInDim S2x768x256 ![0, 1, 2] bcast_S2x768x1_S2x768x256_0_1_2) : FVec Ideal S2x768x1 .f32 → FVec Ideal S2x768x256 .f32) (X V main_v47) := by
  exact (X_unary (i := 60) (a := main_v47) (y := main_call4_v0) rfl (by decide +kernel) (by decide +kernel) V).trans rfl

/-- What `main_v48` ends with. -/
theorem X_main_v48 (V : Valuation τ sig (Elt Ideal)) :
    X V main_v48 = (select : Vec Ideal S2x768x256 .i1 → FVec Ideal S2x768x256 .f32 → FVec Ideal S2x768x256 .f32 → FVec Ideal S2x768x256 .f32) (X V main_v46) (X V main_call4_v0) (X V main_v44) := by
  exact X_typed (i := 61) (.of main_v46 : StableHlo.TRef sig ⟨S2x768x256, .i1⟩) (.of main_call4_v0 : StableHlo.TRef sig ⟨S2x768x256, .f32⟩) (.of main_v44 : StableHlo.TRef sig ⟨S2x768x256, .f32⟩) (.of main_v48 : StableHlo.TRef sig ⟨S2x768x256, .f32⟩) (select : Vec Ideal S2x768x256 .i1 → FVec Ideal S2x768x256 .f32 → FVec Ideal S2x768x256 .f32 → FVec Ideal S2x768x256 .f32) rfl (by decide +kernel) (by decide +kernel) (by decide +kernel) (by decide +kernel) V _ _ _ _ rfl rfl rfl rfl

/-- What `main_v49` ends with. -/
theorem X_main_v49 (V : Valuation τ sig (Elt Ideal)) :
    X V main_v49 = ((extractStridedSlice S2x768x1x256 ![0, 0, 4, 0] · slices_S2x768x8x256_S2x768x1x256_0_0_4_0) : Vec Ideal S2x768x8x256 .i1 → Vec Ideal S2x768x1x256 .i1) (X V main_v10) := by
  exact (X_unary (i := 62) (a := main_v10) (y := main_v49) rfl (by decide +kernel) (by decide +kernel) V).trans rfl

/-- What `main_v50` ends with. -/
theorem X_main_v50 (V : Valuation τ sig (Elt Ideal)) :
    X V main_v50 = shapeCast S2x768x256 (X V main_v49) shapeCasts_S2x768x1x256_S2x768x256 := by
  exact (X_reshape (i := 63) (a := main_v49) (y := main_v50) rfl (by decide +kernel) (by decide +kernel) V).trans rfl

/-- What `main_v51` ends with. -/
theorem X_main_v51 (V : Valuation τ sig (Elt Ideal)) :
    X V main_v51 = ((extractStridedSlice S2x768x1 ![0, 0, 4] · slices_S2x768x8_S2x768x1_0_0_4) : FVec Ideal S2x768x8 .f32 → FVec Ideal S2x768x1 .f32) (X V main_v31) := by
  exact (X_unary (i := 64) (a := main_v31) (y := main_v51) rfl (by decide +kernel) (by decide +kernel) V).trans rfl

/-- What `main_call5_v0` ends with. -/
theorem X_main_call5_v0 (V : Valuation τ sig (Elt Ideal)) :
    X V main_call5_v0 = ((broadcastInDim S2x768x256 ![0, 1, 2] bcast_S2x768x1_S2x768x256_0_1_2) : FVec Ideal S2x768x1 .f32 → FVec Ideal S2x768x256 .f32) (X V main_v51) := by
  exact (X_unary (i := 65) (a := main_v51) (y := main_call5_v0) rfl (by decide +kernel) (by decide +kernel) V).trans rfl

/-- What `main_v52` ends with. -/
theorem X_main_v52 (V : Valuation τ sig (Elt Ideal)) :
    X V main_v52 = (select : Vec Ideal S2x768x256 .i1 → FVec Ideal S2x768x256 .f32 → FVec Ideal S2x768x256 .f32 → FVec Ideal S2x768x256 .f32) (X V main_v50) (X V main_call5_v0) (X V main_v48) := by
  exact X_typed (i := 66) (.of main_v50 : StableHlo.TRef sig ⟨S2x768x256, .i1⟩) (.of main_call5_v0 : StableHlo.TRef sig ⟨S2x768x256, .f32⟩) (.of main_v48 : StableHlo.TRef sig ⟨S2x768x256, .f32⟩) (.of main_v52 : StableHlo.TRef sig ⟨S2x768x256, .f32⟩) (select : Vec Ideal S2x768x256 .i1 → FVec Ideal S2x768x256 .f32 → FVec Ideal S2x768x256 .f32 → FVec Ideal S2x768x256 .f32) rfl (by decide +kernel) (by decide +kernel) (by decide +kernel) (by decide +kernel) V _ _ _ _ rfl rfl rfl rfl

/-- What `main_v53` ends with. -/
theorem X_main_v53 (V : Valuation τ sig (Elt Ideal)) :
    X V main_v53 = ((extractStridedSlice S2x768x1x256 ![0, 0, 5, 0] · slices_S2x768x8x256_S2x768x1x256_0_0_5_0) : Vec Ideal S2x768x8x256 .i1 → Vec Ideal S2x768x1x256 .i1) (X V main_v10) := by
  exact (X_unary (i := 67) (a := main_v10) (y := main_v53) rfl (by decide +kernel) (by decide +kernel) V).trans rfl

/-- What `main_v54` ends with. -/
theorem X_main_v54 (V : Valuation τ sig (Elt Ideal)) :
    X V main_v54 = shapeCast S2x768x256 (X V main_v53) shapeCasts_S2x768x1x256_S2x768x256 := by
  exact (X_reshape (i := 68) (a := main_v53) (y := main_v54) rfl (by decide +kernel) (by decide +kernel) V).trans rfl

/-- What `main_v55` ends with. -/
theorem X_main_v55 (V : Valuation τ sig (Elt Ideal)) :
    X V main_v55 = ((extractStridedSlice S2x768x1 ![0, 0, 5] · slices_S2x768x8_S2x768x1_0_0_5) : FVec Ideal S2x768x8 .f32 → FVec Ideal S2x768x1 .f32) (X V main_v31) := by
  exact (X_unary (i := 69) (a := main_v31) (y := main_v55) rfl (by decide +kernel) (by decide +kernel) V).trans rfl

/-- What `main_call6_v0` ends with. -/
theorem X_main_call6_v0 (V : Valuation τ sig (Elt Ideal)) :
    X V main_call6_v0 = ((broadcastInDim S2x768x256 ![0, 1, 2] bcast_S2x768x1_S2x768x256_0_1_2) : FVec Ideal S2x768x1 .f32 → FVec Ideal S2x768x256 .f32) (X V main_v55) := by
  exact (X_unary (i := 70) (a := main_v55) (y := main_call6_v0) rfl (by decide +kernel) (by decide +kernel) V).trans rfl

/-- What `main_v56` ends with. -/
theorem X_main_v56 (V : Valuation τ sig (Elt Ideal)) :
    X V main_v56 = (select : Vec Ideal S2x768x256 .i1 → FVec Ideal S2x768x256 .f32 → FVec Ideal S2x768x256 .f32 → FVec Ideal S2x768x256 .f32) (X V main_v54) (X V main_call6_v0) (X V main_v52) := by
  exact X_typed (i := 71) (.of main_v54 : StableHlo.TRef sig ⟨S2x768x256, .i1⟩) (.of main_call6_v0 : StableHlo.TRef sig ⟨S2x768x256, .f32⟩) (.of main_v52 : StableHlo.TRef sig ⟨S2x768x256, .f32⟩) (.of main_v56 : StableHlo.TRef sig ⟨S2x768x256, .f32⟩) (select : Vec Ideal S2x768x256 .i1 → FVec Ideal S2x768x256 .f32 → FVec Ideal S2x768x256 .f32 → FVec Ideal S2x768x256 .f32) rfl (by decide +kernel) (by decide +kernel) (by decide +kernel) (by decide +kernel) V _ _ _ _ rfl rfl rfl rfl

/-- What `main_v57` ends with. -/
theorem X_main_v57 (V : Valuation τ sig (Elt Ideal)) :
    X V main_v57 = ((extractStridedSlice S2x768x1x256 ![0, 0, 6, 0] · slices_S2x768x8x256_S2x768x1x256_0_0_6_0) : Vec Ideal S2x768x8x256 .i1 → Vec Ideal S2x768x1x256 .i1) (X V main_v10) := by
  exact (X_unary (i := 72) (a := main_v10) (y := main_v57) rfl (by decide +kernel) (by decide +kernel) V).trans rfl

/-- What `main_v58` ends with. -/
theorem X_main_v58 (V : Valuation τ sig (Elt Ideal)) :
    X V main_v58 = shapeCast S2x768x256 (X V main_v57) shapeCasts_S2x768x1x256_S2x768x256 := by
  exact (X_reshape (i := 73) (a := main_v57) (y := main_v58) rfl (by decide +kernel) (by decide +kernel) V).trans rfl

/-- What `main_v59` ends with. -/
theorem X_main_v59 (V : Valuation τ sig (Elt Ideal)) :
    X V main_v59 = ((extractStridedSlice S2x768x1 ![0, 0, 6] · slices_S2x768x8_S2x768x1_0_0_6) : FVec Ideal S2x768x8 .f32 → FVec Ideal S2x768x1 .f32) (X V main_v31) := by
  exact (X_unary (i := 74) (a := main_v31) (y := main_v59) rfl (by decide +kernel) (by decide +kernel) V).trans rfl

/-- What `main_call7_v0` ends with. -/
theorem X_main_call7_v0 (V : Valuation τ sig (Elt Ideal)) :
    X V main_call7_v0 = ((broadcastInDim S2x768x256 ![0, 1, 2] bcast_S2x768x1_S2x768x256_0_1_2) : FVec Ideal S2x768x1 .f32 → FVec Ideal S2x768x256 .f32) (X V main_v59) := by
  exact (X_unary (i := 75) (a := main_v59) (y := main_call7_v0) rfl (by decide +kernel) (by decide +kernel) V).trans rfl

/-- What `main_v60` ends with. -/
theorem X_main_v60 (V : Valuation τ sig (Elt Ideal)) :
    X V main_v60 = (select : Vec Ideal S2x768x256 .i1 → FVec Ideal S2x768x256 .f32 → FVec Ideal S2x768x256 .f32 → FVec Ideal S2x768x256 .f32) (X V main_v58) (X V main_call7_v0) (X V main_v56) := by
  exact X_typed (i := 76) (.of main_v58 : StableHlo.TRef sig ⟨S2x768x256, .i1⟩) (.of main_call7_v0 : StableHlo.TRef sig ⟨S2x768x256, .f32⟩) (.of main_v56 : StableHlo.TRef sig ⟨S2x768x256, .f32⟩) (.of main_v60 : StableHlo.TRef sig ⟨S2x768x256, .f32⟩) (select : Vec Ideal S2x768x256 .i1 → FVec Ideal S2x768x256 .f32 → FVec Ideal S2x768x256 .f32 → FVec Ideal S2x768x256 .f32) rfl (by decide +kernel) (by decide +kernel) (by decide +kernel) (by decide +kernel) V _ _ _ _ rfl rfl rfl rfl

/-- What `main_v61` ends with. -/
theorem X_main_v61 (V : Valuation τ sig (Elt Ideal)) :
    X V main_v61 = ((extractStridedSlice S2x768x1x256 ![0, 0, 7, 0] · slices_S2x768x8x256_S2x768x1x256_0_0_7_0) : Vec Ideal S2x768x8x256 .i1 → Vec Ideal S2x768x1x256 .i1) (X V main_v10) := by
  exact (X_unary (i := 77) (a := main_v10) (y := main_v61) rfl (by decide +kernel) (by decide +kernel) V).trans rfl

/-- What `main_v62` ends with. -/
theorem X_main_v62 (V : Valuation τ sig (Elt Ideal)) :
    X V main_v62 = shapeCast S2x768x256 (X V main_v61) shapeCasts_S2x768x1x256_S2x768x256 := by
  exact (X_reshape (i := 78) (a := main_v61) (y := main_v62) rfl (by decide +kernel) (by decide +kernel) V).trans rfl

/-- What `main_v63` ends with. -/
theorem X_main_v63 (V : Valuation τ sig (Elt Ideal)) :
    X V main_v63 = ((extractStridedSlice S2x768x1 ![0, 0, 7] · slices_S2x768x8_S2x768x1_0_0_7) : FVec Ideal S2x768x8 .f32 → FVec Ideal S2x768x1 .f32) (X V main_v31) := by
  exact (X_unary (i := 79) (a := main_v31) (y := main_v63) rfl (by decide +kernel) (by decide +kernel) V).trans rfl

/-- What `main_call8_v0` ends with. -/
theorem X_main_call8_v0 (V : Valuation τ sig (Elt Ideal)) :
    X V main_call8_v0 = ((broadcastInDim S2x768x256 ![0, 1, 2] bcast_S2x768x1_S2x768x256_0_1_2) : FVec Ideal S2x768x1 .f32 → FVec Ideal S2x768x256 .f32) (X V main_v63) := by
  exact (X_unary (i := 80) (a := main_v63) (y := main_call8_v0) rfl (by decide +kernel) (by decide +kernel) V).trans rfl

/-- What `main_v64` ends with. -/
theorem X_main_v64 (V : Valuation τ sig (Elt Ideal)) :
    X V main_v64 = (select : Vec Ideal S2x768x256 .i1 → FVec Ideal S2x768x256 .f32 → FVec Ideal S2x768x256 .f32 → FVec Ideal S2x768x256 .f32) (X V main_v62) (X V main_call8_v0) (X V main_v60) := by
  exact X_typed (i := 81) (.of main_v62 : StableHlo.TRef sig ⟨S2x768x256, .i1⟩) (.of main_call8_v0 : StableHlo.TRef sig ⟨S2x768x256, .f32⟩) (.of main_v60 : StableHlo.TRef sig ⟨S2x768x256, .f32⟩) (.of main_v64 : StableHlo.TRef sig ⟨S2x768x256, .f32⟩) (select : Vec Ideal S2x768x256 .i1 → FVec Ideal S2x768x256 .f32 → FVec Ideal S2x768x256 .f32 → FVec Ideal S2x768x256 .f32) rfl (by decide +kernel) (by decide +kernel) (by decide +kernel) (by decide +kernel) V _ _ _ _ rfl rfl rfl rfl

/-- What `main_v65` ends with. -/
theorem X_main_v65 (V : Valuation τ sig (Elt Ideal)) :
    X V main_v65 = ((truncf .bf16 · bitsLt_bf16_f32) : FVec Ideal S2x768x256 .f32 → FVec Ideal S2x768x256 .bf16) (X V main_v64) := by
  exact (X_unary (i := 82) (a := main_v64) (y := main_v65) rfl (by decide +kernel) (by decide +kernel) V).trans rfl

/-- What `main_v66` ends with. -/
theorem X_main_v66 (V : Valuation τ sig (Elt Ideal)) :
    X V main_v66 = ((fun l r => Host.dotGeneral dot_S2x768x256_S7168x256_S2x768x7168_2_1_01_0_n_n none l r) : FVec Ideal S2x768x256 .bf16 → FVec Ideal S7168x256 .bf16 → FVec Ideal S2x768x7168 .f32) (X V main_v65) (X V main_arg2) := by
  exact (X_binary (i := 83) (a := main_v65) (b := main_arg2) (y := main_v66) rfl (by decide +kernel) (by decide +kernel) (by decide +kernel) V).trans rfl

/-- What `main_v67` ends with. -/
theorem X_main_v67 (V : Valuation τ sig (Elt Ideal)) :
    X V main_v67 = ((truncf .bf16 · bitsLt_bf16_f32) : FVec Ideal S2x768x7168 .f32 → FVec Ideal S2x768x7168 .bf16) (X V main_v66) := by
  exact (X_unary (i := 84) (a := main_v66) (y := main_v67) rfl (by decide +kernel) (by decide +kernel) V).trans rfl

/-- What `main_v68` ends with. -/
theorem X_main_v68 (V : Valuation τ sig (Elt Ideal)) :
    X V main_v68 = (broadcastInDim S2x768x1 ![0, 1] bcast_S2x768_S2x768x1_0_1 : FVec Ideal S2x768 .f32 → FVec Ideal S2x768x1 .f32) (X V main_arg1) := by
  exact (X_unary (i := 85) (a := main_arg1) (y := main_v68) rfl (by decide +kernel) (by decide +kernel) V).trans rfl

/-- What `main_v69` ends with. -/
theorem X_main_v69 (V : Valuation τ sig (Elt Ideal)) :
    X V main_v69 = ((truncf .bf16 · bitsLt_bf16_f32) : FVec Ideal S2x768x1 .f32 → FVec Ideal S2x768x1 .bf16) (X V main_v68) := by
  exact (X_unary (i := 86) (a := main_v68) (y := main_v69) rfl (by decide +kernel) (by decide +kernel) V).trans rfl

/-- What `main_v70` ends with. -/
theorem X_main_v70 (V : Valuation τ sig (Elt Ideal)) :
    X V main_v70 = (broadcastInDim S2x768x256 ![0, 1, 2] bcast_S2x768x1_S2x768x256_0_1_2 : FVec Ideal S2x768x1 .bf16 → FVec Ideal S2x768x256 .bf16) (X V main_v69) := by
  exact (X_unary (i := 87) (a := main_v69) (y := main_v70) rfl (by decide +kernel) (by decide +kernel) V).trans rfl

/-- What `main_v71` ends with. -/
theorem X_main_v71 (V : Valuation τ sig (Elt Ideal)) :
    X V main_v71 = (mulf : FVec Ideal S2x768x256 .bf16 → FVec Ideal S2x768x256 .bf16 → FVec Ideal S2x768x256 .bf16) (X V main_v65) (X V main_v70) := by
  exact (X_binary (i := 88) (a := main_v65) (b := main_v70) (y := main_v71) rfl (by decide +kernel) (by decide +kernel) (by decide +kernel) V).trans rfl

/-- What `main_v72` ends with. -/
theorem X_main_v72 (V : Valuation τ sig (Elt Ideal)) :
    X V main_v72 = shapeCast S1536x7168 (X V main_v0) shapeCasts_S2x768x7168_S1536x7168 := by
  exact (X_reshape (i := 89) (a := main_v0) (y := main_v72) rfl (by decide +kernel) (by decide +kernel) V).trans rfl

/-- What `main_v73` ends with. -/
theorem X_main_v73 (V : Valuation τ sig (Elt Ideal)) :
    X V main_v73 = shapeCast S1536x256 (X V main_v71) shapeCasts_S2x768x256_S1536x256 := by
  exact (X_reshape (i := 90) (a := main_v71) (y := main_v73) rfl (by decide +kernel) (by decide +kernel) V).trans rfl

/-- What `main_v74` ends with. -/
theorem X_main_v74 (V : Valuation τ sig (Elt Ideal)) :
    X V main_v74 = ((fun l r => Host.dotGeneral dot_S1536x7168_S1536x256_S7168x256_0_0_1_1_n_n none l r) : FVec Ideal S1536x7168 .bf16 → FVec Ideal S1536x256 .bf16 → FVec Ideal S7168x256 .f32) (X V main_v72) (X V main_v73) := by
  exact (X_binary (i := 91) (a := main_v72) (b := main_v73) (y := main_v74) rfl (by decide +kernel) (by decide +kernel) (by decide +kernel) V).trans rfl

end Cert.ReferenceIdeal.Hand
-- ==== Proof.ReferenceIdeal.Values.lean ====
module

public import proofs.«01_k».proof.Proof.ReferenceIdeal.Chain
public import proofs.«01_k».proof.Proof.RouterRef

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic

/-! The reference's host operations read entry by entry, down to the three results. -/

variable (V : Valuation τ sig (Elt Ideal))

/-- The decoded activations. -/
abbrev ax : Vec Ideal S2x768x7168 .bf16 := X V main_v0
/-- The scales. -/
abbrev asc : Vec Ideal S2x768 .f32 := X V main_arg1
/-- The router's weights. -/
abbrev aw : Vec Ideal S7168x256 .bf16 := X V main_arg2
/-- The chosen experts. -/
abbrev aid : Vec Ideal S2x768x8 .i32 := X V main_arg3
/-- The gradients of the gates. -/
abbrev adg : Vec Ideal S2x768x8 .bf16 := X V main_arg4

/-- The gradient of the logits. -/
abbrev adl : FVec Ideal S2x768x256 .f32 := X V main_v64

/-- One token's logits. -/
def logit (b : Fin 2) (s : Fin 768) (e : Fin 256) : EReal :=
  (∑ k : Fin 7168, ax V (ix3 b s k) * aw V (ix2 k e)) * asc V (ix2 b s)

/-- The logits' entry. -/
theorem v4_at (b : Fin 2) (s : Fin 768) (e : Fin 256) :
    (X V main_v4 : FVec Ideal S2x768x256 .f32) (ix3 b s e) = logit V b s e := by
  rw [X_main_v4, X_main_v3, X_main_v2, X_main_v1]
  pointwise
  rfl

/-- Whether a slot's chosen expert is this one. -/
theorem v10_at (b : Fin 2) (s : Fin 768) (k : Fin 8) (e : Fin 256) :
    (X V main_v10 : Vec Ideal S2x768x8x256 .i1) (ix4 b s k e)
      = IntOp.cmpi .eq (aid V (ix3 b s k)) (BitVec.ofNat 32 e.val) := by
  rw [X_main_v10, X_main_v9, X_main_v8, X_main_v7, X_main_v6, X_main_v5]
  pointwise
  try rfl

/-- A slot's row of logits, all but the chosen expert's cleared. -/
theorem v12_at (b : Fin 2) (s : Fin 768) (k : Fin 8) (e : Fin 256) :
    (X V main_v12 : FVec Ideal S2x768x8x256 .f32) (ix4 b s k e)
      = Scalar.select (IntOp.cmpi .eq (aid V (ix3 b s k)) (BitVec.ofNat 32 e.val)) (logit V b s e) 0 := by
  rw [X_main_v12, X_main_call0_v1, X_main_v11, X_main_call0_v2, X_main_call0_v0, X_main_cst]
  pointwise [v10_at, v4_at, id_eq]

/-- The logit of a slot's chosen expert. -/
theorem v13_at (b : Fin 2) (s : Fin 768) (k : Fin 8) :
    (X V main_v13 : FVec Ideal S2x768x8 .f32) (ix3 b s k)
      = Router.pick (fun k => aid V (ix3 b s k)) (logit V b s) k := by
  rw [X_main_v13, X_main_cst_0]
  pointwise [v12_at]
  rfl

/-- The largest logit of the chosen experts. -/
theorem v16_at (b : Fin 2) (s : Fin 768) :
    (X V main_v16 : FVec Ideal S2x768 .f32) (ix2 b s)
      = Router.peak (fun k => aid V (ix3 b s k)) (logit V b s) := by
  rw [X_main_v16, X_main_v15, X_main_v14, X_main_cst_1, X_main_cst_2]
  pointwise [v13_at]
  rfl

/-- The exponential of a slot's shifted logit. -/
theorem v20_at (b : Fin 2) (s : Fin 768) (k : Fin 8) :
    (X V main_v20 : FVec Ideal S2x768x8 .f32) (ix3 b s k)
      = Ideal.exp (Router.pick (fun k => aid V (ix3 b s k)) (logit V b s) k
          - Router.peak (fun k => aid V (ix3 b s k)) (logit V b s)) := by
  rw [X_main_v20, X_main_v19, X_main_v18, X_main_v17]
  pointwise [v13_at, v16_at]

/-- A slot's gate. -/
theorem v24_at (b : Fin 2) (s : Fin 768) (k : Fin 8) :
    (X V main_v24 : FVec Ideal S2x768x8 .f32) (ix3 b s k)
      = Router.gate (fun k => aid V (ix3 b s k)) (logit V b s) k := by
  rw [X_main_v24, X_main_v23, X_main_v22, X_main_v21, X_main_cst_3]
  pointwise [v20_at]
  rfl

/-- A slot's gradient. -/
theorem v31_at (b : Fin 2) (s : Fin 768) (k : Fin 8) :
    (X V main_v31 : FVec Ideal S2x768x8 .f32) (ix3 b s k)
      = Router.slot (fun k => aid V (ix3 b s k)) (fun k => adg V (ix3 b s k)) (logit V b s) k := by
  rw [X_main_v31, X_main_v30, X_main_v29, X_main_v28, X_main_v27, X_main_v26, X_main_v25, X_main_cst_4]
  pointwise [v24_at]
  rfl

/-- The scatter starts from zero. -/
theorem v32_at (b : Fin 2) (s : Fin 768) (e : Fin 256) :
    (X V main_v32 : FVec Ideal S2x768x256 .f32) (ix3 b s e) = (0 : EReal) := by
  rw [X_main_v32, X_main_cst_5]
  pointwise

/-- Slot 0 placed. -/
theorem v36_at (b : Fin 2) (s : Fin 768) (e : Fin 256) :
    (X V main_v36 : FVec Ideal S2x768x256 .f32) (ix3 b s e)
      = Scalar.select (IntOp.cmpi .eq (aid V (ix3 b s 0)) (BitVec.ofNat 32 e.val))
          (Router.slot (fun k => aid V (ix3 b s k)) (fun k => adg V (ix3 b s k)) (logit V b s) 0)
          ((X V main_v32 : FVec Ideal S2x768x256 .f32) (ix3 b s e)) := by
  rw [X_main_v36, X_main_v34, X_main_v33, X_main_call1_v0, X_main_v35]
  pointwise [v10_at, v31_at]

/-- Slot 1 placed. -/
theorem v40_at (b : Fin 2) (s : Fin 768) (e : Fin 256) :
    (X V main_v40 : FVec Ideal S2x768x256 .f32) (ix3 b s e)
      = Scalar.select (IntOp.cmpi .eq (aid V (ix3 b s 1)) (BitVec.ofNat 32 e.val))
          (Router.slot (fun k => aid V (ix3 b s k)) (fun k => adg V (ix3 b s k)) (logit V b s) 1)
          ((X V main_v36 : FVec Ideal S2x768x256 .f32) (ix3 b s e)) := by
  rw [X_main_v40, X_main_v38, X_main_v37, X_main_call2_v0, X_main_v39]
  pointwise [v10_at, v31_at]

/-- Slot 2 placed. -/
theorem v44_at (b : Fin 2) (s : Fin 768) (e : Fin 256) :
    (X V main_v44 : FVec Ideal S2x768x256 .f32) (ix3 b s e)
      = Scalar.select (IntOp.cmpi .eq (aid V (ix3 b s 2)) (BitVec.ofNat 32 e.val))
          (Router.slot (fun k => aid V (ix3 b s k)) (fun k => adg V (ix3 b s k)) (logit V b s) 2)
          ((X V main_v40 : FVec Ideal S2x768x256 .f32) (ix3 b s e)) := by
  rw [X_main_v44, X_main_v42, X_main_v41, X_main_call3_v0, X_main_v43]
  pointwise [v10_at, v31_at]

/-- Slot 3 placed. -/
theorem v48_at (b : Fin 2) (s : Fin 768) (e : Fin 256) :
    (X V main_v48 : FVec Ideal S2x768x256 .f32) (ix3 b s e)
      = Scalar.select (IntOp.cmpi .eq (aid V (ix3 b s 3)) (BitVec.ofNat 32 e.val))
          (Router.slot (fun k => aid V (ix3 b s k)) (fun k => adg V (ix3 b s k)) (logit V b s) 3)
          ((X V main_v44 : FVec Ideal S2x768x256 .f32) (ix3 b s e)) := by
  rw [X_main_v48, X_main_v46, X_main_v45, X_main_call4_v0, X_main_v47]
  pointwise [v10_at, v31_at]

/-- Slot 4 placed. -/
theorem v52_at (b : Fin 2) (s : Fin 768) (e : Fin 256) :
    (X V main_v52 : FVec Ideal S2x768x256 .f32) (ix3 b s e)
      = Scalar.select (IntOp.cmpi .eq (aid V (ix3 b s 4)) (BitVec.ofNat 32 e.val))
          (Router.slot (fun k => aid V (ix3 b s k)) (fun k => adg V (ix3 b s k)) (logit V b s) 4)
          ((X V main_v48 : FVec Ideal S2x768x256 .f32) (ix3 b s e)) := by
  rw [X_main_v52, X_main_v50, X_main_v49, X_main_call5_v0, X_main_v51]
  pointwise [v10_at, v31_at]

/-- Slot 5 placed. -/
theorem v56_at (b : Fin 2) (s : Fin 768) (e : Fin 256) :
    (X V main_v56 : FVec Ideal S2x768x256 .f32) (ix3 b s e)
      = Scalar.select (IntOp.cmpi .eq (aid V (ix3 b s 5)) (BitVec.ofNat 32 e.val))
          (Router.slot (fun k => aid V (ix3 b s k)) (fun k => adg V (ix3 b s k)) (logit V b s) 5)
          ((X V main_v52 : FVec Ideal S2x768x256 .f32) (ix3 b s e)) := by
  rw [X_main_v56, X_main_v54, X_main_v53, X_main_call6_v0, X_main_v55]
  pointwise [v10_at, v31_at]

/-- Slot 6 placed. -/
theorem v60_at (b : Fin 2) (s : Fin 768) (e : Fin 256) :
    (X V main_v60 : FVec Ideal S2x768x256 .f32) (ix3 b s e)
      = Scalar.select (IntOp.cmpi .eq (aid V (ix3 b s 6)) (BitVec.ofNat 32 e.val))
          (Router.slot (fun k => aid V (ix3 b s k)) (fun k => adg V (ix3 b s k)) (logit V b s) 6)
          ((X V main_v56 : FVec Ideal S2x768x256 .f32) (ix3 b s e)) := by
  rw [X_main_v60, X_main_v58, X_main_v57, X_main_call7_v0, X_main_v59]
  pointwise [v10_at, v31_at]

/-- Slot 7 placed. -/
theorem v64_at (b : Fin 2) (s : Fin 768) (e : Fin 256) :
    (X V main_v64 : FVec Ideal S2x768x256 .f32) (ix3 b s e)
      = Scalar.select (IntOp.cmpi .eq (aid V (ix3 b s 7)) (BitVec.ofNat 32 e.val))
          (Router.slot (fun k => aid V (ix3 b s k)) (fun k => adg V (ix3 b s k)) (logit V b s) 7)
          ((X V main_v60 : FVec Ideal S2x768x256 .f32) (ix3 b s e)) := by
  rw [X_main_v64, X_main_v62, X_main_v61, X_main_call8_v0, X_main_v63]
  pointwise [v10_at, v31_at]

/-- The logits' gradient. -/
theorem dl_at (b : Fin 2) (s : Fin 768) (e : Fin 256) :
    (X V main_v64 : FVec Ideal S2x768x256 .f32) (ix3 b s e)
      = Router.scatter (fun k => aid V (ix3 b s k)) (fun k => adg V (ix3 b s k)) (logit V b s) e := by
  rw [v64_at, v60_at, v56_at, v52_at, v48_at, v44_at, v40_at, v36_at, v32_at]
  rfl

/-- The activations' gradient. -/
theorem dx_at (b : Fin 2) (s : Fin 768) (k : Fin 7168) :
    (X V main_v67 : FVec Ideal S2x768x7168 .bf16) (ix3 b s k)
      = (∑ e : Fin 256, adl V (ix3 b s e) * aw V (ix2 k e) : EReal) := by
  rw [X_main_v67, X_main_v66, X_main_v65]
  pointwise

/-- The weights' gradient. -/
theorem dw_at (k : Fin 7168) (e : Fin 256) :
    (X V main_v74 : FVec Ideal S7168x256 .f32) (ix2 k e)
      = (∑ n : Fin 1536, ax V (ix3 (Router.batch n) (Router.token n) k)
          * (adl V (ix3 (Router.batch n) (Router.token n) e)
              * asc V (ix2 (Router.batch n) (Router.token n))) : EReal) := by
  rw [X_main_v74, X_main_v73, X_main_v72, X_main_v71, X_main_v70, X_main_v69, X_main_v68, X_main_v65]
  pointwise
  try rfl

end Cert.ReferenceIdeal.Hand
-- ==== Proof.ReferenceIdeal.Result.lean ====
module

public import proofs.«01_k».proof.Proof.ReferenceIdeal.Values
public import proofs.«01_k».proof.Proof.Spec
public import Idealize.ShloMosaic.Lib.Pipeline.ValueKit

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic

/-! The reference's three results in terms of its arguments. -/

variable (m : (ℓ : Loc nD τ sig) → Buf (Elt Ideal) ℓ) (c : Dev nD)

/-- The activations' codes as launched. -/
abbrev arg0 : Vec Ideal S2x768x7168 .fp8e4m3 := m ((c.tc : Thread nD τ).loc main_arg0)
/-- The scales as launched. -/
abbrev arg1 : Vec Ideal S2x768 .f32 := m ((c.tc : Thread nD τ).loc main_arg1)
/-- The weights as launched. -/
abbrev arg2 : Vec Ideal S7168x256 .bf16 := m ((c.tc : Thread nD τ).loc main_arg2)
/-- The chosen experts as launched. -/
abbrev arg3 : Vec Ideal S2x768x8 .i32 := m ((c.tc : Thread nD τ).loc main_arg3)
/-- The gates' gradients as launched. -/
abbrev arg4 : Vec Ideal S2x768x8 .bf16 := m ((c.tc : Thread nD τ).loc main_arg4)

/-- Neither window moves: each step's block starts at the array's corner. -/
theorem idx : ∀ (t : Fin cfg0.N) (a : Fin 3), win0_0.index t a = 0 :=
  (by decide +kernel : ∀ (t : Fin grid0.N) (a : Fin 3), _)

/-- The decode leaves each code's value: the decoded array is the codes' own. -/
theorem decode : (dats m 0 c).arrAt 1 (cfgs 0).N = (fun i => (arg0 m c) i : Vec Ideal S2x768x7168 .bf16) := by
  refine (dats m 0 c).arrAt_eq_of_after_last 1 ⟨0, by decide⟩ (by decide +kernel) _ fun j => ?_
  blk_simp
  refine (congrFun (after0_1 m c ⟨0, by decide⟩) _).trans ?_
  show out0_1 (iblk m c 0 ⟨0, by decide⟩) (j : S2x768x7168.Idx) = arg0 m c j
  frame_out
  pointwise [k0_pay1]
  blk_ext [iblk, V]
  all_goals
    refine (congrArg (· + _) (congrArg (· * _) (idx _ _))).trans ?_
    show 0 * _ + _ = _
    rw [Nat.zero_mul, Nat.zero_add]

/-- What every buffer holds when the host's operations begin: the arguments as launched, the decoded array as the
    decode left it. -/
def W : Valuation τ sig (Elt Ideal) :=
  Pipeline.withArrays (cfgs 0).spec c (V0 m c) fun w => (dats m 0 c).arrAt w (cfgs 0).N

/-- What the program ends with in a buffer. -/
abbrev fin (b : Ref sig .tc) : b.ty.Contents (Elt Ideal) := X (W m c) b

/-- The windows' arrays are different buffers. -/
theorem arrs_inj : Function.Injective (Pipeline.arrRef (cfgs 0).spec) := by decide

/-- The decoded array ends as the codes' values. -/
theorem fin_0 : ax (W m c) = (fun i => (arg0 m c) i : Vec Ideal S2x768x7168 .bf16) :=
  (X_arg (by decide +kernel) _).trans ((Pipeline.withArrays_arr (cfgs 0).spec arrs_inj c (V0 m c)
    (fun w => (dats m 0 c).arrAt w (cfgs 0).N) 1).trans (decode m c))

/-- A buffer that no window's array is and no host operation writes ends as it was when the decode began. -/
theorem fin_arg (b : Ref sig .tc) (h : b ∉ lineW) (hb : ∀ w, Pipeline.arrRef (cfgs 0).spec w ≠ b) :
    fin m c b = V m c b :=
  (X_arg h _).trans (Pipeline.withArrays_of_ne (cfgs 0).spec c (V0 m c) _ b hb)

/-- The scales end as launched. -/
theorem fin_1 : asc (W m c) = arg1 m c :=
  (fin_arg m c main_arg1 (by decide +kernel) (by decide)).trans (V_main_arg1 m c)

/-- The weights end as launched. -/
theorem fin_2 : aw (W m c) = arg2 m c :=
  (fin_arg m c main_arg2 (by decide +kernel) (by decide)).trans (V_main_arg2 m c)

/-- The chosen experts end as launched. -/
theorem fin_3 : aid (W m c) = arg3 m c :=
  (fin_arg m c main_arg3 (by decide +kernel) (by decide)).trans (V_main_arg3 m c)

/-- The gates' gradients end as launched. -/
theorem fin_4 : adg (W m c) = arg4 m c :=
  (fin_arg m c main_arg4 (by decide +kernel) (by decide)).trans (V_main_arg4 m c)

/-- The reference's logits are the specification's. -/
theorem logit_eq (b : Fin 2) (s : Fin 768) :
    logit (W m c) b s = Spec.logit (arg0 m c) (arg1 m c) (arg2 m c) b s := by
  funext e
  unfold logit Spec.logit
  rw [fin_0, fin_1, fin_2]

/-- The logits' gradient the program ends with is the specification's. -/
theorem fin_l (b : Fin 2) (s : Fin 768) (e : Fin 256) :
    fin m c main_v64 (ix3 b s e) = Spec.dl (arg0 m c) (arg1 m c) (arg2 m c) (arg3 m c) (arg4 m c) b s e := by
  refine (dl_at (W m c) b s e).trans ?_
  unfold Spec.dl
  rw [logit_eq, fin_3, fin_4]

/-- The activations' gradient the program ends with is the specification's. -/
theorem fin_x (b : Fin 2) (s : Fin 768) (k : Fin 7168) :
    fin m c main_v67 (ix3 b s k) = Spec.dx (arg0 m c) (arg1 m c) (arg2 m c) (arg3 m c) (arg4 m c) b s k := by
  refine (dx_at (W m c) b s k).trans ?_
  unfold Spec.dx
  refine congrArg (fun f : Fin 256 → EReal => ∑ e, f e) (funext fun e => ?_)
  rw [fin_2]
  exact congrArg (fun d : EReal => d * _) (fin_l m c b s e)

/-- The weights' gradient the program ends with is the specification's. -/
theorem fin_w (k : Fin 7168) (e : Fin 256) :
    fin m c main_v74 (ix2 k e) = Spec.dw (arg0 m c) (arg1 m c) (arg2 m c) (arg3 m c) (arg4 m c) k e := by
  refine (dw_at (W m c) k e).trans ?_
  unfold Spec.dw
  refine congrArg (fun f : Fin 1536 → EReal => ∑ n, f n) (funext fun n => ?_)
  rw [fin_0, fin_1]
  exact congrArg (fun d : EReal => _ * (d * _)) (fin_l m c _ _ e)

variable (ρ : Dev nD → PrngReg)

/-- The program ends with these results, and its arguments as launched. -/
theorem run_fin :
    θ_run (defs (F := Ideal)) (onTc (τ := τ) (main (F := Ideal))) ⟨m, fun _ => 0, ρ⟩ (fun r => ∀ c : Dev nD,
      r.2.mem ((c.tc : Thread nD τ).loc main_v67) = fin m c main_v67
      ∧ r.2.mem ((c.tc : Thread nD τ).loc main_v74) = fin m c main_v74
      ∧ r.2.mem ((c.tc : Thread nD τ).loc main_v64) = fin m c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r hr c => ?_) (run_main m ρ)
  have h : ∀ b : Ref sig .tc, b ∈ Pipeline.restRefs sig (cfgs 0).spec → r.2.mem ((c.tc : Thread nD τ).loc b) = fin m c b :=
    fun b hb => (hr c).2 b hb
  exact ⟨h main_v67 (Pipeline.mem_restRefs_of _ (by decide) (by decide)),
    h main_v74 (Pipeline.mem_restRefs_of _ (by decide) (by decide)),
    h main_v64 (Pipeline.mem_restRefs_of _ (by decide) (by decide)),
    ((hr c).1 0).trans (((dats m 0 c).arrAt_in 0 rfl _).trans (V_main_arg0 m c)),
    (h main_arg1 (Pipeline.mem_restRefs_of _ (by decide) (by decide))).trans (fin_1 m c),
    (h main_arg2 (Pipeline.mem_restRefs_of _ (by decide) (by decide))).trans (fin_2 m c),
    (h main_arg3 (Pipeline.mem_restRefs_of _ (by decide) (by decide))).trans (fin_3 m c),
    (h main_arg4 (Pipeline.mem_restRefs_of _ (by decide) (by decide))).trans (fin_4 m c)⟩

end Cert.ReferenceIdeal.Hand
-- ==== Proof.Algebraic.lean ====
module

public import proofs.«01_k».proof.Defs
public import proofs.«01_k».proof.Proof.KernelIdeal.Result
public import proofs.«01_k».proof.Proof.ReferenceIdeal.Result
public import proofs.«01_k».proof.Proof.Distinct

@[expose] public section

set_option maxRecDepth 65536

noncomputable section

namespace Cert.Algebraic

open Idealize.ShloMosaic Idealize.ShloMosaic.TcCoe Idealize.ShloMosaic.Tactic Idealize.SL.Sem

/-! The kernel and the reference end with the same three results, both being the specification's. -/

section Same

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

/-- The two programs are launched with the same arguments on device `c`. -/
def Agree : Prop :=
  ReferenceIdeal.Hand.arg0 m' c = KernelIdeal.Hand.arg0 m c
    ∧ ReferenceIdeal.Hand.arg1 m' c = KernelIdeal.Hand.arg1 m c
    ∧ ReferenceIdeal.Hand.arg2 m' c = KernelIdeal.Hand.arg2 m c
    ∧ ReferenceIdeal.Hand.arg3 m' c = KernelIdeal.Hand.arg3 m c
    ∧ ReferenceIdeal.Hand.arg4 m' c = KernelIdeal.Hand.arg4 m c

variable (h : KernelIdeal.Hand.Distinct (KernelIdeal.Hand.arg3 m c)) (ha : Agree m m' c)

include h ha

/-- The activations' gradients are the same. -/
theorem same_x : (ReferenceIdeal.Hand.fin m' c ReferenceIdeal.main_v67 : Vec Ideal KernelIdeal.S2x768x7168 .bf16)
    = KernelIdeal.Hand.fin m c KernelIdeal.main_v4 := by
  obtain ⟨h0, h1, h2, h3, h4⟩ := ha
  funext i
  obtain ⟨b, s, k, rfl⟩ : ∃ b s k, i = ix3 b s k := ⟨_, _, _, eq_ix3 i⟩
  refine (ReferenceIdeal.Hand.fin_x m' c b s k).trans (Eq.trans ?_ (KernelIdeal.Hand.fin_x m c h b s k).symm)
  rw [h0, h1, h2, h3, h4]

/-- The weights' gradients are the same. -/
theorem same_w : (ReferenceIdeal.Hand.fin m' c ReferenceIdeal.main_v74 : Vec Ideal KernelIdeal.S7168x256 .f32)
    = KernelIdeal.Hand.fin m c KernelIdeal.main_v3_1 := by
  obtain ⟨h0, h1, h2, h3, h4⟩ := ha
  funext i
  obtain ⟨k, e, rfl⟩ : ∃ k e, i = ix2 k e := ⟨_, _, eq_ix2 i⟩
  refine (ReferenceIdeal.Hand.fin_w m' c k e).trans (Eq.trans ?_ (KernelIdeal.Hand.fin_w m c h k e).symm)
  rw [h0, h1, h2, h3, h4]

/-- The logits' gradients are the same. -/
theorem same_l : (ReferenceIdeal.Hand.fin m' c ReferenceIdeal.main_v64 : Vec Ideal KernelIdeal.S2x768x256 .f32)
    = KernelIdeal.Hand.fin m c KernelIdeal.main_v5 := by
  obtain ⟨h0, h1, h2, h3, h4⟩ := ha
  funext i
  obtain ⟨b, s, e, rfl⟩ : ∃ b s e, i = ix3 b s e := ⟨_, _, _, eq_ix3 i⟩
  refine (ReferenceIdeal.Hand.fin_l m' c b s e).trans (Eq.trans ?_ (KernelIdeal.Hand.fin_l m c h b s e).symm)
  rw [h0, h1, h2, h3, h4]

end Same

/-- From arguments that agree, each token's experts being different, both programs run and end with equal results
    and with their arguments as launched. -/
theorem algebraic : Cert.algebraic_KernelIdeal_ReferenceIdeal_pre_ids_distinct
    (hKernelIdeal := Cert.KernelIdeal.Gen.facts) (hReferenceIdeal := Cert.ReferenceIdeal.Gen.facts)
    (hPre_ids_distinct := Cert.Pre_ids_distinct.Hand.facts) := by
  intro m g m' g' hpre hagree
  have hd : ∀ c, KernelIdeal.Hand.Distinct (KernelIdeal.Hand.arg3 m c) := fun c =>
    @Pre_ids_distinct.Hand.distinct Pre_ids_distinct.Hand.facts _ _ _ _ _ (hpre c)
  have hA : ∀ c, Agree m m' c := hagree
  refine ⟨fun c => KernelIdeal.Hand.fin m c KernelIdeal.main_v4, fun c => KernelIdeal.Hand.fin m c KernelIdeal.main_v3_1,
    fun c => KernelIdeal.Hand.fin m c KernelIdeal.main_v5, KernelIdeal.Hand.run_fin m g, ?_⟩
  refine (θ_run _ _ _).mono (fun r hr c => ?_) (ReferenceIdeal.Hand.run_fin m' g')
  obtain ⟨hx, hw, hl, hargs⟩ := hr c
  exact ⟨hx.trans (same_x m m' c (hd c) (hA c)), hw.trans (same_w m m' c (hd c) (hA c)),
    hl.trans (same_l m m' c (hd c) (hA c)), hargs⟩

end Cert.Algebraic
-- ==== Proof.lean ====
/- The proof of the certificate's claim: the programs' facts, then each claim in turn. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Frame
public import proofs.«01_k».proof.Proof.Distinct
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim holds: each program runs to the end, leaves its arguments as launched and its semaphores at zero; the
    idealization rewrites nothing; and, each token's experts being different, the idealized kernel's three results are
    the idealized reference's. -/
theorem claim : Cert.Claim := ⟨Cert.Kernel.Gen.facts, Cert.KernelIdeal.Gen.facts, Cert.ReferenceIdeal.Gen.facts,
  Cert.Pre_ids_distinct.Hand.facts, by
  exact ⟨fun m g _ => Cert.Kernel.Hand.frame m g, fun m g _ => Cert.KernelIdeal.Hand.frame m g,
    fun m g _ => Cert.KernelIdeal.Hand.frame m g,
    fun m g _ => Cert.ReferenceIdeal.Gen.frame m g, fun m g _ => Cert.ReferenceIdeal.Gen.frame m g,
    trivial, Cert.Algebraic.algebraic⟩⟩

end Cert.Proof

end
